-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_tokens_fine [hPre_tokens_fine : Cert.Pre_tokens_fine.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tokens_fine.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tokens_fine [hPre_tokens_fine : Cert.Pre_tokens_fine.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tokens_fine.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_tokens_fine [hKernel5Ideal : Cert.Kernel5Ideal.Facts] [hPre_tokens_fine : Cert.Pre_tokens_fine.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_tokens_fine m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_tokens_fine [hReference5Ideal : Cert.Reference5Ideal.Facts] [hPre_tokens_fine : Cert.Pre_tokens_fine.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tokens_fine m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "qk_scale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "log2_e" .f32 0x3FB8AA3B#32 (((Real.log 2)⁻¹ : ℝ) : EReal)

def algebraic_Kernel5Ideal_Reference5Ideal_pre_tokens_fine [hKernel5Ideal : Cert.Kernel5Ideal.Facts] [hReference5Ideal : Cert.Reference5Ideal.Facts] [hPre_tokens_fine : Cert.Pre_tokens_fine.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_tokens_fine m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tokens_fine : Cert.Pre_tokens_fine.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_tokens_fine (hKernel5Ideal := hKernel5Ideal) (hPre_tokens_fine := hPre_tokens_fine)
    ∧ quiescent_Reference5Ideal (hReference5Ideal := hReference5Ideal)
    ∧ quiescent_Reference5Ideal_pre_tokens_fine (hReference5Ideal := hReference5Ideal) (hPre_tokens_fine := hPre_tokens_fine)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_tokens_fine (hKernel5Ideal := hKernel5Ideal) (hReference5Ideal := hReference5Ideal) (hPre_tokens_fine := hPre_tokens_fine)
-- ==== Pre_tokens_fine.lean ====
abbrev S32768x1024 : Shape := ⟨2, ![32768, 1024]⟩
abbrev S1024x8192 : Shape := ⟨2, ![1024, 8192]⟩
abbrev S2048 : Shape := ⟨1, ![2048]⟩
abbrev S_ : Shape := ⟨0, ![]⟩
abbrev S1024x6144 : Shape := ⟨2, ![1024, 6144]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S1024x8192_S1024x6144_0_0 : S1024x8192.Slices ![0, 0] S1024x6144
  bcast_S_S1024x6144 : S_.BroadcastsInDim S1024x6144 (![] : Fin 0 → Fin S1024x6144.rank)
  reducesTo_S1024x6144_S_d0_1 : S1024x6144.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v14 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v14 main_v17
  main_v18

def fn {F : FTy → Type} [FloatOps F] (main_arg0 : FVec F S32768x1024 .bf16) (main_arg1 : FVec F S1024x8192 .f32) (main_arg2 : FVec F S2048 .f32) (main_arg3 : FVec F S2048 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S1024x6144 .f32 := (extractStridedSlice S1024x6144 ![0, 0] · slices_S1024x8192_S1024x6144_0_0) main_arg1
  let main_v6 : FVec F S1024x6144 .f32 := Host.absf main_v5
  let main_cst_0 : FVec F S_ .f32 := constant S_ .f32 0x7F800000#32
  let main_v7 : FVec F S1024x6144 .f32 := broadcastInDim S1024x6144 ![] bcast_S_S1024x6144 main_cst_0
  let main_v8 : IVec S1024x6144 1 := cmpf .olt main_v6 main_v7
  let main_c_1 : IVec S_ 1 := constantI S_ 1 1#1
  let main_v9 : IVec S_ 1 := (fun x v => Host.reduce IntOp.andi x v reducesTo_S1024x6144_S_d0_1 h_S_) main_v8 main_c_1
  let main_v10 : IVec S_ 1 := andi main_v4 main_v9
  let main_cst_2 : FVec F S_ .f32 := constant S_ .f32 0x00000000#32
  let main_v11 : FVec F S2048 .f32 := broadcastInDim S2048 ![] bcast_S_S2048 main_cst_2
  let main_v12 : IVec S2048 1 := cmpf .oge main_arg2 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v10 main_v13
  let main_cst_4 : FVec F S_ .f32 := constant S_ .f32 0x7F800000#32
  let main_v15 : FVec F S2048 .f32 := broadcastInDim S2048 ![] bcast_S_S2048 main_cst_4
  let main_v16 : IVec S2048 1 := cmpf .olt main_arg2 main_v15
  fn_part1 (F := F) main_v14 main_v16
-- ==== Kernel.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1x1024 : Shape := ⟨2, ![1, 1024]⟩
abbrev S3x1024x2048 : Shape := ⟨3, ![3, 1024, 2048]⟩
abbrev S3 : Shape := ⟨1, ![3]⟩
abbrev S3x1024x1024 : Shape := ⟨3, ![3, 1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S2048x1024, .f32⟩
  | .local _ .vmem, ⟨1, _⟩ => ⟨S1x1024, .f32⟩
  | .local _ .vmem, ⟨2, _⟩ => ⟨S2048x1024, .bf16⟩
  | .local _ .vmem, ⟨3, _⟩ => ⟨S3x1024x2048, .bf16⟩
  | .local _ .vmem, ⟨4, _⟩ => ⟨S3x1024x1024, .f32⟩
  | .local _ .vmem, ⟨5, _⟩ => ⟨S2x1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c3_i32_r0 : BitVec 32 := 3#32
  let v26_r0 : BitVec 32 := Scalar.remui c0_i32_21_r0 c3_i32_r0
  ![v26_r0.toNat]
def k0_off2 : Fin 3 → Nat :=
  let c0_i32_21_r0 : BitVec 32 := 0#32
  let c3_i32_r0 : BitVec 32 := 3#32
  let v26_r0 : BitVec 32 := Scalar.remui c0_i32_21_r0 c3_i32_r0
  let c0_i32_22_r0 : BitVec 32 := 0#32
  let c0_i32_23_r0 : BitVec 32 := 0#32
  ![v26_r0.toNat, 0, 0]
def k0_off3 : Fin 3 → Nat :=
  let c0_i32_28_r0 : BitVec 32 := 0#32
  let c3_i32_29_r0 : BitVec 32 := 3#32
  let v33_r0 : BitVec 32 := Scalar.remui c0_i32_28_r0 c3_i32_29_r0
  let c0_i32_30_r0 : BitVec 32 := 0#32
  let c0_i32_31_r0 : BitVec 32 := 0#32
  ![v33_r0.toNat, 0, 0]
def k0_cond1 : BitVec 1 :=
  let true_37_r0 : BitVec 1 := 1#1
  let true_7_r0 : BitVec 1 := 1#1
  let c1_i32_r0 : BitVec 32 := 1#32
  let c0_i32_8_r0 : BitVec 32 := 0#32
  let v12_r0 : BitVec 32 := Scalar.select true_7_r0 c1_i32_r0 c0_i32_8_r0
  let c32_i32_r0 : BitVec 32 := 32#32
  let v13_r0 : BitVec 1 := Scalar.cmpi .eq v12_r0 c32_i32_r0
  let c0_i32_9_r0 : BitVec 32 := 0#32
  let v14_r0 : BitVec 32 := Scalar.select v13_r0 c0_i32_9_r0 v12_r0
  let c0_i32_10_r0 : BitVec 32 := 0#32
  let v15_r0 : BitVec 32 := Scalar.addi v14_r0 c0_i32_10_r0
  let c0_i32_36_r0 : BitVec 32 := 0#32
  let v40_r0 : BitVec 1 := Scalar.cmpi .ne v15_r0 c0_i32_36_r0
  let v41_r0 : BitVec 1 := Scalar.andi true_37_r0 v40_r0
  let true_38_r0 : BitVec 1 := 1#1
  let v42_r0 : BitVec 1 := Scalar.andi v41_r0 true_38_r0
  let v43_r0 : BitVec 32 := Scalar.extui v42_r0
  let c0_i32_39_r0 : BitVec 32 := 0#32
  let v44_r0 : BitVec 1 := Scalar.cmpi .ne v43_r0 c0_i32_39_r0
  v44_r0

def k0_off4 : Fin 1 → Nat :=
  let c0_i32_26_r0 : BitVec 32 := 0#32
  let c1_i32_27_r0 : BitVec 32 := 1#32
  let v32_r0 : BitVec 32 := Scalar.addi c0_i32_26_r0 c1_i32_27_r0
  let c3_i32_83_r0 : BitVec 32 := 3#32
  let v88_r0 : BitVec 32 := Scalar.remui v32_r0 c3_i32_83_r0
  ![v88_r0.toNat]
def k0_off5 : Fin 3 → Nat :=
  let c0_i32_26_r0 : BitVec 32 := 0#32
  let c1_i32_27_r0 : BitVec 32 := 1#32
  let v32_r0 : BitVec 32 := Scalar.addi c0_i32_26_r0 c1_i32_27_r0
  let c3_i32_83_r0 : BitVec 32 := 3#32
  let v88_r0 : BitVec 32 := Scalar.remui v32_r0 c3_i32_83_r0
  let c0_i32_85_r0 : BitVec 32 := 0#32
  let c0_i32_86_r0 : BitVec 32 := 0#32
  ![v88_r0.toNat, 0, 0]
def k0_off6 : Fin 2 → Nat :=
  let c1024_i32_84_r0 : BitVec 32 := 1024#32
  let true_7_r0 : BitVec 1 := 1#1
  let c1_i32_r0 : BitVec 32 := 1#32
  let c0_i32_8_r0 : BitVec 32 := 0#32
  let v12_r0 : BitVec 32 := Scalar.select true_7_r0 c1_i32_r0 c0_i32_8_r0
  let c32_i32_r0 : BitVec 32 := 32#32
  let v13_r0 : BitVec 1 := Scalar.cmpi .eq v12_r0 c32_i32_r0
  let c0_i32_9_r0 : BitVec 32 := 0#32
  let v14_r0 : BitVec 32 := Scalar.select v13_r0 c0_i32_9_r0 v12_r0
  let c0_i32_10_r0 : BitVec 32 := 0#32
  let v15_r0 : BitVec 32 := Scalar.addi v14_r0 c0_i32_10_r0
  let v89_r0 : BitVec 32 := Scalar.muli c1024_i32_84_r0 v15_r0
  let c0_i32_87_r0 : BitVec 32 := 0#32
  ![v89_r0.toNat, 0]
def k0_cond2 : BitVec 1 :=
  let true_42_r0 : BitVec 1 := 1#1
  let true_7_r0 : BitVec 1 := 1#1
  let c1_i32_r0 : BitVec 32 := 1#32
  let c0_i32_8_r0 : BitVec 32 := 0#32
  let v12_r0 : BitVec 32 := Scalar.select true_7_r0 c1_i32_r0 c0_i32_8_r0
  let c32_i32_r0 : BitVec 32 := 32#32
  let v13_r0 : BitVec 1 := Scalar.cmpi .eq v12_r0 c32_i32_r0
  let c0_i32_9_r0 : BitVec 32 := 0#32
  let v14_r0 : BitVec 32 := Scalar.select v13_r0 c0_i32_9_r0 v12_r0
  let c0_i32_10_r0 : BitVec 32 := 0#32
  let v15_r0 : BitVec 32 := Scalar.addi v14_r0 c0_i32_10_r0
  let c0_i32_41_r0 : BitVec 32 := 0#32
  let v47_r0 : BitVec 1 := Scalar.cmpi .ne v15_r0 c0_i32_41_r0
  let v48_r0 : BitVec 1 := Scalar.andi true_42_r0 v47_r0
  let true_43_r0 : BitVec 1 := 1#1
  let v49_r0 : BitVec 1 := Scalar.andi v48_r0 true_43_r0
  let v50_r0 : BitVec 32 := Scalar.extui v49_r0
  let c0_i32_44_r0 : BitVec 32 := 0#32
  let v51_r0 : BitVec 1 := Scalar.cmpi .ne v50_r0 c0_i32_44_r0
  v51_r0

def k0_off7 : Fin 1 → Nat :=
  let c0_i32_34_r0 : BitVec 32 := 0#32
  let c1_i32_35_r0 : BitVec 32 := 1#32
  let v39_r0 : BitVec 32 := Scalar.addi c0_i32_34_r0 c1_i32_35_r0
  let c3_i32_83_r0 : BitVec 32 := 3#32
  let v88_r0 : BitVec 32 := Scalar.remui v39_r0 c3_i32_83_r0
  ![v88_r0.toNat]
def k0_off8 : Fin 3 → Nat :=
  let c0_i32_34_r0 : BitVec 32 := 0#32
  let c1_i32_35_r0 : BitVec 32 := 1#32
  let v39_r0 : BitVec 32 := Scalar.addi c0_i32_34_r0 c1_i32_35_r0
  let c3_i32_83_r0 : BitVec 32 := 3#32
  let v88_r0 : BitVec 32 := Scalar.remui v39_r0 c3_i32_83_r0
  let c0_i32_85_r0 : BitVec 32 := 0#32
  let c0_i32_86_r0 : BitVec 32 := 0#32
  ![v88_r0.toNat, 0, 0]
def k0_off9 : Fin 2 → Nat :=
  let c1024_i32_84_r0 : BitVec 32 := 1024#32
  let true_7_r0 : BitVec 1 := 1#1
  let c1_i32_r0 : BitVec 32 := 1#32
  let c0_i32_8_r0 : BitVec 32 := 0#32
  let v12_r0 : BitVec 32 := Scalar.select true_7_r0 c1_i32_r0 c0_i32_8_r0
  let c32_i32_r0 : BitVec 32 := 32#32
  let v13_r0 : BitVec 1 := Scalar.cmpi .eq v12_r0 c32_i32_r0
  let c0_i32_9_r0 : BitVec 32 := 0#32
  let v14_r0 : BitVec 32 := Scalar.select v13_r0 c0_i32_9_r0 v12_r0
  let c0_i32_10_r0 : BitVec 32 := 0#32
  let v15_r0 : BitVec 32 := Scalar.addi v14_r0 c0_i32_10_r0
  let v89_r0 : BitVec 32 := Scalar.muli c1024_i32_84_r0 v15_r0
  let c0_i32_87_r0 : BitVec 32 := 0#32
  ![v89_r0.toNat, 0]
@[reducible] def k0_t1_loop : Scf.Loop 32 :=
  let c0_i32_51_r0 : BitVec 32 := 0#32
  let c32_i32_52_r0 : BitVec 32 := 32#32
  let v54_r0 : BitVec 32 := Scalar.addi c0_i32_51_r0 c32_i32_52_r0
  let c1_i32_53_r0 : BitVec 32 := 1#32
  ⟨c0_i32_51_r0, v54_r0, c1_i32_53_r0⟩
def k0_off10 (arg7_r0 : BitVec 32) : Fin 1 → Nat :=
  let c3_i32_163_r0 : BitVec 32 := 3#32
  let v232_r0 : BitVec 32 := Scalar.remui arg7_r0 c3_i32_163_r0
  ![v232_r0.toNat]
def k0_cond3 (k0_t1 : Fin k0_t1_loop.trips) (arg13_r0 : BitVec 32) : BitVec 1 :=
  let true_92_r0 : BitVec 1 := 1#1
  let c1_i32_91_r0 : BitVec 32 := 1#32
  let v96_r0 : BitVec 32 := Scalar.addi arg13_r0 c1_i32_91_r0
  let v97_r0 : BitVec 32 := Scalar.select true_92_r0 v96_r0 arg13_r0
  let c32_i32_93_r0 : BitVec 32 := 32#32
  let v98_r0 : BitVec 1 := Scalar.cmpi .eq v97_r0 c32_i32_93_r0
  let c0_i32_94_r0 : BitVec 32 := 0#32
  let v99_r0 : BitVec 32 := Scalar.select v98_r0 c0_i32_94_r0 v97_r0
  let c0_i32_95_r0 : BitVec 32 := 0#32
  let v100_r0 : BitVec 32 := Scalar.addi v99_r0 c0_i32_95_r0
  let true_97_r0 : BitVec 1 := 1#1
  let c1_i32_96_r0 : BitVec 32 := 1#32
  let v101_r0 : BitVec 32 := Scalar.addi v99_r0 c1_i32_96_r0
  let v102_r0 : BitVec 32 := Scalar.select true_97_r0 v101_r0 v99_r0
  let c32_i32_98_r0 : BitVec 32 := 32#32
  let v103_r0 : BitVec 1 := Scalar.cmpi .eq v102_r0 c32_i32_98_r0
  let c0_i32_99_r0 : BitVec 32 := 0#32
  let v104_r0 : BitVec 32 := Scalar.select v103_r0 c0_i32_99_r0 v102_r0
  let c0_i32_100_r0 : BitVec 32 := 0#32
  let v105_r0 : BitVec 32 := Scalar.addi v104_r0 c0_i32_100_r0
  let v111_r0 : BitVec 1 := Scalar.cmpi .ne v100_r0 v105_r0
  let c0_i32_51_r0 : BitVec 32 := 0#32
  let c1_i32_53_r0 : BitVec 32 := 1#32
  let arg6_r0 : BitVec 32 := Scf.iv c0_i32_51_r0 c1_i32_53_r0 k0_t1
  let c30_i32_r0 : BitVec 32 := 30#32
  let v112_r0 : BitVec 1 := Scalar.cmpi .sge arg6_r0 c30_i32_r0
  let true_106_r0 : BitVec 1 := 1#1
  let v113_r0 : BitVec 1 := Scalar.xori v112_r0 true_106_r0
  let v114_r0 : BitVec 1 := Scalar.andi v111_r0 v113_r0
  let true_107_r0 : BitVec 1 := 1#1
  let v115_r0 : BitVec 1 := Scalar.andi v114_r0 true_107_r0
  let v116_r0 : BitVec 32 := Scalar.extui v115_r0
  let c0_i32_108_r0 : BitVec 32 := 0#32
  let v117_r0 : BitVec 1 := Scalar.cmpi .ne v116_r0 c0_i32_108_r0
  v117_r0

def k0_off11 (arg7_r0 : BitVec 32) : Fin 3 → Nat :=
  let c3_i32_163_r0 : BitVec 32 := 3#32
  let v232_r0 : BitVec 32 := Scalar.remui arg7_r0 c3_i32_163_r0
  let c0_i32_165_r0 : BitVec 32 := 0#32
  let c0_i32_166_r0 : BitVec 32 := 0#32
  ![v232_r0.toNat, 0, 0]
def k0_off12 (arg13_r0 : BitVec 32) : Fin 2 → Nat :=
  let c1024_i32_164_r0 : BitVec 32 := 1024#32
  let true_97_r0 : BitVec 1 := 1#1
  let true_92_r0 : BitVec 1 := 1#1
  let c1_i32_91_r0 : BitVec 32 := 1#32
  let v96_r0 : BitVec 32 := Scalar.addi arg13_r0 c1_i32_91_r0
  let v97_r0 : BitVec 32 := Scalar.select true_92_r0 v96_r0 arg13_r0
  let c32_i32_93_r0 : BitVec 32 := 32#32
  let v98_r0 : BitVec 1 := Scalar.cmpi .eq v97_r0 c32_i32_93_r0
  let c0_i32_94_r0 : BitVec 32 := 0#32
  let v99_r0 : BitVec 32 := Scalar.select v98_r0 c0_i32_94_r0 v97_r0
  let c1_i32_96_r0 : BitVec 32 := 1#32
  let v101_r0 : BitVec 32 := Scalar.addi v99_r0 c1_i32_96_r0
  let v102_r0 : BitVec 32 := Scalar.select true_97_r0 v101_r0 v99_r0
  let c32_i32_98_r0 : BitVec 32 := 32#32
  let v103_r0 : BitVec 1 := Scalar.cmpi .eq v102_r0 c32_i32_98_r0
  let c0_i32_99_r0 : BitVec 32 := 0#32
  let v104_r0 : BitVec 32 := Scalar.select v103_r0 c0_i32_99_r0 v102_r0
  let c0_i32_100_r0 : BitVec 32 := 0#32
  let v105_r0 : BitVec 32 := Scalar.addi v104_r0 c0_i32_100_r0
  let v233_r0 : BitVec 32 := Scalar.muli c1024_i32_164_r0 v105_r0
  let c0_i32_167_r0 : BitVec 32 := 0#32
  ![v233_r0.toNat, 0]
def k0_off13 (arg9_r0 : BitVec 32) : Fin 1 → Nat :=
  let c3_i32_163_r0 : BitVec 32 := 3#32
  let v232_r0 : BitVec 32 := Scalar.remui arg9_r0 c3_i32_163_r0
  ![v232_r0.toNat]
def k0_cond4 (k0_t1 : Fin k0_t1_loop.trips) (arg13_r0 : BitVec 32) : BitVec 1 :=
  let true_92_r0 : BitVec 1 := 1#1
  let c1_i32_91_r0 : BitVec 32 := 1#32
  let v96_r0 : BitVec 32 := Scalar.addi arg13_r0 c1_i32_91_r0
  let v97_r0 : BitVec 32 := Scalar.select true_92_r0 v96_r0 arg13_r0
  let c32_i32_93_r0 : BitVec 32 := 32#32
  let v98_r0 : BitVec 1 := Scalar.cmpi .eq v97_r0 c32_i32_93_r0
  let c0_i32_94_r0 : BitVec 32 := 0#32
  let v99_r0 : BitVec 32 := Scalar.select v98_r0 c0_i32_94_r0 v97_r0
  let c0_i32_95_r0 : BitVec 32 := 0#32
  let v100_r0 : BitVec 32 := Scalar.addi v99_r0 c0_i32_95_r0
  let true_97_r0 : BitVec 1 := 1#1
  let c1_i32_96_r0 : BitVec 32 := 1#32
  let v101_r0 : BitVec 32 := Scalar.addi v99_r0 c1_i32_96_r0
  let v102_r0 : BitVec 32 := Scalar.select true_97_r0 v101_r0 v99_r0
  let c32_i32_98_r0 : BitVec 32 := 32#32
  let v103_r0 : BitVec 1 := Scalar.cmpi .eq v102_r0 c32_i32_98_r0
  let c0_i32_99_r0 : BitVec 32 := 0#32
  let v104_r0 : BitVec 32 := Scalar.select v103_r0 c0_i32_99_r0 v102_r0
  let c0_i32_100_r0 : BitVec 32 := 0#32
  let v105_r0 : BitVec 32 := Scalar.addi v104_r0 c0_i32_100_r0
  let v121_r0 : BitVec 1 := Scalar.cmpi .ne v100_r0 v105_r0
  let c0_i32_51_r0 : BitVec 32 := 0#32
  let c1_i32_53_r0 : BitVec 32 := 1#32
  let arg6_r0 : BitVec 32 := Scf.iv c0_i32_51_r0 c1_i32_53_r0 k0_t1
  let c30_i32_111_r0 : BitVec 32 := 30#32
  let v122_r0 : BitVec 1 := Scalar.cmpi .sge arg6_r0 c30_i32_111_r0
  let true_112_r0 : BitVec 1 := 1#1
  let v123_r0 : BitVec 1 := Scalar.xori v122_r0 true_112_r0
  let v124_r0 : BitVec 1 := Scalar.andi v121_r0 v123_r0
  let true_113_r0 : BitVec 1 := 1#1
  let v125_r0 : BitVec 1 := Scalar.andi v124_r0 true_113_r0
  let v126_r0 : BitVec 32 := Scalar.extui v125_r0
  let c0_i32_114_r0 : BitVec 32 := 0#32
  let v127_r0 : BitVec 1 := Scalar.cmpi .ne v126_r0 c0_i32_114_r0
  v127_r0

def k0_off14 (arg9_r0 : BitVec 32) : Fin 3 → Nat :=
  let c3_i32_163_r0 : BitVec 32 := 3#32
  let v232_r0 : BitVec 32 := Scalar.remui arg9_r0 c3_i32_163_r0
  let c0_i32_165_r0 : BitVec 32 := 0#32
  let c0_i32_166_r0 : BitVec 32 := 0#32
  ![v232_r0.toNat, 0, 0]
def k0_off15 (arg13_r0 : BitVec 32) : Fin 2 → Nat :=
  let c1024_i32_164_r0 : BitVec 32 := 1024#32
  let true_97_r0 : BitVec 1 := 1#1
  let true_92_r0 : BitVec 1 := 1#1
  let c1_i32_91_r0 : BitVec 32 := 1#32
  let v96_r0 : BitVec 32 := Scalar.addi arg13_r0 c1_i32_91_r0
  let v97_r0 : BitVec 32 := Scalar.select true_92_r0 v96_r0 arg13_r0
  let c32_i32_93_r0 : BitVec 32 := 32#32
  let v98_r0 : BitVec 1 := Scalar.cmpi .eq v97_r0 c32_i32_93_r0
  let c0_i32_94_r0 : BitVec 32 := 0#32
  let v99_r0 : BitVec 32 := Scalar.select v98_r0 c0_i32_94_r0 v97_r0
  let c1_i32_96_r0 : BitVec 32 := 1#32
  let v101_r0 : BitVec 32 := Scalar.addi v99_r0 c1_i32_96_r0
  let v102_r0 : BitVec 32 := Scalar.select true_97_r0 v101_r0 v99_r0
  let c32_i32_98_r0 : BitVec 32 := 32#32
  let v103_r0 : BitVec 1 := Scalar.cmpi .eq v102_r0 c32_i32_98_r0
  let c0_i32_99_r0 : BitVec 32 := 0#32
  let v104_r0 : BitVec 32 := Scalar.select v103_r0 c0_i32_99_r0 v102_r0
  let c0_i32_100_r0 : BitVec 32 := 0#32
  let v105_r0 : BitVec 32 := Scalar.addi v104_r0 c0_i32_100_r0
  let v233_r0 : BitVec 32 := Scalar.muli c1024_i32_164_r0 v105_r0
  let c0_i32_167_r0 : BitVec 32 := 0#32
  ![v233_r0.toNat, 0]
def k0_off16 (arg8_r0 : BitVec 32) : Fin 1 → Nat :=
  let c3_i32_164_r0 : BitVec 32 := 3#32
  let v233_r0 : BitVec 32 := Scalar.remui arg8_r0 c3_i32_164_r0
  ![v233_r0.toNat]
def k0_cond5 (k0_t1 : Fin k0_t1_loop.trips) (arg13_r0 : BitVec 32) : BitVec 1 :=
  let c0_i32_85_r0 : BitVec 32 := 0#32
  let v90_r0 : BitVec 32 := Scalar.addi arg13_r0 c0_i32_85_r0
  let true_87_r0 : BitVec 1 := 1#1
  let c1_i32_86_r0 : BitVec 32 := 1#32
  let v91_r0 : BitVec 32 := Scalar.subi arg13_r0 c1_i32_86_r0
  let v92_r0 : BitVec 32 := Scalar.select true_87_r0 v91_r0 arg13_r0
  let c_m1_i32_88_r0 : BitVec 32 := 4294967295#32
  let v93_r0 : BitVec 1 := Scalar.cmpi .eq v92_r0 c_m1_i32_88_r0
  let c31_i32_89_r0 : BitVec 32 := 31#32
  let v94_r0 : BitVec 32 := Scalar.select v93_r0 c31_i32_89_r0 v92_r0
  let c0_i32_90_r0 : BitVec 32 := 0#32
  let v95_r0 : BitVec 32 := Scalar.addi v94_r0 c0_i32_90_r0
  let v135_r0 : BitVec 1 := Scalar.cmpi .ne v90_r0 v95_r0
  let c0_i32_51_r0 : BitVec 32 := 0#32
  let c1_i32_53_r0 : BitVec 32 := 1#32
  let arg6_r0 : BitVec 32 := Scf.iv c0_i32_51_r0 c1_i32_53_r0 k0_t1
  let c0_i32_83_r0 : BitVec 32 := 0#32
  let v88_r0 : BitVec 1 := Scalar.cmpi .eq arg6_r0 c0_i32_83_r0
  let v136_r0 : BitVec 1 := Scalar.ori v135_r0 v88_r0
  let c0_i32_119_r0 : BitVec 32 := 0#32
  let v137_r0 : BitVec 1 := Scalar.cmpi .sge arg6_r0 c0_i32_119_r0
  let v138_r0 : BitVec 1 := Scalar.andi v136_r0 v137_r0
  let v139_r0 : BitVec 32 := Scalar.extui v138_r0
  let c0_i32_120_r0 : BitVec 32 := 0#32
  let v140_r0 : BitVec 1 := Scalar.cmpi .ne v139_r0 c0_i32_120_r0
  v140_r0

def k0_off17 (arg8_r0 : BitVec 32) : Fin 3 → Nat :=
  let c3_i32_164_r0 : BitVec 32 := 3#32
  let v233_r0 : BitVec 32 := Scalar.remui arg8_r0 c3_i32_164_r0
  let c0_i32_165_r0 : BitVec 32 := 0#32
  let c0_i32_166_r0 : BitVec 32 := 0#32
  ![v233_r0.toNat, 0, 0]
def k0_off18 (arg13_r0 : BitVec 32) : Fin 2 → Nat :=
  let c1024_i32_163_r0 : BitVec 32 := 1024#32
  let c0_i32_85_r0 : BitVec 32 := 0#32
  let v90_r0 : BitVec 32 := Scalar.addi arg13_r0 c0_i32_85_r0
  let v232_r0 : BitVec 32 := Scalar.muli c1024_i32_163_r0 v90_r0
  let c0_i32_167_r0 : BitVec 32 := 0#32
  ![v232_r0.toNat, 0]
def k0_off19 (arg10_r0 : BitVec 32) : Fin 1 → Nat :=
  let c3_i32_164_r0 : BitVec 32 := 3#32
  let v233_r0 : BitVec 32 := Scalar.remui arg10_r0 c3_i32_164_r0
  ![v233_r0.toNat]
def k0_cond6 (k0_t1 : Fin k0_t1_loop.trips) (arg13_r0 : BitVec 32) : BitVec 1 :=
  let c0_i32_85_r0 : BitVec 32 := 0#32
  let v90_r0 : BitVec 32 := Scalar.addi arg13_r0 c0_i32_85_r0
  let true_87_r0 : BitVec 1 := 1#1
  let c1_i32_86_r0 : BitVec 32 := 1#32
  let v91_r0 : BitVec 32 := Scalar.subi arg13_r0 c1_i32_86_r0
  let v92_r0 : BitVec 32 := Scalar.select true_87_r0 v91_r0 arg13_r0
  let c_m1_i32_88_r0 : BitVec 32 := 4294967295#32
  let v93_r0 : BitVec 1 := Scalar.cmpi .eq v92_r0 c_m1_i32_88_r0
  let c31_i32_89_r0 : BitVec 32 := 31#32
  let v94_r0 : BitVec 32 := Scalar.select v93_r0 c31_i32_89_r0 v92_r0
  let c0_i32_90_r0 : BitVec 32 := 0#32
  let v95_r0 : BitVec 32 := Scalar.addi v94_r0 c0_i32_90_r0
  let v141_r0 : BitVec 1 := Scalar.cmpi .ne v90_r0 v95_r0
  let c0_i32_51_r0 : BitVec 32 := 0#32
  let c1_i32_53_r0 : BitVec 32 := 1#32
  let arg6_r0 : BitVec 32 := Scf.iv c0_i32_51_r0 c1_i32_53_r0 k0_t1
  let c0_i32_83_r0 : BitVec 32 := 0#32
  let v88_r0 : BitVec 1 := Scalar.cmpi .eq arg6_r0 c0_i32_83_r0
  let v142_r0 : BitVec 1 := Scalar.ori v141_r0 v88_r0
  let c0_i32_121_r0 : BitVec 32 := 0#32
  let v143_r0 : BitVec 1 := Scalar.cmpi .sge arg6_r0 c0_i32_121_r0
  let v144_r0 : BitVec 1 := Scalar.andi v142_r0 v143_r0
  let v145_r0 : BitVec 32 := Scalar.extui v144_r0
  let c0_i32_122_r0 : BitVec 32 := 0#32
  let v146_r0 : BitVec 1 := Scalar.cmpi .ne v145_r0 c0_i32_122_r0
  v146_r0

def k0_off20 (arg10_r0 : BitVec 32) : Fin 3 → Nat :=
  let c3_i32_164_r0 : BitVec 32 := 3#32
  let v233_r0 : BitVec 32 := Scalar.remui arg10_r0 c3_i32_164_r0
  let c0_i32_165_r0 : BitVec 32 := 0#32
  let c0_i32_166_r0 : BitVec 32 := 0#32
  ![v233_r0.toNat, 0, 0]
def k0_off21 (arg13_r0 : BitVec 32) : Fin 2 → Nat :=
  let c1024_i32_163_r0 : BitVec 32 := 1024#32
  let c0_i32_85_r0 : BitVec 32 := 0#32
  let v90_r0 : BitVec 32 := Scalar.addi arg13_r0 c0_i32_85_r0
  let v232_r0 : BitVec 32 := Scalar.muli c1024_i32_163_r0 v90_r0
  let c0_i32_167_r0 : BitVec 32 := 0#32
  ![v232_r0.toNat, 0]
def k0_off22 (arg10_r0 : BitVec 32) : Fin 3 → Nat :=
  let c3_i32_126_r0 : BitVec 32 := 3#32
  let v154_r0 : BitVec 32 := Scalar.remui arg10_r0 c3_i32_126_r0
  let v156_r0 : Index := Scalar.indexCast v154_r0
  let c0_128_r0 : Index := 0#32
  let c0_129_r0 : Index := 0#32
  ![v156_r0.toNat, 0, 0]

def k0_chk2 (arg10_r0 : BitVec 32) : Prop :=
  (∀ a, (k0_off22 arg10_r0) a + S1x1024x1024.size a ≤ S3x1024x1024.size a)
theorem k0_off22_inb : ∀ (arg10_r0 : BitVec 32) (k0_hw2 : k0_chk2 arg10_r0), ∀ a, (k0_off22 arg10_r0) a + S1x1024x1024.size a ≤ S3x1024x1024.size a := fun arg10_r0 k0_hw2 => k0_hw2

def k0_off23 (arg8_r0 : BitVec 32) : Fin 3 → Nat :=
  let c3_i32_125_r0 : BitVec 32 := 3#32
  let v153_r0 : BitVec 32 := Scalar.remui arg8_r0 c3_i32_125_r0
  let v159_r0 : Index := Scalar.indexCast v153_r0
  let c0_130_r0 : Index := 0#32
  let c0_131_r0 : Index := 0#32
  ![v159_r0.toNat, 0, 0]

def k0_chk3 (arg8_r0 : BitVec 32) : Prop :=
  (∀ a, (k0_off23 arg8_r0) a + S1x1024x2048.size a ≤ S3x1024x2048.size a)
theorem k0_off23_inb : ∀ (arg8_r0 : BitVec 32) (k0_hw3 : k0_chk3 arg8_r0), ∀ a, (k0_off23 arg8_r0) a + S1x1024x2048.size a ≤ S3x1024x2048.size a := fun arg8_r0 k0_hw3 => k0_hw3

def k0_off24 (arg11_r0 : BitVec 32) : Fin 3 → Nat :=
  let c2_i32_127_r0 : BitVec 32 := 2#32
  let v155_r0 : BitVec 32 := Scalar.remui arg11_r0 c2_i32_127_r0
  let v179_r0 : Index := Scalar.indexCast v155_r0
  let c0_139_r0 : Index := 0#32
  let c0_140_r0 : Index := 0#32
  ![v179_r0.toNat, 0, 0]

def k0_chk4 (arg11_r0 : BitVec 32) : Prop :=
  (∀ a, (k0_off24 arg11_r0) a + S1x1024x1024.size a ≤ S2x1024x1024.size a)
theorem k0_off24_inb : ∀ (arg11_r0 : BitVec 32) (k0_hw4 : k0_chk4 arg11_r0), ∀ a, (k0_off24 arg11_r0) a + S1x1024x1024.size a ≤ S2x1024x1024.size a := fun arg11_r0 k0_hw4 => k0_hw4

def k0_off25 (arg11_r0 : BitVec 32) : Fin 1 → Nat :=
  let c2_i32_163_r0 : BitVec 32 := 2#32
  let v232_r0 : BitVec 32 := Scalar.remui arg11_r0 c2_i32_163_r0
  ![v232_r0.toNat]
def k0_cond10 (k0_t1 : Fin k0_t1_loop.trips) (arg13_r0 : BitVec 32) : BitVec 1 :=
  let c0_i32_85_r0 : BitVec 32 := 0#32
  let v90_r0 : BitVec 32 := Scalar.addi arg13_r0 c0_i32_85_r0
  let true_92_r0 : BitVec 1 := 1#1
  let c1_i32_91_r0 : BitVec 32 := 1#32
  let v96_r0 : BitVec 32 := Scalar.addi arg13_r0 c1_i32_91_r0
  let v97_r0 : BitVec 32 := Scalar.select true_92_r0 v96_r0 arg13_r0
  let c32_i32_93_r0 : BitVec 32 := 32#32
  let v98_r0 : BitVec 1 := Scalar.cmpi .eq v97_r0 c32_i32_93_r0
  let c0_i32_94_r0 : BitVec 32 := 0#32
  let v99_r0 : BitVec 32 := Scalar.select v98_r0 c0_i32_94_r0 v97_r0
  let c0_i32_95_r0 : BitVec 32 := 0#32
  let v100_r0 : BitVec 32 := Scalar.addi v99_r0 c0_i32_95_r0
  let v193_r0 : BitVec 1 := Scalar.cmpi .ne v90_r0 v100_r0
  let c0_i32_51_r0 : BitVec 32 := 0#32
  let c1_i32_53_r0 : BitVec 32 := 1#32
  let arg6_r0 : BitVec 32 := Scf.iv c0_i32_51_r0 c1_i32_53_r0 k0_t1
  let c31_i32_84_r0 : BitVec 32 := 31#32
  let v89_r0 : BitVec 1 := Scalar.cmpi .eq arg6_r0 c31_i32_84_r0
  let v194_r0 : BitVec 1 := Scalar.ori v193_r0 v89_r0
  let v195_r0 : BitVec 32 := Scalar.extui v194_r0
  let c0_i32_144_r0 : BitVec 32 := 0#32
  let v196_r0 : BitVec 1 := Scalar.cmpi .ne v195_r0 c0_i32_144_r0
  v196_r0

def k0_off26 (arg13_r0 : BitVec 32) : Fin 2 → Nat :=
  let c1024_i32_164_r0 : BitVec 32 := 1024#32
  let c0_i32_85_r0 : BitVec 32 := 0#32
  let v90_r0 : BitVec 32 := Scalar.addi arg13_r0 c0_i32_85_r0
  let v233_r0 : BitVec 32 := Scalar.muli c1024_i32_164_r0 v90_r0
  let c0_i32_165_r0 : BitVec 32 := 0#32
  ![v233_r0.toNat, 0]
def k0_off27 (arg11_r0 : BitVec 32) : Fin 3 → Nat :=
  let c2_i32_163_r0 : BitVec 32 := 2#32
  let v232_r0 : BitVec 32 := Scalar.remui arg11_r0 c2_i32_163_r0
  let c0_i32_166_r0 : BitVec 32 := 0#32
  let c0_i32_167_r0 : BitVec 32 := 0#32
  ![v232_r0.toNat, 0, 0]
def k0_off28 (arg12_r0 : BitVec 32) : Fin 1 → Nat :=
  let c2_i32_163_r0 : BitVec 32 := 2#32
  let v232_r0 : BitVec 32 := Scalar.remui arg12_r0 c2_i32_163_r0
  ![v232_r0.toNat]
def k0_cond13 (k0_t1 : Fin k0_t1_loop.trips) (arg13_r0 : BitVec 32) : BitVec 1 :=
  let c0_i32_85_r0 : BitVec 32 := 0#32
  let v90_r0 : BitVec 32 := Scalar.addi arg13_r0 c0_i32_85_r0
  let true_87_r0 : BitVec 1 := 1#1
  let c1_i32_86_r0 : BitVec 32 := 1#32
  let v91_r0 : BitVec 32 := Scalar.subi arg13_r0 c1_i32_86_r0
  let v92_r0 : BitVec 32 := Scalar.select true_87_r0 v91_r0 arg13_r0
  let c_m1_i32_88_r0 : BitVec 32 := 4294967295#32
  let v93_r0 : BitVec 1 := Scalar.cmpi .eq v92_r0 c_m1_i32_88_r0
  let c31_i32_89_r0 : BitVec 32 := 31#32
  let v94_r0 : BitVec 32 := Scalar.select v93_r0 c31_i32_89_r0 v92_r0
  let c0_i32_90_r0 : BitVec 32 := 0#32
  let v95_r0 : BitVec 32 := Scalar.addi v94_r0 c0_i32_90_r0
  let v212_r0 : BitVec 1 := Scalar.cmpi .ne v90_r0 v95_r0
  let c0_i32_51_r0 : BitVec 32 := 0#32
  let c1_i32_53_r0 : BitVec 32 := 1#32
  let arg6_r0 : BitVec 32 := Scf.iv c0_i32_51_r0 c1_i32_53_r0 k0_t1
  let c0_i32_83_r0 : BitVec 32 := 0#32
  let v88_r0 : BitVec 1 := Scalar.cmpi .eq arg6_r0 c0_i32_83_r0
  let true_153_r0 : BitVec 1 := 1#1
  let v213_r0 : BitVec 1 := Scalar.xori v88_r0 true_153_r0
  let v214_r0 : BitVec 1 := Scalar.andi v212_r0 v213_r0
  let v215_r0 : BitVec 32 := Scalar.extui v214_r0
  let c0_i32_154_r0 : BitVec 32 := 0#32
  let v216_r0 : BitVec 1 := Scalar.cmpi .ne v215_r0 c0_i32_154_r0
  v216_r0

def k0_off29 (arg13_r0 : BitVec 32) : Fin 2 → Nat :=
  let c1024_i32_164_r0 : BitVec 32 := 1024#32
  let true_87_r0 : BitVec 1 := 1#1
  let c1_i32_86_r0 : BitVec 32 := 1#32
  let v91_r0 : BitVec 32 := Scalar.subi arg13_r0 c1_i32_86_r0
  let v92_r0 : BitVec 32 := Scalar.select true_87_r0 v91_r0 arg13_r0
  let c_m1_i32_88_r0 : BitVec 32 := 4294967295#32
  let v93_r0 : BitVec 1 := Scalar.cmpi .eq v92_r0 c_m1_i32_88_r0
  let c31_i32_89_r0 : BitVec 32 := 31#32
  let v94_r0 : BitVec 32 := Scalar.select v93_r0 c31_i32_89_r0 v92_r0
  let c0_i32_90_r0 : BitVec 32 := 0#32
  let v95_r0 : BitVec 32 := Scalar.addi v94_r0 c0_i32_90_r0
  let v233_r0 : BitVec 32 := Scalar.muli c1024_i32_164_r0 v95_r0
  let c0_i32_165_r0 : BitVec 32 := 0#32
  ![v233_r0.toNat, 0]
def k0_off30 (arg12_r0 : BitVec 32) : Fin 3 → Nat :=
  let c2_i32_163_r0 : BitVec 32 := 2#32
  let v232_r0 : BitVec 32 := Scalar.remui arg12_r0 c2_i32_163_r0
  let c0_i32_166_r0 : BitVec 32 := 0#32
  let c0_i32_167_r0 : BitVec 32 := 0#32
  ![v232_r0.toNat, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) : Prop :=
  (∀ (k0_h3 : k0_cond3 k0_t1 arg13_r0 = 1#1), ∀ a, (k0_off10 arg7_r0) a + S1.size a ≤ S3.size a) ∧
  (∀ (k0_h3 : k0_cond3 k0_t1 arg13_r0 = 1#1), ∀ a, (k0_off11 arg7_r0) a + S1x1024x2048.size a ≤ S3x1024x2048.size a) ∧
  (∀ (k0_h3 : k0_cond3 k0_t1 arg13_r0 = 1#1), ∀ a, (k0_off12 arg13_r0) a + S1024x2048.size a ≤ S32768x2048.size a) ∧
  (∀ (k0_h3 : k0_cond3 k0_t1 arg13_r0 = 1#1), ∀ (hinb : ∀ a, (k0_off12 arg13_r0) a + S1024x2048.size a ≤ S32768x2048.size a), (Rect.unit (s := S32768x2048) (k0_off12 arg13_r0) S1024x2048.size hinb).WholeWords (EltTy.packing .bf16)) ∧
  (∀ (k0_h3 : k0_cond3 k0_t1 arg13_r0 = 1#1), ∀ (hinb : ∀ a, (k0_off11 arg7_r0) a + S1x1024x2048.size a ≤ S3x1024x2048.size a), (Rect.unit (s := S3x1024x2048) (k0_off11 arg7_r0) S1x1024x2048.size hinb).WholeWords (EltTy.packing .bf16)) ∧
  (∀ (k0_h4 : k0_cond4 k0_t1 arg13_r0 = 1#1), ∀ a, (k0_off13 arg9_r0) a + S1.size a ≤ S3.size a) ∧
  (∀ (k0_h4 : k0_cond4 k0_t1 arg13_r0 = 1#1), ∀ a, (k0_off14 arg9_r0) a + S1x1024x1024.size a ≤ S3x1024x1024.size a) ∧
  (∀ (k0_h4 : k0_cond4 k0_t1 arg13_r0 = 1#1), ∀ a, (k0_off15 arg13_r0) a + S1024x1024.size a ≤ S32768x1024.size a) ∧
  (∀ (k0_h5 : k0_cond5 k0_t1 arg13_r0 = 1#1), ∀ a, (k0_off16 arg8_r0) a + S1.size a ≤ S3.size a) ∧
  (∀ (k0_h5 : k0_cond5 k0_t1 arg13_r0 = 1#1), ∀ a, (k0_off17 arg8_r0) a + S1x1024x2048.size a ≤ S3x1024x2048.size a) ∧
  (∀ (k0_h5 : k0_cond5 k0_t1 arg13_r0 = 1#1), ∀ a, (k0_off18 arg13_r0) a + S1024x2048.size a ≤ S32768x2048.size a) ∧
  (∀ (k0_h5 : k0_cond5 k0_t1 arg13_r0 = 1#1), ∀ (hinb : ∀ a, (k0_off18 arg13_r0) a + S1024x2048.size a ≤ S32768x2048.size a), (Rect.unit (s := S32768x2048) (k0_off18 arg13_r0) S1024x2048.size hinb).WholeWords (EltTy.packing .bf16)) ∧
  (∀ (k0_h5 : k0_cond5 k0_t1 arg13_r0 = 1#1), ∀ (hinb : ∀ a, (k0_off17 arg8_r0) a + S1x1024x2048.size a ≤ S3x1024x2048.size a), (Rect.unit (s := S3x1024x2048) (k0_off17 arg8_r0) S1x1024x2048.size hinb).WholeWords (EltTy.packing .bf16)) ∧
  (∀ (k0_h6 : k0_cond6 k0_t1 arg13_r0 = 1#1), ∀ a, (k0_off19 arg10_r0) a + S1.size a ≤ S3.size a) ∧
  (∀ (k0_h6 : k0_cond6 k0_t1 arg13_r0 = 1#1), ∀ a, (k0_off20 arg10_r0) a + S1x1024x1024.size a ≤ S3x1024x1024.size a) ∧
  (∀ (k0_h6 : k0_cond6 k0_t1 arg13_r0 = 1#1), ∀ a, (k0_off21 arg13_r0) a + S1024x1024.size a ≤ S32768x1024.size a) ∧
  (∀ (k0_h10 : k0_cond10 k0_t1 arg13_r0 = 1#1), ∀ a, (k0_off25 arg11_r0) a + S1.size a ≤ S2.size a) ∧
  (∀ (k0_h10 : k0_cond10 k0_t1 arg13_r0 = 1#1), ∀ a, (k0_off26 arg13_r0) a + S1024x1024.size a ≤ S32768x1024.size a) ∧
  (∀ (k0_h10 : k0_cond10 k0_t1 arg13_r0 = 1#1), ∀ a, (k0_off27 arg11_r0) a + S1x1024x1024.size a ≤ S2x1024x1024.size a) ∧
  (∀ (k0_h13 : k0_cond13 k0_t1 arg13_r0 = 1#1), ∀ a, (k0_off28 arg12_r0) a + S1.size a ≤ S2.size a) ∧
  (∀ (k0_h13 : k0_cond13 k0_t1 arg13_r0 = 1#1), ∀ a, (k0_off29 arg13_r0) a + S1024x1024.size a ≤ S32768x1024.size a) ∧
  (∀ (k0_h13 : k0_cond13 k0_t1 arg13_r0 = 1#1), ∀ a, (k0_off30 arg12_r0) a + S1x1024x1024.size a ≤ S2x1024x1024.size a)
theorem k0_off10_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), ∀ a, (k0_off10 arg7_r0) a + S1.size a ≤ S3.size a := fun k0_t1 arg7_r0 arg8_r0 arg9_r0 arg10_r0 arg11_r0 arg12_r0 arg13_r0 k0_hw1 k0_h3 => k0_hw1.1 k0_h3
theorem k0_off11_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), ∀ a, (k0_off11 arg7_r0) a + S1x1024x2048.size a ≤ S3x1024x2048.size a := fun k0_t1 arg7_r0 arg8_r0 arg9_r0 arg10_r0 arg11_r0 arg12_r0 arg13_r0 k0_hw1 k0_h3 => k0_hw1.2.1 k0_h3
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), ∀ a, (k0_off12 arg13_r0) a + S1024x2048.size a ≤ S32768x2048.size a := fun k0_t1 arg7_r0 arg8_r0 arg9_r0 arg10_r0 arg11_r0 arg12_r0 arg13_r0 k0_hw1 k0_h3 => k0_hw1.2.2.1 k0_h3
theorem k0_off12_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), (Rect.unit (s := S32768x2048) (k0_off12 arg13_r0) S1024x2048.size (k0_off12_inb k0_t1 arg7_r0 arg8_r0 arg9_r0 arg10_r0 arg11_r0 arg12_r0 arg13_r0 k0_hw1 k0_h3)).WholeWords (EltTy.packing .bf16) := fun k0_t1 arg7_r0 arg8_r0 arg9_r0 arg10_r0 arg11_r0 arg12_r0 arg13_r0 k0_hw1 k0_h3 => k0_hw1.2.2.2.1 k0_h3 (k0_off12_inb k0_t1 arg7_r0 arg8_r0 arg9_r0 arg10_r0 arg11_r0 arg12_r0 arg13_r0 k0_hw1 k0_h3)
theorem k0_off11_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h3 : k0_cond3 k0_t1 arg13_r0 = 1#1), (Rect.unit (s := S3x1024x2048) (k0_off11 arg7_r0) S1x1024x2048.size (k0_off11_inb k0_t1 arg7_r0 arg8_r0 arg9_r0 arg10_r0 arg11_r0 arg12_r0 arg13_r0 k0_hw1 k0_h3)).WholeWords (EltTy.packing .bf16) := fun k0_t1 arg7_r0 arg8_r0 arg9_r0 arg10_r0 arg11_r0 arg12_r0 arg13_r0 k0_hw1 k0_h3 => k0_hw1.2.2.2.2.1 k0_h3 (k0_off11_inb k0_t1 arg7_r0 arg8_r0 arg9_r0 arg10_r0 arg11_r0 arg12_r0 arg13_r0 k0_hw1 k0_h3)
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), ∀ a, (k0_off13 arg9_r0) a + S1.size a ≤ S3.size a := fun k0_t1 arg7_r0 arg8_r0 arg9_r0 arg10_r0 arg11_r0 arg12_r0 arg13_r0 k0_hw1 k0_h4 => k0_hw1.2.2.2.2.2.1 k0_h4
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), ∀ a, (k0_off14 arg9_r0) a + S1x1024x1024.size a ≤ S3x1024x1024.size a := fun k0_t1 arg7_r0 arg8_r0 arg9_r0 arg10_r0 arg11_r0 arg12_r0 arg13_r0 k0_hw1 k0_h4 => k0_hw1.2.2.2.2.2.2.1 k0_h4
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h4 : k0_cond4 k0_t1 arg13_r0 = 1#1), ∀ a, (k0_off15 arg13_r0) a + S1024x1024.size a ≤ S32768x1024.size a := fun k0_t1 arg7_r0 arg8_r0 arg9_r0 arg10_r0 arg11_r0 arg12_r0 arg13_r0 k0_hw1 k0_h4 => k0_hw1.2.2.2.2.2.2.2.1 k0_h4
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h5 : k0_cond5 k0_t1 arg13_r0 = 1#1), ∀ a, (k0_off16 arg8_r0) a + S1.size a ≤ S3.size a := fun k0_t1 arg7_r0 arg8_r0 arg9_r0 arg10_r0 arg11_r0 arg12_r0 arg13_r0 k0_hw1 k0_h5 => k0_hw1.2.2.2.2.2.2.2.2.1 k0_h5
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h5 : k0_cond5 k0_t1 arg13_r0 = 1#1), ∀ a, (k0_off17 arg8_r0) a + S1x1024x2048.size a ≤ S3x1024x2048.size a := fun k0_t1 arg7_r0 arg8_r0 arg9_r0 arg10_r0 arg11_r0 arg12_r0 arg13_r0 k0_hw1 k0_h5 => k0_hw1.2.2.2.2.2.2.2.2.2.1 k0_h5
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h5 : k0_cond5 k0_t1 arg13_r0 = 1#1), ∀ a, (k0_off18 arg13_r0) a + S1024x2048.size a ≤ S32768x2048.size a := fun k0_t1 arg7_r0 arg8_r0 arg9_r0 arg10_r0 arg11_r0 arg12_r0 arg13_r0 k0_hw1 k0_h5 => k0_hw1.2.2.2.2.2.2.2.2.2.2.1 k0_h5
theorem k0_off18_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h5 : k0_cond5 k0_t1 arg13_r0 = 1#1), (Rect.unit (s := S32768x2048) (k0_off18 arg13_r0) S1024x2048.size (k0_off18_inb k0_t1 arg7_r0 arg8_r0 arg9_r0 arg10_r0 arg11_r0 arg12_r0 arg13_r0 k0_hw1 k0_h5)).WholeWords (EltTy.packing .bf16) := fun k0_t1 arg7_r0 arg8_r0 arg9_r0 arg10_r0 arg11_r0 arg12_r0 arg13_r0 k0_hw1 k0_h5 => k0_hw1.2.2.2.2.2.2.2.2.2.2.2.1 k0_h5 (k0_off18_inb k0_t1 arg7_r0 arg8_r0 arg9_r0 arg10_r0 arg11_r0 arg12_r0 arg13_r0 k0_hw1 k0_h5)
theorem k0_off17_wordsbf16 : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h5 : k0_cond5 k0_t1 arg13_r0 = 1#1), (Rect.unit (s := S3x1024x2048) (k0_off17 arg8_r0) S1x1024x2048.size (k0_off17_inb k0_t1 arg7_r0 arg8_r0 arg9_r0 arg10_r0 arg11_r0 arg12_r0 arg13_r0 k0_hw1 k0_h5)).WholeWords (EltTy.packing .bf16) := fun k0_t1 arg7_r0 arg8_r0 arg9_r0 arg10_r0 arg11_r0 arg12_r0 arg13_r0 k0_hw1 k0_h5 => k0_hw1.2.2.2.2.2.2.2.2.2.2.2.2.1 k0_h5 (k0_off17_inb k0_t1 arg7_r0 arg8_r0 arg9_r0 arg10_r0 arg11_r0 arg12_r0 arg13_r0 k0_hw1 k0_h5)
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h6 : k0_cond6 k0_t1 arg13_r0 = 1#1), ∀ a, (k0_off19 arg10_r0) a + S1.size a ≤ S3.size a := fun k0_t1 arg7_r0 arg8_r0 arg9_r0 arg10_r0 arg11_r0 arg12_r0 arg13_r0 k0_hw1 k0_h6 => k0_hw1.2.2.2.2.2.2.2.2.2.2.2.2.2.1 k0_h6
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h6 : k0_cond6 k0_t1 arg13_r0 = 1#1), ∀ a, (k0_off20 arg10_r0) a + S1x1024x1024.size a ≤ S3x1024x1024.size a := fun k0_t1 arg7_r0 arg8_r0 arg9_r0 arg10_r0 arg11_r0 arg12_r0 arg13_r0 k0_hw1 k0_h6 => k0_hw1.2.2.2.2.2.2.2.2.2.2.2.2.2.2.1 k0_h6
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h6 : k0_cond6 k0_t1 arg13_r0 = 1#1), ∀ a, (k0_off21 arg13_r0) a + S1024x1024.size a ≤ S32768x1024.size a := fun k0_t1 arg7_r0 arg8_r0 arg9_r0 arg10_r0 arg11_r0 arg12_r0 arg13_r0 k0_hw1 k0_h6 => k0_hw1.2.2.2.2.2.2.2.2.2.2.2.2.2.2.2.1 k0_h6
theorem k0_off25_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h10 : k0_cond10 k0_t1 arg13_r0 = 1#1), ∀ a, (k0_off25 arg11_r0) a + S1.size a ≤ S2.size a := fun k0_t1 arg7_r0 arg8_r0 arg9_r0 arg10_r0 arg11_r0 arg12_r0 arg13_r0 k0_hw1 k0_h10 => k0_hw1.2.2.2.2.2.2.2.2.2.2.2.2.2.2.2.2.1 k0_h10
theorem k0_off26_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h10 : k0_cond10 k0_t1 arg13_r0 = 1#1), ∀ a, (k0_off26 arg13_r0) a + S1024x1024.size a ≤ S32768x1024.size a := fun k0_t1 arg7_r0 arg8_r0 arg9_r0 arg10_r0 arg11_r0 arg12_r0 arg13_r0 k0_hw1 k0_h10 => k0_hw1.2.2.2.2.2.2.2.2.2.2.2.2.2.2.2.2.2.1 k0_h10
theorem k0_off27_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h10 : k0_cond10 k0_t1 arg13_r0 = 1#1), ∀ a, (k0_off27 arg11_r0) a + S1x1024x1024.size a ≤ S2x1024x1024.size a := fun k0_t1 arg7_r0 arg8_r0 arg9_r0 arg10_r0 arg11_r0 arg12_r0 arg13_r0 k0_hw1 k0_h10 => k0_hw1.2.2.2.2.2.2.2.2.2.2.2.2.2.2.2.2.2.2.1 k0_h10
theorem k0_off28_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h13 : k0_cond13 k0_t1 arg13_r0 = 1#1), ∀ a, (k0_off28 arg12_r0) a + S1.size a ≤ S2.size a := fun k0_t1 arg7_r0 arg8_r0 arg9_r0 arg10_r0 arg11_r0 arg12_r0 arg13_r0 k0_hw1 k0_h13 => k0_hw1.2.2.2.2.2.2.2.2.2.2.2.2.2.2.2.2.2.2.2.1 k0_h13
theorem k0_off29_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h13 : k0_cond13 k0_t1 arg13_r0 = 1#1), ∀ a, (k0_off29 arg13_r0) a + S1024x1024.size a ≤ S32768x1024.size a := fun k0_t1 arg7_r0 arg8_r0 arg9_r0 arg10_r0 arg11_r0 arg12_r0 arg13_r0 k0_hw1 k0_h13 => k0_hw1.2.2.2.2.2.2.2.2.2.2.2.2.2.2.2.2.2.2.2.2.1 k0_h13
theorem k0_off30_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h13 : k0_cond13 k0_t1 arg13_r0 = 1#1), ∀ a, (k0_off30 arg12_r0) a + S1x1024x1024.size a ≤ S2x1024x1024.size a := fun k0_t1 arg7_r0 arg8_r0 arg9_r0 arg10_r0 arg11_r0 arg12_r0 arg13_r0 k0_hw1 k0_h13 => k0_hw1.2.2.2.2.2.2.2.2.2.2.2.2.2.2.2.2.2.2.2.2.2 k0_h13

def k0_off31 (v55_5_r0 : BitVec 32) : Fin 1 → Nat :=
  let c2_i32_r0 : BitVec 32 := 2#32
  let v81_r0 : BitVec 32 := Scalar.remui v55_5_r0 c2_i32_r0
  ![v81_r0.toNat]

def k0_off32 (v55_6_r0 : BitVec 32) : Fin 2 → Nat :=
  let c1024_i32_r0 : BitVec 32 := 1024#32
  let true_56_r0 : BitVec 1 := 1#1
  let c1_i32_55_r0 : BitVec 32 := 1#32
  let v56_r0 : BitVec 32 := Scalar.subi v55_6_r0 c1_i32_55_r0
  let v57_r0 : BitVec 32 := Scalar.select true_56_r0 v56_r0 v55_6_r0
  let c_m1_i32_57_r0 : BitVec 32 := 4294967295#32
  let v58_r0 : BitVec 1 := Scalar.cmpi .eq v57_r0 c_m1_i32_57_r0
  let c31_i32_58_r0 : BitVec 32 := 31#32
  let v59_r0 : BitVec 32 := Scalar.select v58_r0 c31_i32_58_r0 v57_r0
  let c0_i32_59_r0 : BitVec 32 := 0#32
  let v60_r0 : BitVec 32 := Scalar.addi v59_r0 c0_i32_59_r0
  let v82_r0 : BitVec 32 := Scalar.muli c1024_i32_r0 v60_r0
  let c0_i32_80_r0 : BitVec 32 := 0#32
  ![v82_r0.toNat, 0]

def k0_chk6 (v55_6_r0 : BitVec 32) : Prop :=
  (∀ a, (k0_off32 v55_6_r0) a + S1024x1024.size a ≤ S32768x1024.size a)
theorem k0_off32_inb : ∀ (v55_6_r0 : BitVec 32) (k0_hw6 : k0_chk6 v55_6_r0), ∀ a, (k0_off32 v55_6_r0) a + S1024x1024.size a ≤ S32768x1024.size a := fun v55_6_r0 k0_hw6 => k0_hw6

def k0_off33 (v55_5_r0 : BitVec 32) : Fin 3 → Nat :=
  let c2_i32_r0 : BitVec 32 := 2#32
  let v81_r0 : BitVec 32 := Scalar.remui v55_5_r0 c2_i32_r0
  let c0_i32_81_r0 : BitVec 32 := 0#32
  let c0_i32_82_r0 : BitVec 32 := 0#32
  ![v81_r0.toNat, 0, 0]

def k0_chk5 (v55_5_r0 : BitVec 32) : Prop :=
  (∀ a, (k0_off31 v55_5_r0) a + S1.size a ≤ S2.size a) ∧
  (∀ a, (k0_off33 v55_5_r0) a + S1x1024x1024.size a ≤ S2x1024x1024.size a)
theorem k0_off31_inb : ∀ (v55_5_r0 : BitVec 32) (k0_hw5 : k0_chk5 v55_5_r0), ∀ a, (k0_off31 v55_5_r0) a + S1.size a ≤ S2.size a := fun v55_5_r0 k0_hw5 => k0_hw5.1
theorem k0_off33_inb : ∀ (v55_5_r0 : BitVec 32) (k0_hw5 : k0_chk5 v55_5_r0), ∀ a, (k0_off33 v55_5_r0) a + S1x1024x1024.size a ≤ S2x1024x1024.size a := fun v55_5_r0 k0_hw5 => k0_hw5.2

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S32768x2048, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel2.lean ====
abbrev S32768x1024 : Shape := ⟨2, ![32768, 1024]⟩
abbrev S1024x20480 : Shape := ⟨2, ![1024, 20480]⟩
abbrev S32768x12288 : Shape := ⟨2, ![32768, 12288]⟩
abbrev S2048x1024 : Shape := ⟨2, ![2048, 1024]⟩
abbrev S1024x2048 : Shape := ⟨2, ![1024, 2048]⟩
abbrev S2048x2048 : Shape := ⟨2, ![2048, 2048]⟩
abbrev S2x2048x1024 : Shape := ⟨3, ![2, 2048, 1024]⟩
abbrev S256x256 : Shape := ⟨2, ![256, 256]⟩
abbrev S256x1024 : Shape := ⟨2, ![256, 1024]⟩
abbrev S64x1024 : Shape := ⟨2, ![64, 1024]⟩
abbrev S1x64x1024 : Shape := ⟨3, ![1, 64, 1024]⟩
abbrev S16x1024 : Shape := ⟨2, ![16, 1024]⟩
abbrev S1x16x1024 : Shape := ⟨3, ![1, 16, 1024]⟩
abbrev S1x2048x1024 : Shape := ⟨3, ![1, 2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x20480, .f32⟩
  | .hbm, ⟨2, _⟩ => ⟨S32768x12288, .bf16⟩
  | .local _ .vmem, ⟨0, _⟩ => ⟨S2048x1024, .bf16⟩
  | .local _ .vmem, ⟨1, _⟩ => ⟨S2048x1024, .bf16⟩
  | .local _ .vmem, ⟨2, _⟩ => ⟨S1024x2048, .f32⟩
  | .local _ .vmem, ⟨3, _⟩ => ⟨S1024x2048, .f32⟩
  | .local _ .vmem, ⟨4, _⟩ => ⟨S2048x2048, .bf16⟩
  | .local _ .vmem, ⟨5, _⟩ => ⟨S2048x2048, .bf16⟩
  | .local _ .vmem, ⟨6, _⟩ => ⟨S2x2048x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c3_i32 : BitVec 32 := 3#32
  let c0_i32_3 : BitVec 32 := 0#32
  let v9 : BitVec 1 := Scalar.cmpi .sgt c3_i32 c0_i32_3
  let v10 : BitVec 32 := Scalar.extui v9
  let c0_i32_4 : BitVec 32 := 0#32
  let v11 : BitVec 1 := Scalar.cmpi .slt c3_i32 c0_i32_4
  let v12 : BitVec 32 := Scalar.extui v11
  let v13 : BitVec 32 := Scalar.subi v10 v12
  let v14 : BitVec 1 := Scalar.cmpi .ne v8 v13
  let v15 : BitVec 32 := Scalar.remsi arg1 c3_i32
  let c0_i32_5 : BitVec 32 := 0#32
  let v16 : BitVec 1 := Scalar.cmpi .ne v15 c0_i32_5
  let v17 : BitVec 1 := Scalar.andi v14 v16
  let v3 : BitVec 32 := Scalar.divsi arg1 c3_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_8 : BitVec 32 := 0#32
  let v22 : BitVec 1 := Scalar.cmpi .ne v21 c0_i32_8
  v22

def k0_cond3 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c3_i32 : BitVec 32 := 3#32
  let c0_i32_3 : BitVec 32 := 0#32
  let v9 : BitVec 1 := Scalar.cmpi .sgt c3_i32 c0_i32_3
  let v10 : BitVec 32 := Scalar.extui v9
  let c0_i32_4 : BitVec 32 := 0#32
  let v11 : BitVec 1 := Scalar.cmpi .slt c3_i32 c0_i32_4
  let v12 : BitVec 32 := Scalar.extui v11
  let v13 : BitVec 32 := Scalar.subi v10 v12
  let v14 : BitVec 1 := Scalar.cmpi .ne v8 v13
  let v15 : BitVec 32 := Scalar.remsi arg1 c3_i32
  let c0_i32_5 : BitVec 32 := 0#32
  let v16 : BitVec 1 := Scalar.cmpi .ne v15 c0_i32_5
  let v17 : BitVec 1 := Scalar.andi v14 v16
  let v3 : BitVec 32 := Scalar.divsi arg1 c3_i32
  let c1_i32 : BitVec 32 := 1#32
  let v18 : BitVec 32 := Scalar.subi v3 c1_i32
  let v19 : BitVec 32 := Scalar.select v17 v18 v3
  let c1_i32_9 : BitVec 32 := 1#32
  let v23 : BitVec 1 := Scalar.cmpi .eq v19 c1_i32_9
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
variable {F : FTy → Type} [FloatOps F] [Named F]
def κ : String → Option EReal := fun
  | "qk_scale" => some (((Real.sqrt 128)⁻¹ * (Real.log 2)⁻¹ : ℝ) : EReal)
  | _ => none
-- ==== Reference2Ideal.lean ====
abbrev S32768x1024 : Shape := ⟨2, ![32768, 1024]⟩
abbrev S1024x20480 : Shape := ⟨2, ![1024, 20480]⟩
abbrev S1024x2048 : Shape := ⟨2, ![1024, 2048]⟩
abbrev S32768x2048 : Shape := ⟨2, ![32768, 2048]⟩
abbrev S_ : Shape := ⟨0, ![]⟩
abbrev S16x512x4x2048 : Shape := ⟨4, ![16, 512, 4, 2048]⟩
abbrev S16x4x512x2048 : Shape := ⟨4, ![16, 4, 512, 2048]⟩
abbrev S16x128x16x2048 : Shape := ⟨4, ![16, 128, 16, 2048]⟩
abbrev S16x16x128x2048 : Shape := ⟨4, ![16, 16, 128, 2048]⟩
abbrev S32768x12288 : Shape := ⟨2, ![32768, 12288]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x20480, .f32⟩
  | .hbm, ⟨2, _⟩ => ⟨S32768x1024, .f32⟩
  | .hbm, ⟨3, _⟩ => ⟨S1024x2048, .f32⟩
  | .hbm, ⟨4, _⟩ => ⟨S32768x2048, .f32⟩
  | .hbm, ⟨5, _⟩ => ⟨S_, .f32⟩
  | .hbm, ⟨6, _⟩ => ⟨S_, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S1024x2048, .f32⟩
  | .hbm, ⟨14, _⟩ => ⟨S32768x2048, .f32⟩
  | .hbm, ⟨15, _⟩ => ⟨S1024x2048, .f32⟩
  | .hbm, ⟨16, _⟩ => ⟨S32768x2048, .f32⟩
  | .hbm, ⟨17, _⟩ => ⟨S16x512x4x2048, .f32⟩
  | .hbm, ⟨18, _⟩ => ⟨S16x4x512x2048, .f32⟩
  | .hbm, ⟨19, _⟩ => ⟨S32768x2048, .f32⟩
  | .hbm, ⟨20, _⟩ => ⟨S16x512x4x2048, .f32⟩
  | .hbm, ⟨21, _⟩ => ⟨S16x4x512x2048, .f32⟩
  | .hbm, ⟨22, _⟩ => ⟨S32768x2048, .f32⟩
  | .hbm, ⟨23, _⟩ => ⟨S16x512x4x2048, .f32⟩
  | .hbm, ⟨24, _⟩ => ⟨S16x4x512x2048, .f32⟩
  | .hbm, ⟨25, _⟩ => ⟨S32768x2048, .f32⟩
  | .hbm, ⟨26, _⟩ => ⟨S1024x2048, .f32⟩
  | .hbm, ⟨27, _⟩ => ⟨S32768x2048, .f32⟩
  | .hbm, ⟨28, _⟩ => ⟨S_, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S_, .f32⟩
  | .hbm, ⟨34, _⟩ => ⟨S32768x2048, .f32⟩
  | .hbm, ⟨35, _⟩ => ⟨S32768x2048, .f32⟩
  | .hbm, ⟨36, _⟩ => ⟨S1024x2048, .f32⟩
  | .hbm, ⟨37, _⟩ => ⟨S32768x2048, .f32⟩
  | .hbm, ⟨38, _⟩ => ⟨S1024x2048, .f32⟩
  | .hbm, ⟨39, _⟩ => ⟨S32768x2048, .f32⟩
  | .hbm, ⟨40, _⟩ => ⟨S16x128x16x2048, .f32⟩
  | .hbm, ⟨41, _⟩ => ⟨S16x16x128x2048, .f32⟩
  | .hbm, ⟨42, _⟩ => ⟨S32768x2048, .f32⟩
  | .hbm, ⟨43, _⟩ => ⟨S16x128x16x2048, .f32⟩
  | .hbm, ⟨44, _⟩ => ⟨S16x16x128x2048, .f32⟩
  | .hbm, ⟨45, _⟩ => ⟨S32768x2048, .f32⟩
  | .hbm, ⟨46, _⟩ => ⟨S16x128x16x2048, .f32⟩
  | .hbm, ⟨47, _⟩ => ⟨S16x16x128x2048, .f32⟩
  | .hbm, ⟨48, _⟩ => ⟨S32768x2048, .f32⟩
  | .hbm, ⟨49, _⟩ => ⟨S32768x12288, .f32⟩
  | .hbm, ⟨50, _⟩ => ⟨S32768x12288, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Kernel3.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1x1024 : Shape := ⟨2, ![1, 1024]⟩
abbrev S3x1024x2048 : Shape := ⟨3, ![3, 1024, 2048]⟩
abbrev S3 : Shape := ⟨1, ![3]⟩
abbrev S3x1024x1024 : Shape := ⟨3, ![3, 1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1x1024, .f32⟩
  | .hbm, ⟨5, _⟩ => ⟨S32768x1024, .f32⟩
  | .hbm, ⟨6, _⟩ => ⟨S32768x1024, .bf16⟩
  | .local _ .vmem, ⟨0, _⟩ => ⟨S2048x1024, .f32⟩
  | .local _ .vmem, ⟨1, _⟩ => ⟨S1x1024, .f32⟩
  | .local _ .vmem, ⟨2, _⟩ => ⟨S2048x1024, .bf16⟩
  | .local _ .vmem, ⟨3, _⟩ => ⟨S3x1024x2048, .bf16⟩
  | .local _ .vmem, ⟨4, _⟩ => ⟨S3x1024x1024, .f32⟩
  | .local _ .vmem, ⟨5, _⟩ => ⟨S2x1024x1024, .f32⟩
  | .local _ .vmem, ⟨6, _⟩ => ⟨S2x1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c3_i32_r0 : BitVec 32 := 3#32
  let v27_r0 : BitVec 32 := Scalar.remui c0_i32_22_r0 c3_i32_r0
  ![v27_r0.toNat]
def k0_off2 : Fin 3 → Nat :=
  let c0_i32_22_r0 : BitVec 32 := 0#32
  let c3_i32_r0 : BitVec 32 := 3#32
  let v27_r0 : BitVec 32 := Scalar.remui c0_i32_22_r0 c3_i32_r0
  let c0_i32_23_r0 : BitVec 32 := 0#32
  let c0_i32_24_r0 : BitVec 32 := 0#32
  ![v27_r0.toNat, 0, 0]
def k0_off3 : Fin 3 → Nat :=
  let c0_i32_29_r0 : BitVec 32 := 0#32
  let c3_i32_30_r0 : BitVec 32 := 3#32
  let v34_r0 : BitVec 32 := Scalar.remui c0_i32_29_r0 c3_i32_30_r0
  let c0_i32_31_r0 : BitVec 32 := 0#32
  let c0_i32_32_r0 : BitVec 32 := 0#32
  ![v34_r0.toNat, 0, 0]
def k0_cond1 : BitVec 1 :=
  let true_38_r0 : BitVec 1 := 1#1
  let true_8_r0 : BitVec 1 := 1#1
  let c1_i32_r0 : BitVec 32 := 1#32
  let c0_i32_9_r0 : BitVec 32 := 0#32
  let v13_r0 : BitVec 32 := Scalar.select true_8_r0 c1_i32_r0 c0_i32_9_r0
  let c32_i32_r0 : BitVec 32 := 32#32
  let v14_r0 : BitVec 1 := Scalar.cmpi .eq v13_r0 c32_i32_r0
  let c0_i32_10_r0 : BitVec 32 := 0#32
  let v15_r0 : BitVec 32 := Scalar.select v14_r0 c0_i32_10_r0 v13_r0
  let c0_i32_11_r0 : BitVec 32 := 0#32
  let v16_r0 : BitVec 32 := Scalar.addi v15_r0 c0_i32_11_r0
  let c0_i32_37_r0 : BitVec 32 := 0#32
  let v41_r0 : BitVec 1 := Scalar.cmpi .ne v16_r0 c0_i32_37_r0
  let v42_r0 : BitVec 1 := Scalar.andi true_38_r0 v41_r0
  let true_39_r0 : BitVec 1 := 1#1
  let v43_r0 : BitVec 1 := Scalar.andi v42_r0 true_39_r0
  let v44_r0 : BitVec 32 := Scalar.extui v43_r0
  let c0_i32_40_r0 : BitVec 32 := 0#32
  let v45_r0 : BitVec 1 := Scalar.cmpi .ne v44_r0 c0_i32_40_r0
  v45_r0

def k0_off4 : Fin 1 → Nat :=
  let c0_i32_27_r0 : BitVec 32 := 0#32
  let c1_i32_28_r0 : BitVec 32 := 1#32
  let v33_r0 : BitVec 32 := Scalar.addi c0_i32_27_r0 c1_i32_28_r0
  let c3_i32_91_r0 : BitVec 32 := 3#32
  let v96_r0 : BitVec 32 := Scalar.remui v33_r0 c3_i32_91_r0
  ![v96_r0.toNat]
def k0_off5 : Fin 3 → Nat :=
  let c0_i32_27_r0 : BitVec 32 := 0#32
  let c1_i32_28_r0 : BitVec 32 := 1#32
  let v33_r0 : BitVec 32 := Scalar.addi c0_i32_27_r0 c1_i32_28_r0
  let c3_i32_91_r0 : BitVec 32 := 3#32
  let v96_r0 : BitVec 32 := Scalar.remui v33_r0 c3_i32_91_r0
  let c0_i32_93_r0 : BitVec 32 := 0#32
  let c0_i32_94_r0 : BitVec 32 := 0#32
  ![v96_r0.toNat, 0, 0]
def k0_off6 : Fin 2 → Nat :=
  let c1024_i32_92_r0 : BitVec 32 := 1024#32
  let true_8_r0 : BitVec 1 := 1#1
  let c1_i32_r0 : BitVec 32 := 1#32
  let c0_i32_9_r0 : BitVec 32 := 0#32
  let v13_r0 : BitVec 32 := Scalar.select true_8_r0 c1_i32_r0 c0_i32_9_r0
  let c32_i32_r0 : BitVec 32 := 32#32
  let v14_r0 : BitVec 1 := Scalar.cmpi .eq v13_r0 c32_i32_r0
  let c0_i32_10_r0 : BitVec 32 := 0#32
  let v15_r0 : BitVec 32 := Scalar.select v14_r0 c0_i32_10_r0 v13_r0
  let c0_i32_11_r0 : BitVec 32 := 0#32
  let v16_r0 : BitVec 32 := Scalar.addi v15_r0 c0_i32_11_r0
  let v97_r0 : BitVec 32 := Scalar.muli c1024_i32_92_r0 v16_r0
  let c0_i32_95_r0 : BitVec 32 := 0#32
  ![v97_r0.toNat, 0]
def k0_cond2 : BitVec 1 :=
  let true_43_r0 : BitVec 1 := 1#1
  let true_8_r0 : BitVec 1 := 1#1
  let c1_i32_r0 : BitVec 32 := 1#32
  let c0_i32_9_r0 : BitVec 32 := 0#32
  let v13_r0 : BitVec 32 := Scalar.select true_8_r0 c1_i32_r0 c0_i32_9_r0
  let c32_i32_r0 : BitVec 32 := 32#32
  let v14_r0 : BitVec 1 := Scalar.cmpi .eq v13_r0 c32_i32_r0
  let c0_i32_10_r0 : BitVec 32 := 0#32
  let v15_r0 : BitVec 32 := Scalar.select v14_r0 c0_i32_10_r0 v13_r0
  let c0_i32_11_r0 : BitVec 32 := 0#32
  let v16_r0 : BitVec 32 := Scalar.addi v15_r0 c0_i32_11_r0
  let c0_i32_42_r0 : BitVec 32 := 0#32
  let v48_r0 : BitVec 1 := Scalar.cmpi .ne v16_r0 c0_i32_42_r0
  let v49_r0 : BitVec 1 := Scalar.andi true_43_r0 v48_r0
  let true_44_r0 : BitVec 1 := 1#1
  let v50_r0 : BitVec 1 := Scalar.andi v49_r0 true_44_r0
  let v51_r0 : BitVec 32 := Scalar.extui v50_r0
  let c0_i32_45_r0 : BitVec 32 := 0#32
  let v52_r0 : BitVec 1 := Scalar.cmpi .ne v51_r0 c0_i32_45_r0
  v52_r0

def k0_off7 : Fin 1 → Nat :=
  let c0_i32_35_r0 : BitVec 32 := 0#32
  let c1_i32_36_r0 : BitVec 32 := 1#32
  let v40_r0 : BitVec 32 := Scalar.addi c0_i32_35_r0 c1_i32_36_r0
  let c3_i32_91_r0 : BitVec 32 := 3#32
  let v96_r0 : BitVec 32 := Scalar.remui v40_r0 c3_i32_91_r0
  ![v96_r0.toNat]
def k0_off8 : Fin 3 → Nat :=
  let c0_i32_35_r0 : BitVec 32 := 0#32
  let c1_i32_36_r0 : BitVec 32 := 1#32
  let v40_r0 : BitVec 32 := Scalar.addi c0_i32_35_r0 c1_i32_36_r0
  let c3_i32_91_r0 : BitVec 32 := 3#32
  let v96_r0 : BitVec 32 := Scalar.remui v40_r0 c3_i32_91_r0
  let c0_i32_93_r0 : BitVec 32 := 0#32
  let c0_i32_94_r0 : BitVec 32 := 0#32
  ![v96_r0.toNat, 0, 0]
def k0_off9 : Fin 2 → Nat :=
  let c1024_i32_92_r0 : BitVec 32 := 1024#32
  let true_8_r0 : BitVec 1 := 1#1
  let c1_i32_r0 : BitVec 32 := 1#32
  let c0_i32_9_r0 : BitVec 32 := 0#32
  let v13_r0 : BitVec 32 := Scalar.select true_8_r0 c1_i32_r0 c0_i32_9_r0
  let c32_i32_r0 : BitVec 32 := 32#32
  let v14_r0 : BitVec 1 := Scalar.cmpi .eq v13_r0 c32_i32_r0
  let c0_i32_10_r0 : BitVec 32 := 0#32
  let v15_r0 : BitVec 32 := Scalar.select v14_r0 c0_i32_10_r0 v13_r0
  let c0_i32_11_r0 : BitVec 32 := 0#32
  let v16_r0 : BitVec 32 := Scalar.addi v15_r0 c0_i32_11_r0
  let v97_r0 : BitVec 32 := Scalar.muli c1024_i32_92_r0 v16_r0
  let c0_i32_95_r0 : BitVec 32 := 0#32
  ![v97_r0.toNat, 0]
@[reducible] def k0_t1_loop : Scf.Loop 32 :=
  let c0_i32_54_r0 : BitVec 32 := 0#32
  let c32_i32_55_r0 : BitVec 32 := 32#32
  let v55_r0 : BitVec 32 := Scalar.addi c0_i32_54_r0 c32_i32_55_r0
  let c1_i32_56_r0 : BitVec 32 := 1#32
  ⟨c0_i32_54_r0, v55_r0, c1_i32_56_r0⟩
def k0_off10 (arg8_r0 : BitVec 32) : Fin 1 → Nat :=
  let c3_i32_185_r0 : BitVec 32 := 3#32
  let v271_r0 : BitVec 32 := Scalar.remui arg8_r0 c3_i32_185_r0
  ![v271_r0.toNat]
def k0_cond3 (k0_t1 : Fin k0_t1_loop.trips) (arg16_r0 : BitVec 32) : BitVec 1 :=
  let true_100_r0 : BitVec 1 := 1#1
  let c1_i32_99_r0 : BitVec 32 := 1#32
  let v104_r0 : BitVec 32 := Scalar.addi arg16_r0 c1_i32_99_r0
  let v105_r0 : BitVec 32 := Scalar.select true_100_r0 v104_r0 arg16_r0
  let c32_i32_101_r0 : BitVec 32 := 32#32
  let v106_r0 : BitVec 1 := Scalar.cmpi .eq v105_r0 c32_i32_101_r0
  let c0_i32_102_r0 : BitVec 32 := 0#32
  let v107_r0 : BitVec 32 := Scalar.select v106_r0 c0_i32_102_r0 v105_r0
  let c0_i32_103_r0 : BitVec 32 := 0#32
  let v108_r0 : BitVec 32 := Scalar.addi v107_r0 c0_i32_103_r0
  let true_105_r0 : BitVec 1 := 1#1
  let c1_i32_104_r0 : BitVec 32 := 1#32
  let v109_r0 : BitVec 32 := Scalar.addi v107_r0 c1_i32_104_r0
  let v110_r0 : BitVec 32 := Scalar.select true_105_r0 v109_r0 v107_r0
  let c32_i32_106_r0 : BitVec 32 := 32#32
  let v111_r0 : BitVec 1 := Scalar.cmpi .eq v110_r0 c32_i32_106_r0
  let c0_i32_107_r0 : BitVec 32 := 0#32
  let v112_r0 : BitVec 32 := Scalar.select v111_r0 c0_i32_107_r0 v110_r0
  let c0_i32_108_r0 : BitVec 32 := 0#32
  let v113_r0 : BitVec 32 := Scalar.addi v112_r0 c0_i32_108_r0
  let v119_r0 : BitVec 1 := Scalar.cmpi .ne v108_r0 v113_r0
  let c0_i32_54_r0 : BitVec 32 := 0#32
  let c1_i32_56_r0 : BitVec 32 := 1#32
  let arg7_r0 : BitVec 32 := Scf.iv c0_i32_54_r0 c1_i32_56_r0 k0_t1
  let c30_i32_r0 : BitVec 32 := 30#32
  let v120_r0 : BitVec 1 := Scalar.cmpi .sge arg7_r0 c30_i32_r0
  let true_114_r0 : BitVec 1 := 1#1
  let v121_r0 : BitVec 1 := Scalar.xori v120_r0 true_114_r0
  let v122_r0 : BitVec 1 := Scalar.andi v119_r0 v121_r0
  let true_115_r0 : BitVec 1 := 1#1
  let v123_r0 : BitVec 1 := Scalar.andi v122_r0 true_115_r0
  let v124_r0 : BitVec 32 := Scalar.extui v123_r0
  let c0_i32_116_r0 : BitVec 32 := 0#32
  let v125_r0 : BitVec 1 := Scalar.cmpi .ne v124_r0 c0_i32_116_r0
  v125_r0

def k0_off11 (arg8_r0 : BitVec 32) : Fin 3 → Nat :=
  let c3_i32_185_r0 : BitVec 32 := 3#32
  let v271_r0 : BitVec 32 := Scalar.remui arg8_r0 c3_i32_185_r0
  let c0_i32_187_r0 : BitVec 32 := 0#32
  let c0_i32_188_r0 : BitVec 32 := 0#32
  ![v271_r0.toNat, 0, 0]
def k0_off12 (arg16_r0 : BitVec 32) : Fin 2 → Nat :=
  let c1024_i32_186_r0 : BitVec 32 := 1024#32
  let true_105_r0 : BitVec 1 := 1#1
  let true_100_r0 : BitVec 1 := 1#1
  let c1_i32_99_r0 : BitVec 32 := 1#32
  let v104_r0 : BitVec 32 := Scalar.addi arg16_r0 c1_i32_99_r0
  let v105_r0 : BitVec 32 := Scalar.select true_100_r0 v104_r0 arg16_r0
  let c32_i32_101_r0 : BitVec 32 := 32#32
  let v106_r0 : BitVec 1 := Scalar.cmpi .eq v105_r0 c32_i32_101_r0
  let c0_i32_102_r0 : BitVec 32 := 0#32
  let v107_r0 : BitVec 32 := Scalar.select v106_r0 c0_i32_102_r0 v105_r0
  let c1_i32_104_r0 : BitVec 32 := 1#32
  let v109_r0 : BitVec 32 := Scalar.addi v107_r0 c1_i32_104_r0
  let v110_r0 : BitVec 32 := Scalar.select true_105_r0 v109_r0 v107_r0
  let c32_i32_106_r0 : BitVec 32 := 32#32
  let v111_r0 : BitVec 1 := Scalar.cmpi .eq v110_r0 c32_i32_106_r0
  let c0_i32_107_r0 : BitVec 32 := 0#32
  let v112_r0 : BitVec 32 := Scalar.select v111_r0 c0_i32_107_r0 v110_r0
  let c0_i32_108_r0 : BitVec 32 := 0#32
  let v113_r0 : BitVec 32 := Scalar.addi v112_r0 c0_i32_108_r0
  let v272_r0 : BitVec 32 := Scalar.muli c1024_i32_186_r0 v113_r0
  let c0_i32_189_r0 : BitVec 32 := 0#32
  ![v272_r0.toNat, 0]
def k0_off13 (arg10_r0 : BitVec 32) : Fin 1 → Nat :=
  let c3_i32_185_r0 : BitVec 32 := 3#32
  let v271_r0 : BitVec 32 := Scalar.remui arg10_r0 c3_i32_185_r0
  ![v271_r0.toNat]
def k0_cond4 (k0_t1 : Fin k0_t1_loop.trips) (arg16_r0 : BitVec 32) : BitVec 1 :=
  let true_100_r0 : BitVec 1 := 1#1
  let c1_i32_99_r0 : BitVec 32 := 1#32
  let v104_r0 : BitVec 32 := Scalar.addi arg16_r0 c1_i32_99_r0
  let v105_r0 : BitVec 32 := Scalar.select true_100_r0 v104_r0 arg16_r0
  let c32_i32_101_r0 : BitVec 32 := 32#32
  let v106_r0 : BitVec 1 := Scalar.cmpi .eq v105_r0 c32_i32_101_r0
  let c0_i32_102_r0 : BitVec 32 := 0#32
  let v107_r0 : BitVec 32 := Scalar.select v106_r0 c0_i32_102_r0 v105_r0
  let c0_i32_103_r0 : BitVec 32 := 0#32
  let v108_r0 : BitVec 32 := Scalar.addi v107_r0 c0_i32_103_r0
  let true_105_r0 : BitVec 1 := 1#1
  let c1_i32_104_r0 : BitVec 32 := 1#32
  let v109_r0 : BitVec 32 := Scalar.addi v107_r0 c1_i32_104_r0
  let v110_r0 : BitVec 32 := Scalar.select true_105_r0 v109_r0 v107_r0
  let c32_i32_106_r0 : BitVec 32 := 32#32
  let v111_r0 : BitVec 1 := Scalar.cmpi .eq v110_r0 c32_i32_106_r0
  let c0_i32_107_r0 : BitVec 32 := 0#32
  let v112_r0 : BitVec 32 := Scalar.select v111_r0 c0_i32_107_r0 v110_r0
  let c0_i32_108_r0 : BitVec 32 := 0#32
  let v113_r0 : BitVec 32 := Scalar.addi v112_r0 c0_i32_108_r0
  let v129_r0 : BitVec 1 := Scalar.cmpi .ne v108_r0 v113_r0
  let c0_i32_54_r0 : BitVec 32 := 0#32
  let c1_i32_56_r0 : BitVec 32 := 1#32
  let arg7_r0 : BitVec 32 := Scf.iv c0_i32_54_r0 c1_i32_56_r0 k0_t1
  let c30_i32_119_r0 : BitVec 32 := 30#32
  let v130_r0 : BitVec 1 := Scalar.cmpi .sge arg7_r0 c30_i32_119_r0
  let true_120_r0 : BitVec 1 := 1#1
  let v131_r0 : BitVec 1 := Scalar.xori v130_r0 true_120_r0
  let v132_r0 : BitVec 1 := Scalar.andi v129_r0 v131_r0
  let true_121_r0 : BitVec 1 := 1#1
  let v133_r0 : BitVec 1 := Scalar.andi v132_r0 true_121_r0
  let v134_r0 : BitVec 32 := Scalar.extui v133_r0
  let c0_i32_122_r0 : BitVec 32 := 0#32
  let v135_r0 : BitVec 1 := Scalar.cmpi .ne v134_r0 c0_i32_122_r0
  v135_r0

def k0_off14 (arg10_r0 : BitVec 32) : Fin 3 → Nat :=
  let c3_i32_185_r0 : BitVec 32 := 3#32
  let v271_r0 : BitVec 32 := Scalar.remui arg10_r0 c3_i32_185_r0
  let c0_i32_187_r0 : BitVec 32 := 0#32
  let c0_i32_188_r0 : BitVec 32 := 0#32
  ![v271_r0.toNat, 0, 0]
def k0_off15 (arg16_r0 : BitVec 32) : Fin 2 → Nat :=
  let c1024_i32_186_r0 : BitVec 32 := 1024#32
  let true_105_r0 : BitVec 1 := 1#1
  let true_100_r0 : BitVec 1 := 1#1
  let c1_i32_99_r0 : BitVec 32 := 1#32
  let v104_r0 : BitVec 32 := Scalar.addi arg16_r0 c1_i32_99_r0
  let v105_r0 : BitVec 32 := Scalar.select true_100_r0 v104_r0 arg16_r0
  let c32_i32_101_r0 : BitVec 32 := 32#32
  let v106_r0 : BitVec 1 := Scalar.cmpi .eq v105_r0 c32_i32_101_r0
  let c0_i32_102_r0 : BitVec 32 := 0#32
  let v107_r0 : BitVec 32 := Scalar.select v106_r0 c0_i32_102_r0 v105_r0
  let c1_i32_104_r0 : BitVec 32 := 1#32
  let v109_r0 : BitVec 32 := Scalar.addi v107_r0 c1_i32_104_r0
  let v110_r0 : BitVec 32 := Scalar.select true_105_r0 v109_r0 v107_r0
  let c32_i32_106_r0 : BitVec 32 := 32#32
  let v111_r0 : BitVec 1 := Scalar.cmpi .eq v110_r0 c32_i32_106_r0
  let c0_i32_107_r0 : BitVec 32 := 0#32
  let v112_r0 : BitVec 32 := Scalar.select v111_r0 c0_i32_107_r0 v110_r0
  let c0_i32_108_r0 : BitVec 32 := 0#32
  let v113_r0 : BitVec 32 := Scalar.addi v112_r0 c0_i32_108_r0
  let v272_r0 : BitVec 32 := Scalar.muli c1024_i32_186_r0 v113_r0
  let c0_i32_189_r0 : BitVec 32 := 0#32
  ![v272_r0.toNat, 0]
def k0_off16 (arg9_r0 : BitVec 32) : Fin 1 → Nat :=
  let c3_i32_186_r0 : BitVec 32 := 3#32
  let v272_r0 : BitVec 32 := Scalar.remui arg9_r0 c3_i32_186_r0
  ![v272_r0.toNat]
def k0_cond5 (k0_t1 : Fin k0_t1_loop.trips) (arg16_r0 : BitVec 32) : BitVec 1 :=
  let c0_i32_93_r0 : BitVec 32 := 0#32
  let v98_r0 : BitVec 32 := Scalar.addi arg16_r0 c0_i32_93_r0
  let true_95_r0 : BitVec 1 := 1#1
  let c1_i32_94_r0 : BitVec 32 := 1#32
  let v99_r0 : BitVec 32 := Scalar.subi arg16_r0 c1_i32_94_r0
  let v100_r0 : BitVec 32 := Scalar.select true_95_r0 v99_r0 arg16_r0
  let c_m1_i32_96_r0 : BitVec 32 := 4294967295#32
  let v101_r0 : BitVec 1 := Scalar.cmpi .eq v100_r0 c_m1_i32_96_r0
  let c31_i32_97_r0 : BitVec 32 := 31#32
  let v102_r0 : BitVec 32 := Scalar.select v101_r0 c31_i32_97_r0 v100_r0
  let c0_i32_98_r0 : BitVec 32 := 0#32
  let v103_r0 : BitVec 32 := Scalar.addi v102_r0 c0_i32_98_r0
  let v147_r0 : BitVec 1 := Scalar.cmpi .ne v98_r0 v103_r0
  let c0_i32_54_r0 : BitVec 32 := 0#32
  let c1_i32_56_r0 : BitVec 32 := 1#32
  let arg7_r0 : BitVec 32 := Scf.iv c0_i32_54_r0 c1_i32_56_r0 k0_t1
  let c0_i32_91_r0 : BitVec 32 := 0#32
  let v96_r0 : BitVec 1 := Scalar.cmpi .eq arg7_r0 c0_i32_91_r0
  let v148_r0 : BitVec 1 := Scalar.ori v147_r0 v96_r0
  let c0_i32_129_r0 : BitVec 32 := 0#32
  let v149_r0 : BitVec 1 := Scalar.cmpi .sge arg7_r0 c0_i32_129_r0
  let v150_r0 : BitVec 1 := Scalar.andi v148_r0 v149_r0
  let v151_r0 : BitVec 32 := Scalar.extui v150_r0
  let c0_i32_130_r0 : BitVec 32 := 0#32
  let v152_r0 : BitVec 1 := Scalar.cmpi .ne v151_r0 c0_i32_130_r0
  v152_r0

def k0_off17 (arg9_r0 : BitVec 32) : Fin 3 → Nat :=
  let c3_i32_186_r0 : BitVec 32 := 3#32
  let v272_r0 : BitVec 32 := Scalar.remui arg9_r0 c3_i32_186_r0
  let c0_i32_187_r0 : BitVec 32 := 0#32
  let c0_i32_188_r0 : BitVec 32 := 0#32
  ![v272_r0.toNat, 0, 0]
def k0_off18 (arg16_r0 : BitVec 32) : Fin 2 → Nat :=
  let c1024_i32_185_r0 : BitVec 32 := 1024#32
  let c0_i32_93_r0 : BitVec 32 := 0#32
  let v98_r0 : BitVec 32 := Scalar.addi arg16_r0 c0_i32_93_r0
  let v271_r0 : BitVec 32 := Scalar.muli c1024_i32_185_r0 v98_r0
  let c0_i32_189_r0 : BitVec 32 := 0#32
  ![v271_r0.toNat, 0]
def k0_off19 (arg11_r0 : BitVec 32) : Fin 1 → Nat :=
  let c3_i32_186_r0 : BitVec 32 := 3#32
  let v272_r0 : BitVec 32 := Scalar.remui arg11_r0 c3_i32_186_r0
  ![v272_r0.toNat]
def k0_cond6 (k0_t1 : Fin k0_t1_loop.trips) (arg16_r0 : BitVec 32) : BitVec 1 :=
  let c0_i32_93_r0 : BitVec 32 := 0#32
  let v98_r0 : BitVec 32 := Scalar.addi arg16_r0 c0_i32_93_r0
  let true_95_r0 : BitVec 1 := 1#1
  let c1_i32_94_r0 : BitVec 32 := 1#32
  let v99_r0 : BitVec 32 := Scalar.subi arg16_r0 c1_i32_94_r0
  let v100_r0 : BitVec 32 := Scalar.select true_95_r0 v99_r0 arg16_r0
  let c_m1_i32_96_r0 : BitVec 32 := 4294967295#32
  let v101_r0 : BitVec 1 := Scalar.cmpi .eq v100_r0 c_m1_i32_96_r0
  let c31_i32_97_r0 : BitVec 32 := 31#32
  let v102_r0 : BitVec 32 := Scalar.select v101_r0 c31_i32_97_r0 v100_r0
  let c0_i32_98_r0 : BitVec 32 := 0#32
  let v103_r0 : BitVec 32 := Scalar.addi v102_r0 c0_i32_98_r0
  let v153_r0 : BitVec 1 := Scalar.cmpi .ne v98_r0 v103_r0
  let c0_i32_54_r0 : BitVec 32 := 0#32
  let c1_i32_56_r0 : BitVec 32 := 1#32
  let arg7_r0 : BitVec 32 := Scf.iv c0_i32_54_r0 c1_i32_56_r0 k0_t1
  let c0_i32_91_r0 : BitVec 32 := 0#32
  let v96_r0 : BitVec 1 := Scalar.cmpi .eq arg7_r0 c0_i32_91_r0
  let v154_r0 : BitVec 1 := Scalar.ori v153_r0 v96_r0
  let c0_i32_131_r0 : BitVec 32 := 0#32
  let v155_r0 : BitVec 1 := Scalar.cmpi .sge arg7_r0 c0_i32_131_r0
  let v156_r0 : BitVec 1 := Scalar.andi v154_r0 v155_r0
  let v157_r0 : BitVec 32 := Scalar.extui v156_r0
  let c0_i32_132_r0 : BitVec 32 := 0#32
  let v158_r0 : BitVec 1 := Scalar.cmpi .ne v157_r0 c0_i32_132_r0
  v158_r0

def k0_off20 (arg11_r0 : BitVec 32) : Fin 3 → Nat :=
  let c3_i32_186_r0 : BitVec 32 := 3#32
  let v272_r0 : BitVec 32 := Scalar.remui arg11_r0 c3_i32_186_r0
  let c0_i32_187_r0 : BitVec 32 := 0#32
  let c0_i32_188_r0 : BitVec 32 := 0#32
  ![v272_r0.toNat, 0, 0]
def k0_off21 (arg16_r0 : BitVec 32) : Fin 2 → Nat :=
  let c1024_i32_185_r0 : BitVec 32 := 1024#32
  let c0_i32_93_r0 : BitVec 32 := 0#32
  let v98_r0 : BitVec 32 := Scalar.addi arg16_r0 c0_i32_93_r0
  let v271_r0 : BitVec 32 := Scalar.muli c1024_i32_185_r0 v98_r0
  let c0_i32_189_r0 : BitVec 32 := 0#32
  ![v271_r0.toNat, 0]
def k0_off22 (arg11_r0 : BitVec 32) : Fin 3 → Nat :=
  let c3_i32_138_r0 : BitVec 32 := 3#32
  let v172_r0 : BitVec 32 := Scalar.remui arg11_r0 c3_i32_138_r0
  let v175_r0 : Index := Scalar.indexCast v172_r0
  let c0_141_r0 : Index := 0#32
  let c0_142_r0 : Index := 0#32
  ![v175_r0.toNat, 0, 0]

def k0_chk2 (arg11_r0 : BitVec 32) : Prop :=
  (∀ a, (k0_off22 arg11_r0) a + S1x1024x1024.size a ≤ S3x1024x1024.size a)
theorem k0_off22_inb : ∀ (arg11_r0 : BitVec 32) (k0_hw2 : k0_chk2 arg11_r0), ∀ a, (k0_off22 arg11_r0) a + S1x1024x1024.size a ≤ S3x1024x1024.size a := fun arg11_r0 k0_hw2 => k0_hw2

def k0_off23 (arg9_r0 : BitVec 32) : Fin 3 → Nat :=
  let c3_i32_137_r0 : BitVec 32 := 3#32
  let v171_r0 : BitVec 32 := Scalar.remui arg9_r0 c3_i32_137_r0
  let v178_r0 : Index := Scalar.indexCast v171_r0
  let c0_143_r0 : Index := 0#32
  let c0_144_r0 : Index := 0#32
  ![v178_r0.toNat, 0, 0]

def k0_chk3 (arg9_r0 : BitVec 32) : Prop :=
  (∀ a, (k0_off23 arg9_r0) a + S1x1024x2048.size a ≤ S3x1024x2048.size a)
theorem k0_off23_inb : ∀ (arg9_r0 : BitVec 32) (k0_hw3 : k0_chk3 arg9_r0), ∀ a, (k0_off23 arg9_r0) a + S1x1024x2048.size a ≤ S3x1024x2048.size a := fun arg9_r0 k0_hw3 => k0_hw3

def k0_off24 (arg12_r0 : BitVec 32) : Fin 3 → Nat :=
  let c2_i32_139_r0 : BitVec 32 := 2#32
  let v173_r0 : BitVec 32 := Scalar.remui arg12_r0 c2_i32_139_r0
  let v184_r0 : Index := Scalar.indexCast v173_r0
  let c0_147_r0 : Index := 0#32
  let c0_148_r0 : Index := 0#32
  ![v184_r0.toNat, 0, 0]

def k0_chk4 (arg12_r0 : BitVec 32) : Prop :=
  (∀ a, (k0_off24 arg12_r0) a + S1x1024x1024.size a ≤ S2x1024x1024.size a)
theorem k0_off24_inb : ∀ (arg12_r0 : BitVec 32) (k0_hw4 : k0_chk4 arg12_r0), ∀ a, (k0_off24 arg12_r0) a + S1x1024x1024.size a ≤ S2x1024x1024.size a := fun arg12_r0 k0_hw4 => k0_hw4

def k0_off25 (arg14_r0 : BitVec 32) : Fin 3 → Nat :=
  let c2_i32_140_r0 : BitVec 32 := 2#32
  let v174_r0 : BitVec 32 := Scalar.remui arg14_r0 c2_i32_140_r0
  let v203_r0 : Index := Scalar.indexCast v174_r0
  let c0_154_r0 : Index := 0#32
  let c0_155_r0 : Index := 0#32
  ![v203_r0.toNat, 0, 0]

def k0_chk5 (arg14_r0 : BitVec 32) : Prop :=
  (∀ a, (k0_off25 arg14_r0) a + S1x1024x1024.size a ≤ S2x1024x1024.size a) ∧
  (∀ (hinb : ∀ a, (k0_off25 arg14_r0) a + S1x1024x1024.size a ≤ S2x1024x1024.size a), (Rect.unit (s := S2x1024x1024) (k0_off25 arg14_r0) S1x1024x1024.size hinb).PackedRows (EltTy.packing .bf16))
theorem k0_off25_inb : ∀ (arg14_r0 : BitVec 32) (k0_hw5 : k0_chk5 arg14_r0), ∀ a, (k0_off25 arg14_r0) a + S1x1024x1024.size a ≤ S2x1024x1024.size a := fun arg14_r0 k0_hw5 => k0_hw5.1
theorem k0_off25_packedbf16 : ∀ (arg14_r0 : BitVec 32) (k0_hw5 : k0_chk5 arg14_r0), (Rect.unit (s := S2x1024x1024) (k0_off25 arg14_r0) S1x1024x1024.size (k0_off25_inb arg14_r0 k0_hw5)).PackedRows (EltTy.packing .bf16) := fun arg14_r0 k0_hw5 => k0_hw5.2 (k0_off25_inb arg14_r0 k0_hw5)

def k0_off26 (arg12_r0 : BitVec 32) : Fin 1 → Nat :=
  let c2_i32_185_r0 : BitVec 32 := 2#32
  let v271_r0 : BitVec 32 := Scalar.remui arg12_r0 c2_i32_185_r0
  ![v271_r0.toNat]
def k0_cond11 (k0_t1 : Fin k0_t1_loop.trips) (arg16_r0 : BitVec 32) : BitVec 1 :=
  let c0_i32_93_r0 : BitVec 32 := 0#32
  let v98_r0 : BitVec 32 := Scalar.addi arg16_r0 c0_i32_93_r0
  let true_100_r0 : BitVec 1 := 1#1
  let c1_i32_99_r0 : BitVec 32 := 1#32
  let v104_r0 : BitVec 32 := Scalar.addi arg16_r0 c1_i32_99_r0
  let v105_r0 : BitVec 32 := Scalar.select true_100_r0 v104_r0 arg16_r0
  let c32_i32_101_r0 : BitVec 32 := 32#32
  let v106_r0 : BitVec 1 := Scalar.cmpi .eq v105_r0 c32_i32_101_r0
  let c0_i32_102_r0 : BitVec 32 := 0#32
  let v107_r0 : BitVec 32 := Scalar.select v106_r0 c0_i32_102_r0 v105_r0
  let c0_i32_103_r0 : BitVec 32 := 0#32
  let v108_r0 : BitVec 32 := Scalar.addi v107_r0 c0_i32_103_r0
  let v217_r0 : BitVec 1 := Scalar.cmpi .ne v98_r0 v108_r0
  let c0_i32_54_r0 : BitVec 32 := 0#32
  let c1_i32_56_r0 : BitVec 32 := 1#32
  let arg7_r0 : BitVec 32 := Scf.iv c0_i32_54_r0 c1_i32_56_r0 k0_t1
  let c31_i32_92_r0 : BitVec 32 := 31#32
  let v97_r0 : BitVec 1 := Scalar.cmpi .eq arg7_r0 c31_i32_92_r0
  let v218_r0 : BitVec 1 := Scalar.ori v217_r0 v97_r0
  let v219_r0 : BitVec 32 := Scalar.extui v218_r0
  let c0_i32_159_r0 : BitVec 32 := 0#32
  let v220_r0 : BitVec 1 := Scalar.cmpi .ne v219_r0 c0_i32_159_r0
  v220_r0

def k0_off27 (arg16_r0 : BitVec 32) : Fin 2 → Nat :=
  let c1024_i32_186_r0 : BitVec 32 := 1024#32
  let c0_i32_93_r0 : BitVec 32 := 0#32
  let v98_r0 : BitVec 32 := Scalar.addi arg16_r0 c0_i32_93_r0
  let v272_r0 : BitVec 32 := Scalar.muli c1024_i32_186_r0 v98_r0
  let c0_i32_187_r0 : BitVec 32 := 0#32
  ![v272_r0.toNat, 0]
def k0_off28 (arg12_r0 : BitVec 32) : Fin 3 → Nat :=
  let c2_i32_185_r0 : BitVec 32 := 2#32
  let v271_r0 : BitVec 32 := Scalar.remui arg12_r0 c2_i32_185_r0
  let c0_i32_188_r0 : BitVec 32 := 0#32
  let c0_i32_189_r0 : BitVec 32 := 0#32
  ![v271_r0.toNat, 0, 0]
def k0_off29 (arg14_r0 : BitVec 32) : Fin 1 → Nat :=
  let c2_i32_185_r0 : BitVec 32 := 2#32
  let v271_r0 : BitVec 32 := Scalar.remui arg14_r0 c2_i32_185_r0
  ![v271_r0.toNat]
def k0_cond12 (k0_t1 : Fin k0_t1_loop.trips) (arg16_r0 : BitVec 32) : BitVec 1 :=
  let c0_i32_93_r0 : BitVec 32 := 0#32
  let v98_r0 : BitVec 32 := Scalar.addi arg16_r0 c0_i32_93_r0
  let true_100_r0 : BitVec 1 := 1#1
  let c1_i32_99_r0 : BitVec 32 := 1#32
  let v104_r0 : BitVec 32 := Scalar.addi arg16_r0 c1_i32_99_r0
  let v105_r0 : BitVec 32 := Scalar.select true_100_r0 v104_r0 arg16_r0
  let c32_i32_101_r0 : BitVec 32 := 32#32
  let v106_r0 : BitVec 1 := Scalar.cmpi .eq v105_r0 c32_i32_101_r0
  let c0_i32_102_r0 : BitVec 32 := 0#32
  let v107_r0 : BitVec 32 := Scalar.select v106_r0 c0_i32_102_r0 v105_r0
  let c0_i32_103_r0 : BitVec 32 := 0#32
  let v108_r0 : BitVec 32 := Scalar.addi v107_r0 c0_i32_103_r0
  let v224_r0 : BitVec 1 := Scalar.cmpi .ne v98_r0 v108_r0
  let c0_i32_54_r0 : BitVec 32 := 0#32
  let c1_i32_56_r0 : BitVec 32 := 1#32
  let arg7_r0 : BitVec 32 := Scf.iv c0_i32_54_r0 c1_i32_56_r0 k0_t1
  let c31_i32_92_r0 : BitVec 32 := 31#32
  let v97_r0 : BitVec 1 := Scalar.cmpi .eq arg7_r0 c31_i32_92_r0
  let v225_r0 : BitVec 1 := Scalar.ori v224_r0 v97_r0
  let v226_r0 : BitVec 32 := Scalar.extui v225_r0
  let c0_i32_162_r0 : BitVec 32 := 0#32
  let v227_r0 : BitVec 1 := Scalar.cmpi .ne v226_r0 c0_i32_162_r0
  v227_r0

def k0_off30 (arg16_r0 : BitVec 32) : Fin 2 → Nat :=
  let c1024_i32_186_r0 : BitVec 32 := 1024#32
  let c0_i32_93_r0 : BitVec 32 := 0#32
  let v98_r0 : BitVec 32 := Scalar.addi arg16_r0 c0_i32_93_r0
  let v272_r0 : BitVec 32 := Scalar.muli c1024_i32_186_r0 v98_r0
  let c0_i32_187_r0 : BitVec 32 := 0#32
  ![v272_r0.toNat, 0]
def k0_off31 (arg14_r0 : BitVec 32) : Fin 3 → Nat :=
  let c2_i32_185_r0 : BitVec 32 := 2#32
  let v271_r0 : BitVec 32 := Scalar.remui arg14_r0 c2_i32_185_r0
  let c0_i32_188_r0 : BitVec 32 := 0#32
  let c0_i32_189_r0 : BitVec 32 := 0#32
  ![v271_r0.toNat, 0, 0]
def k0_off32 (arg13_r0 : BitVec 32) : Fin 1 → Nat :=
  let c2_i32_185_r0 : BitVec 32 := 2#32
  let v271_r0 : BitVec 32 := Scalar.remui arg13_r0 c2_i32_185_r0
  ![v271_r0.toNat]
def k0_cond15 (k0_t1 : Fin k0_t1_loop.trips) (arg16_r0 : BitVec 32) : BitVec 1 :=
  let c0_i32_93_r0 : BitVec 32 := 0#32
  let v98_r0 : BitVec 32 := Scalar.addi arg16_r0 c0_i32_93_r0
  let true_95_r0 : BitVec 1 := 1#1
  let c1_i32_94_r0 : BitVec 32 := 1#32
  let v99_r0 : BitVec 32 := Scalar.subi arg16_r0 c1_i32_94_r0
  let v100_r0 : BitVec 32 := Scalar.select true_95_r0 v99_r0 arg16_r0
  let c_m1_i32_96_r0 : BitVec 32 := 4294967295#32
  let v101_r0 : BitVec 1 := Scalar.cmpi .eq v100_r0 c_m1_i32_96_r0
  let c31_i32_97_r0 : BitVec 32 := 31#32
  let v102_r0 : BitVec 32 := Scalar.select v101_r0 c31_i32_97_r0 v100_r0
  let c0_i32_98_r0 : BitVec 32 := 0#32
  let v103_r0 : BitVec 32 := Scalar.addi v102_r0 c0_i32_98_r0
  let v243_r0 : BitVec 1 := Scalar.cmpi .ne v98_r0 v103_r0
  let c0_i32_54_r0 : BitVec 32 := 0#32
  let c1_i32_56_r0 : BitVec 32 := 1#32
  let arg7_r0 : BitVec 32 := Scf.iv c0_i32_54_r0 c1_i32_56_r0 k0_t1
  let c0_i32_91_r0 : BitVec 32 := 0#32
  let v96_r0 : BitVec 1 := Scalar.cmpi .eq arg7_r0 c0_i32_91_r0
  let true_171_r0 : BitVec 1 := 1#1
  let v244_r0 : BitVec 1 := Scalar.xori v96_r0 true_171_r0
  let v245_r0 : BitVec 1 := Scalar.andi v243_r0 v244_r0
  let v246_r0 : BitVec 32 := Scalar.extui v245_r0
  let c0_i32_172_r0 : BitVec 32 := 0#32
  let v247_r0 : BitVec 1 := Scalar.cmpi .ne v246_r0 c0_i32_172_r0
  v247_r0

def k0_off33 (arg16_r0 : BitVec 32) : Fin 2 → Nat :=
  let c1024_i32_186_r0 : BitVec 32 := 1024#32
  let true_95_r0 : BitVec 1 := 1#1
  let c1_i32_94_r0 : BitVec 32 := 1#32
  let v99_r0 : BitVec 32 := Scalar.subi arg16_r0 c1_i32_94_r0
  let v100_r0 : BitVec 32 := Scalar.select true_95_r0 v99_r0 arg16_r0
  let c_m1_i32_96_r0 : BitVec 32 := 4294967295#32
  let v101_r0 : BitVec 1 := Scalar.cmpi .eq v100_r0 c_m1_i32_96_r0
  let c31_i32_97_r0 : BitVec 32 := 31#32
  let v102_r0 : BitVec 32 := Scalar.select v101_r0 c31_i32_97_r0 v100_r0
  let c0_i32_98_r0 : BitVec 32 := 0#32
  let v103_r0 : BitVec 32 := Scalar.addi v102_r0 c0_i32_98_r0
  let v272_r0 : BitVec 32 := Scalar.muli c1024_i32_186_r0 v103_r0
  let c0_i32_187_r0 : BitVec 32 := 0#32
  ![v272_r0.toNat, 0]
def k0_off34 (arg13_r0 : BitVec 32) : Fin 3 → Nat :=
  let c2_i32_185_r0 : BitVec 32 := 2#32
  let v271_r0 : BitVec 32 := Scalar.remui arg13_r0 c2_i32_185_r0
  let c0_i32_188_r0 : BitVec 32 := 0#32
  let c0_i32_189_r0 : BitVec 32 := 0#32
  ![v271_r0.toNat, 0, 0]
def k0_off35 (arg15_r0 : BitVec 32) : Fin 1 → Nat :=
  let c2_i32_185_r0 : BitVec 32 := 2#32
  let v271_r0 : BitVec 32 := Scalar.remui arg15_r0 c2_i32_185_r0
  ![v271_r0.toNat]
def k0_cond16 (k0_t1 : Fin k0_t1_loop.trips) (arg16_r0 : BitVec 32) : BitVec 1 :=
  let c0_i32_93_r0 : BitVec 32 := 0#32
  let v98_r0 : BitVec 32 := Scalar.addi arg16_r0 c0_i32_93_r0
  let true_95_r0 : BitVec 1 := 1#1
  let c1_i32_94_r0 : BitVec 32 := 1#32
  let v99_r0 : BitVec 32 := Scalar.subi arg16_r0 c1_i32_94_r0
  let v100_r0 : BitVec 32 := Scalar.select true_95_r0 v99_r0 arg16_r0
  let c_m1_i32_96_r0 : BitVec 32 := 4294967295#32
  let v101_r0 : BitVec 1 := Scalar.cmpi .eq v100_r0 c_m1_i32_96_r0
  let c31_i32_97_r0 : BitVec 32 := 31#32
  let v102_r0 : BitVec 32 := Scalar.select v101_r0 c31_i32_97_r0 v100_r0
  let c0_i32_98_r0 : BitVec 32 := 0#32
  let v103_r0 : BitVec 32 := Scalar.addi v102_r0 c0_i32_98_r0
  let v251_r0 : BitVec 1 := Scalar.cmpi .ne v98_r0 v103_r0
  let c0_i32_54_r0 : BitVec 32 := 0#32
  let c1_i32_56_r0 : BitVec 32 := 1#32
  let arg7_r0 : BitVec 32 := Scf.iv c0_i32_54_r0 c1_i32_56_r0 k0_t1
  let c0_i32_91_r0 : BitVec 32 := 0#32
  let v96_r0 : BitVec 1 := Scalar.cmpi .eq arg7_r0 c0_i32_91_r0
  let true_175_r0 : BitVec 1 := 1#1
  let v252_r0 : BitVec 1 := Scalar.xori v96_r0 true_175_r0
  let v253_r0 : BitVec 1 := Scalar.andi v251_r0 v252_r0
  let v254_r0 : BitVec 32 := Scalar.extui v253_r0
  let c0_i32_176_r0 : BitVec 32 := 0#32
  let v255_r0 : BitVec 1 := Scalar.cmpi .ne v254_r0 c0_i32_176_r0
  v255_r0

def k0_off36 (arg16_r0 : BitVec 32) : Fin 2 → Nat :=
  let c1024_i32_186_r0 : BitVec 32 := 1024#32
  let true_95_r0 : BitVec 1 := 1#1
  let c1_i32_94_r0 : BitVec 32 := 1#32
  let v99_r0 : BitVec 32 := Scalar.subi arg16_r0 c1_i32_94_r0
  let v100_r0 : BitVec 32 := Scalar.select true_95_r0 v99_r0 arg16_r0
  let c_m1_i32_96_r0 : BitVec 32 := 4294967295#32
  let v101_r0 : BitVec 1 := Scalar.cmpi .eq v100_r0 c_m1_i32_96_r0
  let c31_i32_97_r0 : BitVec 32 := 31#32
  let v102_r0 : BitVec 32 := Scalar.select v101_r0 c31_i32_97_r0 v100_r0
  let c0_i32_98_r0 : BitVec 32 := 0#32
  let v103_r0 : BitVec 32 := Scalar.addi v102_r0 c0_i32_98_r0
  let v272_r0 : BitVec 32 := Scalar.muli c1024_i32_186_r0 v103_r0
  let c0_i32_187_r0 : BitVec 32 := 0#32
  ![v272_r0.toNat, 0]
def k0_off37 (arg15_r0 : BitVec 32) : Fin 3 → Nat :=
  let c2_i32_185_r0 : BitVec 32 := 2#32
  let v271_r0 : BitVec 32 := Scalar.remui arg15_r0 c2_i32_185_r0
  let c0_i32_188_r0 : BitVec 32 := 0#32
  let c0_i32_189_r0 : BitVec 32 := 0#32
  ![v271_r0.toNat, 0, 0]

def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k0_h3 : k0_cond3 k0_t1 arg16_r0 = 1#1), ∀ a, (k0_off10 arg8_r0) a + S1.size a ≤ S3.size a) ∧
  (∀ (k0_h3 : k0_cond3 k0_t1 arg16_r0 = 1#1), ∀ a, (k0_off11 arg8_r0) a + S1x1024x2048.size a ≤ S3x1024x2048.size a) ∧
  (∀ (k0_h3 : k0_cond3 k0_t1 arg16_r0 = 1#1), ∀ a, (k0_off12 arg16_r0) a + S1024x2048.size a ≤ S32768x2048.size a) ∧
  (∀ (k0_h3 : k0_cond3 k0_t1 arg16_r0 = 1#1), ∀ (hinb : ∀ a, (k0_off12 arg16_r0) a + S1024x2048.size a ≤ S32768x2048.size a), (Rect.unit (s := S32768x2048) (k0_off12 arg16_r0) S1024x2048.size hinb).WholeWords (EltTy.packing .bf16)) ∧
  (∀ (k0_h3 : k0_cond3 k0_t1 arg16_r0 = 1#1), ∀ (hinb : ∀ a, (k0_off11 arg8_r0) a + S1x1024x2048.size a ≤ S3x1024x2048.size a), (Rect.unit (s := S3x1024x2048) (k0_off11 arg8_r0) S1x1024x2048.size hinb).WholeWords (EltTy.packing .bf16)) ∧
  (∀ (k0_h4 : k0_cond4 k0_t1 arg16_r0 = 1#1), ∀ a, (k0_off13 arg10_r0) a + S1.size a ≤ S3.size a) ∧
  (∀ (k0_h4 : k0_cond4 k0_t1 arg16_r0 = 1#1), ∀ a, (k0_off14 arg10_r0) a + S1x1024x1024.size a ≤ S3x1024x1024.size a) ∧
  (∀ (k0_h4 : k0_cond4 k0_t1 arg16_r0 = 1#1), ∀ a, (k0_off15 arg16_r0) a + S1024x1024.size a ≤ S32768x1024.size a) ∧
  (∀ (k0_h5 : k0_cond5 k0_t1 arg16_r0 = 1#1), ∀ a, (k0_off16 arg9_r0) a + S1.size a ≤ S3.size a) ∧
  (∀ (k0_h5 : k0_cond5 k0_t1 arg16_r0 = 1#1), ∀ a, (k0_off17 arg9_r0) a + S1x1024x2048.size a ≤ S3x1024x2048.size a) ∧
  (∀ (k0_h5 : k0_cond5 k0_t1 arg16_r0 = 1#1), ∀ a, (k0_off18 arg16_r0) a + S1024x2048.size a ≤ S32768x2048.size a) ∧
  (∀ (k0_h5 : k0_cond5 k0_t1 arg16_r0 = 1#1), ∀ (hinb : ∀ a, (k0_off18 arg16_r0) a + S1024x2048.size a ≤ S32768x2048.size a), (Rect.unit (s := S32768x2048) (k0_off18 arg16_r0) S1024x2048.size hinb).WholeWords (EltTy.packing .bf16)) ∧
  (∀ (k0_h5 : k0_cond5 k0_t1 arg16_r0 = 1#1), ∀ (hinb : ∀ a, (k0_off17 arg9_r0) a + S1x1024x2048.size a ≤ S3x1024x2048.size a), (Rect.unit (s := S3x1024x2048) (k0_off17 arg9_r0) S1x1024x2048.size hinb).WholeWords (EltTy.packing .bf16)) ∧
  (∀ (k0_h6 : k0_cond6 k0_t1 arg16_r0 = 1#1), ∀ a, (k0_off19 arg11_r0) a + S1.size a ≤ S3.size a) ∧
  (∀ (k0_h6 : k0_cond6 k0_t1 arg16_r0 = 1#1), ∀ a, (k0_off20 arg11_r0) a + S1x1024x1024.size a ≤ S3x1024x1024.size a) ∧
  (∀ (k0_h6 : k0_cond6 k0_t1 arg16_r0 = 1#1), ∀ a, (k0_off21 arg16_r0) a + S1024x1024.size a ≤ S32768x1024.size a) ∧
  (∀ (k0_h11 : k0_cond11 k0_t1 arg16_r0 = 1#1), ∀ a, (k0_off26 arg12_r0) a + S1.size a ≤ S2.size a) ∧
  (∀ (k0_h11 : k0_cond11 k0_t1 arg16_r0 = 1#1), ∀ a, (k0_off27 arg16_r0) a + S1024x1024.size a ≤ S32768x1024.size a) ∧
  (∀ (k0_h11 : k0_cond11 k0_t1 arg16_r0 = 1#1), ∀ a, (k0_off28 arg12_r0) a + S1x1024x1024.size a ≤ S2x1024x1024.size a) ∧
  (∀ (k0_h12 : k0_cond12 k0_t1 arg16_r0 = 1#1), ∀ a, (k0_off29 arg14_r0) a + S1.size a ≤ S2.size a) ∧
  (∀ (k0_h12 : k0_cond12 k0_t1 arg16_r0 = 1#1), ∀ a, (k0_off30 arg16_r0) a + S1024x1024.size a ≤ S32768x1024.size a) ∧
  (∀ (k0_h12 : k0_cond12 k0_t1 arg16_r0 = 1#1), ∀ a, (k0_off31 arg14_r0) a + S1x1024x1024.size a ≤ S2x1024x1024.size a) ∧
  (∀ (k0_h12 : k0_cond12 k0_t1 arg16_r0 = 1#1), ∀ (hinb : ∀ a, (k0_off31 arg14_r0) a + S1x1024x1024.size a ≤ S2x1024x1024.size a), (Rect.unit (s := S2x1024x1024) (k0_off31 arg14_r0) S1x1024x1024.size hinb).WholeWords (EltTy.packing .bf16)) ∧
  (∀ (k0_h12 : k0_cond12 k0_t1 arg16_r0 = 1#1), ∀ (hinb : ∀ a, (k0_off30 arg16_r0) a + S1024x1024.size a ≤ S32768x1024.size a), (Rect.unit (s := S32768x1024) (k0_off30 arg16_r0) S1024x1024.size hinb).WholeWords (EltTy.packing .bf16)) ∧
  (∀ (k0_h15 : k0_cond15 k0_t1 arg16_r0 = 1#1), ∀ a, (k0_off32 arg13_r0) a + S1.size a ≤ S2.size a) ∧
  (∀ (k0_h15 : k0_cond15 k0_t1 arg16_r0 = 1#1), ∀ a, (k0_off33 arg16_r0) a + S1024x1024.size a ≤ S32768x1024.size a) ∧
  (∀ (k0_h15 : k0_cond15 k0_t1 arg16_r0 = 1#1), ∀ a, (k0_off34 arg13_r0) a + S1x1024x1024.size a ≤ S2x1024x1024.size a) ∧
  (∀ (k0_h16 : k0_cond16 k0_t1 arg16_r0 = 1#1), ∀ a, (k0_off35 arg15_r0) a + S1.size a ≤ S2.size a) ∧
  (∀ (k0_h16 : k0_cond16 k0_t1 arg16_r0 = 1#1), ∀ a, (k0_off36 arg16_r0) a + S1024x1024.size a ≤ S32768x1024.size a) ∧
  (∀ (k0_h16 : k0_cond16 k0_t1 arg16_r0 = 1#1), ∀ a, (k0_off37 arg15_r0) a + S1x1024x1024.size a ≤ S2x1024x1024.size a) ∧
  (∀ (k0_h16 : k0_cond16 k0_t1 arg16_r0 = 1#1), ∀ (hinb : ∀ a, (k0_off37 arg15_r0) a + S1x1024x1024.size a ≤ S2x1024x1024.size a), (Rect.unit (s := S2x1024x1024) (k0_off37 arg15_r0) S1x1024x1024.size hinb).WholeWords (EltTy.packing .bf16)) ∧
  (∀ (k0_h16 : k0_cond16 k0_t1 arg16_r0 = 1#1), ∀ (hinb : ∀ a, (k0_off36 arg16_r0) a + S1024x1024.size a ≤ S32768x1024.size a), (Rect.unit (s := S32768x1024) (k0_off36 arg16_r0) S1024x1024.size hinb).WholeWords (EltTy.packing .bf16))
theorem k0_off10_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h3 : k0_cond3 k0_t1 arg16_r0 = 1#1), ∀ a, (k0_off10 arg8_r0) a + S1.size a ≤ S3.size a := fun k0_t1 arg8_r0 arg9_r0 arg10_r0 arg11_r0 arg12_r0 arg13_r0 arg14_r0 arg15_r0 arg16_r0 k0_hw1 k0_h3 => k0_hw1.1 k0_h3
theorem k0_off11_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h3 : k0_cond3 k0_t1 arg16_r0 = 1#1), ∀ a, (k0_off11 arg8_r0) a + S1x1024x2048.size a ≤ S3x1024x2048.size a := fun k0_t1 arg8_r0 arg9_r0 arg10_r0 arg11_r0 arg12_r0 arg13_r0 arg14_r0 arg15_r0 arg16_r0 k0_hw1 k0_h3 => k0_hw1.2.1 k0_h3
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h3 : k0_cond3 k0_t1 arg16_r0 = 1#1), ∀ a, (k0_off12 arg16_r0) a + S1024x2048.size a ≤ S32768x2048.size a := fun k0_t1 arg8_r0 arg9_r0 arg10_r0 arg11_r0 arg12_r0 arg13_r0 arg14_r0 arg15_r0 arg16_r0 k0_hw1 k0_h3 => k0_hw1.2.2.1 k0_h3
theorem k0_off12_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h3 : k0_cond3 k0_t1 arg16_r0 = 1#1), (Rect.unit (s := S32768x2048) (k0_off12 arg16_r0) S1024x2048.size (k0_off12_inb k0_t1 arg8_r0 arg9_r0 arg10_r0 arg11_r0 arg12_r0 arg13_r0 arg14_r0 arg15_r0 arg16_r0 k0_hw1 k0_h3)).WholeWords (EltTy.packing .bf16) := fun k0_t1 arg8_r0 arg9_r0 arg10_r0 arg11_r0 arg12_r0 arg13_r0 arg14_r0 arg15_r0 arg16_r0 k0_hw1 k0_h3 => k0_hw1.2.2.2.1 k0_h3 (k0_off12_inb k0_t1 arg8_r0 arg9_r0 arg10_r0 arg11_r0 arg12_r0 arg13_r0 arg14_r0 arg15_r0 arg16_r0 k0_hw1 k0_h3)
theorem k0_off11_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h3 : k0_cond3 k0_t1 arg16_r0 = 1#1), (Rect.unit (s := S3x1024x2048) (k0_off11 arg8_r0) S1x1024x2048.size (k0_off11_inb k0_t1 arg8_r0 arg9_r0 arg10_r0 arg11_r0 arg12_r0 arg13_r0 arg14_r0 arg15_r0 arg16_r0 k0_hw1 k0_h3)).WholeWords (EltTy.packing .bf16) := fun k0_t1 arg8_r0 arg9_r0 arg10_r0 arg11_r0 arg12_r0 arg13_r0 arg14_r0 arg15_r0 arg16_r0 k0_hw1 k0_h3 => k0_hw1.2.2.2.2.1 k0_h3 (k0_off11_inb k0_t1 arg8_r0 arg9_r0 arg10_r0 arg11_r0 arg12_r0 arg13_r0 arg14_r0 arg15_r0 arg16_r0 k0_hw1 k0_h3)
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), ∀ a, (k0_off13 arg10_r0) a + S1.size a ≤ S3.size a := fun k0_t1 arg8_r0 arg9_r0 arg10_r0 arg11_r0 arg12_r0 arg13_r0 arg14_r0 arg15_r0 arg16_r0 k0_hw1 k0_h4 => k0_hw1.2.2.2.2.2.1 k0_h4
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), ∀ a, (k0_off14 arg10_r0) a + S1x1024x1024.size a ≤ S3x1024x1024.size a := fun k0_t1 arg8_r0 arg9_r0 arg10_r0 arg11_r0 arg12_r0 arg13_r0 arg14_r0 arg15_r0 arg16_r0 k0_hw1 k0_h4 => k0_hw1.2.2.2.2.2.2.1 k0_h4
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), ∀ a, (k0_off15 arg16_r0) a + S1024x1024.size a ≤ S32768x1024.size a := fun k0_t1 arg8_r0 arg9_r0 arg10_r0 arg11_r0 arg12_r0 arg13_r0 arg14_r0 arg15_r0 arg16_r0 k0_hw1 k0_h4 => k0_hw1.2.2.2.2.2.2.2.1 k0_h4
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), ∀ a, (k0_off16 arg9_r0) a + S1.size a ≤ S3.size a := fun k0_t1 arg8_r0 arg9_r0 arg10_r0 arg11_r0 arg12_r0 arg13_r0 arg14_r0 arg15_r0 arg16_r0 k0_hw1 k0_h5 => k0_hw1.2.2.2.2.2.2.2.2.1 k0_h5
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), ∀ a, (k0_off17 arg9_r0) a + S1x1024x2048.size a ≤ S3x1024x2048.size a := fun k0_t1 arg8_r0 arg9_r0 arg10_r0 arg11_r0 arg12_r0 arg13_r0 arg14_r0 arg15_r0 arg16_r0 k0_hw1 k0_h5 => k0_hw1.2.2.2.2.2.2.2.2.2.1 k0_h5
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), ∀ a, (k0_off18 arg16_r0) a + S1024x2048.size a ≤ S32768x2048.size a := fun k0_t1 arg8_r0 arg9_r0 arg10_r0 arg11_r0 arg12_r0 arg13_r0 arg14_r0 arg15_r0 arg16_r0 k0_hw1 k0_h5 => k0_hw1.2.2.2.2.2.2.2.2.2.2.1 k0_h5
theorem k0_off18_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), (Rect.unit (s := S32768x2048) (k0_off18 arg16_r0) S1024x2048.size (k0_off18_inb k0_t1 arg8_r0 arg9_r0 arg10_r0 arg11_r0 arg12_r0 arg13_r0 arg14_r0 arg15_r0 arg16_r0 k0_hw1 k0_h5)).WholeWords (EltTy.packing .bf16) := fun k0_t1 arg8_r0 arg9_r0 arg10_r0 arg11_r0 arg12_r0 arg13_r0 arg14_r0 arg15_r0 arg16_r0 k0_hw1 k0_h5 => k0_hw1.2.2.2.2.2.2.2.2.2.2.2.1 k0_h5 (k0_off18_inb k0_t1 arg8_r0 arg9_r0 arg10_r0 arg11_r0 arg12_r0 arg13_r0 arg14_r0 arg15_r0 arg16_r0 k0_hw1 k0_h5)
theorem k0_off17_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), (Rect.unit (s := S3x1024x2048) (k0_off17 arg9_r0) S1x1024x2048.size (k0_off17_inb k0_t1 arg8_r0 arg9_r0 arg10_r0 arg11_r0 arg12_r0 arg13_r0 arg14_r0 arg15_r0 arg16_r0 k0_hw1 k0_h5)).WholeWords (EltTy.packing .bf16) := fun k0_t1 arg8_r0 arg9_r0 arg10_r0 arg11_r0 arg12_r0 arg13_r0 arg14_r0 arg15_r0 arg16_r0 k0_hw1 k0_h5 => k0_hw1.2.2.2.2.2.2.2.2.2.2.2.2.1 k0_h5 (k0_off17_inb k0_t1 arg8_r0 arg9_r0 arg10_r0 arg11_r0 arg12_r0 arg13_r0 arg14_r0 arg15_r0 arg16_r0 k0_hw1 k0_h5)
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h6 : k0_cond6 k0_t1 arg16_r0 = 1#1), ∀ a, (k0_off19 arg11_r0) a + S1.size a ≤ S3.size a := fun k0_t1 arg8_r0 arg9_r0 arg10_r0 arg11_r0 arg12_r0 arg13_r0 arg14_r0 arg15_r0 arg16_r0 k0_hw1 k0_h6 => k0_hw1.2.2.2.2.2.2.2.2.2.2.2.2.2.1 k0_h6
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h6 : k0_cond6 k0_t1 arg16_r0 = 1#1), ∀ a, (k0_off20 arg11_r0) a + S1x1024x1024.size a ≤ S3x1024x1024.size a := fun k0_t1 arg8_r0 arg9_r0 arg10_r0 arg11_r0 arg12_r0 arg13_r0 arg14_r0 arg15_r0 arg16_r0 k0_hw1 k0_h6 => k0_hw1.2.2.2.2.2.2.2.2.2.2.2.2.2.2.1 k0_h6
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h6 : k0_cond6 k0_t1 arg16_r0 = 1#1), ∀ a, (k0_off21 arg16_r0) a + S1024x1024.size a ≤ S32768x1024.size a := fun k0_t1 arg8_r0 arg9_r0 arg10_r0 arg11_r0 arg12_r0 arg13_r0 arg14_r0 arg15_r0 arg16_r0 k0_hw1 k0_h6 => k0_hw1.2.2.2.2.2.2.2.2.2.2.2.2.2.2.2.1 k0_h6
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h11 : k0_cond11 k0_t1 arg16_r0 = 1#1), ∀ a, (k0_off26 arg12_r0) a + S1.size a ≤ S2.size a := fun k0_t1 arg8_r0 arg9_r0 arg10_r0 arg11_r0 arg12_r0 arg13_r0 arg14_r0 arg15_r0 arg16_r0 k0_hw1 k0_h11 => k0_hw1.2.2.2.2.2.2.2.2.2.2.2.2.2.2.2.2.1 k0_h11
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h11 : k0_cond11 k0_t1 arg16_r0 = 1#1), ∀ a, (k0_off27 arg16_r0) a + S1024x1024.size a ≤ S32768x1024.size a := fun k0_t1 arg8_r0 arg9_r0 arg10_r0 arg11_r0 arg12_r0 arg13_r0 arg14_r0 arg15_r0 arg16_r0 k0_hw1 k0_h11 => k0_hw1.2.2.2.2.2.2.2.2.2.2.2.2.2.2.2.2.2.1 k0_h11
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h11 : k0_cond11 k0_t1 arg16_r0 = 1#1), ∀ a, (k0_off28 arg12_r0) a + S1x1024x1024.size a ≤ S2x1024x1024.size a := fun k0_t1 arg8_r0 arg9_r0 arg10_r0 arg11_r0 arg12_r0 arg13_r0 arg14_r0 arg15_r0 arg16_r0 k0_hw1 k0_h11 => k0_hw1.2.2.2.2.2.2.2.2.2.2.2.2.2.2.2.2.2.2.1 k0_h11
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h12 : k0_cond12 k0_t1 arg16_r0 = 1#1), ∀ a, (k0_off29 arg14_r0) a + S1.size a ≤ S2.size a := fun k0_t1 arg8_r0 arg9_r0 arg10_r0 arg11_r0 arg12_r0 arg13_r0 arg14_r0 arg15_r0 arg16_r0 k0_hw1 k0_h12 => k0_hw1.2.2.2.2.2.2.2.2.2.2.2.2.2.2.2.2.2.2.2.1 k0_h12
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h12 : k0_cond12 k0_t1 arg16_r0 = 1#1), ∀ a, (k0_off30 arg16_r0) a + S1024x1024.size a ≤ S32768x1024.size a := fun k0_t1 arg8_r0 arg9_r0 arg10_r0 arg11_r0 arg12_r0 arg13_r0 arg14_r0 arg15_r0 arg16_r0 k0_hw1 k0_h12 => k0_hw1.2.2.2.2.2.2.2.2.2.2.2.2.2.2.2.2.2.2.2.2.1 k0_h12
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h12 : k0_cond12 k0_t1 arg16_r0 = 1#1), ∀ a, (k0_off31 arg14_r0) a + S1x1024x1024.size a ≤ S2x1024x1024.size a := fun k0_t1 arg8_r0 arg9_r0 arg10_r0 arg11_r0 arg12_r0 arg13_r0 arg14_r0 arg15_r0 arg16_r0 k0_hw1 k0_h12 => k0_hw1.2.2.2.2.2.2.2.2.2.2.2.2.2.2.2.2.2.2.2.2.2.1 k0_h12
theorem k0_off31_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h12 : k0_cond12 k0_t1 arg16_r0 = 1#1), (Rect.unit (s := S2x1024x1024) (k0_off31 arg14_r0) S1x1024x1024.size (k0_off31_inb k0_t1 arg8_r0 arg9_r0 arg10_r0 arg11_r0 arg12_r0 arg13_r0 arg14_r0 arg15_r0 arg16_r0 k0_hw1 k0_h12)).WholeWords (EltTy.packing .bf16) := fun k0_t1 arg8_r0 arg9_r0 arg10_r0 arg11_r0 arg12_r0 arg13_r0 arg14_r0 arg15_r0 arg16_r0 k0_hw1 k0_h12 => k0_hw1.2.2.2.2.2.2.2.2.2.2.2.2.2.2.2.2.2.2.2.2.2.2.1 k0_h12 (k0_off31_inb k0_t1 arg8_r0 arg9_r0 arg10_r0 arg11_r0 arg12_r0 arg13_r0 arg14_r0 arg15_r0 arg16_r0 k0_hw1 k0_h12)
theorem k0_off30_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h12 : k0_cond12 k0_t1 arg16_r0 = 1#1), (Rect.unit (s := S32768x1024) (k0_off30 arg16_r0) S1024x1024.size (k0_off30_inb k0_t1 arg8_r0 arg9_r0 arg10_r0 arg11_r0 arg12_r0 arg13_r0 arg14_r0 arg15_r0 arg16_r0 k0_hw1 k0_h12)).WholeWords (EltTy.packing .bf16) := fun k0_t1 arg8_r0 arg9_r0 arg10_r0 arg11_r0 arg12_r0 arg13_r0 arg14_r0 arg15_r0 arg16_r0 k0_hw1 k0_h12 => k0_hw1.2.2.2.2.2.2.2.2.2.2.2.2.2.2.2.2.2.2.2.2.2.2.2.1 k0_h12 (k0_off30_inb k0_t1 arg8_r0 arg9_r0 arg10_r0 arg11_r0 arg12_r0 arg13_r0 arg14_r0 arg15_r0 arg16_r0 k0_hw1 k0_h12)
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h15 : k0_cond15 k0_t1 arg16_r0 = 1#1), ∀ a, (k0_off32 arg13_r0) a + S1.size a ≤ S2.size a := fun k0_t1 arg8_r0 arg9_r0 arg10_r0 arg11_r0 arg12_r0 arg13_r0 arg14_r0 arg15_r0 arg16_r0 k0_hw1 k0_h15 => k0_hw1.2.2.2.2.2.2.2.2.2.2.2.2.2.2.2.2.2.2.2.2.2.2.2.2.1 k0_h15
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h15 : k0_cond15 k0_t1 arg16_r0 = 1#1), ∀ a, (k0_off33 arg16_r0) a + S1024x1024.size a ≤ S32768x1024.size a := fun k0_t1 arg8_r0 arg9_r0 arg10_r0 arg11_r0 arg12_r0 arg13_r0 arg14_r0 arg15_r0 arg16_r0 k0_hw1 k0_h15 => k0_hw1.2.2.2.2.2.2.2.2.2.2.2.2.2.2.2.2.2.2.2.2.2.2.2.2.2.1 k0_h15
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h15 : k0_cond15 k0_t1 arg16_r0 = 1#1), ∀ a, (k0_off34 arg13_r0) a + S1x1024x1024.size a ≤ S2x1024x1024.size a := fun k0_t1 arg8_r0 arg9_r0 arg10_r0 arg11_r0 arg12_r0 arg13_r0 arg14_r0 arg15_r0 arg16_r0 k0_hw1 k0_h15 => k0_hw1.2.2.2.2.2.2.2.2.2.2.2.2.2.2.2.2.2.2.2.2.2.2.2.2.2.2.1 k0_h15
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h16 : k0_cond16 k0_t1 arg16_r0 = 1#1), ∀ a, (k0_off35 arg15_r0) a + S1.size a ≤ S2.size a := fun k0_t1 arg8_r0 arg9_r0 arg10_r0 arg11_r0 arg12_r0 arg13_r0 arg14_r0 arg15_r0 arg16_r0 k0_hw1 k0_h16 => k0_hw1.2.2.2.2.2.2.2.2.2.2.2.2.2.2.2.2.2.2.2.2.2.2.2.2.2.2.2.1 k0_h16
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h16 : k0_cond16 k0_t1 arg16_r0 = 1#1), ∀ a, (k0_off36 arg16_r0) a + S1024x1024.size a ≤ S32768x1024.size a := fun k0_t1 arg8_r0 arg9_r0 arg10_r0 arg11_r0 arg12_r0 arg13_r0 arg14_r0 arg15_r0 arg16_r0 k0_hw1 k0_h16 => k0_hw1.2.2.2.2.2.2.2.2.2.2.2.2.2.2.2.2.2.2.2.2.2.2.2.2.2.2.2.2.1 k0_h16
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h16 : k0_cond16 k0_t1 arg16_r0 = 1#1), ∀ a, (k0_off37 arg15_r0) a + S1x1024x1024.size a ≤ S2x1024x1024.size a := fun k0_t1 arg8_r0 arg9_r0 arg10_r0 arg11_r0 arg12_r0 arg13_r0 arg14_r0 arg15_r0 arg16_r0 k0_hw1 k0_h16 => k0_hw1.2.2.2.2.2.2.2.2.2.2.2.2.2.2.2.2.2.2.2.2.2.2.2.2.2.2.2.2.2.1 k0_h16
theorem k0_off37_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h16 : k0_cond16 k0_t1 arg16_r0 = 1#1), (Rect.unit (s := S2x1024x1024) (k0_off37 arg15_r0) S1x1024x1024.size (k0_off37_inb k0_t1 arg8_r0 arg9_r0 arg10_r0 arg11_r0 arg12_r0 arg13_r0 arg14_r0 arg15_r0 arg16_r0 k0_hw1 k0_h16)).WholeWords (EltTy.packing .bf16) := fun k0_t1 arg8_r0 arg9_r0 arg10_r0 arg11_r0 arg12_r0 arg13_r0 arg14_r0 arg15_r0 arg16_r0 k0_hw1 k0_h16 => k0_hw1.2.2.2.2.2.2.2.2.2.2.2.2.2.2.2.2.2.2.2.2.2.2.2.2.2.2.2.2.2.2.1 k0_h16 (k0_off37_inb k0_t1 arg8_r0 arg9_r0 arg10_r0 arg11_r0 arg12_r0 arg13_r0 arg14_r0 arg15_r0 arg16_r0 k0_hw1 k0_h16)
theorem k0_off36_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h16 : k0_cond16 k0_t1 arg16_r0 = 1#1), (Rect.unit (s := S32768x1024) (k0_off36 arg16_r0) S1024x1024.size (k0_off36_inb k0_t1 arg8_r0 arg9_r0 arg10_r0 arg11_r0 arg12_r0 arg13_r0 arg14_r0 arg15_r0 arg16_r0 k0_hw1 k0_h16)).WholeWords (EltTy.packing .bf16) := fun k0_t1 arg8_r0 arg9_r0 arg10_r0 arg11_r0 arg12_r0 arg13_r0 arg14_r0 arg15_r0 arg16_r0 k0_hw1 k0_h16 => k0_hw1.2.2.2.2.2.2.2.2.2.2.2.2.2.2.2.2.2.2.2.2.2.2.2.2.2.2.2.2.2.2.2 k0_h16 (k0_off36_inb k0_t1 arg8_r0 arg9_r0 arg10_r0 arg11_r0 arg12_r0 arg13_r0 arg14_r0 arg15_r0 arg16_r0 k0_hw1 k0_h16)

def k0_off38 (v56_5_r0 : BitVec 32) : Fin 1 → Nat :=
  let c2_i32_r0 : BitVec 32 := 2#32
  let v82_r0 : BitVec 32 := Scalar.remui v56_5_r0 c2_i32_r0
  ![v82_r0.toNat]

def k0_off39 (v56_8_r0 : BitVec 32) : Fin 2 → Nat :=
  let c1024_i32_r0 : BitVec 32 := 1024#32
  let true_59_r0 : BitVec 1 := 1#1
  let c1_i32_58_r0 : BitVec 32 := 1#32
  let v57_r0 : BitVec 32 := Scalar.subi v56_8_r0 c1_i32_58_r0
  let v58_r0 : BitVec 32 := Scalar.select true_59_r0 v57_r0 v56_8_r0
  let c_m1_i32_60_r0 : BitVec 32 := 4294967295#32
  let v59_r0 : BitVec 1 := Scalar.cmpi .eq v58_r0 c_m1_i32_60_r0
  let c31_i32_61_r0 : BitVec 32 := 31#32
  let v60_r0 : BitVec 32 := Scalar.select v59_r0 c31_i32_61_r0 v58_r0
  let c0_i32_62_r0 : BitVec 32 := 0#32
  let v61_r0 : BitVec 32 := Scalar.addi v60_r0 c0_i32_62_r0
  let v83_r0 : BitVec 32 := Scalar.muli c1024_i32_r0 v61_r0
  let c0_i32_83_r0 : BitVec 32 := 0#32
  ![v83_r0.toNat, 0]

def k0_off40 (v56_5_r0 : BitVec 32) : Fin 3 → Nat :=
  let c2_i32_r0 : BitVec 32 := 2#32
  let v82_r0 : BitVec 32 := Scalar.remui v56_5_r0 c2_i32_r0
  let c0_i32_84_r0 : BitVec 32 := 0#32
  let c0_i32_85_r0 : BitVec 32 := 0#32
  ![v82_r0.toNat, 0, 0]

def k0_chk6 (v56_5_r0 : BitVec 32) : Prop :=
  (∀ a, (k0_off38 v56_5_r0) a + S1.size a ≤ S2.size a) ∧
  (∀ a, (k0_off40 v56_5_r0) a + S1x1024x1024.size a ≤ S2x1024x1024.size a)
theorem k0_off38_inb : ∀ (v56_5_r0 : BitVec 32) (k0_hw6 : k0_chk6 v56_5_r0), ∀ a, (k0_off38 v56_5_r0) a + S1.size a ≤ S2.size a := fun v56_5_r0 k0_hw6 => k0_hw6.1
theorem k0_off40_inb : ∀ (v56_5_r0 : BitVec 32) (k0_hw6 : k0_chk6 v56_5_r0), ∀ a, (k0_off40 v56_5_r0) a + S1x1024x1024.size a ≤ S2x1024x1024.size a := fun v56_5_r0 k0_hw6 => k0_hw6.2

def k0_off41 (v56_7_r0 : BitVec 32) : Fin 1 → Nat :=
  let c2_i32_86_r0 : BitVec 32 := 2#32
  let v89_r0 : BitVec 32 := Scalar.remui v56_7_r0 c2_i32_86_r0
  ![v89_r0.toNat]

def k0_off42 (v56_8_r0 : BitVec 32) : Fin 2 → Nat :=
  let c1024_i32_87_r0 : BitVec 32 := 1024#32
  let true_59_r0 : BitVec 1 := 1#1
  let c1_i32_58_r0 : BitVec 32 := 1#32
  let v57_r0 : BitVec 32 := Scalar.subi v56_8_r0 c1_i32_58_r0
  let v58_r0 : BitVec 32 := Scalar.select true_59_r0 v57_r0 v56_8_r0
  let c_m1_i32_60_r0 : BitVec 32 := 4294967295#32
  let v59_r0 : BitVec 1 := Scalar.cmpi .eq v58_r0 c_m1_i32_60_r0
  let c31_i32_61_r0 : BitVec 32 := 31#32
  let v60_r0 : BitVec 32 := Scalar.select v59_r0 c31_i32_61_r0 v58_r0
  let c0_i32_62_r0 : BitVec 32 := 0#32
  let v61_r0 : BitVec 32 := Scalar.addi v60_r0 c0_i32_62_r0
  let v90_r0 : BitVec 32 := Scalar.muli c1024_i32_87_r0 v61_r0
  let c0_i32_88_r0 : BitVec 32 := 0#32
  ![v90_r0.toNat, 0]
def k0_off43 (v56_7_r0 : BitVec 32) : Fin 3 → Nat :=
  let c2_i32_86_r0 : BitVec 32 := 2#32
  let v89_r0 : BitVec 32 := Scalar.remui v56_7_r0 c2_i32_86_r0
  let c0_i32_89_r0 : BitVec 32 := 0#32
  let c0_i32_90_r0 : BitVec 32 := 0#32
  ![v89_r0.toNat, 0, 0]

def k0_chk8 (v56_7_r0 : BitVec 32) : Prop :=
  (∀ a, (k0_off41 v56_7_r0) a + S1.size a ≤ S2.size a) ∧
  (∀ a, (k0_off43 v56_7_r0) a + S1x1024x1024.size a ≤ S2x1024x1024.size a) ∧
  (∀ (hinb : ∀ a, (k0_off43 v56_7_r0) a + S1x1024x1024.size a ≤ S2x1024x1024.size a), (Rect.unit (s := S2x1024x1024) (k0_off43 v56_7_r0) S1x1024x1024.size hinb).WholeWords (EltTy.packing .bf16))
theorem k0_off41_inb : ∀ (v56_7_r0 : BitVec 32) (k0_hw8 : k0_chk8 v56_7_r0), ∀ a, (k0_off41 v56_7_r0) a + S1.size a ≤ S2.size a := fun v56_7_r0 k0_hw8 => k0_hw8.1
theorem k0_off43_inb : ∀ (v56_7_r0 : BitVec 32) (k0_hw8 : k0_chk8 v56_7_r0), ∀ a, (k0_off43 v56_7_r0) a + S1x1024x1024.size a ≤ S2x1024x1024.size a := fun v56_7_r0 k0_hw8 => k0_hw8.2.1
theorem k0_off43_wordsbf16 : ∀ (v56_7_r0 : BitVec 32) (k0_hw8 : k0_chk8 v56_7_r0), (Rect.unit (s := S2x1024x1024) (k0_off43 v56_7_r0) S1x1024x1024.size (k0_off43_inb v56_7_r0 k0_hw8)).WholeWords (EltTy.packing .bf16) := fun v56_7_r0 k0_hw8 => k0_hw8.2.2 (k0_off43_inb v56_7_r0 k0_hw8)

def k0_chk7 (v56_8_r0 : BitVec 32) : Prop :=
  (∀ a, (k0_off39 v56_8_r0) a + S1024x1024.size a ≤ S32768x1024.size a) ∧
  (∀ a, (k0_off42 v56_8_r0) a + S1024x1024.size a ≤ S32768x1024.size a) ∧
  (∀ (hinb : ∀ a, (k0_off42 v56_8_r0) a + S1024x1024.size a ≤ S32768x1024.size a), (Rect.unit (s := S32768x1024) (k0_off42 v56_8_r0) S1024x1024.size hinb).WholeWords (EltTy.packing .bf16))
theorem k0_off39_inb : ∀ (v56_8_r0 : BitVec 32) (k0_hw7 : k0_chk7 v56_8_r0), ∀ a, (k0_off39 v56_8_r0) a + S1024x1024.size a ≤ S32768x1024.size a := fun v56_8_r0 k0_hw7 => k0_hw7.1
theorem k0_off42_inb : ∀ (v56_8_r0 : BitVec 32) (k0_hw7 : k0_chk7 v56_8_r0), ∀ a, (k0_off42 v56_8_r0) a + S1024x1024.size a ≤ S32768x1024.size a := fun v56_8_r0 k0_hw7 => k0_hw7.2.1
theorem k0_off42_wordsbf16 : ∀ (v56_8_r0 : BitVec 32) (k0_hw7 : k0_chk7 v56_8_r0), (Rect.unit (s := S32768x1024) (k0_off42 v56_8_r0) S1024x1024.size (k0_off42_inb v56_8_r0 k0_hw7)).WholeWords (EltTy.packing .bf16) := fun v56_8_r0 k0_hw7 => k0_hw7.2.2 (k0_off42_inb v56_8_r0 k0_hw7)

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference3Ideal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S32768x2048, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S32768x1024 : Shape := ⟨2, ![32768, 1024]⟩
abbrev S1024x8192 : Shape := ⟨2, ![1024, 8192]⟩
abbrev S2048 : Shape := ⟨1, ![2048]⟩
abbrev S1x2048 : Shape := ⟨2, ![1, 2048]⟩
abbrev S32768x2048 : Shape := ⟨2, ![32768, 2048]⟩
abbrev S2048x1024 : Shape := ⟨2, ![2048, 1024]⟩
abbrev S1024x256 : Shape := ⟨2, ![1024, 256]⟩
abbrev S1x256 : Shape := ⟨2, ![1, 256]⟩
abbrev S2048x256 : Shape := ⟨2, ![2048, 256]⟩
abbrev S2x128x128 : Shape := ⟨3, ![2, 128, 128]⟩
abbrev S2x4x512x256 : Shape := ⟨4, ![2, 4, 512, 256]⟩
abbrev S4x1024x256 : Shape := ⟨3, ![4, 1024, 256]⟩
abbrev S1x1024x256 : Shape := ⟨3, ![1, 1024, 256]⟩
abbrev S512x1024 : Shape := ⟨2, ![512, 1024]⟩
abbrev S512x256 : Shape := ⟨2, ![512, 256]⟩
abbrev S1x1x512x256 : Shape := ⟨4, ![1, 1, 512, 256]⟩
abbrev S256x256 : Shape := ⟨2, ![256, 256]⟩
abbrev S128x128 : Shape := ⟨2, ![128, 128]⟩
abbrev S1x128x128 : Shape := ⟨3, ![1, 128, 128]⟩
abbrev S1x1x256x256 : Shape := ⟨4, ![1, 1, 256, 256]⟩
abbrev S64x256 : Shape := ⟨2, ![64, 256]⟩
abbrev S256x128 : Shape := ⟨2, ![256, 128]⟩
abbrev S256x512 : Shape := ⟨2, ![256, 512]⟩
abbrev S64x128 : Shape := ⟨2, ![64, 128]⟩
abbrev S1x128 : Shape := ⟨2, ![1, 128]⟩
abbrev S128x256 : Shape := ⟨2, ![128, 256]⟩
abbrev S64 : Shape := ⟨1, ![64]⟩
abbrev S64x1 : Shape := ⟨2, ![64, 1]⟩

abbrev nBuf : Space → Nat
  | .hbm => 7
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S1024x8192, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S32768x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2048x256, .bf16⟩
  | .local _ .vmem, ⟨17, _⟩ => ⟨S2048x256, .bf16⟩
  | .local _ .vmem, ⟨18, _⟩ => ⟨S2x128x128, .f32⟩
  | .local _ .vmem, ⟨19, _⟩ => ⟨S2x4x512x256, .f32⟩
  | .local _ .vmem, ⟨20, _⟩ => ⟨S4x1024x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.addi arg2 c1_i32
  let c7_i32 : BitVec 32 := 7#32
  let v2 : BitVec 32 := Scalar.minsi v1 c7_i32
  let v3 : BitVec 32 := Scalar.addi v0 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel5Ideal.lean ====
variable {F : FTy → Type} [FloatOps F] [Named F]
def κ : String → Option EReal := fun
  | "log2_e" => some (((Real.log 2)⁻¹ : ℝ) : EReal)
  | _ => none
-- ==== Reference5Ideal.lean ====
abbrev S32768x1024 : Shape := ⟨2, ![32768, 1024]⟩
abbrev S1024x8192 : Shape := ⟨2, ![1024, 8192]⟩
abbrev S2048 : Shape := ⟨1, ![2048]⟩
abbrev S1024x2048 : Shape := ⟨2, ![1024, 2048]⟩
abbrev S32768x2048 : Shape := ⟨2, ![32768, 2048]⟩
abbrev S_ : Shape := ⟨0, ![]⟩
abbrev S1x2048 : Shape := ⟨2, ![1, 2048]⟩
abbrev S2x16x128x128 : Shape := ⟨4, ![2, 16, 128, 128]⟩
abbrev S2x16384x16x128 : Shape := ⟨4, ![2, 16384, 16, 128]⟩
abbrev S16384x2x16x128 : Shape := ⟨4, ![16384, 2, 16, 128]⟩
abbrev S1x2x16x128 : Shape := ⟨4, ![1, 2, 16, 128]⟩
abbrev S2x16x128 : Shape := ⟨3, ![2, 16, 128]⟩
abbrev S2x16x128x1 : Shape := ⟨4, ![2, 16, 128, 1]⟩
abbrev S2x16x1x128 : Shape := ⟨4, ![2, 16, 1, 128]⟩
abbrev S2x16384x16 : Shape := ⟨3, ![2, 16384, 16]⟩
abbrev S2x16384x16x1 : Shape := ⟨4, ![2, 16384, 16, 1]⟩

abbrev nBuf : Space → Nat
  | .hbm => 125
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x8192, .f32⟩
  | .hbm, ⟨2, _⟩ => ⟨S2048, .f32⟩
  | .hbm, ⟨3, _⟩ => ⟨S2048, .f32⟩
  | .hbm, ⟨4, _⟩ => ⟨S32768x1024, .f32⟩
  | .hbm, ⟨5, _⟩ => ⟨S1024x2048, .f32⟩
  | .hbm, ⟨6, _⟩ => ⟨S32768x2048, .f32⟩
  | .hbm, ⟨7, _⟩ => ⟨S1024x2048, .f32⟩
  | .hbm, ⟨8, _⟩ => ⟨S32768x2048, .f32⟩
  | .hbm, ⟨9, _⟩ => ⟨S1024x2048, .f32⟩
  | .hbm, ⟨10, _⟩ => ⟨S32768x2048, .f32⟩
  | .hbm, ⟨11, _⟩ => ⟨S1024x2048, .f32⟩
  | .hbm, ⟨12, _⟩ => ⟨S32768x2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S2x16x128x128, .f32⟩
  | .hbm, ⟨35, _⟩ => ⟨S2x16384x16x128, .f32⟩
  | .hbm, ⟨36, _⟩ => ⟨S16384x2x16x128, .f32⟩
  | .hbm, ⟨37, _⟩ => ⟨S2x16384x16x128, .f32⟩
  | .hbm, ⟨38, _⟩ => ⟨S16384x2x16x128, .f32⟩
  | .hbm, ⟨39, _⟩ => ⟨S2x16384x16x128, .f32⟩
  | .hbm, ⟨40, _⟩ => ⟨S16384x2x16x128, .f32⟩
  | .hbm, ⟨41, _⟩ => ⟨S2x16384x16x128, .f32⟩
  | .hbm, ⟨42, _⟩ => ⟨S16384x2x16x128, .f32⟩
  | .hbm, ⟨43, _⟩ => ⟨S_, .f32⟩
  | .hbm, ⟨44, _⟩ => ⟨S16384x2x16x128, .f32⟩
  | .hbm, ⟨45, _⟩ => ⟨S_, .i32⟩
  | .hbm, ⟨46, _⟩ => ⟨S16384x2x16x128, .f32⟩
  | .hbm, ⟨47, _⟩ => ⟨S16384x2x16x128, .f32⟩
  | .hbm, ⟨48, _⟩ => ⟨S16384x2x16x128, .f32⟩
  | .hbm, ⟨49, _⟩ => ⟨S16384x2x16x128, .f32⟩
  | .hbm, ⟨50, _⟩ => ⟨S_, .i32⟩
  | .hbm, ⟨51, _⟩ => ⟨S2x16x128x128, .f32⟩
  | .hbm, ⟨52, _⟩ => ⟨S16384x2x16x128, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x2x16x128, .f32⟩
  | .hbm, ⟨59, _⟩ => ⟨S2x16x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x16x128, .f32⟩
  | .hbm, ⟨64, _⟩ => ⟨S2x16x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x2x16x128, .f32⟩
  | .hbm, ⟨69, _⟩ => ⟨S2x16x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x2x16x128, .f32⟩
  | .hbm, ⟨74, _⟩ => ⟨S2x16x128, .f32⟩
  | .hbm, ⟨75, _⟩ => ⟨S2x16x128x1, .f32⟩
  | .hbm, ⟨76, _⟩ => ⟨S2x16x128x128, .f32⟩
  | .hbm, ⟨77, _⟩ => ⟨S2x16x128x128, .f32⟩
  | .hbm, ⟨78, _⟩ => ⟨S2x16x128x1, .f32⟩
  | .hbm, ⟨79, _⟩ => ⟨S2x16x1x128, .f32⟩
  | .hbm, ⟨80, _⟩ => ⟨S2x16x128x128, .f32⟩
  | .hbm, ⟨81, _⟩ => ⟨S2x16x128x128, .f32⟩
  | .hbm, ⟨82, _⟩ => ⟨S2x16x128x128, .f32⟩
  | .hbm, ⟨83, _⟩ => ⟨S2x16x128x128, .f32⟩
  | .hbm, ⟨84, _⟩ => ⟨S2x16x128x1, .f32⟩
  | .hbm, ⟨85, _⟩ => ⟨S2x16x128x128, .f32⟩
  | .hbm, ⟨86, _⟩ => ⟨S2x16x128x128, .f32⟩
  | .hbm, ⟨87, _⟩ => ⟨S_, .f32⟩
  | .hbm, ⟨88, _⟩ => ⟨S2x16x128, .f32⟩
  | .hbm, ⟨89, _⟩ => ⟨S1x2x16x128, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S16384x2x16x128, .f32⟩
  | .hbm, ⟨94, _⟩ => ⟨S_, .i32⟩
  | .hbm, ⟨95, _⟩ => ⟨S_, .i32⟩
  | .hbm, ⟨96, _⟩ => ⟨S2x16384x16x128, .f32⟩
  | .hbm, ⟨97, _⟩ => ⟨S2x16384x16x128, .f32⟩
  | .hbm, ⟨98, _⟩ => ⟨S_, .f32⟩
  | .hbm, ⟨99, _⟩ => ⟨S2x16384x16, .f32⟩
  | .hbm, ⟨100, _⟩ => ⟨S2x16384x16x1, .f32⟩
  | .hbm, ⟨101, _⟩ => ⟨S_, .f32⟩
  | .hbm, ⟨102, _⟩ => ⟨S2x16384x16x1, .f32⟩
  | .hbm, ⟨103, _⟩ => ⟨S2x16384x16x1, .f32⟩
  | .hbm, ⟨104, _⟩ => ⟨S_, .f32⟩
  | .hbm, ⟨105, _⟩ => ⟨S2x16384x16x1, .f32⟩
  | .hbm, ⟨106, _⟩ => ⟨S2x16384x16x1, .f32⟩
  | .hbm, ⟨107, _⟩ => ⟨S2x16384x16x1, .f32⟩
  | .hbm, ⟨108, _⟩ => ⟨S2x16384x16x128, .f32⟩
  | .hbm, ⟨109, _⟩ => ⟨S2x16384x16x128, .f32⟩
  | .hbm, ⟨110, _⟩ => ⟨S32768x2048, .f32⟩
  | .hbm, ⟨111, _⟩ => ⟨S1x2048, .f32⟩
  | .hbm, ⟨112, _⟩ => ⟨S32768x2048, .f32⟩
  | .hbm, ⟨113, _⟩ => ⟨S32768x2048, .f32⟩
  | .hbm, ⟨114, _⟩ => ⟨S32768x2048, .f32⟩
  | .hbm, ⟨115, _⟩ => ⟨S32768x2048, .f32⟩
  | .hbm, ⟨116, _⟩ => ⟨S_, .f32⟩
  | .hbm, ⟨117, _⟩ => ⟨S32768x2048, .f32⟩
  | .hbm, ⟨118, _⟩ => ⟨S32768x2048, .f32⟩
  | .hbm, ⟨119, _⟩ => ⟨S_, .f32⟩
  | .hbm, ⟨120, _⟩ => ⟨S32768x2048, .f32⟩
  | .hbm, ⟨121, _⟩ => ⟨S32768x2048, .f32⟩
  | .hbm, ⟨122, _⟩ => ⟨S32768x2048, .f32⟩
  | .hbm, ⟨123, _⟩ => ⟨S32768x2048, .f32⟩
  | .hbm, ⟨124, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_c : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v35_4 : Ref sig .tc := ⟨.hbm, 50, rfl⟩
abbrev main_v35_5 : Ref sig .tc := ⟨.hbm, 51, rfl⟩
abbrev main_v35_6 : Ref sig .tc := ⟨.hbm, 52, rfl⟩
abbrev main_while0c_c_14 : Ref sig .tc := ⟨.hbm, 53, rfl⟩
abbrev main_while0c_v54 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_c_1 : Ref sig .tc := ⟨.hbm, 57, rfl⟩
abbrev main_while0b_call0_v0 : Ref sig .tc := ⟨.hbm, 58, rfl⟩
abbrev main_while0b_v54 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v55 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v56 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v57 : Ref sig .tc := ⟨.hbm, 74, rfl⟩
abbrev main_while0b_v58 : Ref sig .tc := ⟨.hbm, 75, rfl⟩
abbrev main_while0b_v59 : Ref sig .tc := ⟨.hbm, 76, rfl⟩
abbrev main_while0b_v60 : Ref sig .tc := ⟨.hbm, 77, rfl⟩
abbrev main_while0b_v61 : Ref sig .tc := ⟨.hbm, 78, rfl⟩
abbrev main_while0b_v62 : Ref sig .tc := ⟨.hbm, 79, rfl⟩
abbrev main_while0b_v63 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_cst_14 : Ref sig .tc := ⟨.hbm, 87, rfl⟩
abbrev main_while0b_v70 : Ref sig .tc := ⟨.hbm, 88, rfl⟩
abbrev main_while0b_call4_v0 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_v71 : Ref sig .tc := ⟨.hbm, 93, rfl⟩
abbrev main_while0b_c_15 : Ref sig .tc := ⟨.hbm, 94, rfl⟩
abbrev main_while0b_v72 : Ref sig .tc := ⟨.hbm, 95, rfl⟩
abbrev main_v36 : Ref sig .tc := ⟨.hbm, 96, rfl⟩
abbrev main_v37 : Ref sig .tc := ⟨.hbm, 97, rfl⟩
abbrev main_cst_5 : Ref sig .tc := ⟨.hbm, 98, rfl⟩
abbrev main_v38 : Ref sig .tc := ⟨.hbm, 99, rfl⟩
abbrev main_v39 : Ref sig .tc := ⟨.hbm, 100, rfl⟩
abbrev main_cst_6 : Ref sig .tc := ⟨.hbm, 101, rfl⟩
abbrev main_v40 : Ref sig .tc := ⟨.hbm, 102, rfl⟩
abbrev main_v41 : Ref sig .tc := ⟨.hbm, 103, rfl⟩
abbrev main_cst_7 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_call5_v0 : Ref sig .tc := ⟨.hbm, 114, rfl⟩
abbrev main_call5_v1 : Ref sig .tc := ⟨.hbm, 115, rfl⟩
abbrev main_call5_cst : Ref sig .tc := ⟨.hbm, 116, rfl⟩
abbrev main_call5_v2 : Ref sig .tc := ⟨.hbm, 117, rfl⟩
abbrev main_call5_v3 : Ref sig .tc := ⟨.hbm, 118, rfl⟩
abbrev main_call5_cst_0 : Ref sig .tc := ⟨.hbm, 119, rfl⟩
abbrev main_call5_v4 : Ref sig .tc := ⟨.hbm, 120, rfl⟩
abbrev main_call5_v5 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩

abbrev nD : Nat := 1
abbrev τ : Topo := Topo.v7x

variable {F : FTy → Type} [FloatOps F]

abbrev main_while0_count : Scf.Loop 32 := ⟨0#32, 16384#32, 1#32⟩
-- ==== Proof.Words.lean ====
/- The integer side of the pipelined loop: the words it carries before trip `k`, and what every offset, every guard and
   every assumed side condition of a trip comes to at those words. All of them are decided over the 32 trips. -/
module

public import proofs.«01_k».proof.Proof.Gen.KernelIdeal
public import proofs.«01_k».proof.Proof.Gen.KernelIdeal.Skeleton
public import Idealize.ShloMosaic.Lib.Ring

@[expose] public section

set_option maxRecDepth 16384

noncomputable section

namespace Cert.Proof.Out

open Cert.KernelIdeal Cert.KernelIdeal.Gen
open Idealize.ShloMosaic Idealize.ShloMosaic.TcCoe

/-- The number of the next block to be fetched, before trip `k`: two ahead, and no more than 32. -/
def ahead (k : ℕ) : BitVec 32 := BitVec.ofNat 32 (min (k + 2) 32)

/-- The number of the trip itself. -/
def here (k : ℕ) : BitVec 32 := BitVec.ofNat 32 k

/-- The number of blocks whose write back has been waited for, before trip `k`. -/
def waited (k : ℕ) : BitVec 32 := BitVec.ofNat 32 (k - 1)

/-- The block number the pipeline carries: it wraps to 0 after the last trip. -/
def point (k : ℕ) : BitVec 32 := BitVec.ofNat 32 (k % 32)

/-- All that the loop carries before trip `k`. -/
abbrev words (k : ℕ) : BitVec 32 × BitVec 32 × BitVec 32 × BitVec 32 × BitVec 32 × BitVec 32 × BitVec 32 :=
  (ahead k, here k, ahead k, here k, here k, waited k, point k)

/-- The loop makes 32 trips. -/
theorem trips_eq : k0_t1_loop.trips = 32 := by decide +kernel

theorem trip_lt (k : Fin k0_t1_loop.trips) : k.val < 32 := k.isLt.trans_eq trips_eq

/-- A statement about the trips holds once it is checked at each of the 32. -/
theorem forall_trip {P : Fin k0_t1_loop.trips → Prop} (h : ∀ k : Fin 32, P ⟨k.val, k.isLt.trans_eq trips_eq.symm⟩)
    (k : Fin k0_t1_loop.trips) : P k := h ⟨k.val, trip_lt k⟩

/-! ## The slots and the blocks -/

theorem off10_eq : ∀ k : Fin 32, k.val < 30 → k0_off10 (ahead k.val) = ![(k.val + 2) % 3] := by decide +kernel
theorem off11_eq : ∀ k : Fin 32, k.val < 30 → k0_off11 (ahead k.val) = ![(k.val + 2) % 3, 0, 0] := by decide +kernel
theorem off12_eq : ∀ k : Fin 32, k.val < 30 → k0_off12 (point k.val) = ![1024 * (k.val + 2), 0] := by decide +kernel
theorem off13_eq : ∀ k : Fin 32, k.val < 30 → k0_off13 (ahead k.val) = ![(k.val + 2) % 3] := by decide +kernel
theorem off14_eq : ∀ k : Fin 32, k.val < 30 → k0_off14 (ahead k.val) = ![(k.val + 2) % 3, 0, 0] := by decide +kernel
theorem off15_eq : ∀ k : Fin 32, k.val < 30 → k0_off15 (point k.val) = ![1024 * (k.val + 2), 0] := by decide +kernel
theorem off16_eq : ∀ k : Fin 32, k0_off16 (here k.val) = ![k.val % 3] := by decide +kernel
theorem off17_eq : ∀ k : Fin 32, k0_off17 (here k.val) = ![k.val % 3, 0, 0] := by decide +kernel
theorem off18_eq : ∀ k : Fin 32, k0_off18 (point k.val) = ![1024 * k.val, 0] := by decide +kernel
theorem off19_eq : ∀ k : Fin 32, k0_off19 (here k.val) = ![k.val % 3] := by decide +kernel
theorem off20_eq : ∀ k : Fin 32, k0_off20 (here k.val) = ![k.val % 3, 0, 0] := by decide +kernel
theorem off21_eq : ∀ k : Fin 32, k0_off21 (point k.val) = ![1024 * k.val, 0] := by decide +kernel
theorem off22_eq : ∀ k : Fin 32, k0_off22 (here k.val) = ![k.val % 3, 0, 0] := by decide +kernel
theorem off23_eq : ∀ k : Fin 32, k0_off23 (here k.val) = ![k.val % 3, 0, 0] := by decide +kernel
theorem off24_eq : ∀ k : Fin 32, k0_off24 (here k.val) = ![k.val % 2, 0, 0] := by decide +kernel
theorem off25_eq : ∀ k : Fin 32, k0_off25 (here k.val) = ![k.val % 2] := by decide +kernel
theorem off26_eq : ∀ k : Fin 32, k0_off26 (point k.val) = ![1024 * k.val, 0] := by decide +kernel
theorem off27_eq : ∀ k : Fin 32, k0_off27 (here k.val) = ![k.val % 2, 0, 0] := by decide +kernel
theorem off28_eq : ∀ k : Fin 32, 0 < k.val → k0_off28 (waited k.val) = ![(k.val + 1) % 2] := by decide +kernel
theorem off29_eq : ∀ k : Fin 32, 0 < k.val → k0_off29 (point k.val) = ![1024 * (k.val - 1), 0] := by decide +kernel
theorem off30_eq : ∀ k : Fin 32, 0 < k.val → k0_off30 (waited k.val) = ![(k.val + 1) % 2, 0, 0] := by decide +kernel

/-! ## The guards -/

theorem cond3_pos : ∀ k : Fin k0_t1_loop.trips, k.val < 30 → k0_cond3 k (point k.val) = 1#1 :=
  forall_trip (by decide +kernel)
theorem cond3_neg : ∀ k : Fin k0_t1_loop.trips, 30 ≤ k.val → ¬ k0_cond3 k (point k.val) = 1#1 :=
  forall_trip (by decide +kernel)
theorem cond4_pos : ∀ k : Fin k0_t1_loop.trips, k.val < 30 → k0_cond4 k (point k.val) = 1#1 :=
  forall_trip (by decide +kernel)
theorem cond4_neg : ∀ k : Fin k0_t1_loop.trips, 30 ≤ k.val → ¬ k0_cond4 k (point k.val) = 1#1 :=
  forall_trip (by decide +kernel)
theorem cond5_pos : ∀ k : Fin k0_t1_loop.trips, k0_cond5 k (point k.val) = 1#1 := forall_trip (by decide +kernel)
theorem cond6_pos : ∀ k : Fin k0_t1_loop.trips, k0_cond6 k (point k.val) = 1#1 := forall_trip (by decide +kernel)
theorem cond10_pos : ∀ k : Fin k0_t1_loop.trips, k0_cond10 k (point k.val) = 1#1 := forall_trip (by decide +kernel)
theorem cond13_pos : ∀ k : Fin k0_t1_loop.trips, 0 < k.val → k0_cond13 k (point k.val) = 1#1 :=
  forall_trip (by decide +kernel)
theorem cond13_neg : ∀ k : Fin k0_t1_loop.trips, ¬ 0 < k.val → ¬ k0_cond13 k (point k.val) = 1#1 :=
  forall_trip (by decide +kernel)

/-! ## The assumed side conditions -/

theorem chk2_at : ∀ k : Fin 32, k0_chk2 (here k.val) := by decide +kernel
theorem chk3_at : ∀ k : Fin 32, k0_chk3 (here k.val) := by decide +kernel
theorem chk4_at : ∀ k : Fin 32, k0_chk4 (here k.val) := by decide +kernel
theorem chk5_end : k0_chk5 (waited 32) := by decide +kernel
theorem chk6_end : k0_chk6 (point 32) := by decide +kernel
theorem chk1_at : ∀ k : Fin k0_t1_loop.trips,
    k0_chk1 k (ahead k.val) (here k.val) (ahead k.val) (here k.val) (here k.val) (waited k.val) (point k.val) :=
  forall_trip (by decide +kernel)

end Cert.Proof.Out

end
-- ==== Proof.Pieces.lean ====
/- The canonical names of the transferred pieces — block `b` of each array in HBM, slot `s` of each ring buffer, its DMA
   semaphore — and what the separation logic says of them. -/
module

public import proofs.«01_k».proof.Proof.Words
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameValue
public import Idealize.ShloMosaic.Lib.Tactic

@[expose] public section

set_option maxRecDepth 16384

noncomputable section

namespace Cert.Proof.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU : Type := Pipeline.UD sig nD τ
local notation "𝕄" => MT nD τ sig Unit (Elt F) ℕ UU ℕ
abbrev 𝒱₀ : Variants := Variants.none

/-! ## The buffers -/

abbrev yArr : Memref sig .tc .hbm S32768x2048 .bf16 := Memref.whole main_arg0
abbrev hArr : Memref sig .tc .hbm S32768x1024 .f32 := Memref.whole main_arg2
abbrev oArr : Memref sig .tc .hbm S32768x1024 .f32 := Memref.whole main_v1
abbrev wBuf : Memref sig .tc .vmem S2048x1024 .bf16 := Memref.whole cc0_scratch0
abbrev yBuf : Memref sig .tc .vmem S3x1024x2048 .bf16 := Memref.whole cc0_scoped0
abbrev hBuf : Memref sig .tc .vmem S3x1024x1024 .f32 := Memref.whole cc0_scoped2
abbrev oBuf : Memref sig .tc .vmem S2x1024x1024 .f32 := Memref.whole cc0_scoped4

/-! ## Where the pieces lie -/

abbrev rowOff (b : Fin 32) : Fin 2 → Nat := ![1024 * b.val, 0]
abbrev off3 (s : Fin 3) : Fin 3 → Nat := ![s.val, 0, 0]
abbrev off2 (s : Fin 2) : Fin 3 → Nat := ![s.val, 0, 0]
abbrev cell3 (s : Fin 3) : Fin 1 → Nat := ![s.val]
abbrev cell2 (s : Fin 2) : Fin 1 → Nat := ![s.val]

theorem rowOff_inb_y : ∀ (b : Fin 32) a, rowOff b a + S1024x2048.size a ≤ S32768x2048.size a := by decide +kernel
theorem rowOff_inb_h : ∀ (b : Fin 32) a, rowOff b a + S1024x1024.size a ≤ S32768x1024.size a := by decide +kernel
theorem off3_inb_y : ∀ (s : Fin 3) a, off3 s a + S1x1024x2048.size a ≤ S3x1024x2048.size a := by decide +kernel
theorem off3_inb_h : ∀ (s : Fin 3) a, off3 s a + S1x1024x1024.size a ≤ S3x1024x1024.size a := by decide +kernel
theorem off2_inb : ∀ (s : Fin 2) a, off2 s a + S1x1024x1024.size a ≤ S2x1024x1024.size a := by decide +kernel
theorem cell3_inb : ∀ (s : Fin 3) a, cell3 s a + S1.size a ≤ S3.size a := by decide +kernel
theorem cell2_inb : ∀ (s : Fin 2) a, cell2 s a + S1.size a ≤ S2.size a := by decide +kernel

/-- Block `b` of the gated output `y`: rows `1024 b` to `1024 b + 1023`. -/
def yBlk (b : Fin 32) : Memref sig .tc .hbm S1024x2048 .bf16 :=
  yArr.slice (Rect.unit (s := S32768x2048) (rowOff b) S1024x2048.size (rowOff_inb_y b)) (fun _ => rfl)
/-- Block `b` of the residual `h`. -/
def hBlk (b : Fin 32) : Memref sig .tc .hbm S1024x1024 .f32 :=
  hArr.slice (Rect.unit (s := S32768x1024) (rowOff b) S1024x1024.size (rowOff_inb_h b)) (fun _ => rfl)
/-- Block `b` of the result. -/
def oBlk (b : Fin 32) : Memref sig .tc .hbm S1024x1024 .f32 :=
  oArr.slice (Rect.unit (s := S32768x1024) (rowOff b) S1024x1024.size (rowOff_inb_h b)) (fun _ => rfl)
/-- Slot `s` of the ring `y` is fetched into. -/
def ySlot (s : Fin 3) : Memref sig .tc .vmem S1024x2048 .bf16 :=
  (yBuf.slice (Rect.unit (s := S3x1024x2048) (off3 s) S1x1024x2048.size (off3_inb_y s)) (fun _ => rfl)).squeeze S1024x2048 squeezes_S1x1024x2048_S1024x2048
/-- Slot `s` of the ring `h` is fetched into. -/
def hSlot (s : Fin 3) : Memref sig .tc .vmem S1024x1024 .f32 :=
  (hBuf.slice (Rect.unit (s := S3x1024x1024) (off3 s) S1x1024x1024.size (off3_inb_h s)) (fun _ => rfl)).squeeze S1024x1024 squeezes_S1x1024x1024_S1024x1024
/-- Slot `s` of the ring the result is written back from. -/
def oSlot (s : Fin 2) : Memref sig .tc .vmem S1024x1024 .f32 :=
  (oBuf.slice (Rect.unit (s := S2x1024x1024) (off2 s) S1x1024x1024.size (off2_inb s)) (fun _ => rfl)).squeeze S1024x1024 squeezes_S1x1024x1024_S1024x1024
/-- The semaphore of slot `s` of `y`'s ring. -/
def ySem (s : Fin 3) : DmaSems sig S_ := (cc0_scoped1.slice (Rect.unit (s := S3) (cell3 s) S1.size (cell3_inb s))).squeeze S_ squeezes_S1_S_
/-- The semaphore of slot `s` of `h`'s ring. -/
def hSem (s : Fin 3) : DmaSems sig S_ := (cc0_scoped3.slice (Rect.unit (s := S3) (cell3 s) S1.size (cell3_inb s))).squeeze S_ squeezes_S1_S_
/-- The semaphore of slot `s` of the result's ring. -/
def oSem (s : Fin 2) : DmaSems sig S_ := (cc0_scoped5.slice (Rect.unit (s := S2) (cell2 s) S1.size (cell2_inb s))).squeeze S_ squeezes_S1_S_

instance (s : Fin 3) : ClosedOff (off3 s) := ⟨off3 s, rfl⟩
instance (s : Fin 2) : ClosedOff (off2 s) := ⟨off2 s, rfl⟩
instance (b : Fin 32) : ClosedOff (rowOff b) := ⟨rowOff b, rfl⟩

/-! ## The program's slices under those names -/

theorem row_of {off : Fin 2 → Nat} {n : ℕ} (hn : n < 32) (e : off = ![1024 * n, 0]) : off = rowOff (Ring.bk 32 n) := by
  rw [e]; unfold rowOff; rw [Ring.bk_val hn]
theorem off3_of {off : Fin 3 → Nat} {n : ℕ} (e : off = ![n % 3, 0, 0]) : off = off3 (Ring.sl 3 n) := by
  rw [e]; rfl
theorem off2_of {off : Fin 3 → Nat} {n : ℕ} (e : off = ![n % 2, 0, 0]) : off = off2 (Ring.sl 2 n) := by
  rw [e]; rfl
theorem cell3_of {off : Fin 1 → Nat} {n : ℕ} (e : off = ![n % 3]) : off = cell3 (Ring.sl 3 n) := by
  rw [e]; rfl
theorem cell2_of {off : Fin 1 → Nat} {n : ℕ} (e : off = ![n % 2]) : off = cell2 (Ring.sl 2 n) := by
  rw [e]; rfl

theorem yBlk_congr {off : Fin 2 → Nat} {b : Fin 32} (e : off = rowOff b) (hh hs) :
    yArr.slice (Rect.unit (s := S32768x2048) off S1024x2048.size hh) hs = yBlk b := Memref.slice_unit_congr _ e _ _ _ (fun _ => rfl)
theorem hBlk_congr {off : Fin 2 → Nat} {b : Fin 32} (e : off = rowOff b) (hh hs) :
    hArr.slice (Rect.unit (s := S32768x1024) off S1024x1024.size hh) hs = hBlk b := Memref.slice_unit_congr _ e _ _ _ (fun _ => rfl)
theorem oBlk_congr {off : Fin 2 → Nat} {b : Fin 32} (e : off = rowOff b) (hh hs) :
    oArr.slice (Rect.unit (s := S32768x1024) off S1024x1024.size hh) hs = oBlk b := Memref.slice_unit_congr _ e _ _ _ (fun _ => rfl)
theorem ySlot_congr {off : Fin 3 → Nat} {s : Fin 3} (e : off = off3 s) (hh hs) :
    (yBuf.slice (Rect.unit (s := S3x1024x2048) off S1x1024x2048.size hh) hs).squeeze S1024x2048 squeezes_S1x1024x2048_S1024x2048 = ySlot s :=
  congrArg (fun M : Memref sig .tc .vmem S1x1024x2048 .bf16 => M.squeeze S1024x2048 squeezes_S1x1024x2048_S1024x2048) (Memref.slice_unit_congr _ e _ _ _ _)
theorem hSlot_congr {off : Fin 3 → Nat} {s : Fin 3} (e : off = off3 s) (hh hs) :
    (hBuf.slice (Rect.unit (s := S3x1024x1024) off S1x1024x1024.size hh) hs).squeeze S1024x1024 squeezes_S1x1024x1024_S1024x1024 = hSlot s :=
  congrArg (fun M : Memref sig .tc .vmem S1x1024x1024 .f32 => M.squeeze S1024x1024 squeezes_S1x1024x1024_S1024x1024) (Memref.slice_unit_congr _ e _ _ _ _)
theorem oSlot_congr {off : Fin 3 → Nat} {s : Fin 2} (e : off = off2 s) (hh hs) :
    (oBuf.slice (Rect.unit (s := S2x1024x1024) off S1x1024x1024.size hh) hs).squeeze S1024x1024 squeezes_S1x1024x1024_S1024x1024 = oSlot s :=
  congrArg (fun M : Memref sig .tc .vmem S1x1024x1024 .f32 => M.squeeze S1024x1024 squeezes_S1x1024x1024_S1024x1024) (Memref.slice_unit_congr _ e _ _ _ _)
theorem ySem_congr {off : Fin 1 → Nat} {s : Fin 3} (e : off = cell3 s) (hh) :
    (cc0_scoped1.slice (Rect.unit (s := S3) off S1.size hh)).squeeze S_ squeezes_S1_S_ = ySem s :=
  congrArg (fun A : DmaSems sig S1 => A.squeeze S_ squeezes_S1_S_) (SemArray.slice_unit_congr _ e _ _)
theorem hSem_congr {off : Fin 1 → Nat} {s : Fin 3} (e : off = cell3 s) (hh) :
    (cc0_scoped3.slice (Rect.unit (s := S3) off S1.size hh)).squeeze S_ squeezes_S1_S_ = hSem s :=
  congrArg (fun A : DmaSems sig S1 => A.squeeze S_ squeezes_S1_S_) (SemArray.slice_unit_congr _ e _ _)
theorem oSem_congr {off : Fin 1 → Nat} {s : Fin 2} (e : off = cell2 s) (hh) :
    (cc0_scoped5.slice (Rect.unit (s := S2) off S1.size hh)).squeeze S_ squeezes_S1_S_ = oSem s :=
  congrArg (fun A : DmaSems sig S1 => A.squeeze S_ squeezes_S1_S_) (SemArray.slice_unit_congr _ e _ _)

section Names
variable (k : Fin k0_t1_loop.trips)

abbrev at32 (k : Fin k0_t1_loop.trips) : Fin 32 := ⟨k.val, trip_lt k⟩

/-! A trip's slots, cells and blocks. -/

@[sl_canon] theorem ySem_issue (h : k.val < 30) (hh) :
    (cc0_scoped1.slice (Rect.unit (s := S3) (k0_off10 (ahead k.val)) S1.size hh)).squeeze S_ squeezes_S1_S_ = ySem (Ring.sl 3 (k.val + 2)) :=
  ySem_congr (cell3_of (off10_eq (at32 k) h)) _
@[sl_canon] theorem ySlot_issue (h : k.val < 30) (hh hs) :
    (yBuf.slice (Rect.unit (s := S3x1024x2048) (k0_off11 (ahead k.val)) S1x1024x2048.size hh) hs).squeeze S1024x2048 squeezes_S1x1024x2048_S1024x2048 = ySlot (Ring.sl 3 (k.val + 2)) :=
  ySlot_congr (off3_of (off11_eq (at32 k) h)) _ _
@[sl_canon] theorem yBlk_issue (h : k.val < 30) (hh hs) :
    yArr.slice (Rect.unit (s := S32768x2048) (k0_off12 (point k.val)) S1024x2048.size hh) hs = yBlk (Ring.bk 32 (k.val + 2)) :=
  yBlk_congr (row_of (n := k.val + 2) (by omega) (off12_eq (at32 k) h)) _ _
@[sl_canon] theorem hSem_issue (h : k.val < 30) (hh) :
    (cc0_scoped3.slice (Rect.unit (s := S3) (k0_off13 (ahead k.val)) S1.size hh)).squeeze S_ squeezes_S1_S_ = hSem (Ring.sl 3 (k.val + 2)) :=
  hSem_congr (cell3_of (off13_eq (at32 k) h)) _
@[sl_canon] theorem hSlot_issue (h : k.val < 30) (hh hs) :
    (hBuf.slice (Rect.unit (s := S3x1024x1024) (k0_off14 (ahead k.val)) S1x1024x1024.size hh) hs).squeeze S1024x1024 squeezes_S1x1024x1024_S1024x1024 = hSlot (Ring.sl 3 (k.val + 2)) :=
  hSlot_congr (off3_of (off14_eq (at32 k) h)) _ _
@[sl_canon] theorem hBlk_issue (h : k.val < 30) (hh hs) :
    hArr.slice (Rect.unit (s := S32768x1024) (k0_off15 (point k.val)) S1024x1024.size hh) hs = hBlk (Ring.bk 32 (k.val + 2)) :=
  hBlk_congr (row_of (n := k.val + 2) (by omega) (off15_eq (at32 k) h)) _ _
@[sl_canon] theorem ySem_wait (hh) :
    (cc0_scoped1.slice (Rect.unit (s := S3) (k0_off16 (here k.val)) S1.size hh)).squeeze S_ squeezes_S1_S_ = ySem (Ring.sl 3 k.val) :=
  ySem_congr (cell3_of (off16_eq (at32 k))) _
@[sl_canon] theorem ySlot_wait (hh hs) :
    (yBuf.slice (Rect.unit (s := S3x1024x2048) (k0_off17 (here k.val)) S1x1024x2048.size hh) hs).squeeze S1024x2048 squeezes_S1x1024x2048_S1024x2048 = ySlot (Ring.sl 3 k.val) :=
  ySlot_congr (off3_of (off17_eq (at32 k))) _ _
@[sl_canon] theorem yBlk_wait (hh hs) :
    yArr.slice (Rect.unit (s := S32768x2048) (k0_off18 (point k.val)) S1024x2048.size hh) hs = yBlk (Ring.bk 32 k.val) :=
  yBlk_congr (row_of (trip_lt k) (off18_eq (at32 k))) _ _
@[sl_canon] theorem hSem_wait (hh) :
    (cc0_scoped3.slice (Rect.unit (s := S3) (k0_off19 (here k.val)) S1.size hh)).squeeze S_ squeezes_S1_S_ = hSem (Ring.sl 3 k.val) :=
  hSem_congr (cell3_of (off19_eq (at32 k))) _
@[sl_canon] theorem hSlot_wait (hh hs) :
    (hBuf.slice (Rect.unit (s := S3x1024x1024) (k0_off20 (here k.val)) S1x1024x1024.size hh) hs).squeeze S1024x1024 squeezes_S1x1024x1024_S1024x1024 = hSlot (Ring.sl 3 k.val) :=
  hSlot_congr (off3_of (off20_eq (at32 k))) _ _
@[sl_canon] theorem hBlk_wait (hh hs) :
    hArr.slice (Rect.unit (s := S32768x1024) (k0_off21 (point k.val)) S1024x1024.size hh) hs = hBlk (Ring.bk 32 k.val) :=
  hBlk_congr (row_of (trip_lt k) (off21_eq (at32 k))) _ _
@[sl_canon] theorem oSem_issue (hh) :
    (cc0_scoped5.slice (Rect.unit (s := S2) (k0_off25 (here k.val)) S1.size hh)).squeeze S_ squeezes_S1_S_ = oSem (Ring.sl 2 k.val) :=
  oSem_congr (cell2_of (off25_eq (at32 k))) _
@[sl_canon] theorem oBlk_issue (hh hs) :
    oArr.slice (Rect.unit (s := S32768x1024) (k0_off26 (point k.val)) S1024x1024.size hh) hs = oBlk (Ring.bk 32 k.val) :=
  oBlk_congr (row_of (trip_lt k) (off26_eq (at32 k))) _ _
@[sl_canon] theorem oSlot_issue (hh hs) :
    (oBuf.slice (Rect.unit (s := S2x1024x1024) (k0_off27 (here k.val)) S1x1024x1024.size hh) hs).squeeze S1024x1024 squeezes_S1x1024x1024_S1024x1024 = oSlot (Ring.sl 2 k.val) :=
  oSlot_congr (off2_of (off27_eq (at32 k))) _ _
@[sl_canon] theorem oSem_wait (h : 0 < k.val) (hh) :
    (cc0_scoped5.slice (Rect.unit (s := S2) (k0_off28 (waited k.val)) S1.size hh)).squeeze S_ squeezes_S1_S_ = oSem (Ring.sl 2 (k.val + 1)) :=
  oSem_congr (cell2_of (off28_eq (at32 k) h)) _
@[sl_canon] theorem oBlk_wait (h : 0 < k.val) (hh hs) :
    oArr.slice (Rect.unit (s := S32768x1024) (k0_off29 (point k.val)) S1024x1024.size hh) hs = oBlk (Ring.bk 32 (k.val - 1)) :=
  oBlk_congr (row_of (by have := trip_lt k; omega) (off29_eq (at32 k) h)) _ _
@[sl_canon] theorem oSlot_wait (h : 0 < k.val) (hh hs) :
    (oBuf.slice (Rect.unit (s := S2x1024x1024) (k0_off30 (waited k.val)) S1x1024x1024.size hh) hs).squeeze S1024x1024 squeezes_S1x1024x1024_S1024x1024 = oSlot (Ring.sl 2 (k.val + 1)) :=
  oSlot_congr (off2_of (off30_eq (at32 k) h)) _ _

/-! The windows the trip's loads and its store go through. -/

instance : ClosedOff (k0_off22 (here k.val)) := ⟨off3 (Ring.sl 3 k.val), off3_of (off22_eq (at32 k))⟩
instance : ClosedOff (k0_off23 (here k.val)) := ⟨off3 (Ring.sl 3 k.val), off3_of (off23_eq (at32 k))⟩
instance : ClosedOff (k0_off24 (here k.val)) := ⟨off2 (Ring.sl 2 k.val), off2_of (off24_eq (at32 k))⟩

end Names

/-! The slices before and after the loop. -/

@[sl_canon] theorem ySem_first (hh) :
    (cc0_scoped1.slice (Rect.unit (s := S3) k0_off1 S1.size hh)).squeeze S_ squeezes_S1_S_ = ySem 0 :=
  ySem_congr (by decide +kernel) _
@[sl_canon] theorem hSem_first (hh) :
    (cc0_scoped3.slice (Rect.unit (s := S3) k0_off1 S1.size hh)).squeeze S_ squeezes_S1_S_ = hSem 0 :=
  hSem_congr (by decide +kernel) _
@[sl_canon] theorem ySlot_first (hh hs) :
    (yBuf.slice (Rect.unit (s := S3x1024x2048) k0_off2 S1x1024x2048.size hh) hs).squeeze S1024x2048 squeezes_S1x1024x2048_S1024x2048 = ySlot 0 :=
  ySlot_congr (by decide +kernel) _ _
@[sl_canon] theorem hSlot_first (hh hs) :
    (hBuf.slice (Rect.unit (s := S3x1024x1024) k0_off3 S1x1024x1024.size hh) hs).squeeze S1024x1024 squeezes_S1x1024x1024_S1024x1024 = hSlot 0 :=
  hSlot_congr (by decide +kernel) _ _
@[sl_canon] theorem yBlk_first (hh hs) :
    yArr.slice (Rect.unit (s := S32768x2048) ![0, 0] S1024x2048.size hh) hs = yBlk 0 := yBlk_congr (by decide +kernel) _ _
@[sl_canon] theorem hBlk_first (hh hs) :
    hArr.slice (Rect.unit (s := S32768x1024) ![0, 0] S1024x1024.size hh) hs = hBlk 0 := hBlk_congr (by decide +kernel) _ _
@[sl_canon] theorem ySem_second (hh) :
    (cc0_scoped1.slice (Rect.unit (s := S3) k0_off4 S1.size hh)).squeeze S_ squeezes_S1_S_ = ySem 1 :=
  ySem_congr (by decide +kernel) _
@[sl_canon] theorem ySlot_second (hh hs) :
    (yBuf.slice (Rect.unit (s := S3x1024x2048) k0_off5 S1x1024x2048.size hh) hs).squeeze S1024x2048 squeezes_S1x1024x2048_S1024x2048 = ySlot 1 :=
  ySlot_congr (by decide +kernel) _ _
@[sl_canon] theorem yBlk_second (hh hs) :
    yArr.slice (Rect.unit (s := S32768x2048) k0_off6 S1024x2048.size hh) hs = yBlk 1 := yBlk_congr (by decide +kernel) _ _
@[sl_canon] theorem hSem_second (hh) :
    (cc0_scoped3.slice (Rect.unit (s := S3) k0_off7 S1.size hh)).squeeze S_ squeezes_S1_S_ = hSem 1 :=
  hSem_congr (by decide +kernel) _
@[sl_canon] theorem hSlot_second (hh hs) :
    (hBuf.slice (Rect.unit (s := S3x1024x1024) k0_off8 S1x1024x1024.size hh) hs).squeeze S1024x1024 squeezes_S1x1024x1024_S1024x1024 = hSlot 1 :=
  hSlot_congr (by decide +kernel) _ _
@[sl_canon] theorem hBlk_second (hh hs) :
    hArr.slice (Rect.unit (s := S32768x1024) k0_off9 S1024x1024.size hh) hs = hBlk 1 := hBlk_congr (by decide +kernel) _ _
@[sl_canon] theorem oSem_last (hh) :
    (cc0_scoped5.slice (Rect.unit (s := S2) (k0_off31 31#32) S1.size hh)).squeeze S_ squeezes_S1_S_ = oSem 1 :=
  oSem_congr (by decide +kernel) _
@[sl_canon] theorem oBlk_last (hh hs) :
    oArr.slice (Rect.unit (s := S32768x1024) (k0_off32 0#32) S1024x1024.size hh) hs = oBlk 31 := oBlk_congr (by decide +kernel) _ _
@[sl_canon] theorem oSlot_last (hh hs) :
    (oBuf.slice (Rect.unit (s := S2x1024x1024) (k0_off33 31#32) S1x1024x1024.size hh) hs).squeeze S1024x1024 squeezes_S1x1024x1024_S1024x1024 = oSlot 1 :=
  oSlot_congr (by decide +kernel) _ _

/-! ## The pieces -/

section Held
variable (c : Dev nD)
  (Y : Buf (Elt F) ((c : Thread nD τ).loc main_arg0)) (H : Buf (Elt F) ((c : Thread nD τ).loc main_arg2))
  (O : Buf (Elt F) ((c : Thread nD τ).loc main_v1))

abbrev yCell (s : Fin 3) : sProp 𝕄 := semVal ((c : Thread nD τ), SemLoc.dma (ySem s).sem) 0
abbrev hCell (s : Fin 3) : sProp 𝕄 := semVal ((c : Thread nD τ), SemLoc.dma (hSem s).sem) 0
abbrev oCell (s : Fin 2) : sProp 𝕄 := semVal ((c : Thread nD τ), SemLoc.dma (oSem s).sem) 0

abbrev ySlotP (s : Fin 3) (f : Buf (Elt F) ((ySlot s).view.loc (c : Thread nD τ))) : sProp 𝕄 :=
  (ySlot s).view.loc (c : Thread nD τ) ↦[(ySlot s).view.set]{fullShare} f
abbrev hSlotP (s : Fin 3) (f : Buf (Elt F) ((hSlot s).view.loc (c : Thread nD τ))) : sProp 𝕄 :=
  (hSlot s).view.loc (c : Thread nD τ) ↦[(hSlot s).view.set]{fullShare} f
abbrev oSlotP (s : Fin 2) (f : Buf (Elt F) ((oSlot s).view.loc (c : Thread nD τ))) : sProp 𝕄 :=
  (oSlot s).view.loc (c : Thread nD τ) ↦[(oSlot s).view.set]{fullShare} f

/-- Block `b` of `y` at home in HBM; likewise of `h` and of the result. -/
abbrev yHome (b : Fin 32) : sProp 𝕄 := (yBlk b).view.loc (c : Thread nD τ) ↦[(yBlk b).view.set]{fullShare} Y
abbrev hHome (b : Fin 32) : sProp 𝕄 := (hBlk b).view.loc (c : Thread nD τ) ↦[(hBlk b).view.set]{fullShare} H
abbrev oHome (b : Fin 32) : sProp 𝕄 := (oBlk b).view.loc (c : Thread nD τ) ↦[(oBlk b).view.set]{fullShare} O

/-- Block `b` of `y` as a slot's payload; likewise of `h`. -/
abbrev yLoad (b : Fin 32) : S1024x2048.Idx → Elt F .bf16 := ReadAs.same.apply ((yBlk b).view.read (Elt F) Y)
abbrev hLoad (b : Fin 32) : S1024x1024.Idx → Elt F .f32 := ReadAs.same.apply ((hBlk b).view.read (Elt F) H)

abbrev yLanded (s : Fin 3) (b : Fin 32) (f : Buf (Elt F) ((ySlot s).view.loc (c : Thread nD τ))) : Buf (Elt F) ((ySlot s).view.loc (c : Thread nD τ)) :=
  (ySlot s).view.writes (Elt F) f [⟨Rect.whole S1024x2048, yLoad c Y b⟩]
abbrev hLanded (s : Fin 3) (b : Fin 32) (f : Buf (Elt F) ((hSlot s).view.loc (c : Thread nD τ))) : Buf (Elt F) ((hSlot s).view.loc (c : Thread nD τ)) :=
  (hSlot s).view.writes (Elt F) f [⟨Rect.whole S1024x1024, hLoad c H b⟩]

/-- A block of four megabytes moves this many units on its cell. -/
abbrev amount : ℕ := 131072

/-- Slot `s` in flight with block `b` of `y`; likewise with `h`'s. -/
abbrev yFlight (s : Fin 3) (b : Fin 32) (f : Buf (Elt F) ((ySlot s).view.loc (c : Thread nD τ))) : sProp 𝕄 :=
  Transfers.Flight countersEmb (c : Thread nD τ) (SemLoc.dma (ySem s).sem) () amount iprop(ySlotP c s (yLanded c Y s b f) ∗ yHome c Y b)
abbrev hFlight (s : Fin 3) (b : Fin 32) (f : Buf (Elt F) ((hSlot s).view.loc (c : Thread nD τ))) : sProp 𝕄 :=
  Transfers.Flight countersEmb (c : Thread nD τ) (SemLoc.dma (hSem s).sem) () amount iprop(hSlotP c s (hLanded c H s b f) ∗ hHome c H b)
/-- Block `b` of the result on its way home from slot `s`. -/
abbrev oFlight (s : Fin 2) (b : Fin 32) (f : Buf (Elt F) ((oSlot s).view.loc (c : Thread nD τ))) : sProp 𝕄 :=
  Transfers.Flight countersEmb (c : Thread nD τ) (SemLoc.dma (oSem s).sem) () amount iprop(oHome c O b ∗ oSlotP c s f)

end Held

end Cert.Proof.Out

end
-- ==== Proof.Rings.lean ====
/- The two rings of a pipelined loop over 32 blocks, told apart from what travels on them: a ring of three slots that is
   fetched into two blocks ahead (`Reads`), and a ring of two slots whose write back is waited for one trip later
   (`Writes`). Each is stated before trip `k`, with the equations that open it for the trip and close it after. -/
module

public import Idealize.ShloMosaic.Lib.Ring.Trips
public import Idealize.ShloMosaic.Lib.Ring.WriteBehind
public import Idealize.ShloMosaic.Lib.Tactic

@[expose] public section

noncomputable section

namespace Cert.Proof.Out

open Idealize.ShloMosaic
open Idealize.SL Idealize.SL.RA Idealize.SL.BI
open scoped Idealize.SL.BI
open Idealize.SL.BI.BIBase Idealize.SL.BI.Laws Idealize.SL.ProofMode

section Rings
variable {M : Type} [URA M]

theorem entails_of_eq {P Q : sProp M} (e : P = Q) : P ⊢ Q := e ▸ .rfl

/-- Separation over a set with one more member. -/
theorem sep_insert {I : Type} [DecidableEq I] {i : I} {s : Finset I} {f : I → sProp M} (h : i ∉ s) :
    bigSep (insert i s) f = iprop(f i ∗ bigSep s f) := bigSep_insert h

/-! ## Three slots, read two blocks ahead -/

section Reads
variable (free : Fin 3 → sProp M) (flight : Fin 3 → Fin 32 → sProp M) (home : Fin 32 → sProp M)

/-- The slot of block `p`: in flight with it, or free when there is no such block. -/
def readRole (p : ℕ) : sProp M := if p < 32 then flight (Ring.sl 3 p) (Ring.bk 32 p) else free (Ring.sl 3 p)

/-- Before trip `k`: blocks `k` and `k + 1` in flight, the third slot free, every other block at home. -/
def Reads (k : ℕ) : sProp M :=
  iprop(readRole free flight k ∗ readRole free flight (k + 1) ∗ free (Ring.sl 3 (k + 2)) ∗ bigSep (Ring.homeSet 2 k) home)

/-- The blocks that stay at home through trip `k`. -/
def readRest (k : ℕ) : sProp M := bigSep ((Ring.homeSet 2 k).erase (Ring.bk 32 (k + 2))) home

/-- What a trip that fetches nothing leaves alone. -/
def readTail (k : ℕ) : sProp M :=
  iprop(readRole free flight (k + 1) ∗ free (Ring.sl 3 (k + 2)) ∗ bigSep (Ring.homeSet 2 k) home)

theorem reads_open (k : ℕ) (hk : k < 30) :
    Reads free flight home k = iprop(flight (Ring.sl 3 k) (Ring.bk 32 k) ∗ flight (Ring.sl 3 (k + 1)) (Ring.bk 32 (k + 1))
      ∗ free (Ring.sl 3 (k + 2)) ∗ home (Ring.bk 32 (k + 2)) ∗ readRest home k) := by
  unfold Reads readRole readRest
  rw [if_pos (by omega), if_pos (by omega), Ring.homeSet_out 2 k (by omega), sep_insert (Ring.bkL_not_mem_erase 2 k),
    ← Ring.homeSet_out 2 k (by omega)]

theorem reads_close (k : ℕ) (hk : k < 30) :
    iprop(flight (Ring.sl 3 (k + 1)) (Ring.bk 32 (k + 1)) ∗ flight (Ring.sl 3 (k + 2)) (Ring.bk 32 (k + 2))
      ∗ free (Ring.sl 3 k) ∗ home (Ring.bk 32 k) ∗ readRest home k) = Reads free flight home (k + 1) := by
  unfold Reads readRole readRest
  rw [if_pos (by omega), if_pos (by omega), Ring.sl_succ_add 3 k 2 rfl, Ring.homeSet_succ 2 k (by omega),
    sep_insert (Ring.bk_not_mem_erase 2 k (by omega) (by decide))]

theorem reads_open_tail (k : ℕ) (hk : k < 32) :
    Reads free flight home k = iprop(flight (Ring.sl 3 k) (Ring.bk 32 k) ∗ readTail free flight home k) := by
  unfold Reads readTail
  rw [show readRole free flight k = flight (Ring.sl 3 k) (Ring.bk 32 k) from if_pos hk]

theorem reads_close_tail (k : ℕ) (h30 : 30 ≤ k) (hk : k < 32) :
    iprop(free (Ring.sl 3 k) ∗ home (Ring.bk 32 k) ∗ readTail free flight home k) ⊢ Reads free flight home (k + 1) := by
  unfold Reads readTail
  rw [show readRole free flight (k + 1 + 1) = free (Ring.sl 3 (k + 2)) from if_neg (by omega), Ring.sl_succ_add 3 k 2 rfl,
    Ring.homeSet_succ_tail 2 k (by omega) hk, sep_insert (Ring.bk_not_mem_homeSet 2 k hk (by decide))]
  iintro ⟨H1, H2, H3, H4, H5⟩
  isplitl [H3]; · iexact H3
  isplitl [H4]; · iexact H4
  isplitl [H1]; · iexact H1
  isplitl [H2]; · iexact H2
  iexact H5

/-- At the start every block is at home and every slot free; blocks 0 and 1 are taken out and sent. -/
theorem reads_start_homes :
    bigSep Finset.univ home = iprop(home 0 ∗ home 1 ∗ bigSep (Ring.homeSet 2 0) home) := by
  have e : (Finset.univ : Finset (Fin 32)) = insert 0 (insert 1 (Ring.homeSet (NB := 32) 2 0)) := by decide
  rw [e, sep_insert (by decide), sep_insert (by decide)]

theorem reads_start :
    iprop(flight 0 0 ∗ flight 1 1 ∗ free 2 ∗ bigSep (Ring.homeSet 2 0) home) = Reads free flight home 0 := by
  unfold Reads readRole; rfl

theorem reads_end :
    Reads free flight home 32 ⊢ iprop(free 0 ∗ free 1 ∗ free 2 ∗ bigSep Finset.univ home) := by
  have e : Reads free flight home 32 = iprop(free 2 ∗ free 0 ∗ free 1 ∗ bigSep (Ring.homeSet 2 32) home) := by
    unfold Reads readRole; rfl
  rw [e, Ring.homeSet_last 2 32 le_rfl]
  iintro ⟨H2, H0, H1, H⟩
  isplitl [H0]; · iexact H0
  isplitl [H1]; · iexact H1
  isplitl [H2]; · iexact H2
  iexact H

end Reads

/-! ## Two slots, written back one trip behind -/

section Writes
variable (free : Fin 2 → sProp M) (flight : Fin 2 → Fin 32 → sProp M) (before after : Fin 32 → sProp M)

/-- Before trip `k`: one slot free, block `k - 1` on its way home from the other, the blocks from `k` on as they were,
    the blocks before `k - 1` written. -/
def Writes (k : ℕ) : sProp M :=
  iprop(free (Ring.sl 2 k) ∗ (if k = 0 then free (Ring.sl 2 (k + 1)) else flight (Ring.sl 2 (k + 1)) (Ring.bk 32 (k - 1)))
    ∗ bigSep (Ring.aheadSet k) before ∗ bigSep (Ring.behindSet 1 k) after)

/-- What trip `k` leaves alone. -/
def writeRest (k : ℕ) : sProp M := iprop(bigSep (Ring.aheadSet (k + 1)) before ∗ bigSep (Ring.behindSet 1 k) after)

theorem ahead_open (k : ℕ) (hk : k < 32) :
    bigSep (Ring.aheadSet k) before = iprop(before (Ring.bk 32 k) ∗ bigSep (Ring.aheadSet (k + 1)) before) := by
  rw [Ring.aheadSet_open k hk, sep_insert (Ring.bk_not_mem_aheadSet_succ k hk)]

theorem writes_open_first (k : ℕ) (hk : k = 0) :
    Writes free flight before after k
      ⊢ iprop(free (Ring.sl 2 k) ∗ free (Ring.sl 2 (k + 1)) ∗ before (Ring.bk 32 k) ∗ writeRest before after k) := by
  unfold Writes writeRest
  rw [if_pos hk, ahead_open before k (by omega)]
  iintro ⟨H1, H2, ⟨H3, H4⟩, H5⟩
  isplitl [H1]; · iexact H1
  isplitl [H2]; · iexact H2
  isplitl [H3]; · iexact H3
  isplitl [H4]; · iexact H4
  iexact H5

theorem writes_close_first (k : ℕ) (hk : k = 0) :
    iprop(flight (Ring.sl 2 k) (Ring.bk 32 k) ∗ free (Ring.sl 2 (k + 1)) ∗ writeRest before after k)
      ⊢ Writes free flight before after (k + 1) := by
  unfold Writes writeRest
  rw [if_neg (by omega), Ring.sl_succ_add 2 k 1 rfl, Nat.add_sub_cancel, Ring.behindSet_boot 1 k (by omega),
    Ring.behindSet_boot 1 (k + 1) (by omega)]
  iintro ⟨H1, H2, H3, H4⟩
  isplitl [H2]; · iexact H2
  isplitl [H1]; · iexact H1
  isplitl [H3]; · iexact H3
  iexact H4

theorem writes_open (k : ℕ) (h0 : 0 < k) (hk : k < 32) :
    Writes free flight before after k
      ⊢ iprop(free (Ring.sl 2 k) ∗ flight (Ring.sl 2 (k + 1)) (Ring.bk 32 (k - 1)) ∗ before (Ring.bk 32 k) ∗ writeRest before after k) := by
  unfold Writes writeRest
  rw [if_neg (by omega), ahead_open before k hk]
  iintro ⟨H1, H2, ⟨H3, H4⟩, H5⟩
  isplitl [H1]; · iexact H1
  isplitl [H2]; · iexact H2
  isplitl [H3]; · iexact H3
  isplitl [H4]; · iexact H4
  iexact H5

theorem writes_close (k : ℕ) (h0 : 0 < k) (hk : k < 32) :
    iprop(flight (Ring.sl 2 k) (Ring.bk 32 k) ∗ free (Ring.sl 2 (k + 1)) ∗ after (Ring.bk 32 (k - 1)) ∗ writeRest before after k)
      ⊢ Writes free flight before after (k + 1) := by
  unfold Writes writeRest
  rw [if_neg (by omega), Ring.sl_succ_add 2 k 1 rfl, Nat.add_sub_cancel, Ring.behindSet_close 1 k h0 hk,
    sep_insert (Ring.bk_not_mem_behindSet 1 k h0 hk)]
  iintro ⟨H1, H2, H3, H4, H5⟩
  isplitl [H2]; · iexact H2
  isplitl [H1]; · iexact H1
  isplitl [H4]; · iexact H4
  isplitl [H3]; · iexact H3
  iexact H5

theorem writes_start :
    iprop(free 0 ∗ free 1 ∗ bigSep Finset.univ before) ⊢ Writes free flight before after 0 := by
  unfold Writes
  rw [if_pos rfl, Ring.behindSet_boot 1 0 (by omega), Ring.aheadSet_zero, bigSep_empty]
  iintro ⟨H0, H1, H2⟩
  isplitl [H0]; · iexact H0
  isplitl [H1]; · iexact H1
  isplitl [H2]; · iexact H2
  iempintro

theorem writes_end :
    Writes free flight before after 32 ⊢ iprop(free 0 ∗ flight 1 31 ∗ bigSep (Ring.behindSet 1 32) after) := by
  have e : Writes free flight before after 32
      = iprop(free 0 ∗ flight 1 31 ∗ bigSep (Ring.aheadSet (NB := 32) 32) before ∗ bigSep (Ring.behindSet 1 32) after) := by
    unfold Writes; rfl
  rw [e, Ring.aheadSet_end 32 le_rfl]
  iintro ⟨H0, H1, -, H2⟩
  isplitl [H0]; · iexact H0
  isplitl [H1]; · iexact H1
  iexact H2

theorem writes_all :
    iprop(after 31 ∗ bigSep (Ring.behindSet 1 32) after) = bigSep Finset.univ after := by
  have e : (Finset.univ : Finset (Fin 32)) = insert 31 (Ring.behindSet (NB := 32) 1 32) := by decide
  rw [e, sep_insert (by decide)]

end Writes

end Rings

end Cert.Proof.Out

end
-- ==== Proof.Tile.lean ====
/- What one trip computes — a tile of the result from a block of `y` and one of `h` — and the whole result assembled from its
   32 tiles. -/
module

public import proofs.«01_k».proof.Proof.Pieces
public import proofs.«01_k».proof.Proof.Rings
public import Idealize.ShloMosaic.Lib.Pipeline.ValueKit.Geometry

@[expose] public section

set_option maxRecDepth 16384

noncomputable section

namespace Cert.Proof.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem casts_y : S1024x2048.ShapeCasts S1x1024x2048 := by decide +kernel

/-- The tile a trip computes from a block of `h`, a block of `y`, the weights and the gain. -/
def tile (h : S1024x1024.Idx → Elt F .f32) (y : S1024x2048.Idx → Elt F .bf16)
    (w : S2048x1024.Idx → Elt F .bf16) (g : S1x1024.Idx → Elt F .f32) : S1024x1024.Idx → Elt F .f32 :=
  shapeCast S1024x1024 (k0_pay1 (shapeCast S1x1024x1024 h shapeCasts_S1024x1024_S1x1024x1024) (shapeCast S1x1024x2048 y casts_y) w g)
    shapeCasts_S1x1024x1024_S1024x1024

/-! ## The rings read and written through the trip's own windows -/

theorem hRing_read (s : Fin 3) {off : Fin 3 → Nat} (e : off = off3 s) (hh) (f : hBuf.view.ty.Contents (Elt F)) :
    View.readAt (Elt F) hBuf.view (Rect.unit (s := S3x1024x1024) off S1x1024x1024.size hh).toLoadRect f
      = shapeCast S1x1024x1024 ((hSlot s).view.read (Elt F) f) shapeCasts_S1024x1024_S1x1024x1024 := by
  subst e
  unfold hSlot
  rw [Memref.read_squeeze_slice _ _ _ _ shapeCasts_S1x1024x1024_S1024x1024]
  exact (shapeCast_shapeCast _ _ _).symm

theorem yRing_read (s : Fin 3) {off : Fin 3 → Nat} (e : off = off3 s) (hh) (f : yBuf.view.ty.Contents (Elt F)) :
    View.readAt (Elt F) yBuf.view (Rect.unit (s := S3x1024x2048) off S1x1024x2048.size hh).toLoadRect f
      = shapeCast S1x1024x2048 ((ySlot s).view.read (Elt F) f) casts_y := by
  subst e
  unfold ySlot
  rw [Memref.read_squeeze_slice _ _ _ _ shapeCasts_S1x1024x2048_S1024x2048]
  exact (shapeCast_shapeCast _ _ _).symm

theorem oRing_read (s : Fin 2) {off : Fin 3 → Nat} (e : off = off2 s) (hh) (f : oBuf.view.ty.Contents (Elt F))
    (x : S1x1024x1024.Idx → Elt F .f32) :
    (oSlot s).view.read (Elt F) (View.write (Elt F) (oBuf.access (Rect.unit (s := S2x1024x1024) off S1x1024x1024.size hh)) f x Finset.univ)
      = shapeCast S1024x1024 x shapeCasts_S1x1024x1024_S1024x1024 := by
  subst e
  unfold oSlot
  rw [Memref.read_squeeze_slice _ _ _ _ shapeCasts_S1x1024x1024_S1024x1024]
  refine congrArg (fun v => shapeCast S1024x1024 v shapeCasts_S1x1024x1024_S1024x1024) ?_
  exact View.read_write_univ _ _

/-! ## The result, tile by tile -/

/-- The array whose block `b` of 1024 rows is `t b`. -/
def assemble {α : Type} (t : Fin 32 → S1024x1024.Idx → α) : S32768x1024.Idx → α := fun i =>
  t ⟨(i 0).val / 1024, by have h : (i 0).val < 32768 := (i 0).isLt; omega⟩
    (fun a => match a with
      | ⟨0, _⟩ => ⟨(i 0).val % 1024, Nat.mod_lt _ (by decide)⟩
      | ⟨1, _⟩ => ⟨(i 1).val, (i 1).isLt⟩)

theorem oBlk_read_assemble (t : Fin 32 → S1024x1024.Idx → Elt F .f32) (b : Fin 32) :
    (oBlk b).view.read (Elt F) (assemble t) = t b := by
  funext j
  have hj : (j 0).val < 1024 := (j 0).isLt
  have key : ∀ i : S32768x1024.Idx, (i 0).val = 1024 * b.val + (j 0).val → (i 1).val = 0 + (j 1).val → assemble t i = t b j := by
    intro i e0 e1
    unfold assemble
    congr 1
    · congr 1; rw [e0]; omega
    · funext a
      match a with
      | ⟨0, _⟩ => apply Fin.ext; show (i 0).val % 1024 = (j 0).val; rw [e0]; omega
      | ⟨1, _⟩ => apply Fin.ext; show (i 1).val = (j 1).val; rw [e1]; omega
  exact key ((Rect.unit (s := S32768x1024) (rowOff b) S1024x1024.size (rowOff_inb_h b)).emb j)
    (ValueKit.rect_emb_unit_val (s := S32768x1024) (rowOff b) S1024x1024.size (rowOff_inb_h b) j 0)
    (ValueKit.rect_emb_unit_val (s := S32768x1024) (rowOff b) S1024x1024.size (rowOff_inb_h b) j 1)

section Result
variable (c : Dev nD)
  (Y : Buf (Elt F) ((c : Thread nD τ).loc main_arg0)) (H : Buf (Elt F) ((c : Thread nD τ).loc main_arg2))
  (w : S2048x1024.Idx → Elt F .bf16) (g : S1x1024.Idx → Elt F .f32)

/-- Block `b` of the result. -/
def tileAt (b : Fin 32) : S1024x1024.Idx → Elt F .f32 := tile (hLoad c H b) (yLoad c Y b) w g

/-- The result: each block's tile in its place. -/
def result : Buf (Elt F) ((c : Thread nD τ).loc main_v1) := assemble (tileAt c Y H w g)

theorem oBlk_read_result (b : Fin 32) : (oBlk b).view.read (Elt F) (result c Y H w g) = tileAt c Y H w g b :=
  oBlk_read_assemble _ b

/-- A block of the array that reads as its tile is that block of the result. -/
theorem oHome_result (b : Fin 32) (O : Buf (Elt F) ((c : Thread nD τ).loc main_v1))
    (h : (oBlk b).view.read (Elt F) O = tileAt c Y H w g b) :
    oHome c O b ⊢ (oHome c (result c Y H w g) b : sProp 𝕄) := by
  have e1 := pointsTo_rep (Ix := Unit) (Name := ℕ) (U := UU) (Lvl := ℕ) (Val := Elt F) (c := (c : Thread nD τ)) (oBlk b) O fullShare
  have e2 := pointsTo_rep (Ix := Unit) (Name := ℕ) (U := UU) (Lvl := ℕ) (Val := Elt F) (c := (c : Thread nD τ)) (oBlk b) (result c Y H w g) fullShare
  rw [oBlk_read_result] at e2
  rw [h] at e1
  exact entails_of_eq (e1.trans e2.symm)

end Result

end Cert.Proof.Out

end
-- ==== Proof.Trip.lean ====
/- One trip of the pipelined loop: it fetches two blocks ahead while there are any, waits for its own block of `y` and of `h`,
   computes its tile, starts the tile's way home and waits for the tile before. -/
module

public import proofs.«01_k».proof.Proof.Tile

@[expose] public section

set_option maxRecDepth 16384

noncomputable section

namespace Cert.Proof.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Held
variable (c : Dev nD)
  (Y : Buf (Elt F) ((c : Thread nD τ).loc main_arg0)) (H : Buf (Elt F) ((c : Thread nD τ).loc main_arg2))
  (O₀ R : Buf (Elt F) ((c : Thread nD τ).loc main_v1))

/-- A slot that holds nothing of use, with its semaphore at rest. -/
def yFree (s : Fin 3) : sProp 𝕄 := iprop((∃ f, ySlotP c s f) ∗ yCell c s)
def hFree (s : Fin 3) : sProp 𝕄 := iprop((∃ f, hSlotP c s f) ∗ hCell c s)
def oFree (s : Fin 2) : sProp 𝕄 := iprop((∃ f, oSlotP c s f) ∗ oCell c s)
/-- A slot in flight with a block. -/
def yFly (s : Fin 3) (b : Fin 32) : sProp 𝕄 := iprop(∃ f, yFlight c Y s b f)
def hFly (s : Fin 3) (b : Fin 32) : sProp 𝕄 := iprop(∃ f, hFlight c H s b f)
def oFly (s : Fin 2) (b : Fin 32) : sProp 𝕄 := iprop(∃ f, oFlight c R s b f)

variable
  (arg3 : Memref sig .tc .vmem S1x1024 .f32) (arg5 : Memref sig .tc .vmem S2048x1024 .bf16)
  (wb : Buf (Elt F) (arg5.view.loc (c : Thread nD τ))) (gb : Buf (Elt F) (arg3.view.loc (c : Thread nD τ)))

/-- The weights a trip loads, and the gain. -/
def wLoad : S2048x1024.Idx → Elt F .bf16 := View.readAt (Elt F) arg5.view (Rect.unit (s := S2048x1024) ![0, 0] S2048x1024.size (by decide)).toLoadRect wb
def gLoad : S1x1024.Idx → Elt F .f32 := View.readAt (Elt F) arg3.view (Rect.unit (s := S1x1024) ![0, 0] S1x1024.size (by decide)).toLoadRect gb

/-- What the loop holds before trip `k`. -/
def resAt (k : ℕ) : sProp 𝕄 :=
  iprop((arg5.view.loc (c : Thread nD τ) ↦[arg5.view.set]{fullShare} wb) ∗ (arg3.view.loc (c : Thread nD τ) ↦[arg3.view.set]{fullShare} gb)
    ∗ (∃ W, owes (c : Thread nD τ) 0 W)
    ∗ Reads (yFree c) (yFly c Y) (fun b => yHome c Y b) k
    ∗ Reads (hFree c) (hFly c H) (fun b => hHome c H b) k
    ∗ Writes (oFree c) (oFly c R) (fun b => oHome c O₀ b) (fun b => oHome c R b) k)

end Held

section Trip
variable (c : Dev nD)
  (Y : Buf (Elt F) ((c : Thread nD τ).loc main_arg0)) (H : Buf (Elt F) ((c : Thread nD τ).loc main_arg2))
  (O₀ : Buf (Elt F) ((c : Thread nD τ).loc main_v1))
  (arg1 : Memref sig .tc .vmem S2048x1024 .f32) (harg1 : arg1.IsWhole)
  (arg3 : Memref sig .tc .vmem S1x1024 .f32) (harg3 : arg3.IsWhole)
  (arg5 : Memref sig .tc .vmem S2048x1024 .bf16) (harg5 : arg5.IsWhole)
  (v15 : BitVec 32)
  (wb : Buf (Elt F) (arg5.view.loc (c : Thread nD τ))) (gb : Buf (Elt F) (arg3.view.loc (c : Thread nD τ)))

/-- One trip of the pipelined loop, on what it carries. -/
abbrev tripG (k : Fin k0_t1_loop.trips) (a : BitVec 32 × BitVec 32 × BitVec 32 × BitVec 32 × BitVec 32 × BitVec 32 × BitVec 32) :=
  k0_t1_body (F := F) yArr (Memref.isWhole_whole _) arg1 harg1 hArr (Memref.isWhole_whole _) arg3 harg3 oArr (Memref.isWhole_whole _)
    arg5 harg5 yBuf (Memref.isWhole_whole _) cc0_scoped1 hBuf (Memref.isWhole_whole _) cc0_scoped3
    oBuf (Memref.isWhole_whole _) cc0_scoped5 v15 k a

/-- The result the loop leaves. -/
abbrev resultG : Buf (Elt F) ((c : Thread nD τ).loc main_v1) := result c Y H (wLoad c arg5 wb) (gLoad c arg3 gb)

/-- What a slot of the result's ring holds after a trip's store reads as that trip's tile. -/
theorem tile_read (k : Fin k0_t1_loop.trips) (hh22 hh23 hh24 : _) (f : Buf (Elt F) ((ySlot (Ring.sl 3 k.val)).view.loc (c : Thread nD τ)))
    (e : Buf (Elt F) ((hSlot (Ring.sl 3 k.val)).view.loc (c : Thread nD τ))) (g : oBuf.view.ty.Contents (Elt F))
    (w : S2048x1024.Idx → Elt F .bf16) (gv : S1x1024.Idx → Elt F .f32) :
    (oSlot (Ring.sl 2 k.val)).view.read (Elt F)
      (View.write (Elt F) (oBuf.access (Rect.unit (s := S2x1024x1024) (k0_off24 (here k.val)) S1x1024x1024.size hh24)) g
        (k0_pay1 (View.readAt (Elt F) hBuf.view (Rect.unit (s := S3x1024x1024) (k0_off22 (here k.val)) S1x1024x1024.size hh22).toLoadRect
            (hLanded c H (Ring.sl 3 k.val) (Ring.bk 32 k.val) e))
          (View.readAt (Elt F) yBuf.view (Rect.unit (s := S3x1024x2048) (k0_off23 (here k.val)) S1x1024x2048.size hh23).toLoadRect
            (yLanded c Y (Ring.sl 3 k.val) (Ring.bk 32 k.val) f)) w gv) Finset.univ)
      = tileAt c Y H w gv (Ring.bk 32 k.val) := by
  have e24 : k0_off24 (here k.val) = off2 (Ring.sl 2 k.val) := off2_of (off24_eq (at32 k))
  have e22 : k0_off22 (here k.val) = off3 (Ring.sl 3 k.val) := off3_of (off22_eq (at32 k))
  have e23 : k0_off23 (here k.val) = off3 (Ring.sl 3 k.val) := off3_of (off23_eq (at32 k))
  refine (oRing_read (F := F) (Ring.sl 2 k.val) e24 hh24 g _).trans ?_
  have eh : (hSlot (Ring.sl 3 k.val)).view.read (Elt F) (hLanded c H (Ring.sl 3 k.val) (Ring.bk 32 k.val) e) = hLoad c H (Ring.bk 32 k.val) :=
    View.read_writes_whole _ _ _
  have ey : (ySlot (Ring.sl 3 k.val)).view.read (Elt F) (yLanded c Y (Ring.sl 3 k.val) (Ring.bk 32 k.val) f) = yLoad c Y (Ring.bk 32 k.val) :=
    View.read_writes_whole _ _ _
  have rh := (hRing_read (F := F) (Ring.sl 3 k.val) e22 hh22 (hLanded c H (Ring.sl 3 k.val) (Ring.bk 32 k.val) e)).trans
    (congrArg (fun v => shapeCast S1x1024x1024 v shapeCasts_S1024x1024_S1x1024x1024) eh)
  have ry := (yRing_read (F := F) (Ring.sl 3 k.val) e23 hh23 (yLanded c Y (Ring.sl 3 k.val) (Ring.bk 32 k.val) f)).trans
    (congrArg (fun v => shapeCast S1x1024x2048 v casts_y) ey)
  exact congrArg₂ (fun a b => shapeCast S1024x1024 (k0_pay1 a b w gv) shapeCasts_S1x1024x1024_S1024x1024) rh ry

/-- The words a trip hands on, checked at each trip. -/
theorem words_of (a h w p : Fin k0_t1_loop.trips → BitVec 32)
    (ea : ∀ k : Fin 32, a ⟨k.val, k.isLt.trans_eq trips_eq.symm⟩ = ahead (k.val + 1))
    (eh : ∀ k : Fin 32, h ⟨k.val, k.isLt.trans_eq trips_eq.symm⟩ = here (k.val + 1))
    (ew : ∀ k : Fin 32, w ⟨k.val, k.isLt.trans_eq trips_eq.symm⟩ = waited (k.val + 1))
    (ep : ∀ k : Fin 32, p ⟨k.val, k.isLt.trans_eq trips_eq.symm⟩ = point (k.val + 1)) (k : Fin k0_t1_loop.trips) :
    (a k, h k, a k, h k, h k, w k, p k) = words (k.val + 1) := by
  rw [show a k = ahead (k.val + 1) from ea (at32 k), show h k = here (k.val + 1) from eh (at32 k),
    show w k = waited (k.val + 1) from ew (at32 k), show p k = point (k.val + 1) from ep (at32 k)]

/-- A tile on its way home arrives as that block of the result. -/
theorem out_flight (w : S2048x1024.Idx → Elt F .bf16) (gv : S1x1024.Idx → Elt F .f32) (k : Fin k0_t1_loop.trips)
    (f : Buf (Elt F) ((oSlot (Ring.sl 2 k.val)).view.loc (c : Thread nD τ))) (x : S1024x1024.Idx → Elt F .f32)
    (hx : x = tileAt c Y H w gv (Ring.bk 32 k.val)) :
    Transfers.Flight countersEmb (c : Thread nD τ) (SemLoc.dma (oSem (Ring.sl 2 k.val)).sem) () amount
        iprop(((oBlk (Ring.bk 32 k.val)).view.loc (c : Thread nD τ) ↦[(oBlk (Ring.bk 32 k.val)).view.set]{fullShare}
          (oBlk (Ring.bk 32 k.val)).view.writes (Elt F) O₀ [⟨Rect.whole S1024x1024, x⟩]) ∗ oSlotP c (Ring.sl 2 k.val) f)
      ⊢ (oFlight c (result c Y H w gv) (Ring.sl 2 k.val) (Ring.bk 32 k.val) f : sProp 𝕄) := by
  have hr : (oBlk (Ring.bk 32 k.val)).view.read (Elt F) ((oBlk (Ring.bk 32 k.val)).view.writes (Elt F) O₀ [⟨Rect.whole S1024x1024, x⟩])
      = tileAt c Y H w gv (Ring.bk 32 k.val) := (View.read_writes_whole _ _ _).trans hx
  have h1 := oHome_result c Y H w gv (Ring.bk 32 k.val) _ hr
  have hD : iprop(((oBlk (Ring.bk 32 k.val)).view.loc (c : Thread nD τ) ↦[(oBlk (Ring.bk 32 k.val)).view.set]{fullShare}
        (oBlk (Ring.bk 32 k.val)).view.writes (Elt F) O₀ [⟨Rect.whole S1024x1024, x⟩]) ∗ oSlotP c (Ring.sl 2 k.val) f)
      ⊢ (iprop(oHome c (result c Y H w gv) (Ring.bk 32 k.val) ∗ oSlotP c (Ring.sl 2 k.val) f) : sProp 𝕄) := by
    iintro ⟨H1, H2⟩
    isplitl [H1]
    · iapply h1; iexact H1
    iexact H2
  exact Transfers.Flight_mono countersEmb (c : Thread nD τ) hD

set_option backward.proofsInPublic true in
/-- A trip that has a block to fetch and a tile to wait for. -/
theorem trip_mid (k : Fin k0_t1_loop.trips) (h0 : 0 < k.val) (h30 : k.val < 30) :
   resAt c Y H O₀ (resultG c Y H arg3 arg5 wb gb) arg3 arg5 wb gb k.val
    ⊢ wp frame (wpE (defs₀ (F := F)) 𝒱₀ (c : Thread nD τ) none) Set.univ (tripG arg1 harg1 arg3 harg3 arg5 harg5 v15 k (words k.val))
        (fun r => iprop(⌜r = words (k.val+1)⌝ ∗ resAt c Y H O₀ (resultG c Y H arg3 arg5 wb gb) arg3 arg5 wb gb (k.val + 1))) := by
  have c3 := cond3_pos k h30
  have c4 := cond4_pos k h30
  have c13 := cond13_pos k h0
  have c5 := cond5_pos k
  have c6 := cond6_pos k
  have c10 := cond10_pos k
  have k1 := chk1_at k
  have k2 := chk2_at (at32 k)
  have k3 := chk3_at (at32 k)
  have k4 := chk4_at (at32 k)
  unfold resAt
  rw [reads_open _ _ _ k.val h30, reads_open _ _ _ k.val h30, ← reads_close _ _ _ k.val h30, ← reads_close _ _ _ k.val h30]
  iintro ⟨HW, HG, ⟨%W, Ho⟩, ⟨HY0, HY1, HY2, HYh, HYr⟩, ⟨HH0, HH1, HH2, HHh, HHr⟩, HO⟩
  ihave HO := (writes_open _ _ _ _ k.val h0 (trip_lt k)) $$ HO
  icases HO with ⟨HOf, HO1, HOh, HOr⟩
  unfold yFly hFly oFly yFree hFree oFree
  icases HY0 with ⟨%f0, HY0⟩
  icases HH0 with ⟨%e0, HH0⟩
  icases HOf with ⟨⟨%g0, HOs⟩, HOc⟩
  icases HY1 with ⟨%f1, HY1⟩
  icases HY2 with ⟨⟨%f2, HYs⟩, HYc⟩
  icases HH1 with ⟨%e1, HH1⟩
  icases HH2 with ⟨⟨%e2, HHs⟩, HHc⟩
  icases HO1 with ⟨%g1, HO1⟩
  dsimp only [tripG, words]
  sl_unfold [k0_t1_body]
  sl_exec
  sl_step
  isplitr
  · ipureintro
    exact words_of trip_mid.sl.v120_r0 trip_mid.sl.v199_r0 trip_mid.sl.v219_r0 trip_mid.sl.v99_r0 (by decide +kernel) (by decide +kernel)
      (by decide +kernel) (by decide +kernel) k
  isplitl [HW]; · iexact HW
  isplitl [HG]; · iexact HG
  isplitl [Ho]; · iexists _; iexact Ho
  isplitl [HY1 HYc HY0 HY0_dst HY0_src HYr]
  · isplitl [HY1]; · iexists _; iexact HY1
    isplitl [HYc]; · iexists f2; iexact HYc
    isplitl [HY0 HY0_dst]
    · isplitl [HY0_dst]; · iexists _; iexact HY0_dst
      iexact HY0
    isplitl [HY0_src]; · iexact HY0_src
    iexact HYr
  isplitl [HH1 HHc HH0 HH0_dst HH0_src HHr]
  · isplitl [HH1]; · iexists _; iexact HH1
    isplitl [HHc]; · iexists e2; iexact HHc
    isplitl [HH0 HH0_dst]
    · isplitl [HH0_dst]; · iexists _; iexact HH0_dst
      iexact HH0
    isplitl [HH0_src]; · iexact HH0_src
    iexact HHr
  iapply (writes_close _ _ _ _ k.val h0 (trip_lt k))
  ihave HOc := (out_flight c Y H O₀ (wLoad c arg5 wb) (gLoad c arg3 gb) k (trip_mid.sl.HOs_w1 c Y H arg3 arg5 wb gb k k2 k3 k4 g0)
    (trip_mid.sl.dma6 c Y H arg3 arg5 wb gb k k2 k3 k4 g0)
    (tile_read c Y H k _ _ _ _ _ g0 (wLoad c arg5 wb) (gLoad c arg3 gb))) $$ HOc
  isplitl [HOc]; · iexists _; iexact HOc
  isplitl [HO1 HO1_src]
  · isplitl [HO1_src]; · iexists _; iexact HO1_src
    iexact HO1
  isplitl [HO1_dst]; · iexact HO1_dst
  iexact HOr

set_option backward.proofsInPublic true in
/-- The first trip: no tile is on its way yet. -/
theorem trip_first (k : Fin k0_t1_loop.trips) (h0 : k.val = 0) :
   resAt c Y H O₀ (resultG c Y H arg3 arg5 wb gb) arg3 arg5 wb gb k.val
    ⊢ wp frame (wpE (defs₀ (F := F)) 𝒱₀ (c : Thread nD τ) none) Set.univ (tripG arg1 harg1 arg3 harg3 arg5 harg5 v15 k (words k.val))
        (fun r => iprop(⌜r = words (k.val+1)⌝ ∗ resAt c Y H O₀ (resultG c Y H arg3 arg5 wb gb) arg3 arg5 wb gb (k.val + 1))) := by
  have h30 : k.val < 30 := by omega
  have c3 := cond3_pos k h30
  have c4 := cond4_pos k h30
  have c13 := cond13_neg k (by omega)
  have c5 := cond5_pos k
  have c6 := cond6_pos k
  have c10 := cond10_pos k
  have k1 := chk1_at k
  have k2 := chk2_at (at32 k)
  have k3 := chk3_at (at32 k)
  have k4 := chk4_at (at32 k)
  unfold resAt
  rw [reads_open _ _ _ k.val h30, reads_open _ _ _ k.val h30, ← reads_close _ _ _ k.val h30, ← reads_close _ _ _ k.val h30]
  iintro ⟨HW, HG, ⟨%W, Ho⟩, ⟨HY0, HY1, HY2, HYh, HYr⟩, ⟨HH0, HH1, HH2, HHh, HHr⟩, HO⟩
  ihave HO := (writes_open_first _ _ _ _ k.val h0) $$ HO
  icases HO with ⟨HOf, HO1, HOh, HOr⟩
  unfold yFly hFly oFly yFree hFree oFree
  icases HY0 with ⟨%f0, HY0⟩
  icases HH0 with ⟨%e0, HH0⟩
  icases HOf with ⟨⟨%g0, HOs⟩, HOc⟩
  icases HY1 with ⟨%f1, HY1⟩
  icases HY2 with ⟨⟨%f2, HYs⟩, HYc⟩
  icases HH1 with ⟨%e1, HH1⟩
  icases HH2 with ⟨⟨%e2, HHs⟩, HHc⟩
  dsimp only [tripG, words]
  sl_unfold [k0_t1_body]
  sl_exec
  sl_step
  isplitr
  · ipureintro
    exact words_of trip_first.sl.v120_r0 trip_first.sl.v199_r0 trip_first.sl.v219_r0 trip_first.sl.v99_r0 (by decide +kernel) (by decide +kernel)
      (by decide +kernel) (by decide +kernel) k
  isplitl [HW]; · iexact HW
  isplitl [HG]; · iexact HG
  isplitl [Ho]; · iexists _; iexact Ho
  isplitl [HY1 HYc HY0 HY0_dst HY0_src HYr]
  · isplitl [HY1]; · iexists _; iexact HY1
    isplitl [HYc]; · iexists f2; iexact HYc
    isplitl [HY0 HY0_dst]
    · isplitl [HY0_dst]; · iexists _; iexact HY0_dst
      iexact HY0
    isplitl [HY0_src]; · iexact HY0_src
    iexact HYr
  isplitl [HH1 HHc HH0 HH0_dst HH0_src HHr]
  · isplitl [HH1]; · iexists _; iexact HH1
    isplitl [HHc]; · iexists e2; iexact HHc
    isplitl [HH0 HH0_dst]
    · isplitl [HH0_dst]; · iexists _; iexact HH0_dst
      iexact HH0
    isplitl [HH0_src]; · iexact HH0_src
    iexact HHr
  iapply (writes_close_first _ _ _ _ k.val h0)
  ihave HOc := (out_flight c Y H O₀ (wLoad c arg5 wb) (gLoad c arg3 gb) k (trip_first.sl.HOs_w1 c Y H arg3 arg5 wb gb k k2 k3 k4 g0)
    (trip_first.sl.dma6 c Y H arg3 arg5 wb gb k k2 k3 k4 g0)
    (tile_read c Y H k _ _ _ _ _ g0 (wLoad c arg5 wb) (gLoad c arg3 gb))) $$ HOc
  isplitl [HOc]; · iexists _; iexact HOc
  isplitl [HO1]; · iexact HO1
  iexact HOr

set_option backward.proofsInPublic true in
/-- The last two trips: every block has been fetched or is on its way. -/
theorem trip_tail (k : Fin k0_t1_loop.trips) (h30 : 30 ≤ k.val) :
   resAt c Y H O₀ (resultG c Y H arg3 arg5 wb gb) arg3 arg5 wb gb k.val
    ⊢ wp frame (wpE (defs₀ (F := F)) 𝒱₀ (c : Thread nD τ) none) Set.univ (tripG arg1 harg1 arg3 harg3 arg5 harg5 v15 k (words k.val))
        (fun r => iprop(⌜r = words (k.val+1)⌝ ∗ resAt c Y H O₀ (resultG c Y H arg3 arg5 wb gb) arg3 arg5 wb gb (k.val + 1))) := by
  have h0 : 0 < k.val := by omega
  have c3 := cond3_neg k h30
  have c4 := cond4_neg k h30
  have c13 := cond13_pos k h0
  have c5 := cond5_pos k
  have c6 := cond6_pos k
  have c10 := cond10_pos k
  have k1 := chk1_at k
  have k2 := chk2_at (at32 k)
  have k3 := chk3_at (at32 k)
  have k4 := chk4_at (at32 k)
  unfold resAt
  rw [reads_open_tail _ _ _ k.val (trip_lt k), reads_open_tail _ _ _ k.val (trip_lt k)]
  iintro ⟨HW, HG, ⟨%W, Ho⟩, ⟨HY0, HYr⟩, ⟨HH0, HHr⟩, HO⟩
  ihave HO := (writes_open _ _ _ _ k.val h0 (trip_lt k)) $$ HO
  icases HO with ⟨HOf, HO1, HOh, HOr⟩
  unfold yFly hFly oFly yFree hFree oFree
  icases HY0 with ⟨%f0, HY0⟩
  icases HH0 with ⟨%e0, HH0⟩
  icases HOf with ⟨⟨%g0, HOs⟩, HOc⟩
  icases HO1 with ⟨%g1, HO1⟩
  dsimp only [tripG, words]
  sl_unfold [k0_t1_body]
  sl_exec
  sl_step
  isplitr
  · ipureintro
    exact words_of trip_tail.sl.v120_r0 trip_tail.sl.v199_r0 trip_tail.sl.v219_r0 trip_tail.sl.v99_r0 (by decide +kernel) (by decide +kernel)
      (by decide +kernel) (by decide +kernel) k
  isplitl [HW]; · iexact HW
  isplitl [HG]; · iexact HG
  isplitl [Ho]; · iexists _; iexact Ho
  isplitl [HY0 HY0_dst HY0_src HYr]
  · iapply (reads_close_tail _ _ _ k.val h30 (trip_lt k))
    isplitl [HY0 HY0_dst]
    · isplitl [HY0_dst]; · iexists _; iexact HY0_dst
      iexact HY0
    isplitl [HY0_src]; · iexact HY0_src
    iexact HYr
  isplitl [HH0 HH0_dst HH0_src HHr]
  · iapply (reads_close_tail _ _ _ k.val h30 (trip_lt k))
    isplitl [HH0 HH0_dst]
    · isplitl [HH0_dst]; · iexists _; iexact HH0_dst
      iexact HH0
    isplitl [HH0_src]; · iexact HH0_src
    iexact HHr
  iapply (writes_close _ _ _ _ k.val h0 (trip_lt k))
  ihave HOc := (out_flight c Y H O₀ (wLoad c arg5 wb) (gLoad c arg3 gb) k (trip_tail.sl.HOs_w1 c Y H arg3 arg5 wb gb k k2 k3 k4 g0)
    (trip_tail.sl.dma6 c Y H arg3 arg5 wb gb k k2 k3 k4 g0)
    (tile_read c Y H k _ _ _ _ _ g0 (wLoad c arg5 wb) (gLoad c arg3 gb))) $$ HOc
  isplitl [HOc]; · iexists _; iexact HOc
  isplitl [HO1 HO1_src]
  · isplitl [HO1_src]; · iexists _; iexact HO1_src
    iexact HO1
  isplitl [HO1_dst]; · iexact HO1_dst
  iexact HOr

/-- A trip, whichever it is. -/
theorem trip (k : Fin k0_t1_loop.trips) :
   resAt c Y H O₀ (resultG c Y H arg3 arg5 wb gb) arg3 arg5 wb gb k.val
    ⊢ wp frame (wpE (defs₀ (F := F)) 𝒱₀ (c : Thread nD τ) none) Set.univ (tripG arg1 harg1 arg3 harg3 arg5 harg5 v15 k (words k.val))
        (fun r => iprop(⌜r = words (k.val+1)⌝ ∗ resAt c Y H O₀ (resultG c Y H arg3 arg5 wb gb) arg3 arg5 wb gb (k.val + 1))) := by
  rcases Nat.eq_zero_or_pos k.val with h | h
  · exact trip_first c Y H O₀ arg1 harg1 arg3 harg3 arg5 harg5 v15 wb gb k h
  rcases Nat.lt_or_ge k.val 30 with h' | h'
  · exact trip_mid c Y H O₀ arg1 harg1 arg3 harg3 arg5 harg5 v15 wb gb k h h'
  · exact trip_tail c Y H O₀ arg1 harg1 arg3 harg3 arg5 harg5 v15 wb gb k h'

end Trip
end Cert.Proof.Out

end
-- ==== Proof.Body.lean ====
/- The kernel's body: the weights are rounded and kept, the first two blocks of each input are sent for, the pipelined loop
   runs, and the last tile is waited for. -/
module

public import proofs.«01_k».proof.Proof.Trip
public import Idealize.ShloMosaic.Lib.VecWindow

@[expose] public section

set_option maxRecDepth 16384

noncomputable section

namespace Cert.Proof.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Body
variable (c : Dev nD)
  (Y : Buf (Elt F) ((c : Thread nD τ).loc main_arg0)) (H : Buf (Elt F) ((c : Thread nD τ).loc main_arg2))
  (O₀ : Buf (Elt F) ((c : Thread nD τ).loc main_v1))
  (arg1 : Memref sig .tc .vmem S2048x1024 .f32) (harg1 : arg1.IsWhole)
  (arg3 : Memref sig .tc .vmem S1x1024 .f32) (harg3 : arg3.IsWhole)
  (arg5 : Memref sig .tc .vmem S2048x1024 .bf16) (harg5 : arg5.IsWhole)

set_option warn.classDefReducibility false in
/-- The loop keeps `resAt`, its carried words being those of the trip. -/
@[sl_loop] def loopInv1 (v15 : BitVec 32)
    (wb : Buf (Elt F) (arg5.view.loc (c : Thread nD τ))) (gb : Buf (Elt F) (arg3.view.loc (c : Thread nD τ))) (a : BitVec 32 × BitVec 32 × BitVec 32 × BitVec 32 × BitVec 32 × BitVec 32 × BitVec 32) :
    LoopInvTy_k0_t1 (F := F) Unit ℕ UU ℕ 𝒱₀ c none Set.univ yArr (Memref.isWhole_whole _) arg1 harg1 hArr (Memref.isWhole_whole _) arg3 harg3
      oArr (Memref.isWhole_whole _) arg5 harg5 yBuf (Memref.isWhole_whole _) cc0_scoped1 hBuf (Memref.isWhole_whole _) cc0_scoped3
      oBuf (Memref.isWhole_whole _) cc0_scoped5 v15 a where
  inv k acc := iprop(⌜acc = words k⌝ ∗ resAt c Y H O₀ (resultG c Y H arg3 arg5 wb gb) arg3 arg5 wb gb k)
  step k acc := by
    iintro ⟨%e, H⟩
    subst e
    iapply (trip c Y H O₀ arg1 harg1 arg3 harg3 arg5 harg5 v15 wb gb k)
    iexact H

/-- The body on its arguments. -/
abbrev bodyG : Prog (TpuEff nD τ sig (Elt F) Λ₀ .tc) PUnit :=
  cc0_outproj yArr (Memref.isWhole_whole _) arg1 harg1 hArr (Memref.isWhole_whole _) arg3 harg3
      oArr (Memref.isWhole_whole _) arg5 harg5 yBuf (Memref.isWhole_whole _) cc0_scoped1 hBuf (Memref.isWhole_whole _) cc0_scoped3
      oBuf (Memref.isWhole_whole _) cc0_scoped5

/-- The weights the body loads. -/
def fLoad (wf : Buf (Elt F) (arg1.view.loc (c : Thread nD τ))) : S2048x1024.Idx → Elt F .f32 :=
  View.readAt (Elt F) arg1.view (Rect.unit (s := S2048x1024) ![0, 0] S2048x1024.size (by decide)).toLoadRect wf

/-- The rings at rest. -/
def atRest : sProp 𝕄 :=
  iprop((yFree c 0 ∗ yFree c 1 ∗ yFree c 2) ∗ (hFree c 0 ∗ hFree c 1 ∗ hFree c 2) ∗ oFree c 0 ∗ oFree c 1)

/-- After the last trip: every block fetched is home again, and the last tile is on its way. -/
theorem resAt_end (R : Buf (Elt F) ((c : Thread nD τ).loc main_v1))
    (wb : Buf (Elt F) (arg5.view.loc (c : Thread nD τ))) (gb : Buf (Elt F) (arg3.view.loc (c : Thread nD τ)))
    (k : ℕ) (hk : k = 32) :
    resAt c Y H O₀ R arg3 arg5 wb gb k
      ⊢ (iprop((arg5.view.loc (c : Thread nD τ) ↦[arg5.view.set]{fullShare} wb) ∗ (arg3.view.loc (c : Thread nD τ) ↦[arg3.view.set]{fullShare} gb)
        ∗ (∃ W, owes (c : Thread nD τ) 0 W)
        ∗ ((yFree c 0 ∗ yFree c 1 ∗ yFree c 2) ∗ bigSep Finset.univ (fun b => yHome c Y b))
        ∗ ((hFree c 0 ∗ hFree c 1 ∗ hFree c 2) ∗ bigSep Finset.univ (fun b => hHome c H b))
        ∗ oFree c 0 ∗ (∃ f, oFlight c R 1 31 f) ∗ bigSep (Ring.behindSet 1 32) (fun b => oHome c R b)) : sProp 𝕄) := by
  subst hk
  unfold resAt
  iintro ⟨HW, HG, Ho, HY, HH, HO⟩
  ihave HY := (reads_end (yFree c) (yFly c Y) (fun b => yHome c Y b)) $$ HY
  ihave HH := (reads_end (hFree c) (hFly c H) (fun b => hHome c H b)) $$ HH
  ihave HO := (writes_end (oFree c) (oFly c R) (fun b => oHome c O₀ b) (fun b => oHome c R b)) $$ HO
  icases HY with ⟨HY0, HY1, HY2, HYh⟩
  icases HH with ⟨HH0, HH1, HH2, HHh⟩
  icases HO with ⟨HO0, HO1, HOh⟩
  isplitl [HW]; · iexact HW
  isplitl [HG]; · iexact HG
  isplitl [Ho]; · iexact Ho
  isplitl [HY0 HY1 HY2 HYh]
  · isplitl [HY0 HY1 HY2]
    · isplitl [HY0]; · iexact HY0
      isplitl [HY1]; · iexact HY1
      iexact HY2
    iexact HYh
  isplitl [HH0 HH1 HH2 HHh]
  · isplitl [HH0 HH1 HH2]
    · isplitl [HH0]; · iexact HH0
      isplitl [HH1]; · iexact HH1
      iexact HH2
    iexact HHh
  isplitl [HO0]; · iexact HO0
  isplitl [HO1]; · unfold oFly; iexact HO1
  iexact HOh

set_option backward.proofsInPublic true in
attribute [local irreducible] resAt in
theorem bodyRun (wf : Buf (Elt F) (arg1.view.loc (c : Thread nD τ))) (gb : Buf (Elt F) (arg3.view.loc (c : Thread nD τ))) (W)
    (Q : PUnit → sProp 𝕄) :
    iprop(((arg1.view.loc (c : Thread nD τ) ↦[arg1.view.set]{fullShare} wf) ∗ (arg3.view.loc (c : Thread nD τ) ↦[arg3.view.set]{fullShare} gb)
      ∗ (∃ f, arg5.view.loc (c : Thread nD τ) ↦[arg5.view.set]{fullShare} f) ∗ owes (c : Thread nD τ) 0 W
      ∗ bigSep Finset.univ (fun b => yHome c Y b) ∗ bigSep Finset.univ (fun b => hHome c H b) ∗ bigSep Finset.univ (fun b => oHome c O₀ b) ∗ atRest c)
      ∗ (((arg1.view.loc (c : Thread nD τ) ↦[arg1.view.set]{fullShare} wf) ∗ (arg3.view.loc (c : Thread nD τ) ↦[arg3.view.set]{fullShare} gb)
      ∗ (∃ f, arg5.view.loc (c : Thread nD τ) ↦[arg5.view.set]{fullShare} f) ∗ (∃ W, owes (c : Thread nD τ) 0 W)
      ∗ bigSep Finset.univ (fun b => yHome c Y b) ∗ bigSep Finset.univ (fun b => hHome c H b)
      ∗ bigSep Finset.univ (fun b => oHome c (result c Y H (k0_pay2 (fLoad c arg1 wf)) (gLoad c arg3 gb)) b) ∗ atRest c) -∗ Q ⟨⟩))
    ⊢ wp frame (wpE (defs₀ (F := F)) 𝒱₀ (c : Thread nD τ) none) Set.univ (bodyG (F := F) arg1 harg1 arg3 harg3 arg5 harg5) Q := by
  have k5 := chk5_end
  have k6 := chk6_end
  unfold atRest yFree hFree oFree
  rw [reads_start_homes (fun b => yHome c Y b), reads_start_homes (fun b => hHome c H b)]
  iintro ⟨⟨HF, HG, ⟨%wj, HW⟩, Ho, ⟨HYh0, HYh1, HYh⟩, ⟨HHh0, HHh1, HHh⟩, HOh, ⟨⟨⟨%f0, HY0⟩, HYc0⟩, ⟨⟨%f1, HY1⟩, HYc1⟩, HY2⟩, ⟨⟨⟨%e0, HH0⟩, HHc0⟩, ⟨⟨%e1, HH1⟩, HHc1⟩, HH2⟩, HO0, HO1⟩, Hk⟩
  dsimp only [bodyG]
  sl_unfold [cc0_outproj]
  sl_exec
  ihave HR : (resAt c Y H O₀ (resultG c Y H arg3 arg5 (arg5.view.writes (Elt F) arg5.view.junk (bodyRun.sl.HW_1 c arg1 wf)) gb) arg3 arg5
      (arg5.view.writes (Elt F) arg5.view.junk (bodyRun.sl.HW_1 c arg1 wf)) gb 0 : sProp 𝕄) $$ [HW HG Ho HYh HHh HOh HY2 HH2 HO0 HO1 HYc0 HHc0 HYc1 HHc1]
  · unfold resAt
    isplitl [HW]; · iexact HW
    isplitl [HG]; · iexact HG
    isplitl [Ho]; · iexists W; iexact Ho
    isplitl [HYh HYc0 HYc1 HY2]
    · iapply (entails_of_eq (reads_start (yFree c) (yFly c Y) (fun b => yHome c Y b)))
      unfold yFly yFree
      isplitl [HYc0]; · iexists f0; iexact HYc0
      isplitl [HYc1]; · iexists f1; iexact HYc1
      isplitl [HY2]; · iexact HY2
      iexact HYh
    isplitl [HHh HHc0 HHc1 HH2]
    · iapply (entails_of_eq (reads_start (hFree c) (hFly c H) (fun b => hHome c H b)))
      unfold hFly hFree
      isplitl [HHc0]; · iexists e0; iexact HHc0
      isplitl [HHc1]; · iexists e1; iexact HHc1
      isplitl [HH2]; · iexact HH2
      iexact HHh
    iapply (writes_start (oFree c))
    unfold oFree
    isplitl [HO0]; · iexact HO0
    isplitl [HO1]; · iexact HO1
    iexact HOh
  sl_exec
  ihave HR := (resAt_end c Y H O₀ arg3 arg5 _ _ gb (Scf.trips k0_t1_loop.lb k0_t1_loop.ub k0_t1_loop.st) trips_eq) $$ HR
  icases HR with ⟨HW, HG, Ho, ⟨⟨HY0, HY1, HY2⟩, HYh⟩, ⟨⟨HH0, HH1, HH2⟩, HHh⟩, HO0, ⟨%g1, HO1⟩, HOh⟩
  icases Ho with ⟨%W', Ho⟩
  sl_exec
  sl_step
  iapply Hk
  isplitl [HF]; · iexact HF
  isplitl [HG]; · iexact HG
  isplitl [HW]; · iexists _; iexact HW
  isplitl [Ho]; · iexists _; iexact Ho
  rw [← reads_start_homes (fun b => yHome c Y b), ← reads_start_homes (fun b => hHome c H b)]
  isplitl [HYh]; · iexact HYh
  isplitl [HHh]; · iexact HHh
  isplitl [HOh HO1_dst]
  · have ew : wLoad c arg5 (arg5.view.writes (Elt F) arg5.view.junk (bodyRun.sl.HW_1 c arg1 wf)) = k0_pay2 (fLoad c arg1 wf) :=
      View.readAt_writes_full _ _ _ _ _ _
    rw [← ew]
    iapply (entails_of_eq (writes_all (fun b => oHome c _ b)))
    isplitl [HO1_dst]; · iexact HO1_dst
    iexact HOh
  isplitl [HY0 HY1 HY2]
  · unfold yFree
    isplitl [HY0]; · iexact HY0
    isplitl [HY1]; · iexact HY1
    iexact HY2
  isplitl [HH0 HH1 HH2]
  · unfold hFree
    isplitl [HH0]; · iexact HH0
    isplitl [HH1]; · iexact HH1
    iexact HH2
  isplitl [HO0]; · unfold oFree; iexact HO0
  isplitl [HO1_src]; · iexists _; iexact HO1_src
  iexact HO1

end Body
end Cert.Proof.Out

end
-- ==== Proof.Launch.lean ====
/- The call launched: the arrays are handed to the body in blocks, the rings in slots, and both are put together again
   after it; the run then says what every buffer of @main holds at the end. -/
module

public import proofs.«01_k».proof.Proof.Body
public import proofs.«01_k».proof.Proof.Gen.KernelIdeal.Frame
public import Idealize.ShloMosaic.Lib.Pipeline.FrameValue

@[expose] public section

set_option maxRecDepth 16384

noncomputable section

namespace Cert.Proof.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ

/-! ## The pieces' element sets -/

abbrev ySet (b : Fin 32) : Finset S32768x2048.Idx := (Rect.unit (s := S32768x2048) (rowOff b) S1024x2048.size (rowOff_inb_y b)).set
abbrev hSet (b : Fin 32) : Finset S32768x1024.Idx := (Rect.unit (s := S32768x1024) (rowOff b) S1024x1024.size (rowOff_inb_h b)).set
abbrev ySlotSet (s : Fin 3) : Finset S3x1024x2048.Idx := (Rect.unit (s := S3x1024x2048) (off3 s) S1x1024x2048.size (off3_inb_y s)).set
abbrev hSlotSet (s : Fin 3) : Finset S3x1024x1024.Idx := (Rect.unit (s := S3x1024x1024) (off3 s) S1x1024x1024.size (off3_inb_h s)).set
abbrev oSlotSet (s : Fin 2) : Finset S2x1024x1024.Idx := (Rect.unit (s := S2x1024x1024) (off2 s) S1x1024x1024.size (off2_inb s)).set

theorem ySet_disjoint : ∀ b b', b ≠ b' → Disjoint (ySet b) (ySet b') :=
  Ring.lead_disjoint (s := S32768x2048) 0 1024 _ _ rowOff_inb_y (fun _ => rfl) rfl
theorem ySet_cover : Finset.univ.biUnion ySet = Finset.univ :=
  Ring.lead_cover (s := S32768x2048) 0 1024 _ _ rowOff_inb_y (fun _ => rfl) (by decide +kernel) rfl (by decide +kernel) rfl
theorem hSet_disjoint : ∀ b b', b ≠ b' → Disjoint (hSet b) (hSet b') :=
  Ring.lead_disjoint (s := S32768x1024) 0 1024 _ _ rowOff_inb_h (fun _ => rfl) rfl
theorem hSet_cover : Finset.univ.biUnion hSet = Finset.univ :=
  Ring.lead_cover (s := S32768x1024) 0 1024 _ _ rowOff_inb_h (fun _ => rfl) (by decide +kernel) rfl (by decide +kernel) rfl
theorem ySlotSet_disjoint : ∀ b b', b ≠ b' → Disjoint (ySlotSet b) (ySlotSet b') :=
  Ring.lead_disjoint (s := S3x1024x2048) 0 1 _ _ off3_inb_y (by decide +kernel) rfl
theorem ySlotSet_cover : Finset.univ.biUnion ySlotSet = Finset.univ :=
  Ring.lead_cover (s := S3x1024x2048) 0 1 _ _ off3_inb_y (by decide +kernel) (by decide +kernel) rfl (by decide +kernel) rfl
theorem hSlotSet_disjoint : ∀ b b', b ≠ b' → Disjoint (hSlotSet b) (hSlotSet b') :=
  Ring.lead_disjoint (s := S3x1024x1024) 0 1 _ _ off3_inb_h (by decide +kernel) rfl
theorem hSlotSet_cover : Finset.univ.biUnion hSlotSet = Finset.univ :=
  Ring.lead_cover (s := S3x1024x1024) 0 1 _ _ off3_inb_h (by decide +kernel) (by decide +kernel) rfl (by decide +kernel) rfl
theorem oSlotSet_disjoint : ∀ b b', b ≠ b' → Disjoint (oSlotSet b) (oSlotSet b') :=
  Ring.lead_disjoint (s := S2x1024x1024) 0 1 _ _ off2_inb (by decide +kernel) rfl
theorem oSlotSet_cover : Finset.univ.biUnion oSlotSet = Finset.univ :=
  Ring.lead_cover (s := S2x1024x1024) 0 1 _ _ off2_inb (by decide +kernel) (by decide +kernel) rfl (by decide +kernel) rfl

section Pieces
variable (c : Dev nD)

/-- `y` whole is its blocks at home; likewise `h` and the result. -/
theorem y_homes (Y : Buf (Elt F) ((c : Thread nD τ).loc main_arg0)) :
    (((c : Thread nD τ).loc main_arg0) ↦{fullShare} Y : sProp 𝕄) = bigSep Finset.univ (fun b => yHome c Y b) := by
  rw [Ring.pointsTo_blocks (ℓ := (c : Thread nD τ).loc main_arg0) ySet ySet_disjoint ySet_cover]
  exact bigSep_congr fun b _ => congrArg (fun S => (((c : Thread nD τ).loc main_arg0) ↦[S]{fullShare} Y : sProp 𝕄)) (View.set_slice_whole _ _).symm
theorem h_homes (H : Buf (Elt F) ((c : Thread nD τ).loc main_arg2)) :
    (((c : Thread nD τ).loc main_arg2) ↦{fullShare} H : sProp 𝕄) = bigSep Finset.univ (fun b => hHome c H b) := by
  rw [Ring.pointsTo_blocks (ℓ := (c : Thread nD τ).loc main_arg2) hSet hSet_disjoint hSet_cover]
  exact bigSep_congr fun b _ => congrArg (fun S => (((c : Thread nD τ).loc main_arg2) ↦[S]{fullShare} H : sProp 𝕄)) (View.set_slice_whole _ _).symm
theorem o_homes (O : Buf (Elt F) ((c : Thread nD τ).loc main_v1)) :
    (((c : Thread nD τ).loc main_v1) ↦{fullShare} O : sProp 𝕄) = bigSep Finset.univ (fun b => oHome c O b) := by
  rw [Ring.pointsTo_blocks (ℓ := (c : Thread nD τ).loc main_v1) hSet hSet_disjoint hSet_cover]
  exact bigSep_congr fun b _ => congrArg (fun S => (((c : Thread nD τ).loc main_v1) ↦[S]{fullShare} O : sProp 𝕄)) (View.set_slice_whole _ _).symm

/-- The rounded weights' buffer, named by its whole view. -/
theorem w_eq : iprop(∃ f : Buf (Elt F) ((c : Thread nD τ).loc cc0_scratch0), ((c : Thread nD τ).loc cc0_scratch0) ↦{fullShare} f)
    = (iprop(∃ f, wBuf.view.loc (c : Thread nD τ) ↦[wBuf.view.set]{fullShare} f) : sProp 𝕄) := by
  rw [View.set_whole]

theorem ySlotP_eq (s : Fin 3) (f) : ySlotP c s f = (((c : Thread nD τ).loc cc0_scoped0) ↦[ySlotSet s]{fullShare} f : sProp 𝕄) :=
  congrArg (fun S => (_ ↦[S]{fullShare} f : sProp 𝕄)) ((View.set_reshape _ _).trans (View.set_slice_whole _ _))
theorem hSlotP_eq (s : Fin 3) (f) : hSlotP c s f = (((c : Thread nD τ).loc cc0_scoped2) ↦[hSlotSet s]{fullShare} f : sProp 𝕄) :=
  congrArg (fun S => (_ ↦[S]{fullShare} f : sProp 𝕄)) ((View.set_reshape _ _).trans (View.set_slice_whole _ _))
theorem oSlotP_eq (s : Fin 2) (f) : oSlotP c s f = (((c : Thread nD τ).loc cc0_scoped4) ↦[oSlotSet s]{fullShare} f : sProp 𝕄) :=
  congrArg (fun S => (_ ↦[S]{fullShare} f : sProp 𝕄)) ((View.set_reshape _ _).trans (View.set_slice_whole _ _))

/-- A ring whole is its slots, each at some contents; and back. -/
theorem y_split : iprop(∃ f : Buf (Elt F) ((c : Thread nD τ).loc cc0_scoped0), ((c : Thread nD τ).loc cc0_scoped0) ↦{fullShare} f)
    ⊢ (iprop((∃ f, ySlotP c 0 f) ∗ (∃ f, ySlotP c 1 f) ∗ ∃ f, ySlotP c 2 f) : sProp 𝕄) :=
  Ring.slots3_split (ℓ := (c : Thread nD τ).loc cc0_scoped0) (q := fullShare) ySlotSet ySlotSet_disjoint ySlotSet_cover _ _ _ (ySlotP_eq c 0) (ySlotP_eq c 1) (ySlotP_eq c 2)
theorem y_join : iprop((∃ f, ySlotP c 0 f) ∗ (∃ f, ySlotP c 1 f) ∗ ∃ f, ySlotP c 2 f)
    ⊢ (iprop(∃ f : Buf (Elt F) ((c : Thread nD τ).loc cc0_scoped0), ((c : Thread nD τ).loc cc0_scoped0) ↦{fullShare} f) : sProp 𝕄) :=
  Ring.slots3_join (ℓ := (c : Thread nD τ).loc cc0_scoped0) (q := fullShare) ySlotSet ySlotSet_disjoint ySlotSet_cover _ _ _ (ySlotP_eq c 0) (ySlotP_eq c 1) (ySlotP_eq c 2)
theorem h_split : iprop(∃ f : Buf (Elt F) ((c : Thread nD τ).loc cc0_scoped2), ((c : Thread nD τ).loc cc0_scoped2) ↦{fullShare} f)
    ⊢ (iprop((∃ f, hSlotP c 0 f) ∗ (∃ f, hSlotP c 1 f) ∗ ∃ f, hSlotP c 2 f) : sProp 𝕄) :=
  Ring.slots3_split (ℓ := (c : Thread nD τ).loc cc0_scoped2) (q := fullShare) hSlotSet hSlotSet_disjoint hSlotSet_cover _ _ _ (hSlotP_eq c 0) (hSlotP_eq c 1) (hSlotP_eq c 2)
theorem h_join : iprop((∃ f, hSlotP c 0 f) ∗ (∃ f, hSlotP c 1 f) ∗ ∃ f, hSlotP c 2 f)
    ⊢ (iprop(∃ f : Buf (Elt F) ((c : Thread nD τ).loc cc0_scoped2), ((c : Thread nD τ).loc cc0_scoped2) ↦{fullShare} f) : sProp 𝕄) :=
  Ring.slots3_join (ℓ := (c : Thread nD τ).loc cc0_scoped2) (q := fullShare) hSlotSet hSlotSet_disjoint hSlotSet_cover _ _ _ (hSlotP_eq c 0) (hSlotP_eq c 1) (hSlotP_eq c 2)
theorem o_split : iprop(∃ f : Buf (Elt F) ((c : Thread nD τ).loc cc0_scoped4), ((c : Thread nD τ).loc cc0_scoped4) ↦{fullShare} f)
    ⊢ (iprop((∃ f, oSlotP c 0 f) ∗ ∃ f, oSlotP c 1 f) : sProp 𝕄) :=
  Ring.slots2_split (ℓ := (c : Thread nD τ).loc cc0_scoped4) (q := fullShare) oSlotSet oSlotSet_disjoint oSlotSet_cover _ _ (oSlotP_eq c 0) (oSlotP_eq c 1)
theorem o_join : iprop((∃ f, oSlotP c 0 f) ∗ ∃ f, oSlotP c 1 f)
    ⊢ (iprop(∃ f : Buf (Elt F) ((c : Thread nD τ).loc cc0_scoped4), ((c : Thread nD τ).loc cc0_scoped4) ↦{fullShare} f) : sProp 𝕄) :=
  Ring.slots2_join (ℓ := (c : Thread nD τ).loc cc0_scoped4) (q := fullShare) oSlotSet oSlotSet_disjoint oSlotSet_cover _ _ (oSlotP_eq c 0) (oSlotP_eq c 1)

/-- The rings whole and their eight cells at zero. -/
def rings : sProp 𝕄 :=
  iprop((∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ (∃ f : Buf (Elt F) ((c : Thread nD τ).loc cc0_scoped4), ((c : Thread nD τ).loc cc0_scoped4) ↦{fullShare} f)
    ∗ (yCell c 0 ∗ yCell c 1 ∗ yCell c 2) ∗ (hCell c 0 ∗ hCell c 1 ∗ hCell c 2) ∗ oCell c 0 ∗ oCell c 1)

theorem rings_split : rings (F := F) c ⊢ atRest c := by
  unfold rings atRest yFree hFree oFree
  iintro ⟨HY, HH, HO, ⟨c0, c1, c2⟩, ⟨d0, d1, d2⟩, e0, e1⟩
  ihave HY := (y_split c) $$ HY
  ihave HH := (h_split c) $$ HH
  ihave HO := (o_split c) $$ HO
  icases HY with ⟨y0, y1, y2⟩
  icases HH with ⟨h0, h1, h2⟩
  icases HO with ⟨o0, o1⟩
  isplitl [y0 y1 y2 c0 c1 c2]
  · isplitl [y0 c0]; · isplitl [y0]; · iexact y0
                       iexact c0
    isplitl [y1 c1]; · isplitl [y1]; · iexact y1
                       iexact c1
    isplitl [y2]; · iexact y2
    iexact c2
  isplitl [h0 h1 h2 d0 d1 d2]
  · isplitl [h0 d0]; · isplitl [h0]; · iexact h0
                       iexact d0
    isplitl [h1 d1]; · isplitl [h1]; · iexact h1
                       iexact d1
    isplitl [h2]; · iexact h2
    iexact d2
  isplitl [o0 e0]; · isplitl [o0]; · iexact o0
                     iexact e0
  isplitl [o1]; · iexact o1
  iexact e1

theorem rings_join : atRest (F := F) c ⊢ rings c := by
  unfold rings atRest yFree hFree oFree
  iintro ⟨⟨⟨y0, c0⟩, ⟨y1, c1⟩, ⟨y2, c2⟩⟩, ⟨⟨h0, d0⟩, ⟨h1, d1⟩, ⟨h2, d2⟩⟩, ⟨o0, e0⟩, ⟨o1, e1⟩⟩
  isplitl [y0 y1 y2]
  · iapply (y_join c)
    isplitl [y0]; · iexact y0
    isplitl [y1]; · iexact y1
    iexact y2
  isplitl [h0 h1 h2]
  · iapply (h_join c)
    isplitl [h0]; · iexact h0
    isplitl [h1]; · iexact h1
    iexact h2
  isplitl [o0 o1]
  · iapply (o_join c)
    isplitl [o0]; · iexact o0
    iexact o1
  isplitl [c0 c1 c2]
  · isplitl [c0]; · iexact c0
    isplitl [c1]; · iexact c1
    iexact c2
  isplitl [d0 d1 d2]
  · isplitl [d0]; · iexact d0
    isplitl [d1]; · iexact d1
    iexact d2
  isplitl [e0]; · iexact e0
  iexact e1

end Pieces

/-! ## The launch's data -/

variable (m : (ℓ : Loc nD τ sig) → Buf (Elt F) ℓ) (ρ : Dev nD → PrngReg)

/-- The rings' cells. -/
abbrev osem0 : Fin 8 → SemLoc sig := fun j =>
  (![SemLoc.dma (ySem 0).sem, SemLoc.dma (ySem 1).sem, SemLoc.dma (ySem 2).sem, SemLoc.dma (hSem 0).sem, SemLoc.dma (hSem 1).sem,
    SemLoc.dma (hSem 2).sem, SemLoc.dma (oSem 0).sem, SemLoc.dma (oSem 1).sem] : Fin 8 → SemLoc sig) j
theorem ownSemFacts0 : Pipeline.OwnSemFacts spec0 osem0 := by decide
theorem ownSems00_eq (c : Dev nD) :
    (Pipeline.ownSems0 (Ix := Unit) (Name := ℕ) (U := UU) (Lvl := ℕ) (Val := Elt F) (τ := τ) osem0 c : sProp 𝕄)
      = iprop(yCell c 0 ∗ yCell c 1 ∗ yCell c 2 ∗ hCell c 0 ∗ hCell c 1 ∗ hCell c 2 ∗ oCell c 0 ∗ oCell c 1) := by
  rw [Pipeline.ownSems0_eq_of_list c osem0 [0, 1, 2, 3, 4, 5, 6, 7] (by decide) (by decide)]; rfl

/-- The arrays the body reads by its own transfers, and the one it writes. -/
def H0 : Finset (Ref sig .tc) := {main_arg0, main_arg2}
def R0 : Finset (Ref sig .tc) := {main_v1}
theorem H0_sub : H0 ⊆ Pipeline.restRefs sig spec0 := by decide
theorem R0_sub : R0 ⊆ Pipeline.restRefs sig spec0 \ H0 := by decide

theorem read_eq (c : Dev nD) :
    (bigSep H0 (fun b => ((c.tc : Thread nD τ).loc b) ↦{fullShare} V m c b) : sProp 𝕄)
      = iprop((((c : Thread nD τ).loc main_arg0) ↦{fullShare} V m c main_arg0) ∗ (((c : Thread nD τ).loc main_arg2) ↦{fullShare} V m c main_arg2)) := by
  rw [BI.bigSep_eq_bigSepL_of_eq [main_arg0, main_arg2] (by decide) (by decide)]; rfl
theorem written_eq (c : Dev nD) (W : (b : Ref sig .tc) → Buf (Elt F) ((c.tc : Thread nD τ).loc b)) :
    (Pipeline.routed R0 c W : sProp 𝕄) = (((c : Thread nD τ).loc main_v1) ↦{fullShare} W main_v1) := by
  unfold Pipeline.routed; rw [BI.bigSep_eq_bigSepL_of_eq [main_v1] (by decide) (by decide)]; rfl

/-- What the two staged windows hold: the weights, and the gain as one row. -/
def wIn (c : Dev nD) : S2048x1024.Idx → Elt F .f32 := iblk m c 0 t0_0
def gIn (c : Dev nD) : S1x1024.Idx → Elt F .f32 := iblk m c 1 t0_0

/-- The result the run leaves. -/
def outG (c : Dev nD) : Buf (Elt F) ((c : Thread nD τ).loc main_v1) :=
  result c (V m c main_arg0) (V m c main_arg2) (k0_pay2 (wIn m c)) (gIn m c)
/-- Every buffer's contents after the region: `outG` in the result's, the launch contents elsewhere. -/
def G (c : Dev nD) : (b : Ref sig .tc) → Buf (Elt F) ((c.tc : Thread nD τ).loc b) :=
  Function.update (V m c) main_v1 (outG m c)
theorem G_out (c : Dev nD) : G m c main_v1 = outG m c := Function.update_self ..

theorem fLoad_rep (c : Dev nD) (M : Memref sig .tc .vmem S2048x1024 .f32) (d : S2048x1024.Idx → Elt F .f32) :
    fLoad c M (M.view.rep d) = d := by
  unfold fLoad
  exact (View.readAt_full _ _ _).trans (View.read_rep _ _)
theorem gLoad_rep (c : Dev nD) (M : Memref sig .tc .vmem S1x1024 .f32) (d : S1x1024.Idx → Elt F .f32) :
    gLoad c M (M.view.rep d) = d := by
  unfold gLoad
  exact (View.readAt_full _ _ _).trans (View.read_rep _ _)

/-- The region's invariant: everything but the staged windows, the result at `O`. -/
def Inv (c : Dev nD) (O : Buf (Elt F) ((c : Thread nD τ).loc main_v1)) : sProp 𝕄 :=
  iprop((∃ f, wBuf.view.loc (c : Thread nD τ) ↦[wBuf.view.set]{fullShare} f)
    ∗ (∃ r, prngReg c r) ∗ atRest c ∗ bigSep Finset.univ (fun b => yHome c (V m c main_arg0) b)
    ∗ bigSep Finset.univ (fun b => hHome c (V m c main_arg2) b) ∗ bigSep Finset.univ (fun b => oHome c O b))

theorem inv_in (c : Dev nD) (W : (c : Dev nD) → (b : Ref sig .tc) → Buf (Elt F) ((c.tc : Thread nD τ).loc b)) :
    Pipeline.ΦDRG osem0 spec0 H0 R0 (V m) W c ⊢ Inv m c (W c main_v1) := by
  rw [Pipeline.ΦDRG_eq, scopedRest0_eq, ownSems00_eq, read_eq, written_eq, y_homes, h_homes, o_homes, w_eq]
  unfold Inv
  iintro ⟨⟨HW, HY, HH, HO⟩, HP, ⟨c0, c1, c2, d0, d1, d2, e0, e1⟩, ⟨Hy, Hh⟩, Ho⟩
  isplitl [HW]; · iexact HW
  isplitl [HP]; · iexact HP
  isplitl [HY HH HO c0 c1 c2 d0 d1 d2 e0 e1]
  · iapply (rings_split c)
    unfold rings
    isplitl [HY]; · iexact HY
    isplitl [HH]; · iexact HH
    isplitl [HO]; · iexact HO
    isplitl [c0 c1 c2]
    · isplitl [c0]; · iexact c0
      isplitl [c1]; · iexact c1
      iexact c2
    isplitl [d0 d1 d2]
    · isplitl [d0]; · iexact d0
      isplitl [d1]; · iexact d1
      iexact d2
    isplitl [e0]; · iexact e0
    iexact e1
  isplitl [Hy]; · iexact Hy
  isplitl [Hh]; · iexact Hh
  iexact Ho

theorem inv_out (c : Dev nD) (W : (c : Dev nD) → (b : Ref sig .tc) → Buf (Elt F) ((c.tc : Thread nD τ).loc b)) :
    Inv m c (W c main_v1) ⊢ Pipeline.ΦDRG osem0 spec0 H0 R0 (V m) W c := by
  rw [Pipeline.ΦDRG_eq, scopedRest0_eq, ownSems00_eq, read_eq, written_eq, y_homes, h_homes, o_homes, w_eq]
  unfold Inv
  iintro ⟨HW, HP, HR, Hy, Hh, Ho⟩
  ihave HR := (rings_join c) $$ HR
  unfold rings
  icases HR with ⟨HY, HH, HO, ⟨c0, c1, c2⟩, ⟨d0, d1, d2⟩, e0, e1⟩
  isplitl [HW HY HH HO]
  · isplitl [HW]; · iexact HW
    isplitl [HY]; · iexact HY
    isplitl [HH]; · iexact HH
    iexact HO
  isplitl [HP]; · iexact HP
  isplitl [c0 c1 c2 d0 d1 d2 e0 e1]
  · isplitl [c0]; · iexact c0
    isplitl [c1]; · iexact c1
    isplitl [c2]; · iexact c2
    isplitl [d0]; · iexact d0
    isplitl [d1]; · iexact d1
    isplitl [d2]; · iexact d2
    isplitl [e0]; · iexact e0
    iexact e1
  isplitl [Hy Hh]
  · isplitl [Hy]; · iexact Hy
    iexact Hh
  iexact Ho

/-- The pipeline's data on core `c`: the windows keep what was staged; the result holds its launch contents before the one
    point and `outG` after it. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
  Φ k := Inv m c (if k.val = 0 then V m c main_v1 else outG m c)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl

theorem inv_start (c : Dev nD) (t : Fin cfg0.N) : (dats m 0 c).Φ t.castSucc = Inv m c (V m c main_v1) := by
  rw [fin_N0 t]; rfl
theorem inv_stop (c : Dev nD) (t : Fin cfg0.N) : (dats m 0 c).Φ t.succ = Inv m c (outG m c) := by
  rw [fin_N0 t]; rfl

theorem defs_tc : (defs₀ (F := F)) .tc cfg0.body
    = fun a => bodyG (win0_0.stage (a.2 0)) (hstage0_0 0) (win0_1.stage (a.2 1)) (hstage0_1 0) wBuf (Memref.isWhole_whole _) := rfl
theorem prog_eq (t : Fin cfg0.N) : (defs₀ (F := F)) .tc cfg0.body (cfg0.bodyArgs t (cfg0.slots t))
    = bodyG (win0_0.stage (cfg0.slots t 0)) (hstage0_0 0) (win0_1.stage (cfg0.slots t 1)) (hstage0_1 0) wBuf (Memref.isWhole_whole _) :=
  (congrFun defs_tc _).trans rfl

set_option maxHeartbeats 1000000 in
set_option backward.isDefEq.respectTransparency.types false in
/-- The body keeps its obligation: it leaves the windows as they were and the result at `outG`. -/
theorem body_obligation (c : Dev nD) : BodyObligation (dats (F := F) m 0 c) (defs₀ (F := F)) 𝒱₀ () Set.univ := fun t => by
  rw [bigSep_W0, bigSep_W0]
  dsimp only
  simp only [before_0, before_1, after_0, after_1]
  rw [inv_start, inv_stop]
  unfold Dat.owesAt Pipeline.owesWithin
  rw [show (dats m 0 c).owed t.castSucc = 0 from rfl, show (dats m 0 c).owed t.succ = 0 from rfl]
  have ht := fin_N0 t
  subst ht
  unfold owns Inv
  iintro ⟨⟨HS, HP, HR, HY, HH, HO⟩, ⟨%W, -, HW⟩, ⟨%d0, %f0, %hf0, H0⟩, ⟨%d1, %f1, %hf1, H1⟩⟩
  ihave H0' := (pointsTo_rep_entails (c : Thread nD τ) (win0_0.stage (cfg0.slots t0_0 0)) f0 fullShare) $$ H0
  ihave H1' := (pointsTo_rep_entails (c : Thread nD τ) (win0_1.stage (cfg0.slots t0_0 1)) f1 fullShare) $$ H1
  rw [hf0, hf1]
  sl_rw [prog_eq t0_0]
  have hb := bodyRun c (V m c main_arg0) (V m c main_arg2) (V m c main_v1) (win0_0.stage (cfg0.slots t0_0 0)) (hstage0_0 0)
    (win0_1.stage (cfg0.slots t0_0 1)) (hstage0_1 0) wBuf (Memref.isWhole_whole _)
    ((win0_0.stage (cfg0.slots t0_0 0)).view.rep (wIn m c)) ((win0_1.stage (cfg0.slots t0_0 1)).view.rep (gIn m c)) W
  rw [fLoad_rep, gLoad_rep] at hb
  iapply (hb _)
  isplitl [HS HR HY HH HO HW H0' H1']
  · isplitl [H0']; · iexact H0'
    isplitl [H1']; · iexact H1'
    isplitl [HS]; · iexact HS
    isplitl [HW]; · iexact HW
    isplitl [HY]; · iexact HY
    isplitl [HH]; · iexact HH
    isplitl [HO]; · iexact HO
    iexact HR
  iintro ⟨H0, H1, HS, ⟨%W', HW⟩, HY, HH, HO, HR⟩
  isplitl [HS HP HR HY HH HO]
  · isplitl [HS]; · iexact HS
    isplitl [HP]; · iexact HP
    isplitl [HR]; · iexact HR
    isplitl [HY]; · iexact HY
    isplitl [HH]; · iexact HH
    iexact HO
  isplitl [HW]
  · iexists W'; isplitr; · ipureintro; exact fun _ _ => Or.inl trivial
    iexact HW
  isplitl [H0]
  · iexists _; isplitr; · ipureintro; exact View.read_rep _ _
    iexact H0
  iexists _; isplitr; · ipureintro; exact View.read_rep _ _
  iexact H1

/-! ## The run -/

theorem hmain' : Pipeline.HMain (Ix := Unit) (Name := ℕ) (U := UU) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_region : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain' m) (hA := A_eq m) (G := G m)
    (hin := fun c => inv_in m c (V m)) (hout := fun c => by
      have h := inv_out m c (G m)
      rw [G_out] at h
      exact h)

/-- THE RUN, at any float values: the call ends, every argument as it was, the result at `outG`, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = outG m c)
      ∧ r.2.sem = fun _ => 0) :=
  (θ_run defs _ _).mono (fun _ h => ⟨fun c =>
    ⟨((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      (h.1.2 c main_v1 (by decide)).trans (G_out m c)⟩, h.2⟩) (run_region m ρ)

end Cert.Proof.Out

end
-- ==== Proof.Ref.lean ====
/- The reference's result, at exact arithmetic and element by element, and its frame. -/
module

public import proofs.«01_k».proof.Defs
public import proofs.«01_k».proof.Proof.Gen.ReferenceIdeal.Run
public import Idealize.ShloMosaic.Lib.Pointwise
public import Idealize.ShloMosaic.Lib.Quiescent

@[expose] public section

set_option maxRecDepth 16384

noncomputable section

namespace Cert.Proof

open Idealize.ShloMosaic Idealize.ShloMosaic.TcCoe Idealize.SL.Sem

/-- One element of the result: `s` is its row's sum of residual and projection, `g` its column's gain. -/
def normed (s : Fin 1024 → EReal) (g : EReal) (l : Fin 1024) : EReal :=
  s l * Ideal.rsqrt (Ideal.div (∑ k : Fin 1024, s k * s k) (Ideal.ofBits .f32 0x44800000#32) + Ideal.ofBits .f32 0x358637BD#32) * g

namespace Ref

open Cert.ReferenceIdeal Cert.ReferenceIdeal.Gen

/-- The residual plus the projection. -/
def summed (Y : FVec Ideal S32768x2048 .bf16) (W : FVec Ideal S2048x1024 .f32) (H : FVec Ideal S32768x1024 .f32) : FVec Ideal S32768x1024 .f32 :=
  addf H (Host.dotGeneral dot_S32768x2048_S2048x1024_S32768x1024_1_0_0_1_n_n none (extf .f32 Y bitsLt_bf16_f32 : FVec Ideal S32768x2048 .f32) W)

/-- The reference's operations, composed. -/
def refOut (Y : FVec Ideal S32768x2048 .bf16) (W : FVec Ideal S2048x1024 .f32) (H : FVec Ideal S32768x1024 .f32)
    (g : FVec Ideal S1024 .f32) : FVec Ideal S32768x1024 .f32 :=
  mulf (mulf (summed Y W H)
    (broadcastInDim S32768x1024 ![0, 1] bcast_S32768x1_S32768x1024_0_1 (Host.rsqrt (addf (Host.divf (broadcastInDim S32768x1 ![0] bcast_S32768_S32768x1_0
      (Host.reduceAdd (mulf (summed Y W H)
          (summed Y W H))
        (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem refOut_apply (Y : FVec Ideal S32768x2048 .bf16) (W : FVec Ideal S2048x1024 .f32) (H : FVec Ideal S32768x1024 .f32)
    (g : FVec Ideal S1024 .f32) (r : Fin 32768) (l : Fin 1024) :
    refOut Y W H g (ix2 r l) = normed (fun k => H (ix2 r k) + ∑ n : Fin 2048, Y (ix2 r n) * W (ix2 n k)) (g (ix1 l)) l := by
  unfold normed
  pointwise [refOut, summed]

/-- The reference's run: its result is `refOut` of its arguments, which it leaves as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
        = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold refOut summed
  exact Cert.ReferenceIdeal.Value.run m ρ

/-- The reference's frame: it declares no semaphore, so every counter is zero. -/
theorem frame_ref : Cert.quiescent_ReferenceIdeal := fun m ρ _ =>
  (θ_run (defs (F := Ideal)) _ _).mono (fun r h => ⟨fun c => (h c).2, sem_eq_zero_of_no_sems (by decide) r.2⟩) (run_ref m ρ)

end Ref

end Cert.Proof

end
-- ==== Proof.Value.lean ====
/- The tile's arithmetic at exact arithmetic: row by row it is the residual plus the projection, scaled by the reciprocal
   root of its mean square and by the gain; and the same of the reference's operations. -/
module

public import proofs.«01_k».proof.Proof.Launch
public import proofs.«01_k».proof.Proof.Ref
public import Idealize.ShloMosaic.Lib.Pointwise
public import Idealize.ShloMosaic.Lib.StableHlo.ReadAt

@[expose] public section

set_option maxRecDepth 16384

noncomputable section

namespace Cert.Proof.Out

open Cert.KernelIdeal Cert.KernelIdeal.Gen
open Idealize.ShloMosaic Idealize.ShloMosaic.TcCoe

/-- A tile's element is its row's sum, normalised. -/
theorem tile_apply (h : S1024x1024.Idx → Elt Ideal .f32) (y : S1024x2048.Idx → Elt Ideal .bf16)
    (w : S2048x1024.Idx → Elt Ideal .f32) (g : S1x1024.Idx → Elt Ideal .f32) (r l : Fin 1024) :
    tile h y (k0_pay2 w) g (ix2 r l)
      = normed (fun k => h (ix2 r k) + ∑ n : Fin 2048, y (ix2 r n) * w (ix2 n k)) (g (ix2 0 l)) l := by
  unfold normed
  pointwise [tile, k0_pay1, k0_pay2]

section Blocks
variable (c : Dev nD)
  (Y : Buf (Elt Ideal) ((c : Thread nD τ).loc main_arg0)) (H : Buf (Elt Ideal) ((c : Thread nD τ).loc main_arg2))

/-- Row `r` of block `b`. -/
abbrev rowAt (b : Fin 32) (r : Fin 1024) : Fin 32768 := ⟨1024 * b.val + r.val, by omega⟩

theorem yLoad_apply (b : Fin 32) (r : Fin 1024) (n : Fin 2048) : yLoad c Y b (ix2 r n) = Y (ix2 (rowAt b r) n) := by
  refine congrArg Y ?_
  funext a
  apply Fin.ext
  refine (ValueKit.rect_emb_unit_val (s := S32768x2048) (rowOff b) S1024x2048.size (rowOff_inb_y b) (ix2 r n) a).trans ?_
  match a with
  | ⟨0, _⟩ => rfl
  | ⟨1, _⟩ => exact Nat.zero_add _

theorem hLoad_apply (b : Fin 32) (r : Fin 1024) (l : Fin 1024) : hLoad c H b (ix2 r l) = H (ix2 (rowAt b r) l) := by
  refine congrArg H ?_
  funext a
  apply Fin.ext
  refine (ValueKit.rect_emb_unit_val (s := S32768x1024) (rowOff b) S1024x1024.size (rowOff_inb_h b) (ix2 r l) a).trans ?_
  match a with
  | ⟨0, _⟩ => rfl
  | ⟨1, _⟩ => exact Nat.zero_add _

/-- The result the blocks assemble to is the reference's. -/
theorem result_eq (W : S2048x1024.Idx → Elt Ideal .f32) (g1 : S1x1024.Idx → Elt Ideal .f32) (g : S1024.Idx → Elt Ideal .f32)
    (hg : ∀ l : Fin 1024, g1 (ix2 0 l) = g (ix1 l)) :
    result c Y H (k0_pay2 W) g1 = Ref.refOut Y W H g := by
  funext i
  obtain ⟨r, l, rfl⟩ : ∃ (r : Fin 32768) (l : Fin 1024), i = ix2 r l := ⟨i 0, i 1, eq_ix2 i⟩
  have hr : rowAt ⟨r.val / 1024, by omega⟩ ⟨r.val % 1024, Nat.mod_lt _ (by decide)⟩ = r := Fin.ext (by show 1024 * (r.val / 1024) + r.val % 1024 = r.val; omega)
  have e : result c Y H (k0_pay2 W) g1 (ix2 r l)
      = tileAt c Y H (k0_pay2 W) g1 ⟨r.val / 1024, by omega⟩ (ix2 ⟨r.val % 1024, Nat.mod_lt _ (by decide)⟩ l) := by
    unfold result assemble
    congr 1
    funext a
    match a with
    | ⟨0, _⟩ => rfl
    | ⟨1, _⟩ => rfl
  rw [e]
  unfold tileAt
  rw [tile_apply, Ref.refOut_apply, hg]
  refine congrArg (fun s => normed s (g (ix1 l)) l) (funext fun k => congrArg₂ (· + ·) ?_ (Finset.sum_congr rfl fun n _ => congrArg (· * W (ix2 n k)) ?_))
  · rw [hLoad_apply, hr]
  · rw [yLoad_apply, hr]

end Blocks

/-! ## The staged windows at launch -/

variable (m : (ℓ : Loc nD τ sig) → Buf (Elt Ideal) ℓ)

theorem wIn_eq (c : Dev nD) : wIn m c = m ((c : Thread nD τ).loc main_arg1) := by
  funext j
  refine Eq.trans ?_ (congrFun (V_main_arg1 m c) j)
  refine congrArg (V m c main_arg1) ?_
  funext a
  exact Fin.ext (win0_0.rect_emb_val_of_index_zero t0_0 a rfl j)

theorem gIn_eq (c : Dev nD) (l : Fin 1024) : gIn m c (ix2 0 l) = m ((c : Thread nD τ).loc main_arg3) (ix1 l) := by
  have e : gIn m c (ix2 0 l) = V m c main_v0 (ix2 0 l) := by
    refine congrArg (V m c main_v0) ?_
    funext a
    exact Fin.ext (win0_1.rect_emb_val_of_index_zero t0_0 a rfl (ix2 0 l))
  rw [e]
  unfold V
  after_reads_at

/-- The run's result is the reference's, of the arguments. -/
theorem outG_eq (c : Dev nD) :
    outG m c = Ref.refOut (m ((c : Thread nD τ).loc main_arg0)) (m ((c : Thread nD τ).loc main_arg1)) (m ((c : Thread nD τ).loc main_arg2)) (m ((c : Thread nD τ).loc main_arg3)) := by
  unfold outG
  rw [wIn_eq, V_main_arg0, V_main_arg2]
  exact result_eq c _ _ _ _ _ (gIn_eq m c)

end Cert.Proof.Out

end
-- ==== Proof.ProjTile.lean ====
/- The group projection's tile: the permuted copy of a token tile that the kernel keeps between grid points, and the
   output block a grid point computes from it; what the kernel's pieces hold is read against these two. -/
module

public import proofs.«01_k».proof.Proof.Gen.Kernel2Ideal.Frame.Runs
public import Idealize.ShloMosaic.Lib.Pipeline.Value
public import Idealize.ShloMosaic.Lib.WholeRead
public import Idealize.ShloMosaic.Lib.Pointwise

@[expose] public section

noncomputable section

namespace Cert.Proof.Proj

open Cert.Kernel2Ideal Cert.Kernel2Ideal.Gen
open Idealize.ShloMosaic Idealize.ShloMosaic.TcCoe

variable {F : FTy → Type} [FloatOps F] [Named F]

/-- The permutation matrix of the group of dilation 4. -/
abbrev perm4 : FVec F S256x256 .bf16 := k0_pay7 k0_pay6

/-- The permutation matrix of the group of dilation 16. -/
abbrev perm16 : FVec F S256x256 .bf16 :=
  k0_pay55 (iota .tc S256x256 32 [1] iota_S256x256_d1_w32) (k0_pay50 (iota .tc S256x256 32 [0] iota_S256x256_d0_w32))
    (k0_pay51 (iota .tc S256x256 32 [0] iota_S256x256_d0_w32)) (k0_pay52 (iota .tc S256x256 32 [0] iota_S256x256_d0_w32))
    (k0_pay53 (iota .tc S256x256 32 [0] iota_S256x256_d0_w32)) k0_pay54

/-- A permutation matrix times a run of 256 rows. -/
abbrev mixed (P : FVec F S256x256 .bf16) (v : FVec F S256x1024 .bf16) : FVec F S256x1024 .bf16 :=
  truncf .bf16 (matmul dot_S256x256_S256x1024_S256x1024_1_0_0_1_n_n none P v (constant S256x1024 .f32 0x00000000#32)) bitsLt_bf16_f32

/-- The `b`-th run of 256 rows of a tile. -/
def chunk (x0 : Vec F S2048x1024 .bf16) (b : Fin 8) : FVec F S256x1024 .bf16 :=
  fun z => x0 (ix2 ⟨256 * b.val + (z 0).val, by have := (z 0).isLt; have := b.isLt; simp at *; omega⟩ (z 1))

/-- Row `p`, column `l` of the permuted tile, when each run of 256 rows gives `n` rows to each residue. -/
def part (n : ℕ) (P : FVec F S256x256 .bf16) (x0 : Vec F S2048x1024 .bf16) (p : ℕ) (l : Fin 1024) : Elt F .bf16 :=
  mixed P (chunk x0 ⟨p % (8 * n) / n % 8, Nat.mod_lt _ (by decide)⟩) (ix2 ⟨(p / (8 * n) * n + p % n) % 256, Nat.mod_lt _ (by decide)⟩ l)

/-- What the kernel keeps of a tile: its rows in the order of each of the two dilated groups. -/
def scr (x0 : Vec F S2048x1024 .bf16) : Vec F S2x2048x1024 .bf16 := fun y =>
  if (y 0).val = 0 then part 64 perm4 x0 (y 1).val (y 2) else part 16 perm16 x0 (y 1).val (y 2)

section Pieces
variable {arg2 : Memref sig .tc .vmem S2048x1024 .bf16} (harg2 : arg2.IsWhole) (x0 : Vec F S2048x1024 .bf16)

/-- The rows loaded at `src` are a run. -/
theorem load_chunk {src : ℕ} (b : Fin 8) (hb : src = 256 * b.val) (h : ∀ a, ![src, 0] a + S256x1024.size a ≤ S2048x1024.size a) :
    View.readAt (Elt F) arg2.view (Rect.unit (s := S2048x1024) ![src, 0] S256x1024.size h).toLoadRect (harg2.unread x0) = chunk x0 b := by
  funext z
  rw [harg2.readAt_unread]
  refine congrArg x0 (funext fun a => Fin.ext ?_)
  match a with
  | ⟨0, _⟩ => show src + 1 * (z 0).val = 256 * b.val + (z 0).val; omega
  | ⟨1, _⟩ => show 0 + 1 * (z 1).val = (z 1).val; omega

/-- Rows of a permuted run, as the stores spell them. -/
theorem piece_part (n : ℕ) (P : FVec F S256x256 .bf16) {off src dst : ℕ}
    (h : ∀ a, ![src, 0] a + S256x1024.size a ≤ S2048x1024.size a)
    (hs : S256x1024.Slices ![off, 0] ⟨2, ![n, 1024]⟩) (hc : (⟨2, ![n, 1024]⟩ : Shape).ShapeCasts ⟨3, ![1, n, 1024]⟩)
    (hsrc : src % 256 = 0) (hsrc' : src < 2048) (u : Fin 1) (a : Fin n) (l : Fin 1024)
    (h1 : (dst + a.val) % (8 * n) / n = src / 256) (h2 : (dst + a.val) / (8 * n) * n + (dst + a.val) % n = off + a.val) (h3 : off + a.val < 256) :
    shapeCast ⟨3, ![1, n, 1024]⟩ (extractStridedSlice ⟨2, ![n, 1024]⟩ ![off, 0]
      (mixed P (View.readAt (Elt F) arg2.view (Rect.unit (s := S2048x1024) ![src, 0] S256x1024.size h).toLoadRect (harg2.unread x0))) hs) hc (ix3 u a l)
    = part n P x0 (dst + a.val) l := by
  rw [shapeCast_apply _ hc _ (ix2 a l) (by
    rw [Shape.rowMajor_val_three, Shape.rowMajor_val_two]
    show a.val * 1024 + l.val = (u.val * n + a.val) * 1024 + l.val
    rw [show u.val = 0 by omega, Nat.zero_mul, Nat.zero_add]), extractStridedSlice_apply _ _ _ _ (ix2 (⟨off + a.val, h3⟩ : Fin 256) l) (fun b => match b with
    | ⟨0, _⟩ => rfl
    | ⟨1, _⟩ => (Nat.zero_add _).symm), load_chunk harg2 x0 ⟨src / 256, by omega⟩ (by show src = 256 * (src / 256); omega)]
  unfold part
  have e1 : (⟨(dst + a.val) % (8 * n) / n % 8, Nat.mod_lt _ (by decide)⟩ : Fin 8) = ⟨src / 256, by omega⟩ := Fin.ext (by show (dst + a.val) % (8 * n) / n % 8 = src / 256; rw [h1]; omega)
  have e2 : (⟨((dst + a.val) / (8 * n) * n + (dst + a.val) % n) % 256, Nat.mod_lt _ (by decide)⟩ : Fin 256) = ⟨off + a.val, h3⟩ := Fin.ext (by show _ % 256 = off + a.val; rw [h2]; omega)
  rw [e1, e2]

/-- A store of the group of dilation 4 holds its rows of `scr`. -/
theorem piece4 {off src dst : ℕ} (h : ∀ a, ![src, 0] a + S256x1024.size a ≤ S2048x1024.size a)
    (hs : S256x1024.Slices ![off, 0] S64x1024) (hc : S64x1024.ShapeCasts S1x64x1024) (hd : ∀ a, ![0, dst, 0] a + S1x64x1024.size a ≤ S2x2048x1024.size a)
    (ho : off % 64 = 0 ∧ off < 256 ∧ src % 256 = 0 ∧ src < 2048 ∧ dst = off / 64 * 512 + src / 256 * 64) (x : S1x64x1024.Idx) :
    shapeCast S1x64x1024 (extractStridedSlice S64x1024 ![off, 0]
      (mixed perm4 (View.readAt (Elt F) arg2.view (Rect.unit (s := S2048x1024) ![src, 0] S256x1024.size h).toLoadRect (harg2.unread x0))) hs) hc x
    = scr x0 ((Rect.unit (s := S2x2048x1024) ![0, dst, 0] S1x64x1024.size hd).emb x) := by
  obtain ⟨o1, o2, o3, o4, o5⟩ := ho
  obtain ⟨u, a, l, rfl⟩ : ∃ (u : Fin 1) (a : Fin 64) (l : Fin 1024), x = ix3 u a l := ⟨x 0, x 1, x 2, eq_ix3 x⟩
  have ha := a.isLt
  have hu : u.val = 0 := by omega
  refine (piece_part harg2 x0 64 perm4 (dst := dst) h hs hc o3 o4 u a l (by omega) (by omega) (by omega)).trans ?_
  have e1 : ((Rect.unit (s := S2x2048x1024) ![0, dst, 0] S1x64x1024.size hd).emb (ix3 u a l) 1).val = dst + a.val := by
    show dst + 1 * a.val = _; omega
  have e2 : (Rect.unit (s := S2x2048x1024) ![0, dst, 0] S1x64x1024.size hd).emb (ix3 u a l) 2 = l := Fin.ext (by show 0 + 1 * l.val = _; omega)
  unfold scr
  rw [if_pos (by show 0 + 1 * u.val = 0; omega), e1, e2]

/-- A store of the group of dilation 16 holds its rows of `scr`. -/
theorem piece16 {off src dst : ℕ} (h : ∀ a, ![src, 0] a + S256x1024.size a ≤ S2048x1024.size a)
    (hs : S256x1024.Slices ![off, 0] S16x1024) (hc : S16x1024.ShapeCasts S1x16x1024) (hd : ∀ a, ![1, dst, 0] a + S1x16x1024.size a ≤ S2x2048x1024.size a)
    (ho : off % 16 = 0 ∧ off < 256 ∧ src % 256 = 0 ∧ src < 2048 ∧ dst = off / 16 * 128 + src / 256 * 16) (x : S1x16x1024.Idx) :
    shapeCast S1x16x1024 (extractStridedSlice S16x1024 ![off, 0]
      (mixed perm16 (View.readAt (Elt F) arg2.view (Rect.unit (s := S2048x1024) ![src, 0] S256x1024.size h).toLoadRect (harg2.unread x0))) hs) hc x
    = scr x0 ((Rect.unit (s := S2x2048x1024) ![1, dst, 0] S1x16x1024.size hd).emb x) := by
  obtain ⟨o1, o2, o3, o4, o5⟩ := ho
  obtain ⟨u, a, l, rfl⟩ : ∃ (u : Fin 1) (a : Fin 16) (l : Fin 1024), x = ix3 u a l := ⟨x 0, x 1, x 2, eq_ix3 x⟩
  have ha := a.isLt
  have hu : u.val = 0 := by omega
  refine (piece_part harg2 x0 16 perm16 (dst := dst) h hs hc o3 o4 u a l (by omega) (by omega) (by omega)).trans ?_
  have e1 : ((Rect.unit (s := S2x2048x1024) ![1, dst, 0] S1x16x1024.size hd).emb (ix3 u a l) 1).val = dst + a.val := by
    show dst + 1 * a.val = _; omega
  have e2 : (Rect.unit (s := S2x2048x1024) ![1, dst, 0] S1x16x1024.size hd).emb (ix3 u a l) 2 = l := Fin.ext (by show 0 + 1 * l.val = _; omega)
  unfold scr
  rw [if_neg (by show ¬(1 + 1 * u.val = 0); omega), e1, e2]

end Pieces

/-! ## The projection -/

/-- Four rows' worth of the projection: 512 rows times the rounded weights, rounded. -/
abbrev proj (w : FVec F S1024x2048 .bf16) (r : FVec F S512x1024 .bf16) : FVec F S512x2048 .bf16 :=
  truncf .bf16 (matmul dot_S512x1024_S1024x2048_S512x2048_1_0_0_1_n_n none r w (constant S512x2048 .f32 0x00000000#32)) bitsLt_bf16_f32

/-- The weights of column block `j`, scaled and rounded. -/
abbrev scaled (j : BitVec 32) (w : FVec F S1024x2048 .f32) : FVec F S1024x2048 .bf16 := k0_pay204 j w

/-- The `q`-th run of 512 rows of group `g`. -/
def rowsOf (s : Vec F S2x2048x1024 .bf16) (g : Fin 2) (q : Fin 4) : FVec F S512x1024 .bf16 :=
  fun z => s (ix3 g ⟨512 * q.val + (z 0).val, by have := (z 0).isLt; have := q.isLt; simp at *; omega⟩ (z 1))

/-- The output block of a grid point. -/
def outTile (g : Fin 2) (w : FVec F S1024x2048 .bf16) (s : Vec F S2x2048x1024 .bf16) : Vec F S2048x2048 .bf16 := fun y =>
  proj w (rowsOf s g ⟨(y 0).val / 512 % 4, Nat.mod_lt _ (by decide)⟩) (ix2 ⟨(y 0).val % 512, Nat.mod_lt _ (by decide)⟩ (y 1))

/-- A store of the output holds its rows of `outTile`. -/
theorem out_piece (g : Fin 2) (w : FVec F S1024x2048 .bf16) (s : Vec F S2x2048x1024 .bf16) {off : ℕ} (q : Fin 4) (hq : off = 512 * q.val)
    (h : ∀ a, ![off, 0] a + S512x2048.size a ≤ S2048x2048.size a) (r : FVec F S512x1024 .bf16) (hr : r = rowsOf s g q) (x : S512x2048.Idx) :
    proj w r x = outTile g w s ((Rect.unit (s := S2048x2048) ![off, 0] S512x2048.size h).emb x) := by
  subst hr
  obtain ⟨a, l, rfl⟩ : ∃ (a : Fin 512) (l : Fin 2048), x = ix2 a l := ⟨x 0, x 1, eq_ix2 x⟩
  have ha := a.isLt
  have hq' := q.isLt
  have e0 : ((Rect.unit (s := S2048x2048) ![off, 0] S512x2048.size h).emb (ix2 a l) 0).val = 512 * q.val + a.val := by
    show off + 1 * a.val = _; omega
  have e1 : (Rect.unit (s := S2048x2048) ![off, 0] S512x2048.size h).emb (ix2 a l) 1 = l := Fin.ext (by show 0 + 1 * l.val = _; omega)
  unfold outTile
  rw [e1]
  have f1 : (⟨((Rect.unit (s := S2048x2048) ![off, 0] S512x2048.size h).emb (ix2 a l) 0).val / 512 % 4, Nat.mod_lt _ (by decide)⟩ : Fin 4) = q :=
    Fin.ext (by show _ / 512 % 4 = _; rw [e0]; omega)
  have f2 : (⟨((Rect.unit (s := S2048x2048) ![off, 0] S512x2048.size h).emb (ix2 a l) 0).val % 512, Nat.mod_lt _ (by decide)⟩ : Fin 512) = a :=
    Fin.ext (by show _ % 512 = _; rw [e0]; omega)
  rw [f1, f2]

end Cert.Proof.Proj

end
-- ==== Proof.ProjBody.lean ====
/- The group projection's body, case by case: at a tile's first point the tile is permuted into the scratch buffer, then (as
   at every point) one column block of the weights is applied to it. -/
module

public import proofs.«01_k».proof.Proof.ProjTile

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UR sig nD τ) ℕ

/-- The column block's number, as the body reads it. -/
abbrev col (i : grid0.Coords) : BitVec 32 := BitVec.ofNat 32 (i 1).val

/-- The column block's weights, loaded whole. -/
theorem load_whole {arg3 : Memref sig .tc .vmem S1024x2048 .f32} (harg3 : arg3.IsWhole) (x1 : Vec F S1024x2048 .f32)
    (h : ∀ a, ![0, 0] a + S1024x2048.size a ≤ S1024x2048.size a) :
    View.readAt (Elt F) arg3.view (Rect.unit (s := S1024x2048) ![0, 0] S1024x2048.size h).toLoadRect (harg3.unread x1) = x1 := by
  funext z
  rw [harg3.readAt_unread]
  refine congrArg x1 (funext fun a => Fin.ext ?_)
  match a with
  | ⟨0, _⟩ => show 0 + 1 * (z 0).val = (z 0).val; omega
  | ⟨1, _⟩ => show 0 + 1 * (z 1).val = (z 1).val; omega

/-- A run of 512 rows of one group, loaded from the scratch buffer through its slice. -/
theorem load_rows {arg5 : Memref sig .tc .vmem S2x2048x1024 .bf16} (s : Vec F S2x2048x1024 .bf16) (f : arg5.view.ty.Contents (Elt F))
    (hf : arg5.view.read (Elt F) f = s) (g : Fin 2) (q : Fin 4) {LR : LoadRect S2x2048x1024} (hR : S512x1024.numel = LR.shape.numel)
    (h : ∀ z : S512x1024.Idx, ∀ a, (LR.idx (Shape.reshapeEquiv hR z) a).val
      = (ix3 g (⟨512 * q.val + (z 0).val, by have := (z 0).isLt; have := q.isLt; simp at *; omega⟩ : Fin 2048) (z 1) a).val) :
    (fun z : S512x1024.Idx => View.readAt (Elt F) arg5.view LR f (Shape.reshapeEquiv hR z)) = rowsOf s g q := by
  subst hf
  funext z
  exact congrArg (arg5.view.read (Elt F) f) (funext fun a => Fin.ext (h z a))

/-- Four stores of 512 rows make the output block. -/
theorem out_read (arg4 : Memref sig .tc .vmem S2048x2048 .bf16) (f : arg4.view.ty.Contents (Elt F)) (g : Fin 2) (w : FVec F S1024x2048 .bf16)
    (s : Vec F S2x2048x1024 .bf16) (r0 r1 r2 r3 : FVec F S512x1024 .bf16)
    (h0 : r0 = rowsOf s g 0) (h1 : r1 = rowsOf s g 1) (h2 : r2 = rowsOf s g 2) (h3 : r3 = rowsOf s g 3) :
    arg4.view.read (Elt F) (arg4.view.writes (Elt F) f
      [⟨Rect.unit (s := S2048x2048) ![1536, 0] S512x2048.size inb_S2048x2048_S512x2048_1536_0, proj w r3⟩,
       ⟨Rect.unit (s := S2048x2048) ![1024, 0] S512x2048.size inb_S2048x2048_S512x2048_1024_0, proj w r2⟩,
       ⟨Rect.unit (s := S2048x2048) ![512, 0] S512x2048.size inb_S2048x2048_S512x2048_512_0, proj w r1⟩,
       ⟨Rect.unit (s := S2048x2048) ![0, 0] S512x2048.size inb_S2048x2048_S512x2048_0_0, proj w r0⟩]) = outTile g w s := by
  funext y
  refine View.read_writes_apply_of_pieces arg4.view f (outTile g w s) _ ?_ y (View.cover_of_tiledL (s := S2048x2048) _ S512x2048.size (by sl_kernel_rfl) y)
  simp only [List.forall_mem_cons]
  exact ⟨out_piece g w s 3 rfl _ r3 h3, out_piece g w s 2 rfl _ r2 h2, out_piece g w s 1 rfl _ r1 h1, out_piece g w s 0 rfl _ r0 h0,
    fun p hp => absurd hp List.not_mem_nil⟩

/-- Where the slice of one group places a run of 512 rows. -/
theorem rows_at {g : Fin 2} {q : Fin 4} {o g' : ℕ} (hq : o = 512 * q.val) (hg : g' = g.val)
    (h1 : ∀ a, ![g', 0, 0] a + S1x2048x1024.size a ≤ S2x2048x1024.size a) (h2 : ∀ a, ![o, 0] a + S512x1024.size a ≤ S2048x1024.size a)
    (p0) (p1) (p2) (hR) (z : S512x1024.Idx) (a : Fin 3) :
    ((((Rect.unit (s := S2x2048x1024) ![g', 0, 0] S1x2048x1024.size h1).withinL
      ((Rect.unit (s := S2048x1024) ![o, 0] S512x1024.size h2).toLoadRect.consLift ![1, 2048, 1024] p0 p1) p2)).idx (Shape.reshapeEquiv hR z) a).val
      = (ix3 g (⟨512 * q.val + (z 0).val, by have := (z 0).isLt; have := q.isLt; simp at *; omega⟩ : Fin 2048) (z 1) a).val := by
  subst hq hg
  rw [show Shape.reshapeEquiv hR z = Fin.cons ⟨0, Nat.one_pos⟩ z from Shape.reshapeEquiv_cons_one (d := ![512, 1024]) hR z]
  match a with
  | ⟨0, _⟩ => show g.val + 0 + 1 * 0 = g.val; omega
  | ⟨1, _⟩ => show 0 + 512 * q.val + 1 * (z 0).val = 512 * q.val + (z 0).val; omega
  | ⟨2, _⟩ => show 0 + 0 + 1 * (z 1).val = (z 1).val; omega

section Runs
variable (c : Dev nD) (i : grid0.Coords) (arg2 : Memref sig .tc .vmem S2048x1024 .bf16) (harg2 : arg2.IsWhole)
  (arg3 : Memref sig .tc .vmem S1024x2048 .f32) (harg3 : arg3.IsWhole) (arg4 : Memref sig .tc .vmem S2048x2048 .bf16) (harg4 : arg4.IsWhole)
  (arg5 : Memref sig .tc .vmem S2x2048x1024 .bf16) (harg5 : arg5.IsWhole)
  (x0 : Vec F S2048x1024 .bf16) (x1 : Vec F S1024x2048 .f32)

/-- What the body leaves: its inputs, the output block and the permuted tile. -/
abbrev left (g : Fin 2) (s : Vec F S2x2048x1024 .bf16) : sProp 𝕄 :=
  iprop(owns (c : Thread nD τ) arg3 fullShare x1 ∗ owns (c : Thread nD τ) arg4 fullShare (outTile g (scaled (col i) x1) s) ∗ owns (c : Thread nD τ) arg5 fullShare s)

set_option maxHeartbeats 2400000 in set_option sl_exec.squeezeSlice true in
set_option backward.proofsInPublic true in
/-- A point of the second group: the scratch buffer already holds the tile. -/
theorem run_C (hc0 : ¬cond0_0 i) (hc1 : ¬cond0_1 i) (hc2 : cond0_2 i) (s : Vec F S2x2048x1024 .bf16) (E : Set ℕ) (K : PUnit → sProp 𝕄) :
    iprop(owns (c : Thread nD τ) arg3 fullShare x1 ∗ (∃ d, owns (c : Thread nD τ) arg4 fullShare d) ∗ owns (c : Thread nD τ) arg5 fullShare s
        ∗ (left c i arg3 arg4 arg5 x1 1 s -∗ K ⟨⟩))
      ⊢ wp frame (wpE (defs₀ (F := F)) Variants.none c none) E (cc0_group_proj i arg2 harg2 arg3 harg3 arg4 harg4 arg5 harg5) K := by
  rw [cc0_group_proj_eq_skeleton]; unfold cc0_group_proj_skel
  rw [dif_neg hc0, dif_neg hc1, dif_pos hc2, k0_part27_eq_skeleton]
  unfold left owns
  iintro ⟨⟨%f1, %hf1, H1⟩, ⟨%d2, %f2, -, H2⟩, ⟨%fs0, %hfs, HS0⟩, Hk⟩
  obtain rfl := harg3.eq_unread hf1
  obtain rfl := harg5.eq_unread hfs
  sl_exec
  sl_step
  iapply Hk
  isplitl [H1]
  · iexists _; isplitr; · ipureintro; exact harg3.read_unread _
    iexact H1
  isplitl [H2]
  · iexists _; isplitr
    swap; · iexact H2
    ipureintro
    refine (out_read arg4 f2 1 (scaled (col i) (View.readAt (Elt F) arg3.view (Rect.unit (s := S1024x2048) ![0, 0] S1024x2048.size (by decide)).toLoadRect (harg3.unread x1))) s _ _ _ _
      (load_rows s _ hfs 1 0 _ (rows_at rfl rfl _ _ _ _ _ _)) (load_rows s _ hfs 1 1 _ (rows_at rfl rfl _ _ _ _ _ _)) (load_rows s _ hfs 1 2 _ (rows_at rfl rfl _ _ _ _ _ _)) (load_rows s _ hfs 1 3 _ (rows_at rfl rfl _ _ _ _ _ _))).trans ?_
    rw [load_whole harg3 x1]
  iexists _; isplitr
  swap; · iexact HS0
  ipureintro; exact harg5.read_unread _

set_option maxHeartbeats 2400000 in set_option sl_exec.squeezeSlice true in
set_option backward.proofsInPublic true in
/-- A later point of the first group: the scratch buffer already holds the tile. -/
theorem run_B (hc0 : ¬cond0_0 i) (hc1 : cond0_1 i) (hc2 : ¬cond0_2 i) (s : Vec F S2x2048x1024 .bf16) (E : Set ℕ) (K : PUnit → sProp 𝕄) :
    iprop(owns (c : Thread nD τ) arg3 fullShare x1 ∗ (∃ d, owns (c : Thread nD τ) arg4 fullShare d) ∗ owns (c : Thread nD τ) arg5 fullShare s
        ∗ (left c i arg3 arg4 arg5 x1 0 s -∗ K ⟨⟩))
      ⊢ wp frame (wpE (defs₀ (F := F)) Variants.none c none) E (cc0_group_proj i arg2 harg2 arg3 harg3 arg4 harg4 arg5 harg5) K := by
  rw [cc0_group_proj_eq_skeleton]; unfold cc0_group_proj_skel
  rw [dif_neg hc0, dif_pos hc1, dif_neg hc2, k0_part26_eq_skeleton]
  unfold left owns
  iintro ⟨⟨%f1, %hf1, H1⟩, ⟨%d2, %f2, -, H2⟩, ⟨%fs0, %hfs, HS0⟩, Hk⟩
  obtain rfl := harg3.eq_unread hf1
  obtain rfl := harg5.eq_unread hfs
  sl_exec
  sl_step
  iapply Hk
  isplitl [H1]
  · iexists _; isplitr; · ipureintro; exact harg3.read_unread _
    iexact H1
  isplitl [H2]
  · iexists _; isplitr
    swap; · iexact H2
    ipureintro
    refine (out_read arg4 f2 0 (scaled (col i) (View.readAt (Elt F) arg3.view (Rect.unit (s := S1024x2048) ![0, 0] S1024x2048.size (by decide)).toLoadRect (harg3.unread x1))) s _ _ _ _
      (load_rows s _ hfs 0 0 _ (rows_at rfl rfl _ _ _ _ _ _)) (load_rows s _ hfs 0 1 _ (rows_at rfl rfl _ _ _ _ _ _)) (load_rows s _ hfs 0 2 _ (rows_at rfl rfl _ _ _ _ _ _)) (load_rows s _ hfs 0 3 _ (rows_at rfl rfl _ _ _ _ _ _))).trans ?_
    rw [load_whole harg3 x1]
  iexists _; isplitr
  swap; · iexact HS0
  ipureintro; exact harg5.read_unread _

set_option maxHeartbeats 2400000 in set_option sl_exec.squeezeSlice true in
set_option backward.proofsInPublic true in
/-- A tile's first point: every store of the permutation is a piece of `scr`, and they cover the scratch buffer. -/
theorem run_A (hc0 : cond0_0 i) (hc1 : cond0_1 i) (hc2 : ¬cond0_2 i) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ (iprop(owns (c : Thread nD τ) arg2 fullShare x0 ∗ left c i arg3 arg4 arg5 x1 0 (scr x0)) -∗ K ⟨⟩))
      ⊢ wp frame (wpE (defs₀ (F := F)) Variants.none c none) E (cc0_group_proj i arg2 harg2 arg3 harg3 arg4 harg4 arg5 harg5) K := by
  simp only [cc0_group_proj_eq_skeleton]; unfold cc0_group_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold left owns
  iintro ⟨⟨%f0, %hf0, H0⟩, ⟨%f1, %hf1, H1⟩, ⟨%d2, %f2, -, H2⟩, ⟨%ds, %fs0, -, HS0⟩, Hk⟩
  obtain rfl := harg2.eq_unread hf0
  obtain rfl := harg3.eq_unread hf1
  sl_exec (disch := first | sl_exact hc0 | sl_exact hc1 | sl_exact hc2)
  have hfs : ∀ f, arg5.view.read (Elt F) (arg5.view.writes (Elt F) f (run_A.sl.HS0_160 c arg2 harg2 x0)) = scr x0 := fun f => by
    funext y
    refine View.read_writes_apply_of_pieces arg5.view f (scr x0) _ ?_ y (View.cover_of_tiledBy _ ![1, 16, 1024] (by sl_kernel_rfl) y)
    unfold run_A.sl.HS0_160
    repeat' (refine List.forall_mem_cons.mpr ⟨?_, ?_⟩)
    all_goals first
      | (intro x; dsimp only; refine piece16 harg2 x0 ?_ ?_ ?_ ?_ ?_ x <;> decide)
      | (intro x; dsimp only; refine piece4 harg2 x0 ?_ ?_ ?_ ?_ ?_ x <;> decide)
      | exact fun p hp => absurd hp List.not_mem_nil
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (out_read arg4 f2 0 (scaled (col i) (View.readAt (Elt F) arg3.view (Rect.unit (s := S1024x2048) ![0, 0] S1024x2048.size (by decide)).toLoadRect (harg3.unread x1))) (scr x0) _ _ _ _
      (load_rows (scr x0) _ (hfs _) 0 0 _ (rows_at rfl rfl _ _ _ _ _ _)) (load_rows (scr x0) _ (hfs _) 0 1 _ (rows_at rfl rfl _ _ _ _ _ _)) (load_rows (scr x0) _ (hfs _) 0 2 _ (rows_at rfl rfl _ _ _ _ _ _)) (load_rows (scr x0) _ (hfs _) 0 3 _ (rows_at rfl rfl _ _ _ _ _ _))).trans ?_
    rw [load_whole harg3 x1]
  iexists _; isplitr
  swap; · iexact HS0
  ipureintro; exact hfs _

end Runs

end Cert.Proof.Proj

end
-- ==== Proof.ProjLaunch.lean ====
/- The group projection launched: every grid point meets its obligation, the permuted tile travelling in the scratch buffer
   from one point to the next; the run then says what the result holds, index by index. -/
module

public import proofs.«01_k».proof.Proof.ProjBody
public import Idealize.ShloMosaic.Lib.Pipeline.FrameValue
public import Idealize.ShloMosaic.Lib.Pipeline.Cells

@[expose] public section

set_option maxRecDepth 16384

noncomputable section

namespace Cert.Proof.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-! ## The blocks, by number -/

/-- Token tile `b` of the first argument. -/
def tile (c : Dev nD) (b : ℕ) : Vec F S2048x1024 .bf16 := fun y =>
  V m c main_arg0 (ix2 ⟨(2048 * b + (y 0).val) % 32768, Nat.mod_lt _ (by decide)⟩ (y 1))

/-- The weights of column block `j`: the dilated groups' columns begin at column 6144. -/
def wcol (c : Dev nD) (j : ℕ) : Vec F S1024x2048 .f32 := fun y =>
  V m c main_arg1 (ix2 (y 0) ⟨(6144 + 2048 * j + (y 1).val) % 20480, Nat.mod_lt _ (by decide)⟩)

/-- The group column block `j` belongs to. -/
def grp (j : ℕ) : Fin 2 := if j ≤ 2 then 0 else 1

/-- The output block of tile `b` and column block `j`. -/
def outAt (c : Dev nD) (b j : ℕ) : Vec F S2048x2048 .bf16 :=
  outTile (grp j) (scaled (BitVec.ofNat 32 j) (wcol m c j)) (scr (tile m c b))

/-- Where each window's block lies. -/
theorem idx0 : ∀ t : Fin cfg0.N, win0_0.index t (0 : Fin 2) = t.val / 6 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 3 + t.val % 6 :=
  (by decide +kernel : ∀ t : Fin grid0.N, _)
theorem idx2 : ∀ t : Fin cfg0.N, win0_2.index t (0 : Fin 2) = t.val / 6 ∧ win0_2.index t (1 : Fin 2) = t.val % 6 :=
  (by decide +kernel : ∀ t : Fin grid0.N, _)

theorem point_lt (t : Fin cfg0.N) : t.val < 96 := lt_of_lt_of_eq t.isLt N_0

theorem iblk_0 (c : Dev nD) (t : Fin cfg0.N) : iblk m c 0 t = tile m c (t.val / 6) := by
  have ht := point_lt t
  obtain ⟨e0, e1⟩ := idx0 t
  funext y
  refine congrArg (V m c main_arg0) (funext fun a => Fin.ext ?_)
  have h0 : (y 0).val < 2048 := (y 0).isLt
  match a with
  | ⟨0, _⟩ => show win0_0.index t (0 : Fin 2) * 2048 + 1 * (y 0).val = (2048 * (t.val / 6) + (y 0).val) % 32768; rw [e0]; omega
  | ⟨1, _⟩ => show win0_0.index t (1 : Fin 2) * 1024 + 1 * (y 1).val = (y 1).val; rw [e1]; omega

theorem iblk_1 (c : Dev nD) (t : Fin cfg0.N) : iblk m c 1 t = wcol m c (t.val % 6) := by
  have ht := point_lt t
  obtain ⟨e0, e1⟩ := idx1 t
  funext y
  refine congrArg (V m c main_arg1) (funext fun a => Fin.ext ?_)
  have h1 : (y 1).val < 2048 := (y 1).isLt
  match a with
  | ⟨0, _⟩ => show win0_1.index t (0 : Fin 2) * 1024 + 1 * (y 0).val = (y 0).val; rw [e0]; omega
  | ⟨1, _⟩ => show win0_1.index t (1 : Fin 2) * 2048 + 1 * (y 1).val = (6144 + 2048 * (t.val % 6) + (y 1).val) % 20480; rw [e1]; omega

theorem col_eq (t : Fin cfg0.N) : col (grid0.coords t) = BitVec.ofNat 32 (t.val % 6) := by
  unfold col
  rw [show (grid0.coords t 1).val = t.val / 1 % 6 from Pipeline.Grid.coords_val t 1 (by decide) rfl, Nat.div_one]

/-! ## The proof data -/

/-- Before a point: the scratch buffer at anything at first, at the last point's permuted tile afterwards. -/
def Inv (c : Dev nD) : ℕ → sProp 𝕄
  | 0 => Pipeline.ΦA spec0 c
  | n + 1 => iprop(owns (c : Thread nD τ) scM0_0 fullShare (scr (tile m c (n / 6))) ∗ (∃ r, prngReg c r))

theorem inv_any (c : Dev nD) (n : ℕ) :
    Inv m c n ⊢ iprop((∃ d, owns (c : Thread nD τ) scM0_0 fullShare d) ∗ (∃ r, prngReg c r)) := by
  cases n with
  | zero =>
    show Pipeline.ΦA spec0 c ⊢ _
    rw [PhiA0_eq]
  | succ n =>
    unfold Inv
    iintro ⟨HS, Hg⟩
    isplitl [HS]
    · iexists _; iexact HS
    iexact Hg

/-- Inside a tile's points the scratch buffer holds that tile. -/
theorem inv_same (c : Dev nD) (n : ℕ) (h : n % 6 ≠ 0) :
    Inv m c n = iprop(owns (c : Thread nD τ) scM0_0 fullShare (scr (tile m c (n / 6))) ∗ (∃ r, prngReg c r)) := by
  cases n with
  | zero => exact absurd rfl h
  | succ n =>
    unfold Inv
    rw [show (n + 1) / 6 = n / 6 by omega]

/-- The pipeline's data on core `c`: the inputs' windows keep their blocks, the output's gets its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c (t.val / 6) (t.val % 6)
  Φ t := Inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c (t.val / 6) (t.val % 6) := by dsimp only [dats]
theorem before_0 (c : Dev nD) (t : Fin cfg0.N) (d) : (dats m 0 c).before 0 t d = tile m c (t.val / 6) :=
  (before0_0_of m (dats m 0 c) (A_eq m c 0) (after_0 m c) t d).trans (iblk_0 m c t)
theorem before_1 (c : Dev nD) (t : Fin cfg0.N) (d) : (dats m 0 c).before 1 t d = wcol m c (t.val % 6) :=
  (before0_1_of m (dats m 0 c) (A_eq m c 1) (after_1 m c) t d).trans (iblk_1 m c t)

/-- The output window is stored at every point. -/
theorem live_2 : ∀ t : Fin cfg0.N, cfg0.idle 2 (grid0.coords t) = false :=
  (by decide +kernel : ∀ t : Fin grid0.N, cfg0.idle 2 (grid0.coords t) = false)

theorem leaves_0 (c : Dev nD) (t : Fin cfg0.N) :
    (dats m 0 c).leavesExact 0 t = owns (c : Thread nD τ) (ms0_0 t) fullShare (tile m c (t.val / 6)) := by
  unfold Dat.leavesExact; rw [liveAt0_0 t, after_0, iblk_0]
theorem leaves_1 (c : Dev nD) (t : Fin cfg0.N) :
    (dats m 0 c).leavesExact 1 t = owns (c : Thread nD τ) (ms0_1 t) fullShare (wcol m c (t.val % 6)) := by
  unfold Dat.leavesExact; rw [liveAt0_1 t, after_1, iblk_1]
theorem leaves_2 (c : Dev nD) (t : Fin cfg0.N) :
    (dats m 0 c).leavesExact 2 t = owns (c : Thread nD τ) (ms0_2 t) fullShare (outAt m c (t.val / 6) (t.val % 6)) := by
  unfold Dat.leavesExact; rw [live_2 t, after_2]

/-! ## The body's obligation -/

/-- What a point is called with, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- What a later point of a tile keeps beside what its run returns. -/
theorem later (c : Dev nD) (t : Fin cfg0.N) (h0 : t.val % 6 ≠ 0)
    (run : ∀ K : PUnit → sProp 𝕄,
      iprop(owns (c : Thread nD τ) (ms0_1 t) fullShare (wcol m c (t.val % 6)) ∗ (∃ d, owns (c : Thread nD τ) (ms0_2 t) fullShare d)
          ∗ owns (c : Thread nD τ) scM0_0 fullShare (scr (tile m c (t.val / 6)))
          ∗ (left c (grid0.coords t) (ms0_1 t) (ms0_2 t) scM0_0 (wcol m c (t.val % 6)) (grp (t.val % 6)) (scr (tile m c (t.val / 6))) -∗ K ⟨⟩))
        ⊢ wp frame (wpE (defs₀ (F := F)) Variants.none c none) Set.univ (bodyAt0 t) K) :
    pre m c t ⊢ wp frame (wpE (defs₀ (F := F)) Variants.none c none) Set.univ (bodyAt0 t) (fun _ => post m c t) := by
  unfold pre post
  simp only [before_0, before_1]
  rw [show (dats m 0 c).owesAt () t.succ = (dats m 0 c).owesAt () t.castSucc from rfl, leaves_0, leaves_1, leaves_2,
    show (dats m 0 c).Φ t.castSucc = Inv m c t.val from rfl, inv_same m c _ h0,
    show (dats m 0 c).Φ t.succ = iprop(owns (c : Thread nD τ) scM0_0 fullShare (scr (tile m c (t.val / 6))) ∗ (∃ r, prngReg c r)) from rfl]
  unfold left at run
  rw [col_eq t] at run
  iintro ⟨⟨HS, Hg⟩, Ho, ⟨%d0, H0⟩, ⟨%d1, H1⟩, ⟨%d2, H2⟩⟩
  iapply (run _)
  isplitl [H1]; · iexact H1
  isplitl [H2]; · iexists _; iexact H2
  isplitl [HS]; · iexact HS
  iintro ⟨H1, H2, HS⟩
  isplitl [HS Hg]
  · isplitl [HS]; · iexact HS
    iexact Hg
  isplitl [Ho]; · iexact Ho
  isplitl [H0]; · iexact H0
  isplitl [H1]; · iexact H1
  iexact H2

set_option maxHeartbeats 1000000 in
/-- A tile's first point. -/
theorem first (c : Dev nD) (t : Fin cfg0.N) (h0 : t.val % 6 = 0) :
    pre m c t ⊢ wp frame (wpE (defs₀ (F := F)) Variants.none c none) Set.univ (bodyAt0 t) (fun _ => post m c t) := by
  have run := fun K => run_A c (grid0.coords t) (ms0_0 t) (hs0_0 t) (ms0_1 t) (hs0_1 t) (ms0_2 t) (hs0_2 t) scM0_0 (Memref.isWhole_whole _)
    (tile m c (t.val / 6)) (wcol m c (t.val % 6)) ((hcond0_0 t).mpr h0) ((hcond0_1 t).mpr (by omega)) (fun h => absurd ((hcond0_2 t).mp h) (by omega)) Set.univ K
  unfold pre post bodyAt0
  simp only [before_0, before_1]
  rw [show (dats m 0 c).owesAt () t.succ = (dats m 0 c).owesAt () t.castSucc from rfl, leaves_0, leaves_1, leaves_2,
    show (dats m 0 c).Φ t.castSucc = Inv m c t.val from rfl,
    show (dats m 0 c).Φ t.succ = iprop(owns (c : Thread nD τ) scM0_0 fullShare (scr (tile m c (t.val / 6))) ∗ (∃ r, prngReg c r)) from rfl]
  unfold left at run
  rw [col_eq t] at run
  have hg : outAt m c (t.val / 6) (t.val % 6) = outTile 0 (scaled (BitVec.ofNat 32 (t.val % 6)) (wcol m c (t.val % 6))) (scr (tile m c (t.val / 6))) := by
    unfold outAt grp; rw [if_pos (by omega)]
  rw [hg]
  iintro ⟨HI, Ho, ⟨%d0, H0⟩, ⟨%d1, H1⟩, ⟨%d2, H2⟩⟩
  ihave HI := (inv_any m c t.val) $$ HI
  icases HI with ⟨HS, Hg⟩
  iapply (run _)
  isplitl [H0]; · iexact H0
  isplitl [H1]; · iexact H1
  isplitl [H2]; · iexists _; iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexact H2

/-- Every point. -/
theorem point (c : Dev nD) (t : Fin cfg0.N) :
    pre m c t ⊢ wp frame (wpE (defs₀ (F := F)) Variants.none c none) Set.univ (bodyAt0 t) (fun _ => post m c t) := by
  by_cases h0 : t.val % 6 = 0
  · exact first m c t h0
  have n0 : ¬cond0_0 (grid0.coords t) := fun h => h0 ((hcond0_0 t).mp h)
  refine later m c t h0 fun K => ?_
  by_cases h1 : t.val % 6 ≤ 2
  · rw [show grp (t.val % 6) = 0 from if_pos h1]
    exact run_B c (grid0.coords t) (ms0_0 t) (hs0_0 t) (ms0_1 t) (hs0_1 t) (ms0_2 t) (hs0_2 t) scM0_0 (Memref.isWhole_whole _)
      (wcol m c (t.val % 6)) n0 ((hcond0_1 t).mpr h1) (fun h => absurd ((hcond0_2 t).mp h) (by omega)) _ Set.univ K
  · rw [show grp (t.val % 6) = 1 from if_neg h1]
    exact run_C c (grid0.coords t) (ms0_0 t) (hs0_0 t) (ms0_1 t) (hs0_1 t) (ms0_2 t) (hs0_2 t) scM0_0 (Memref.isWhole_whole _)
      (wcol m c (t.val % 6)) n0 (fun h => h1 ((hcond0_1 t).mp h)) ((hcond0_2 t).mpr (by omega)) _ Set.univ K

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (point m c t) rfl .rfl fun _ => .rfl

/-! ## The run -/

theorem inv_end (c : Dev nD) : (dats m 0 c).Φ (Fin.last cfg0.N) ⊢ Pipeline.ΦA spec0 c := by
  rw [PhiA0_eq, show (dats m 0 c).Φ (Fin.last cfg0.N) = Inv m c cfg0.N from rfl]; exact inv_any m c _

set_option backward.isDefEq.respectTransparency.types false in
theorem run_region : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Entails.refl _) (hout := fun c => inv_end m c)

/-- The result: each index by its tile and its column block. -/
def outG (c : Dev nD) : Buf (Elt F) ((c : Thread nD τ).loc main_v0) := fun i =>
  outAt m c ((i 0).val / 2048) ((i 1).val / 2048)
    (ix2 ⟨(i 0).val % 2048, Nat.mod_lt _ (by decide)⟩ ⟨(i 1).val % 2048, Nat.mod_lt _ (by decide)⟩)

/-- What a point writes back is its block of the result. -/
theorem flushed_eq (c : Dev nD) (t : Fin cfg0.N) :
    (dats m 0 c).flushed 2 t = ((cfg0.win 2).blk t).view.read (Elt F) (outG m c) := by
  have ht := point_lt t
  obtain ⟨e0, e1⟩ := idx2 t
  show (cfg0.win 2).cut (grid0.coords t) ((dats m 0 c).after 2 t) = _
  rw [after_2]
  funext y
  have hy0 : (y 0).val < 2048 := (y 0).isLt
  have hy1 : (y 1).val < 2048 := (y 1).isLt
  have b0 : (((cfg0.win 2).blk t).view.emb y 0).val = 2048 * (t.val / 6) + (y 0).val := by
    show win0_2.index t (0 : Fin 2) * 2048 + 1 * (y 0).val = _; rw [e0]; omega
  have b1 : (((cfg0.win 2).blk t).view.emb y 1).val = 2048 * (t.val % 6) + (y 1).val := by
    show win0_2.index t (1 : Fin 2) * 2048 + 1 * (y 1).val = _; rw [e1]; omega
  show outAt m c (t.val / 6) (t.val % 6) ((cfg0.win 2).xinj (grid0.coords t) y) = outG m c (((cfg0.win 2).blk t).view.emb y)
  unfold outG
  rw [show (((cfg0.win 2).blk t).view.emb y 0).val / 2048 = t.val / 6 by rw [b0]; omega,
    show (((cfg0.win 2).blk t).view.emb y 1).val / 2048 = t.val % 6 by rw [b1]; omega]
  refine congrArg (outAt m c (t.val / 6) (t.val % 6)) (funext fun a => Fin.ext ?_)
  match a with
  | ⟨0, _⟩ => show (y 0).val = (((cfg0.win 2).blk t).view.emb y 0).val % 2048; rw [b0]; omega
  | ⟨1, _⟩ => show (y 1).val = (((cfg0.win 2).blk t).view.emb y 1).val % 2048; rw [b1]; omega

/-- An index is in a point's block when both its coordinates are in the block's range. -/
theorem mem_block (t : Fin cfg0.N) (i : S32768x12288.Idx) (h0 : (i 0).val / 2048 = t.val / 6) (h1 : (i 1).val / 2048 = t.val % 6) :
    i ∈ ((cfg0.win 2).blk t).view.set := by
  obtain ⟨e0, e1⟩ := idx2 t
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 2048 ≤ (i 1).val ∧ (i 1).val < win0_2.index t (1 : Fin 2) * 2048 + 2048
    rw [e1]; omega

/-- The blocks written back fill the result. -/
theorem covered (i : S32768x12288.Idx) : ∃ t : Fin cfg0.N, (cfg0.win 2).flush t = true ∧ i ∈ ((cfg0.win 2).blk t).view.set := by
  have h0 : (i 0).val < 32768 := (i 0).isLt
  have h1 : (i 1).val < 12288 := (i 1).isLt
  exact ⟨⟨6 * ((i 0).val / 2048) + (i 1).val / 2048, lt_of_lt_of_eq (by omega) N_0.symm⟩, flush0_2 _,
    mem_block _ i (by dsimp only; omega) (by dsimp only; omega)⟩

theorem result_eq (c : Dev nD) : (dats m 0 c).arrAt 2 cfg0.N = outG m c :=
  (dats m 0 c).arrAt_eq_of_cover 2 _ (fun t _ => flushed_eq m c t) covered

/-- THE RUN, at any float values: the call ends, both arguments as they were, the result at `outG`, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = outG m c)
      ∧ r.2.sem = fun _ => 0) :=
  (θ_run defs _ _).mono (fun _ h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (result_eq m c)⟩, h.2⟩) (run_region m ρ)

end Cert.Proof.Proj

end
-- ==== Proof.ProjRef.lean ====
/- The second reference's result, at exact arithmetic and element by element, and its frame. -/
module

public import proofs.«01_k».proof.Defs
public import proofs.«01_k».proof.Proof.Gen.Reference2Ideal.Run
public import Idealize.ShloMosaic.Lib.Pipeline.Value
public import Idealize.ShloMosaic.Lib.Pointwise
public import Idealize.ShloMosaic.Lib.Quiescent

@[expose] public section

set_option maxRecDepth 16384

noncomputable section

namespace Cert.Proof.ProjRef

open Cert.Reference2Ideal Cert.Reference2Ideal.Gen
open Idealize.ShloMosaic Idealize.ShloMosaic.TcCoe Idealize.SL.Sem

/-- What queries are multiplied by: one over the root of the head size, and the change from base e to base 2. -/
def scale : ℝ := (Real.sqrt 128)⁻¹ * (Real.log 2)⁻¹

theorem scale_nonneg : 0 ≤ scale :=
  mul_nonneg (inv_nonneg.2 (Real.sqrt_nonneg _)) (inv_nonneg.2 (Real.log_nonneg (by norm_num)))

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- Dividing by the root and then by the logarithm is multiplying by `scale`. -/
theorem div_div_eq (x : EReal) :
    Ideal.div (Ideal.div x (Ideal.sqrt (Ideal.ofBits .f32 0x43000000#32))) (Ideal.log (Ideal.ofBits .f32 0x40000000#32)) = x * ((scale : ℝ) : EReal) := by
  have h1 : Real.sqrt 128 ≠ 0 := (Real.sqrt_pos.2 (by norm_num)).ne'
  have h2 : Real.log 2 ≠ 0 := (Real.log_pos (by norm_num)).ne'
  rw [ofBits_128, ofBits_2, Ideal.sqrt_coe, Ideal.log_coe, if_neg (by norm_num), if_neg (by norm_num), Ideal.div_coe h1, Ideal.div_coe h2,
    mul_assoc, ← EReal.coe_mul, one_div, one_div]
  rfl

/-! ## The operations, composed -/

section Ops
variable (U : FVec Ideal S32768x1024 .bf16) (W : FVec Ideal S1024x20480 .f32)

/-- The tokens times 2048 of the columns. -/
def dotted (off : ℕ) (h : S1024x20480.Slices ![0, off] S1024x2048) : FVec Ideal S32768x2048 .f32 :=
  Host.dotGeneral dot_S32768x1024_S1024x2048_S32768x2048_1_0_0_1_n_n none (extf .f32 U bitsLt_bf16_f32 : FVec Ideal S32768x1024 .f32)
    (extractStridedSlice S1024x2048 ![0, off] W h)

/-- The same, divided as queries are. -/
def queried (t : FVec Ideal S32768x2048 .f32) : FVec Ideal S32768x2048 .f32 :=
  Host.divf (Host.divf t (broadcastInDim S32768x2048 ![] bcast_S_S32768x2048 (Host.sqrt (constant S_ .f32 0x43000000#32))))
    (broadcastInDim S32768x2048 ![] bcast_S_S32768x2048 (Host.log (constant S_ .f32 0x40000000#32)))

/-- The rows of each tile by their residue modulo 4. -/
def by4 (t : FVec Ideal S32768x2048 .f32) : FVec Ideal S32768x2048 .f32 :=
  shapeCast _ (transpose S16x4x512x2048 [0, 2, 1, 3] (shapeCast _ t shapeCasts_S32768x2048_S16x512x4x2048)
    transposes_S16x512x4x2048_S16x4x512x2048_0_2_1_3) shapeCasts_S16x4x512x2048_S32768x2048

/-- The rows of each tile by their residue modulo 16. -/
def by16 (t : FVec Ideal S32768x2048 .f32) : FVec Ideal S32768x2048 .f32 :=
  shapeCast _ (transpose S16x16x128x2048 [0, 2, 1, 3] (shapeCast _ t shapeCasts_S32768x2048_S16x128x16x2048)
    transposes_S16x128x16x2048_S16x16x128x2048_0_2_1_3) shapeCasts_S16x16x128x2048_S32768x2048

/-- The six blocks of columns: queries, keys and values of the group of dilation 4, then those of dilation 16. -/
def columns : List ((s : Shape) × (s.Idx → EReal)) :=
  [⟨S32768x2048, by4 (queried (dotted U W 6144 slices_S1024x20480_S1024x2048_0_6144))⟩,
    ⟨S32768x2048, by4 (dotted U W 8192 slices_S1024x20480_S1024x2048_0_8192)⟩,
    ⟨S32768x2048, by4 (dotted U W 10240 slices_S1024x20480_S1024x2048_0_10240)⟩,
    ⟨S32768x2048, by16 (queried (dotted U W 12288 slices_S1024x20480_S1024x2048_0_12288))⟩,
    ⟨S32768x2048, by16 (dotted U W 14336 slices_S1024x20480_S1024x2048_0_14336)⟩,
    ⟨S32768x2048, by16 (dotted U W 16384 slices_S1024x20480_S1024x2048_0_16384)⟩]

theorem columns_fit : Shape.Concatenates ((columns U W).map (·.1)) S32768x12288 1 :=
  concatenates_S32768x2048_S32768x2048_S32768x2048_S32768x2048_S32768x2048_S32768x2048_S32768x12288_d1

/-- The reference's operations, composed. -/
def refOut : FVec Ideal S32768x12288 .bf16 :=
  truncf .bf16 (concatenate S32768x12288 1 (columns U W) (columns_fit U W) : FVec Ideal S32768x12288 .f32) bitsLt_bf16_f32

end Ops

/-! ## Element by element -/

/-- The token that stands at row `r` when a tile's rows are ordered by their residue modulo `d`. -/
def token (d : ℕ) (r : Fin 32768) : Fin 32768 :=
  ⟨(2048 * (r.val / 2048) + (r.val % 2048 % (2048 / d) * d + r.val % 2048 / (2048 / d))) % 32768, Nat.mod_lt _ (by decide)⟩

/-- The order by residue: rows `(b, p, q)` of the operand are rows `(b, q, p)` of the result. -/
theorem regroup_apply {per d : ℕ} (t : FVec Ideal S32768x2048 .f32) (h1 : S32768x2048.ShapeCasts ⟨4, ![16, per, d, 2048]⟩)
    (h2 : (⟨4, ![16, per, d, 2048]⟩ : Shape).Transposes [0, 2, 1, 3] ⟨4, ![16, d, per, 2048]⟩)
    (h3 : (⟨4, ![16, d, per, 2048]⟩ : Shape).ShapeCasts S32768x2048) (r r' : Fin 32768) (l : Fin 2048) (b : Fin 16) (q : Fin d) (p : Fin per)
    (hr : r.val = (b.val * d + q.val) * per + p.val) (hr' : r'.val = (b.val * per + p.val) * d + q.val) :
    shapeCast S32768x2048 (transpose ⟨4, ![16, d, per, 2048]⟩ [0, 2, 1, 3] (shapeCast ⟨4, ![16, per, d, 2048]⟩ t h1) h2) h3 (ix2 r l) = t (ix2 r' l) := by
  rw [shapeCast_apply _ h3 _ (ix4 b q p l) (by
      rw [Shape.rowMajor_val_four, Shape.rowMajor_val_two]
      show ((b.val * d + q.val) * per + p.val) * 2048 + l.val = r.val * 2048 + l.val
      rw [hr]),
    transpose_apply _ _ h2 _ (ix4 b p q l) (fun a => match a with
      | ⟨0, _⟩ => rfl
      | ⟨1, _⟩ => rfl
      | ⟨2, _⟩ => rfl
      | ⟨3, _⟩ => rfl),
    shapeCast_apply _ h1 _ (ix2 r' l) (by
      rw [Shape.rowMajor_val_four, Shape.rowMajor_val_two]
      show r'.val * 2048 + l.val = ((b.val * per + p.val) * d + q.val) * 2048 + l.val
      rw [hr'])]

theorem by4_apply (t : FVec Ideal S32768x2048 .f32) (r : Fin 32768) (l : Fin 2048) : by4 t (ix2 r l) = t (ix2 (token 4 r) l) :=
  regroup_apply t _ _ _ r (token 4 r) l ⟨r.val / 2048, by omega⟩ ⟨r.val % 2048 / 512, by omega⟩ ⟨r.val % 2048 % 512, by omega⟩
    (by show r.val = (r.val / 2048 * 4 + r.val % 2048 / 512) * 512 + r.val % 2048 % 512; omega)
    (by show (2048 * (r.val / 2048) + (r.val % 2048 % (2048 / 4) * 4 + r.val % 2048 / (2048 / 4))) % 32768 = (r.val / 2048 * 512 + r.val % 2048 % 512) * 4 + r.val % 2048 / 512; omega)

theorem by16_apply (t : FVec Ideal S32768x2048 .f32) (r : Fin 32768) (l : Fin 2048) : by16 t (ix2 r l) = t (ix2 (token 16 r) l) :=
  regroup_apply t _ _ _ r (token 16 r) l ⟨r.val / 2048, by omega⟩ ⟨r.val % 2048 / 128, by omega⟩ ⟨r.val % 2048 % 128, by omega⟩
    (by show r.val = (r.val / 2048 * 16 + r.val % 2048 / 128) * 128 + r.val % 2048 % 128; omega)
    (by show (2048 * (r.val / 2048) + (r.val % 2048 % (2048 / 16) * 16 + r.val % 2048 / (2048 / 16))) % 32768 = (r.val / 2048 * 128 + r.val % 2048 % 128) * 16 + r.val % 2048 / 128; omega)

/-- A token times a column. -/
def dotAt (U : FVec Ideal S32768x1024 .bf16) (W : FVec Ideal S1024x20480 .f32) (r : Fin 32768) (n : Fin 20480) : EReal :=
  ∑ k : Fin 1024, U (ix2 r k) * W (ix2 k n)

theorem dotted_apply (U : FVec Ideal S32768x1024 .bf16) (W : FVec Ideal S1024x20480 .f32) {off : ℕ} (h : S1024x20480.Slices ![0, off] S1024x2048)
    (n : Fin 20480) (r : Fin 32768) (l : Fin 2048) (hn : n.val = off + l.val) : dotted U W off h (ix2 r l) = dotAt U W r n := by
  unfold dotAt
  pointwise [dotted]
  refine Finset.sum_congr rfl fun k _ => congrArg (fun x => U (ix2 r k) * W (ix2 k x)) (Fin.ext ?_)
  exact hn.symm

theorem queried_apply (t : FVec Ideal S32768x2048 .f32) (i : S32768x2048.Idx) : queried t i = t i * ((scale : ℝ) : EReal) := by
  rw [← div_div_eq]
  pointwise [queried]

/-- The token at row `r` for column block `j`. -/
def rowFor (j : Fin 6) (r : Fin 32768) : Fin 32768 := if j.val ≤ 2 then token 4 r else token 16 r

/-- The factor of column block `j`. -/
def factor (j : Fin 6) : EReal := if j.val % 3 = 0 then ((scale : ℝ) : EReal) else 1

/-- Before block `j` there are `2048 * j` columns. -/
theorem columns_before (U : FVec Ideal S32768x1024 .bf16) (W : FVec Ideal S1024x20480 .f32) (j : Fin 6) :
    ((((columns U W).take j.val).map (·.1)).map fun s => if h : s.rank = S32768x12288.rank then s.size ((1 : Fin 2).cast h.symm) else 0).sum = 2048 * j.val := by
  rw [List.map_take, show (columns U W).map (·.1) = List.replicate 6 S32768x2048 from rfl]
  revert j
  decide

/-- The result's element. -/
theorem refOut_apply (U : FVec Ideal S32768x1024 .bf16) (W : FVec Ideal S1024x20480 .f32) (j : Fin 6) (r : Fin 32768) (l : Fin 2048) (q : Fin 12288)
    (n : Fin 20480) (hq : q.val = 2048 * j.val + l.val) (hn : n.val = 6144 + q.val) :
    refOut U W (ix2 r q) = dotAt U W (rowFor j r) n * factor j := by
  have pick : ∀ x : S32768x2048.Idx → EReal, (columns U W)[j.val]'j.isLt = ⟨S32768x2048, x⟩ →
      refOut U W (ix2 r q) = x (ix2 r l) := fun x hx =>
    concatenate_apply_piece 1 (columns U W) (columns_fit U W) (ix2 r q) j.val j.isLt S32768x2048 x hx rfl (2048 * j.val) (columns_before U W j) (ix2 r l)
      (fun b hb => match b with
        | ⟨0, _⟩ => rfl
        | ⟨1, _⟩ => absurd rfl hb) hq.symm
  unfold rowFor factor
  have plain : ∀ x : EReal, x = x * 1 := fun x => (mul_one x).symm
  have hoff : n.val = 6144 + 2048 * j.val + l.val := by omega
  clear hq hn
  fin_cases j
  · exact (pick _ rfl).trans ((by4_apply _ r l).trans ((queried_apply _ _).trans (congrArg (· * _) (dotted_apply U W _ n _ l hoff))))
  · exact (pick _ rfl).trans ((by4_apply _ r l).trans ((dotted_apply U W _ n _ l hoff).trans (plain _)))
  · exact (pick _ rfl).trans ((by4_apply _ r l).trans ((dotted_apply U W _ n _ l hoff).trans (plain _)))
  · exact (pick _ rfl).trans ((by16_apply _ r l).trans ((queried_apply _ _).trans (congrArg (· * _) (dotted_apply U W _ n _ l hoff))))
  · exact (pick _ rfl).trans ((by16_apply _ r l).trans ((dotted_apply U W _ n _ l hoff).trans (plain _)))
  · exact (pick _ rfl).trans ((by16_apply _ r l).trans ((dotted_apply U W _ n _ l hoff).trans (plain _)))

/-! ## The run -/

/-- The reference's run: its result is `refOut` of its arguments, which it leaves as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold refOut columns by4 by16 queried dotted
  exact Cert.Reference2Ideal.Value.run m ρ

/-- The reference's frame: it declares no semaphore, so every counter is zero. -/
theorem frame_ref : Cert.quiescent_Reference2Ideal := fun m ρ _ =>
  (θ_run (defs (F := Ideal)) _ _).mono (fun r h => ⟨fun c => (h c).2, sem_eq_zero_of_no_sems (by decide) r.2⟩) (run_ref m ρ)

end Cert.Proof.ProjRef

end
-- ==== Proof.ProjValue.lean ====
/- The group projection at exact arithmetic: the permutation matrices pick rows, so that an element of the result is its
   token's row times its column, queries scaled; which is the reference's element. -/
module

public import proofs.«01_k».proof.Proof.ProjLaunch
public import proofs.«01_k».proof.Proof.ProjRef
public import Idealize.ShloMosaic.Lib.Pointwise

@[expose] public section

set_option maxRecDepth 16384

noncomputable section

namespace Cert.Proof.Proj

open Cert.Kernel2Ideal Cert.Kernel2Ideal.Gen
open Idealize.ShloMosaic Idealize.ShloMosaic.TcCoe

/-! ## The permutation matrices -/

/-- Words of small numbers are equal where the numbers are. -/
theorem cmpi_small (x y : ℕ) (hx : x < 256) (hy : y < 256) :
    IntOp.cmpi CmpIPredicate.eq (BitVec.ofNat 32 x) (BitVec.ofNat 32 y) = if x = y then 1#1 else 0#1 := by
  have e : BitVec.ofNat 32 x = BitVec.ofNat 32 y ↔ x = y := by
    constructor
    · intro h
      have := congrArg BitVec.toNat h
      simpa [Nat.mod_eq_of_lt (show x < 4294967296 by omega), Nat.mod_eq_of_lt (show y < 4294967296 by omega)] using this
    · rintro rfl; rfl
  by_cases h : x = y
  · subst h; rw [if_pos rfl]; simp [IntOp.cmpi]
  · have hb : (BitVec.ofNat 32 x == BitVec.ofNat 32 y) = false := beq_eq_false_iff_ne.2 fun he => h (e.1 he)
    rw [if_neg h]
    simp only [IntOp.cmpi, hb]
    rfl

/-- Where the matrix of dilation 4 has its ones. -/
theorem mask4_apply (a k : Fin 256) : k0_pay6 (ix2 a k) = if k.val = a.val % 64 * 4 + a.val / 64 then 1#1 else 0#1 := by
  rw [← cmpi_small _ _ k.isLt (by omega)]
  unfold k0_pay6
  pointwise
  refine congrArg (IntOp.cmpi CmpIPredicate.eq (BitVec.ofNat 32 k.val)) ?_
  revert a
  decide +kernel

theorem perm4_apply (a k : Fin 256) :
    (perm4 : FVec Ideal S256x256 .bf16) (ix2 a k) = if k.val = a.val % 64 * 4 + a.val / 64 then (1 : EReal) else 0 := by
  unfold perm4 k0_pay7
  pointwise
  rw [mask4_apply]
  split <;> rfl

theorem perm16_apply (a k : Fin 256) :
    (perm16 : FVec Ideal S256x256 .bf16) (ix2 a k) = if k.val = a.val % 16 * 16 + a.val / 16 then (1 : EReal) else 0 := by
  refine Eq.trans (b := Scalar.select (IntOp.cmpi CmpIPredicate.eq (BitVec.ofNat 32 k.val) (BitVec.ofNat 32 (a.val % 16 * 16 + a.val / 16))) (1 : EReal) 0) ?_ ?_
  · unfold perm16 k0_pay55 k0_pay50 k0_pay51 k0_pay52 k0_pay53 k0_pay54
    pointwise
    refine congrArg (fun w => Scalar.select (IntOp.cmpi CmpIPredicate.eq (BitVec.ofNat 32 k.val) w) (1 : EReal) 0) ?_
    revert a
    decide +kernel
  · rw [cmpi_small k.val (a.val % 16 * 16 + a.val / 16) k.isLt (by omega)]
    split <;> rfl

/-- A matrix with one one in each row picks a row. -/
theorem mixed_apply (P : FVec Ideal S256x256 .bf16) (σ : Fin 256 → Fin 256) (hP : ∀ a k, P (ix2 a k) = if k = σ a then (1 : EReal) else 0)
    (v : FVec Ideal S256x1024 .bf16) (a : Fin 256) (l : Fin 1024) : mixed P v (ix2 a l) = v (ix2 (σ a) l) := by
  unfold mixed
  pointwise
  rw [Finset.sum_congr rfl fun k _ => by rw [hP a k, ite_mul, one_mul, zero_mul]]
  rw [Finset.sum_ite_eq' Finset.univ (σ a), if_pos (Finset.mem_univ _)]

/-- Where row `p` of the copy for dilation 4 comes from: the run of 256 rows, and the row in it. -/
theorem place4 : ∀ p : Fin 2048, 256 * (p.val % (8 * 64) / 64 % 8) + ((p.val / (8 * 64) * 64 + p.val % 64) % 256 % 64 * 4 + (p.val / (8 * 64) * 64 + p.val % 64) % 256 / 64)
    = p.val % 512 * 4 + p.val / 512 := by
  decide +kernel

/-- The same for dilation 16. -/
theorem place16 : ∀ p : Fin 2048, 256 * (p.val % (8 * 16) / 16 % 8) + ((p.val / (8 * 16) * 16 + p.val % 16) % 256 % 16 * 16 + (p.val / (8 * 16) * 16 + p.val % 16) % 256 / 16)
    = p.val % 128 * 16 + p.val / 128 := by
  decide +kernel

/-- The kept copy's rows, as rows of the tile. -/
theorem scr_apply (x0 : Vec Ideal S2048x1024 .bf16) (g : Fin 2) (p p' : Fin 2048) (l : Fin 1024)
    (h : p'.val = if g.val = 0 then p.val % 512 * 4 + p.val / 512 else p.val % 128 * 16 + p.val / 128) :
    scr x0 (ix3 g p l) = x0 (ix2 p' l) := by
  have hp := p.isLt
  unfold scr
  show (if g.val = 0 then part 64 perm4 x0 p.val l else part 16 perm16 x0 p.val l) = _
  by_cases hg : g.val = 0
  · rw [if_pos hg] at h ⊢
    unfold part
    rw [mixed_apply perm4 (fun a => ⟨a.val % 64 * 4 + a.val / 64, by omega⟩) (fun a k => by rw [perm4_apply]; simp only [Fin.ext_iff])]
    refine congrArg x0 (congrArg (fun r => ix2 r l) (Fin.ext ?_))
    exact (place4 p).trans h.symm
  · rw [if_neg hg] at h ⊢
    unfold part
    rw [mixed_apply perm16 (fun a => ⟨a.val % 16 * 16 + a.val / 16, by omega⟩) (fun a k => by rw [perm16_apply]; simp only [Fin.ext_iff])]
    refine congrArg x0 (congrArg (fun r => ix2 r l) (Fin.ext ?_))
    exact (place16 p).trans h.symm

/-! ## The weights and the product -/

theorem named_scale : Named.named (F := Ideal) κ "qk_scale" (φ := .f32) 0x3E0293EE#32 = ((ProjRef.scale : ℝ) : EReal) := rfl

/-- The word that chooses a column block's factor. -/
theorem scaled_apply (j : Fin 6) (w : FVec Ideal S1024x2048 .f32) (k : Fin 1024) (l : Fin 2048) :
    scaled (F := Ideal) (BitVec.ofNat 32 j.val) w (ix2 k l) = w (ix2 k l) * ProjRef.factor j := by
  refine Eq.trans (b := w (ix2 k l) * Scalar.select (if j.val % 3 = 0 then 1#1 else 0#1) (Named.named (F := Ideal) κ "qk_scale" (φ := .f32) 0x3E0293EE#32) (1 : EReal)) ?_ ?_
  · unfold scaled k0_pay204
    pointwise
    refine congrArg (fun b => w (ix2 k l) * Scalar.select b (Named.named (F := Ideal) κ "qk_scale" (φ := .f32) 0x3E0293EE#32) (1 : EReal)) ?_
    revert j
    decide +kernel
  · rw [named_scale]
    unfold ProjRef.factor
    split <;> rfl

/-- A factor that is a real number, not negative, comes out of a sum. -/
theorem sum_mul_factor {n : ℕ} (f : Fin n → EReal) (j : Fin 6) : ∑ k, f k * ProjRef.factor j = (∑ k, f k) * ProjRef.factor j := by
  have h0 : 0 ≤ ProjRef.factor j := by
    unfold ProjRef.factor; split
    · exact EReal.coe_nonneg.2 ProjRef.scale_nonneg
    · exact zero_le_one
  have h1 : ProjRef.factor j ≠ ⊤ := by
    unfold ProjRef.factor; split
    · exact EReal.coe_ne_top _
    · exact EReal.coe_ne_top 1
  let φ : EReal →+ EReal :=
    { toFun := fun x => x * ProjRef.factor j
      map_zero' := zero_mul _
      map_add' := fun x y => EReal.right_distrib_of_nonneg_of_ne_top h0 h1 x y }
  exact (map_sum φ f Finset.univ).symm

theorem proj_apply (w : FVec Ideal S1024x2048 .bf16) (r : FVec Ideal S512x1024 .bf16) (a : Fin 512) (l : Fin 2048) :
    proj w r (ix2 a l) = ∑ k : Fin 1024, r (ix2 a k) * w (ix2 k l) := by
  unfold proj
  pointwise

/-! ## The result -/

section Result
variable (m : (ℓ : Loc nD τ sig) → Buf (Elt Ideal) ℓ) (c : Dev nD)

/-- The run's result is the reference's, of the arguments. -/
theorem outG_eq :
    outG m c = ProjRef.refOut (m ((c : Thread nD τ).loc main_arg0)) (m ((c : Thread nD τ).loc main_arg1)) := by
  funext i
  obtain ⟨r, q, rfl⟩ : ∃ (r : Fin 32768) (q : Fin 12288), i = ix2 r q := ⟨i 0, i 1, eq_ix2 i⟩
  have hr := r.isLt
  have hq := q.isLt
  have hj : q.val / 2048 < 6 := by omega
  have hl : q.val % 2048 < 2048 := Nat.mod_lt _ (by decide)
  rw [ProjRef.refOut_apply _ _ ⟨q.val / 2048, hj⟩ r ⟨q.val % 2048, hl⟩ q ⟨6144 + q.val, by omega⟩ (by show q.val = 2048 * (q.val / 2048) + q.val % 2048; omega) rfl]
  unfold ProjRef.dotAt
  rw [← sum_mul_factor]
  show outTile (grp (q.val / 2048)) (scaled (BitVec.ofNat 32 (q.val / 2048)) (wcol m c (q.val / 2048))) (scr (tile m c (r.val / 2048)))
    (ix2 (⟨r.val % 2048, Nat.mod_lt _ (by decide)⟩ : Fin 2048) (⟨q.val % 2048, hl⟩ : Fin 2048)) = _
  unfold outTile
  refine (proj_apply _ _ _ _).trans (Finset.sum_congr rfl fun k _ => ?_)
  rw [mul_assoc]
  refine congrArg₂ (· * ·) ?_ ((scaled_apply ⟨q.val / 2048, hj⟩ _ k ⟨q.val % 2048, hl⟩).trans (congrArg (· * ProjRef.factor _) ?_))
  · unfold rowsOf
    have hlt : (if (grp (q.val / 2048)).val = 0 then r.val % 2048 % 512 * 4 + r.val % 2048 / 512 else r.val % 2048 % 128 * 16 + r.val % 2048 / 128) < 2048 := by
      split <;> omega
    obtain ⟨p', hp'⟩ : ∃ p' : Fin 2048, p'.val = (if (grp (q.val / 2048)).val = 0 then r.val % 2048 % 512 * 4 + r.val % 2048 / 512
        else r.val % 2048 % 128 * 16 + r.val % 2048 / 128) := ⟨⟨_, hlt⟩, rfl⟩
    have hp := p'.isLt
    refine (scr_apply (tile m c (r.val / 2048)) (grp (q.val / 2048)) _ p' k (hp'.trans ?_)).trans ?_
    · have e : 512 * (r.val % 2048 / 512 % 4) + r.val % 2048 % 512 = r.val % 2048 := by omega
      show _ = if _ then (512 * (r.val % 2048 / 512 % 4) + r.val % 2048 % 512) % 512 * 4 + (512 * (r.val % 2048 / 512 % 4) + r.val % 2048 % 512) / 512
        else (512 * (r.val % 2048 / 512 % 4) + r.val % 2048 % 512) % 128 * 16 + (512 * (r.val % 2048 / 512 % 4) + r.val % 2048 % 512) / 128
      rw [e]
    · unfold tile
      refine congrArg (m ((c : Thread nD τ).loc main_arg0)) (congrArg (fun x => ix2 x k) (Fin.ext ?_))
      unfold ProjRef.rowFor ProjRef.token
      unfold grp at hp'
      show (2048 * (r.val / 2048) + p'.val) % 32768 = _
      by_cases h3 : q.val / 2048 ≤ 2
      · rw [if_pos h3] at hp' ⊢
        rw [if_pos (by rfl)] at hp'
        rw [hp']
      · rw [if_neg h3] at hp' ⊢
        rw [if_neg (by decide)] at hp'
        rw [hp']
  · unfold wcol
    refine congrArg (m ((c : Thread nD τ).loc main_arg1)) (congrArg (fun x => ix2 k x) (Fin.ext ?_))
    show (6144 + 2048 * (q.val / 2048) + q.val % 2048) % 20480 = 6144 + q.val
    omega

end Result

end Cert.Proof.Proj

end
-- ==== Proof.ResWords.lean ====
/- The integer side of the pipelined loop of the call that returns the residual too: the words it carries before trip `k`, and
   what every offset, every guard and every assumed side condition of a trip comes to at those words. All of them are decided
   over the 32 trips. -/
module

public import proofs.«01_k».proof.Proof.Words
public import proofs.«01_k».proof.Proof.Gen.Kernel3Ideal
public import proofs.«01_k».proof.Proof.Gen.Kernel3Ideal.Skeleton
public import Idealize.ShloMosaic.Lib.Ring

@[expose] public section

set_option maxRecDepth 16384

noncomputable section

namespace Cert.Proof.Res

open Cert.Kernel3Ideal Cert.Kernel3Ideal.Gen
open Cert.Proof.Out (ahead here waited point)
open Idealize.ShloMosaic Idealize.ShloMosaic.TcCoe

/-- All that the loop carries before trip `k`. -/
abbrev words (k : ℕ) : BitVec 32 × BitVec 32 × BitVec 32 × BitVec 32 × BitVec 32 × BitVec 32 × BitVec 32 × BitVec 32 × BitVec 32 :=
  (ahead k, here k, ahead k, here k, here k, waited k, here k, waited k, point k)

/-- The loop makes 32 trips. -/
theorem trips_eq : k0_t1_loop.trips = 32 := by decide +kernel

theorem trip_lt (k : Fin k0_t1_loop.trips) : k.val < 32 := k.isLt.trans_eq trips_eq

/-- A statement about the trips holds once it is checked at each of the 32. -/
theorem forall_trip {P : Fin k0_t1_loop.trips → Prop} (h : ∀ k : Fin 32, P ⟨k.val, k.isLt.trans_eq trips_eq.symm⟩)
    (k : Fin k0_t1_loop.trips) : P k := h ⟨k.val, trip_lt k⟩

/-! ## The slots and the blocks -/

theorem off10_eq : ∀ k : Fin 32, k.val < 30 → k0_off10 (ahead k.val) = ![(k.val + 2) % 3] := by decide +kernel
theorem off11_eq : ∀ k : Fin 32, k.val < 30 → k0_off11 (ahead k.val) = ![(k.val + 2) % 3, 0, 0] := by decide +kernel
theorem off12_eq : ∀ k : Fin 32, k.val < 30 → k0_off12 (point k.val) = ![1024 * (k.val + 2), 0] := by decide +kernel
theorem off13_eq : ∀ k : Fin 32, k.val < 30 → k0_off13 (ahead k.val) = ![(k.val + 2) % 3] := by decide +kernel
theorem off14_eq : ∀ k : Fin 32, k.val < 30 → k0_off14 (ahead k.val) = ![(k.val + 2) % 3, 0, 0] := by decide +kernel
theorem off15_eq : ∀ k : Fin 32, k.val < 30 → k0_off15 (point k.val) = ![1024 * (k.val + 2), 0] := by decide +kernel
theorem off16_eq : ∀ k : Fin 32, k0_off16 (here k.val) = ![k.val % 3] := by decide +kernel
theorem off17_eq : ∀ k : Fin 32, k0_off17 (here k.val) = ![k.val % 3, 0, 0] := by decide +kernel
theorem off18_eq : ∀ k : Fin 32, k0_off18 (point k.val) = ![1024 * k.val, 0] := by decide +kernel
theorem off19_eq : ∀ k : Fin 32, k0_off19 (here k.val) = ![k.val % 3] := by decide +kernel
theorem off20_eq : ∀ k : Fin 32, k0_off20 (here k.val) = ![k.val % 3, 0, 0] := by decide +kernel
theorem off21_eq : ∀ k : Fin 32, k0_off21 (point k.val) = ![1024 * k.val, 0] := by decide +kernel
theorem off22_eq : ∀ k : Fin 32, k0_off22 (here k.val) = ![k.val % 3, 0, 0] := by decide +kernel
theorem off23_eq : ∀ k : Fin 32, k0_off23 (here k.val) = ![k.val % 3, 0, 0] := by decide +kernel
theorem off24_eq : ∀ k : Fin 32, k0_off24 (here k.val) = ![k.val % 2, 0, 0] := by decide +kernel
theorem off25_eq : ∀ k : Fin 32, k0_off25 (here k.val) = ![k.val % 2, 0, 0] := by decide +kernel
theorem off26_eq : ∀ k : Fin 32, k0_off26 (here k.val) = ![k.val % 2] := by decide +kernel
theorem off27_eq : ∀ k : Fin 32, k0_off27 (point k.val) = ![1024 * k.val, 0] := by decide +kernel
theorem off28_eq : ∀ k : Fin 32, k0_off28 (here k.val) = ![k.val % 2, 0, 0] := by decide +kernel
theorem off29_eq : ∀ k : Fin 32, k0_off29 (here k.val) = ![k.val % 2] := by decide +kernel
theorem off30_eq : ∀ k : Fin 32, k0_off30 (point k.val) = ![1024 * k.val, 0] := by decide +kernel
theorem off31_eq : ∀ k : Fin 32, k0_off31 (here k.val) = ![k.val % 2, 0, 0] := by decide +kernel
theorem off32_eq : ∀ k : Fin 32, 0 < k.val → k0_off32 (waited k.val) = ![(k.val + 1) % 2] := by decide +kernel
theorem off33_eq : ∀ k : Fin 32, 0 < k.val → k0_off33 (point k.val) = ![1024 * (k.val - 1), 0] := by decide +kernel
theorem off34_eq : ∀ k : Fin 32, 0 < k.val → k0_off34 (waited k.val) = ![(k.val + 1) % 2, 0, 0] := by decide +kernel
theorem off35_eq : ∀ k : Fin 32, 0 < k.val → k0_off35 (waited k.val) = ![(k.val + 1) % 2] := by decide +kernel
theorem off36_eq : ∀ k : Fin 32, 0 < k.val → k0_off36 (point k.val) = ![1024 * (k.val - 1), 0] := by decide +kernel
theorem off37_eq : ∀ k : Fin 32, 0 < k.val → k0_off37 (waited k.val) = ![(k.val + 1) % 2, 0, 0] := by decide +kernel

/-! ## The guards -/

theorem cond3_pos : ∀ k : Fin k0_t1_loop.trips, k.val < 30 → k0_cond3 k (point k.val) = 1#1 :=
  forall_trip (by decide +kernel)
theorem cond3_neg : ∀ k : Fin k0_t1_loop.trips, 30 ≤ k.val → ¬ k0_cond3 k (point k.val) = 1#1 :=
  forall_trip (by decide +kernel)
theorem cond4_pos : ∀ k : Fin k0_t1_loop.trips, k.val < 30 → k0_cond4 k (point k.val) = 1#1 :=
  forall_trip (by decide +kernel)
theorem cond4_neg : ∀ k : Fin k0_t1_loop.trips, 30 ≤ k.val → ¬ k0_cond4 k (point k.val) = 1#1 :=
  forall_trip (by decide +kernel)
theorem cond5_pos : ∀ k : Fin k0_t1_loop.trips, k0_cond5 k (point k.val) = 1#1 := forall_trip (by decide +kernel)
theorem cond6_pos : ∀ k : Fin k0_t1_loop.trips, k0_cond6 k (point k.val) = 1#1 := forall_trip (by decide +kernel)
theorem cond11_pos : ∀ k : Fin k0_t1_loop.trips, k0_cond11 k (point k.val) = 1#1 := forall_trip (by decide +kernel)
theorem cond12_pos : ∀ k : Fin k0_t1_loop.trips, k0_cond12 k (point k.val) = 1#1 := forall_trip (by decide +kernel)
theorem cond15_pos : ∀ k : Fin k0_t1_loop.trips, 0 < k.val → k0_cond15 k (point k.val) = 1#1 :=
  forall_trip (by decide +kernel)
theorem cond15_neg : ∀ k : Fin k0_t1_loop.trips, ¬ 0 < k.val → ¬ k0_cond15 k (point k.val) = 1#1 :=
  forall_trip (by decide +kernel)
theorem cond16_pos : ∀ k : Fin k0_t1_loop.trips, 0 < k.val → k0_cond16 k (point k.val) = 1#1 :=
  forall_trip (by decide +kernel)
theorem cond16_neg : ∀ k : Fin k0_t1_loop.trips, ¬ 0 < k.val → ¬ k0_cond16 k (point k.val) = 1#1 :=
  forall_trip (by decide +kernel)

/-! ## The assumed side conditions -/

theorem chk2_at : ∀ k : Fin 32, k0_chk2 (here k.val) := by decide +kernel
theorem chk3_at : ∀ k : Fin 32, k0_chk3 (here k.val) := by decide +kernel
theorem chk4_at : ∀ k : Fin 32, k0_chk4 (here k.val) := by decide +kernel
theorem chk5_at : ∀ k : Fin 32, k0_chk5 (here k.val) := by decide +kernel
theorem chk6_end : k0_chk6 (waited 32) := by decide +kernel
theorem chk8_end : k0_chk8 (waited 32) := by decide +kernel
theorem chk7_end : k0_chk7 (point 32) := by decide +kernel
theorem chk1_at : ∀ k : Fin k0_t1_loop.trips,
    k0_chk1 k (ahead k.val) (here k.val) (ahead k.val) (here k.val) (here k.val) (waited k.val) (here k.val) (waited k.val) (point k.val) :=
  forall_trip (by decide +kernel)

end Cert.Proof.Res

end
-- ==== Proof.ResPieces.lean ====
/- For the call that returns the residual too: the canonical names of the transferred pieces — block `b` of each array in HBM,
   slot `s` of each ring buffer, its DMA semaphore — and what the separation logic says of them. -/
module

public import proofs.«01_k».proof.Proof.ResWords
public import proofs.«01_k».proof.Proof.Pieces
public import proofs.«01_k».proof.Proof.Rings
public import proofs.«01_k».proof.Proof.Gen.Kernel3Ideal.Launch
public import proofs.«01_k».proof.Proof.Gen.Kernel3Ideal.Loops
public import proofs.«01_k».proof.Proof.Gen.Kernel3Ideal.Points
public import Idealize.ShloMosaic.Lib.Pipeline.FrameValue
public import Idealize.ShloMosaic.Lib.Tactic

@[expose] public section

set_option maxRecDepth 16384

noncomputable section

namespace Cert.Proof.Res

open Cert.Kernel3Ideal Cert.Kernel3Ideal.Gen
open Cert.Proof.Out (ahead here waited point rowOff off3 off2 cell3 cell2 row_of off3_of off2_of cell3_of cell2_of amount)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside the counters the kernel's own transfers ride on. -/
abbrev UU : Type := Pipeline.UD sig nD τ
local notation "𝕄" => MT nD τ sig Unit (Elt F) ℕ UU ℕ
abbrev 𝒱₀ : Variants := Variants.none

/-! ## The buffers -/

abbrev yArr : Memref sig .tc .hbm S32768x2048 .bf16 := Memref.whole main_arg0
abbrev hArr : Memref sig .tc .hbm S32768x1024 .f32 := Memref.whole main_arg2
abbrev oArr : Memref sig .tc .hbm S32768x1024 .f32 := Memref.whole main_v1_0
abbrev uArr : Memref sig .tc .hbm S32768x1024 .bf16 := Memref.whole main_v1_1
abbrev wBuf : Memref sig .tc .vmem S2048x1024 .bf16 := Memref.whole cc0_scratch0
abbrev yBuf : Memref sig .tc .vmem S3x1024x2048 .bf16 := Memref.whole cc0_scoped0
abbrev hBuf : Memref sig .tc .vmem S3x1024x1024 .f32 := Memref.whole cc0_scoped2
abbrev oBuf : Memref sig .tc .vmem S2x1024x1024 .f32 := Memref.whole cc0_scoped4

abbrev uBuf : Memref sig .tc .vmem S2x1024x1024 .bf16 := Memref.whole cc0_scoped6

/-! ## Where the pieces lie -/

theorem rowOff_inb_y : ∀ (b : Fin 32) a, rowOff b a + S1024x2048.size a ≤ S32768x2048.size a := by decide +kernel
theorem rowOff_inb_h : ∀ (b : Fin 32) a, rowOff b a + S1024x1024.size a ≤ S32768x1024.size a := by decide +kernel
theorem off3_inb_y : ∀ (s : Fin 3) a, off3 s a + S1x1024x2048.size a ≤ S3x1024x2048.size a := by decide +kernel
theorem off3_inb_h : ∀ (s : Fin 3) a, off3 s a + S1x1024x1024.size a ≤ S3x1024x1024.size a := by decide +kernel
theorem off2_inb : ∀ (s : Fin 2) a, off2 s a + S1x1024x1024.size a ≤ S2x1024x1024.size a := by decide +kernel
theorem cell3_inb : ∀ (s : Fin 3) a, cell3 s a + S1.size a ≤ S3.size a := by decide +kernel
theorem cell2_inb : ∀ (s : Fin 2) a, cell2 s a + S1.size a ≤ S2.size a := by decide +kernel

/-- Block `b` of the gated output `y`: rows `1024 b` to `1024 b + 1023`. -/
def yBlk (b : Fin 32) : Memref sig .tc .hbm S1024x2048 .bf16 :=
  yArr.slice (Rect.unit (s := S32768x2048) (rowOff b) S1024x2048.size (rowOff_inb_y b)) (fun _ => rfl)
/-- Block `b` of the residual `h`. -/
def hBlk (b : Fin 32) : Memref sig .tc .hbm S1024x1024 .f32 :=
  hArr.slice (Rect.unit (s := S32768x1024) (rowOff b) S1024x1024.size (rowOff_inb_h b)) (fun _ => rfl)
/-- Block `b` of the result. -/
def oBlk (b : Fin 32) : Memref sig .tc .hbm S1024x1024 .f32 :=
  oArr.slice (Rect.unit (s := S32768x1024) (rowOff b) S1024x1024.size (rowOff_inb_h b)) (fun _ => rfl)
/-- The same of the rounded result. -/
def uBlk (b : Fin 32) : Memref sig .tc .hbm S1024x1024 .bf16 :=
  uArr.slice (Rect.unit (s := S32768x1024) (rowOff b) S1024x1024.size (rowOff_inb_h b)) (fun _ => rfl)
/-- Slot `s` of the ring `y` is fetched into. -/
def ySlot (s : Fin 3) : Memref sig .tc .vmem S1024x2048 .bf16 :=
  (yBuf.slice (Rect.unit (s := S3x1024x2048) (off3 s) S1x1024x2048.size (off3_inb_y s)) (fun _ => rfl)).squeeze S1024x2048 squeezes_S1x1024x2048_S1024x2048
/-- Slot `s` of the ring `h` is fetched into. -/
def hSlot (s : Fin 3) : Memref sig .tc .vmem S1024x1024 .f32 :=
  (hBuf.slice (Rect.unit (s := S3x1024x1024) (off3 s) S1x1024x1024.size (off3_inb_h s)) (fun _ => rfl)).squeeze S1024x1024 squeezes_S1x1024x1024_S1024x1024
/-- Slot `s` of the ring the result is written back from. -/
def oSlot (s : Fin 2) : Memref sig .tc .vmem S1024x1024 .f32 :=
  (oBuf.slice (Rect.unit (s := S2x1024x1024) (off2 s) S1x1024x1024.size (off2_inb s)) (fun _ => rfl)).squeeze S1024x1024 squeezes_S1x1024x1024_S1024x1024
/-- The same of the rounded result. -/
def uSlot (s : Fin 2) : Memref sig .tc .vmem S1024x1024 .bf16 :=
  (uBuf.slice (Rect.unit (s := S2x1024x1024) (off2 s) S1x1024x1024.size (off2_inb s)) (fun _ => rfl)).squeeze S1024x1024 squeezes_S1x1024x1024_S1024x1024
/-- The semaphore of slot `s` of `y`'s ring. -/
def ySem (s : Fin 3) : DmaSems sig S_ := (cc0_scoped1.slice (Rect.unit (s := S3) (cell3 s) S1.size (cell3_inb s))).squeeze S_ squeezes_S1_S_
/-- The semaphore of slot `s` of `h`'s ring. -/
def hSem (s : Fin 3) : DmaSems sig S_ := (cc0_scoped3.slice (Rect.unit (s := S3) (cell3 s) S1.size (cell3_inb s))).squeeze S_ squeezes_S1_S_
/-- The semaphore of slot `s` of the result's ring. -/
def oSem (s : Fin 2) : DmaSems sig S_ := (cc0_scoped5.slice (Rect.unit (s := S2) (cell2 s) S1.size (cell2_inb s))).squeeze S_ squeezes_S1_S_

/-- The same of the rounded result. -/
def uSem (s : Fin 2) : DmaSems sig S_ := (cc0_scoped7.slice (Rect.unit (s := S2) (cell2 s) S1.size (cell2_inb s))).squeeze S_ squeezes_S1_S_

/-! ## The program's slices under those names -/

theorem yBlk_congr {off : Fin 2 → Nat} {b : Fin 32} (e : off = rowOff b) (hh hs) :
    yArr.slice (Rect.unit (s := S32768x2048) off S1024x2048.size hh) hs = yBlk b := Memref.slice_unit_congr _ e _ _ _ (fun _ => rfl)
theorem hBlk_congr {off : Fin 2 → Nat} {b : Fin 32} (e : off = rowOff b) (hh hs) :
    hArr.slice (Rect.unit (s := S32768x1024) off S1024x1024.size hh) hs = hBlk b := Memref.slice_unit_congr _ e _ _ _ (fun _ => rfl)
theorem oBlk_congr {off : Fin 2 → Nat} {b : Fin 32} (e : off = rowOff b) (hh hs) :
    oArr.slice (Rect.unit (s := S32768x1024) off S1024x1024.size hh) hs = oBlk b := Memref.slice_unit_congr _ e _ _ _ (fun _ => rfl)
theorem uBlk_congr {off : Fin 2 → Nat} {b : Fin 32} (e : off = rowOff b) (hh hs) :
    uArr.slice (Rect.unit (s := S32768x1024) off S1024x1024.size hh) hs = uBlk b := Memref.slice_unit_congr _ e _ _ _ (fun _ => rfl)
theorem ySlot_congr {off : Fin 3 → Nat} {s : Fin 3} (e : off = off3 s) (hh hs) :
    (yBuf.slice (Rect.unit (s := S3x1024x2048) off S1x1024x2048.size hh) hs).squeeze S1024x2048 squeezes_S1x1024x2048_S1024x2048 = ySlot s :=
  congrArg (fun M : Memref sig .tc .vmem S1x1024x2048 .bf16 => M.squeeze S1024x2048 squeezes_S1x1024x2048_S1024x2048) (Memref.slice_unit_congr _ e _ _ _ _)
theorem hSlot_congr {off : Fin 3 → Nat} {s : Fin 3} (e : off = off3 s) (hh hs) :
    (hBuf.slice (Rect.unit (s := S3x1024x1024) off S1x1024x1024.size hh) hs).squeeze S1024x1024 squeezes_S1x1024x1024_S1024x1024 = hSlot s :=
  congrArg (fun M : Memref sig .tc .vmem S1x1024x1024 .f32 => M.squeeze S1024x1024 squeezes_S1x1024x1024_S1024x1024) (Memref.slice_unit_congr _ e _ _ _ _)
theorem oSlot_congr {off : Fin 3 → Nat} {s : Fin 2} (e : off = off2 s) (hh hs) :
    (oBuf.slice (Rect.unit (s := S2x1024x1024) off S1x1024x1024.size hh) hs).squeeze S1024x1024 squeezes_S1x1024x1024_S1024x1024 = oSlot s :=
  congrArg (fun M : Memref sig .tc .vmem S1x1024x1024 .f32 => M.squeeze S1024x1024 squeezes_S1x1024x1024_S1024x1024) (Memref.slice_unit_congr _ e _ _ _ _)
theorem uSlot_congr {off : Fin 3 → Nat} {s : Fin 2} (e : off = off2 s) (hh hs) :
    (uBuf.slice (Rect.unit (s := S2x1024x1024) off S1x1024x1024.size hh) hs).squeeze S1024x1024 squeezes_S1x1024x1024_S1024x1024 = uSlot s :=
  congrArg (fun M : Memref sig .tc .vmem S1x1024x1024 .bf16 => M.squeeze S1024x1024 squeezes_S1x1024x1024_S1024x1024) (Memref.slice_unit_congr _ e _ _ _ _)
theorem ySem_congr {off : Fin 1 → Nat} {s : Fin 3} (e : off = cell3 s) (hh) :
    (cc0_scoped1.slice (Rect.unit (s := S3) off S1.size hh)).squeeze S_ squeezes_S1_S_ = ySem s :=
  congrArg (fun A : DmaSems sig S1 => A.squeeze S_ squeezes_S1_S_) (SemArray.slice_unit_congr _ e _ _)
theorem hSem_congr {off : Fin 1 → Nat} {s : Fin 3} (e : off = cell3 s) (hh) :
    (cc0_scoped3.slice (Rect.unit (s := S3) off S1.size hh)).squeeze S_ squeezes_S1_S_ = hSem s :=
  congrArg (fun A : DmaSems sig S1 => A.squeeze S_ squeezes_S1_S_) (SemArray.slice_unit_congr _ e _ _)
theorem oSem_congr {off : Fin 1 → Nat} {s : Fin 2} (e : off = cell2 s) (hh) :
    (cc0_scoped5.slice (Rect.unit (s := S2) off S1.size hh)).squeeze S_ squeezes_S1_S_ = oSem s :=
  congrArg (fun A : DmaSems sig S1 => A.squeeze S_ squeezes_S1_S_) (SemArray.slice_unit_congr _ e _ _)

theorem uSem_congr {off : Fin 1 → Nat} {s : Fin 2} (e : off = cell2 s) (hh) :
    (cc0_scoped7.slice (Rect.unit (s := S2) off S1.size hh)).squeeze S_ squeezes_S1_S_ = uSem s :=
  congrArg (fun A : DmaSems sig S1 => A.squeeze S_ squeezes_S1_S_) (SemArray.slice_unit_congr _ e _ _)

section Names
variable (k : Fin k0_t1_loop.trips)

abbrev at32 (k : Fin k0_t1_loop.trips) : Fin 32 := ⟨k.val, trip_lt k⟩

/-! A trip's slots, cells and blocks. -/

@[sl_canon] theorem ySem_issue (h : k.val < 30) (hh) :
    (cc0_scoped1.slice (Rect.unit (s := S3) (k0_off10 (ahead k.val)) S1.size hh)).squeeze S_ squeezes_S1_S_ = ySem (Ring.sl 3 (k.val + 2)) :=
  ySem_congr (cell3_of (off10_eq (at32 k) h)) _
@[sl_canon] theorem ySlot_issue (h : k.val < 30) (hh hs) :
    (yBuf.slice (Rect.unit (s := S3x1024x2048) (k0_off11 (ahead k.val)) S1x1024x2048.size hh) hs).squeeze S1024x2048 squeezes_S1x1024x2048_S1024x2048 = ySlot (Ring.sl 3 (k.val + 2)) :=
  ySlot_congr (off3_of (off11_eq (at32 k) h)) _ _
@[sl_canon] theorem yBlk_issue (h : k.val < 30) (hh hs) :
    yArr.slice (Rect.unit (s := S32768x2048) (k0_off12 (point k.val)) S1024x2048.size hh) hs = yBlk (Ring.bk 32 (k.val + 2)) :=
  yBlk_congr (row_of (n := k.val + 2) (by omega) (off12_eq (at32 k) h)) _ _
@[sl_canon] theorem hSem_issue (h : k.val < 30) (hh) :
    (cc0_scoped3.slice (Rect.unit (s := S3) (k0_off13 (ahead k.val)) S1.size hh)).squeeze S_ squeezes_S1_S_ = hSem (Ring.sl 3 (k.val + 2)) :=
  hSem_congr (cell3_of (off13_eq (at32 k) h)) _
@[sl_canon] theorem hSlot_issue (h : k.val < 30) (hh hs) :
    (hBuf.slice (Rect.unit (s := S3x1024x1024) (k0_off14 (ahead k.val)) S1x1024x1024.size hh) hs).squeeze S1024x1024 squeezes_S1x1024x1024_S1024x1024 = hSlot (Ring.sl 3 (k.val + 2)) :=
  hSlot_congr (off3_of (off14_eq (at32 k) h)) _ _
@[sl_canon] theorem hBlk_issue (h : k.val < 30) (hh hs) :
    hArr.slice (Rect.unit (s := S32768x1024) (k0_off15 (point k.val)) S1024x1024.size hh) hs = hBlk (Ring.bk 32 (k.val + 2)) :=
  hBlk_congr (row_of (n := k.val + 2) (by omega) (off15_eq (at32 k) h)) _ _
@[sl_canon] theorem ySem_wait (hh) :
    (cc0_scoped1.slice (Rect.unit (s := S3) (k0_off16 (here k.val)) S1.size hh)).squeeze S_ squeezes_S1_S_ = ySem (Ring.sl 3 k.val) :=
  ySem_congr (cell3_of (off16_eq (at32 k))) _
@[sl_canon] theorem ySlot_wait (hh hs) :
    (yBuf.slice (Rect.unit (s := S3x1024x2048) (k0_off17 (here k.val)) S1x1024x2048.size hh) hs).squeeze S1024x2048 squeezes_S1x1024x2048_S1024x2048 = ySlot (Ring.sl 3 k.val) :=
  ySlot_congr (off3_of (off17_eq (at32 k))) _ _
@[sl_canon] theorem yBlk_wait (hh hs) :
    yArr.slice (Rect.unit (s := S32768x2048) (k0_off18 (point k.val)) S1024x2048.size hh) hs = yBlk (Ring.bk 32 k.val) :=
  yBlk_congr (row_of (trip_lt k) (off18_eq (at32 k))) _ _
@[sl_canon] theorem hSem_wait (hh) :
    (cc0_scoped3.slice (Rect.unit (s := S3) (k0_off19 (here k.val)) S1.size hh)).squeeze S_ squeezes_S1_S_ = hSem (Ring.sl 3 k.val) :=
  hSem_congr (cell3_of (off19_eq (at32 k))) _
@[sl_canon] theorem hSlot_wait (hh hs) :
    (hBuf.slice (Rect.unit (s := S3x1024x1024) (k0_off20 (here k.val)) S1x1024x1024.size hh) hs).squeeze S1024x1024 squeezes_S1x1024x1024_S1024x1024 = hSlot (Ring.sl 3 k.val) :=
  hSlot_congr (off3_of (off20_eq (at32 k))) _ _
@[sl_canon] theorem hBlk_wait (hh hs) :
    hArr.slice (Rect.unit (s := S32768x1024) (k0_off21 (point k.val)) S1024x1024.size hh) hs = hBlk (Ring.bk 32 k.val) :=
  hBlk_congr (row_of (trip_lt k) (off21_eq (at32 k))) _ _
@[sl_canon] theorem oSem_issue (hh) :
    (cc0_scoped5.slice (Rect.unit (s := S2) (k0_off26 (here k.val)) S1.size hh)).squeeze S_ squeezes_S1_S_ = oSem (Ring.sl 2 k.val) :=
  oSem_congr (cell2_of (off26_eq (at32 k))) _
@[sl_canon] theorem uSem_issue (hh) :
    (cc0_scoped7.slice (Rect.unit (s := S2) (k0_off29 (here k.val)) S1.size hh)).squeeze S_ squeezes_S1_S_ = uSem (Ring.sl 2 k.val) :=
  uSem_congr (cell2_of (off29_eq (at32 k))) _
@[sl_canon] theorem oBlk_issue (hh hs) :
    oArr.slice (Rect.unit (s := S32768x1024) (k0_off27 (point k.val)) S1024x1024.size hh) hs = oBlk (Ring.bk 32 k.val) :=
  oBlk_congr (row_of (trip_lt k) (off27_eq (at32 k))) _ _
@[sl_canon] theorem uBlk_issue (hh hs) :
    uArr.slice (Rect.unit (s := S32768x1024) (k0_off30 (point k.val)) S1024x1024.size hh) hs = uBlk (Ring.bk 32 k.val) :=
  uBlk_congr (row_of (trip_lt k) (off30_eq (at32 k))) _ _
@[sl_canon] theorem oSlot_issue (hh hs) :
    (oBuf.slice (Rect.unit (s := S2x1024x1024) (k0_off28 (here k.val)) S1x1024x1024.size hh) hs).squeeze S1024x1024 squeezes_S1x1024x1024_S1024x1024 = oSlot (Ring.sl 2 k.val) :=
  oSlot_congr (off2_of (off28_eq (at32 k))) _ _
@[sl_canon] theorem uSlot_issue (hh hs) :
    (uBuf.slice (Rect.unit (s := S2x1024x1024) (k0_off31 (here k.val)) S1x1024x1024.size hh) hs).squeeze S1024x1024 squeezes_S1x1024x1024_S1024x1024 = uSlot (Ring.sl 2 k.val) :=
  uSlot_congr (off2_of (off31_eq (at32 k))) _ _
@[sl_canon] theorem oSem_wait (h : 0 < k.val) (hh) :
    (cc0_scoped5.slice (Rect.unit (s := S2) (k0_off32 (waited k.val)) S1.size hh)).squeeze S_ squeezes_S1_S_ = oSem (Ring.sl 2 (k.val + 1)) :=
  oSem_congr (cell2_of (off32_eq (at32 k) h)) _
@[sl_canon] theorem uSem_wait (h : 0 < k.val) (hh) :
    (cc0_scoped7.slice (Rect.unit (s := S2) (k0_off35 (waited k.val)) S1.size hh)).squeeze S_ squeezes_S1_S_ = uSem (Ring.sl 2 (k.val + 1)) :=
  uSem_congr (cell2_of (off35_eq (at32 k) h)) _
@[sl_canon] theorem oBlk_wait (h : 0 < k.val) (hh hs) :
    oArr.slice (Rect.unit (s := S32768x1024) (k0_off33 (point k.val)) S1024x1024.size hh) hs = oBlk (Ring.bk 32 (k.val - 1)) :=
  oBlk_congr (row_of (by have := trip_lt k; omega) (off33_eq (at32 k) h)) _ _
@[sl_canon] theorem uBlk_wait (h : 0 < k.val) (hh hs) :
    uArr.slice (Rect.unit (s := S32768x1024) (k0_off36 (point k.val)) S1024x1024.size hh) hs = uBlk (Ring.bk 32 (k.val - 1)) :=
  uBlk_congr (row_of (by have := trip_lt k; omega) (off36_eq (at32 k) h)) _ _
@[sl_canon] theorem oSlot_wait (h : 0 < k.val) (hh hs) :
    (oBuf.slice (Rect.unit (s := S2x1024x1024) (k0_off34 (waited k.val)) S1x1024x1024.size hh) hs).squeeze S1024x1024 squeezes_S1x1024x1024_S1024x1024 = oSlot (Ring.sl 2 (k.val + 1)) :=
  oSlot_congr (off2_of (off34_eq (at32 k) h)) _ _

@[sl_canon] theorem uSlot_wait (h : 0 < k.val) (hh hs) :
    (uBuf.slice (Rect.unit (s := S2x1024x1024) (k0_off37 (waited k.val)) S1x1024x1024.size hh) hs).squeeze S1024x1024 squeezes_S1x1024x1024_S1024x1024 = uSlot (Ring.sl 2 (k.val + 1)) :=
  uSlot_congr (off2_of (off37_eq (at32 k) h)) _ _

/-! The windows the trip's loads and its store go through. -/

instance : ClosedOff (k0_off22 (here k.val)) := ⟨off3 (Ring.sl 3 k.val), off3_of (off22_eq (at32 k))⟩
instance : ClosedOff (k0_off23 (here k.val)) := ⟨off3 (Ring.sl 3 k.val), off3_of (off23_eq (at32 k))⟩
instance : ClosedOff (k0_off24 (here k.val)) := ⟨off2 (Ring.sl 2 k.val), off2_of (off24_eq (at32 k))⟩
instance : ClosedOff (k0_off25 (here k.val)) := ⟨off2 (Ring.sl 2 k.val), off2_of (off25_eq (at32 k))⟩

end Names

/-! The slices before and after the loop. -/

@[sl_canon] theorem ySem_first (hh) :
    (cc0_scoped1.slice (Rect.unit (s := S3) k0_off1 S1.size hh)).squeeze S_ squeezes_S1_S_ = ySem 0 :=
  ySem_congr (by decide +kernel) _
@[sl_canon] theorem hSem_first (hh) :
    (cc0_scoped3.slice (Rect.unit (s := S3) k0_off1 S1.size hh)).squeeze S_ squeezes_S1_S_ = hSem 0 :=
  hSem_congr (by decide +kernel) _
@[sl_canon] theorem ySlot_first (hh hs) :
    (yBuf.slice (Rect.unit (s := S3x1024x2048) k0_off2 S1x1024x2048.size hh) hs).squeeze S1024x2048 squeezes_S1x1024x2048_S1024x2048 = ySlot 0 :=
  ySlot_congr (by decide +kernel) _ _
@[sl_canon] theorem hSlot_first (hh hs) :
    (hBuf.slice (Rect.unit (s := S3x1024x1024) k0_off3 S1x1024x1024.size hh) hs).squeeze S1024x1024 squeezes_S1x1024x1024_S1024x1024 = hSlot 0 :=
  hSlot_congr (by decide +kernel) _ _
@[sl_canon] theorem yBlk_first (hh hs) :
    yArr.slice (Rect.unit (s := S32768x2048) ![0, 0] S1024x2048.size hh) hs = yBlk 0 := yBlk_congr (by decide +kernel) _ _
@[sl_canon] theorem hBlk_first (hh hs) :
    hArr.slice (Rect.unit (s := S32768x1024) ![0, 0] S1024x1024.size hh) hs = hBlk 0 := hBlk_congr (by decide +kernel) _ _
@[sl_canon] theorem ySem_second (hh) :
    (cc0_scoped1.slice (Rect.unit (s := S3) k0_off4 S1.size hh)).squeeze S_ squeezes_S1_S_ = ySem 1 :=
  ySem_congr (by decide +kernel) _
@[sl_canon] theorem ySlot_second (hh hs) :
    (yBuf.slice (Rect.unit (s := S3x1024x2048) k0_off5 S1x1024x2048.size hh) hs).squeeze S1024x2048 squeezes_S1x1024x2048_S1024x2048 = ySlot 1 :=
  ySlot_congr (by decide +kernel) _ _
@[sl_canon] theorem yBlk_second (hh hs) :
    yArr.slice (Rect.unit (s := S32768x2048) k0_off6 S1024x2048.size hh) hs = yBlk 1 := yBlk_congr (by decide +kernel) _ _
@[sl_canon] theorem hSem_second (hh) :
    (cc0_scoped3.slice (Rect.unit (s := S3) k0_off7 S1.size hh)).squeeze S_ squeezes_S1_S_ = hSem 1 :=
  hSem_congr (by decide +kernel) _
@[sl_canon] theorem hSlot_second (hh hs) :
    (hBuf.slice (Rect.unit (s := S3x1024x1024) k0_off8 S1x1024x1024.size hh) hs).squeeze S1024x1024 squeezes_S1x1024x1024_S1024x1024 = hSlot 1 :=
  hSlot_congr (by decide +kernel) _ _
@[sl_canon] theorem hBlk_second (hh hs) :
    hArr.slice (Rect.unit (s := S32768x1024) k0_off9 S1024x1024.size hh) hs = hBlk 1 := hBlk_congr (by decide +kernel) _ _
@[sl_canon] theorem oSem_last (hh) :
    (cc0_scoped5.slice (Rect.unit (s := S2) (k0_off38 31#32) S1.size hh)).squeeze S_ squeezes_S1_S_ = oSem 1 :=
  oSem_congr (by decide +kernel) _
@[sl_canon] theorem uSem_last (hh) :
    (cc0_scoped7.slice (Rect.unit (s := S2) (k0_off41 31#32) S1.size hh)).squeeze S_ squeezes_S1_S_ = uSem 1 :=
  uSem_congr (by decide +kernel) _
@[sl_canon] theorem oBlk_last (hh hs) :
    oArr.slice (Rect.unit (s := S32768x1024) (k0_off39 0#32) S1024x1024.size hh) hs = oBlk 31 := oBlk_congr (by decide +kernel) _ _
@[sl_canon] theorem uBlk_last (hh hs) :
    uArr.slice (Rect.unit (s := S32768x1024) (k0_off42 0#32) S1024x1024.size hh) hs = uBlk 31 := uBlk_congr (by decide +kernel) _ _
@[sl_canon] theorem oSlot_last (hh hs) :
    (oBuf.slice (Rect.unit (s := S2x1024x1024) (k0_off40 31#32) S1x1024x1024.size hh) hs).squeeze S1024x1024 squeezes_S1x1024x1024_S1024x1024 = oSlot 1 :=
  oSlot_congr (by decide +kernel) _ _

@[sl_canon] theorem uSlot_last (hh hs) :
    (uBuf.slice (Rect.unit (s := S2x1024x1024) (k0_off43 31#32) S1x1024x1024.size hh) hs).squeeze S1024x1024 squeezes_S1x1024x1024_S1024x1024 = uSlot 1 :=
  uSlot_congr (by decide +kernel) _ _

/-! ## The pieces -/

section Held
variable (c : Dev nD)
  (Y : Buf (Elt F) ((c : Thread nD τ).loc main_arg0)) (H : Buf (Elt F) ((c : Thread nD τ).loc main_arg2))
  (O : Buf (Elt F) ((c : Thread nD τ).loc main_v1_0)) (U : Buf (Elt F) ((c : Thread nD τ).loc main_v1_1))

abbrev yCell (s : Fin 3) : sProp 𝕄 := semVal ((c : Thread nD τ), SemLoc.dma (ySem s).sem) 0
abbrev hCell (s : Fin 3) : sProp 𝕄 := semVal ((c : Thread nD τ), SemLoc.dma (hSem s).sem) 0
abbrev oCell (s : Fin 2) : sProp 𝕄 := semVal ((c : Thread nD τ), SemLoc.dma (oSem s).sem) 0

abbrev uCell (s : Fin 2) : sProp 𝕄 := semVal ((c : Thread nD τ), SemLoc.dma (uSem s).sem) 0

abbrev ySlotP (s : Fin 3) (f : Buf (Elt F) ((ySlot s).view.loc (c : Thread nD τ))) : sProp 𝕄 :=
  (ySlot s).view.loc (c : Thread nD τ) ↦[(ySlot s).view.set]{fullShare} f
abbrev hSlotP (s : Fin 3) (f : Buf (Elt F) ((hSlot s).view.loc (c : Thread nD τ))) : sProp 𝕄 :=
  (hSlot s).view.loc (c : Thread nD τ) ↦[(hSlot s).view.set]{fullShare} f
abbrev oSlotP (s : Fin 2) (f : Buf (Elt F) ((oSlot s).view.loc (c : Thread nD τ))) : sProp 𝕄 :=
  (oSlot s).view.loc (c : Thread nD τ) ↦[(oSlot s).view.set]{fullShare} f

abbrev uSlotP (s : Fin 2) (f : Buf (Elt F) ((uSlot s).view.loc (c : Thread nD τ))) : sProp 𝕄 :=
  (uSlot s).view.loc (c : Thread nD τ) ↦[(uSlot s).view.set]{fullShare} f

/-- Block `b` of `y` at home in HBM; likewise of `h` and of the result. -/
abbrev yHome (b : Fin 32) : sProp 𝕄 := (yBlk b).view.loc (c : Thread nD τ) ↦[(yBlk b).view.set]{fullShare} Y
abbrev hHome (b : Fin 32) : sProp 𝕄 := (hBlk b).view.loc (c : Thread nD τ) ↦[(hBlk b).view.set]{fullShare} H
abbrev oHome (b : Fin 32) : sProp 𝕄 := (oBlk b).view.loc (c : Thread nD τ) ↦[(oBlk b).view.set]{fullShare} O

abbrev uHome (b : Fin 32) : sProp 𝕄 := (uBlk b).view.loc (c : Thread nD τ) ↦[(uBlk b).view.set]{fullShare} U

/-- Block `b` of `y` as a slot's payload; likewise of `h`. -/
abbrev yLoad (b : Fin 32) : S1024x2048.Idx → Elt F .bf16 := ReadAs.same.apply ((yBlk b).view.read (Elt F) Y)
abbrev hLoad (b : Fin 32) : S1024x1024.Idx → Elt F .f32 := ReadAs.same.apply ((hBlk b).view.read (Elt F) H)

abbrev yLanded (s : Fin 3) (b : Fin 32) (f : Buf (Elt F) ((ySlot s).view.loc (c : Thread nD τ))) : Buf (Elt F) ((ySlot s).view.loc (c : Thread nD τ)) :=
  (ySlot s).view.writes (Elt F) f [⟨Rect.whole S1024x2048, yLoad c Y b⟩]
abbrev hLanded (s : Fin 3) (b : Fin 32) (f : Buf (Elt F) ((hSlot s).view.loc (c : Thread nD τ))) : Buf (Elt F) ((hSlot s).view.loc (c : Thread nD τ)) :=
  (hSlot s).view.writes (Elt F) f [⟨Rect.whole S1024x1024, hLoad c H b⟩]

/-- A block of two megabytes moves this many units on its cell. -/
abbrev half : ℕ := 65536

/-- Slot `s` in flight with block `b` of `y`; likewise with `h`'s. -/
abbrev yFlight (s : Fin 3) (b : Fin 32) (f : Buf (Elt F) ((ySlot s).view.loc (c : Thread nD τ))) : sProp 𝕄 :=
  Transfers.Flight countersEmb (c : Thread nD τ) (SemLoc.dma (ySem s).sem) () amount iprop(ySlotP c s (yLanded c Y s b f) ∗ yHome c Y b)
abbrev hFlight (s : Fin 3) (b : Fin 32) (f : Buf (Elt F) ((hSlot s).view.loc (c : Thread nD τ))) : sProp 𝕄 :=
  Transfers.Flight countersEmb (c : Thread nD τ) (SemLoc.dma (hSem s).sem) () amount iprop(hSlotP c s (hLanded c H s b f) ∗ hHome c H b)
/-- Block `b` of the result on its way home from slot `s`. -/
abbrev oFlight (s : Fin 2) (b : Fin 32) (f : Buf (Elt F) ((oSlot s).view.loc (c : Thread nD τ))) : sProp 𝕄 :=
  Transfers.Flight countersEmb (c : Thread nD τ) (SemLoc.dma (oSem s).sem) () amount iprop(oHome c O b ∗ oSlotP c s f)

/-- The same of the rounded result. -/
abbrev uFlight (s : Fin 2) (b : Fin 32) (f : Buf (Elt F) ((uSlot s).view.loc (c : Thread nD τ))) : sProp 𝕄 :=
  Transfers.Flight countersEmb (c : Thread nD τ) (SemLoc.dma (uSem s).sem) () half iprop(uHome c U b ∗ uSlotP c s f)

end Held

end Cert.Proof.Res

end
-- ==== Proof.ResTile.lean ====
/- For the call that returns the residual too: what one trip computes — a tile of the new residual and one of the normed rows,
   from a block of `y` and one of `h` — and the two whole results assembled from their 32 tiles. -/
module

public import proofs.«01_k».proof.Proof.ResPieces
public import proofs.«01_k».proof.Proof.Tile
public import Idealize.ShloMosaic.Lib.Pipeline.ValueKit.Geometry

@[expose] public section

set_option maxRecDepth 16384

noncomputable section

namespace Cert.Proof.Res

open Cert.Kernel3Ideal Cert.Kernel3Ideal.Gen
open Cert.Proof.Out (ahead here waited point rowOff off3 off2 cell3 cell2 row_of off3_of off2_of cell3_of cell2_of amount assemble entails_of_eq
  sep_insert Reads Writes reads_open reads_close reads_open_tail reads_close_tail reads_start_homes reads_start reads_end writes_open_first
  writes_close_first writes_open writes_close writes_start writes_end writes_all)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem casts_y : S1024x2048.ShapeCasts S1x1024x2048 := by decide +kernel

/-- The tile of the residual a trip computes from a block of `h`, a block of `y` and the weights. -/
def tileO (h : S1024x1024.Idx → Elt F .f32) (y : S1024x2048.Idx → Elt F .bf16)
    (w : S2048x1024.Idx → Elt F .bf16) : S1024x1024.Idx → Elt F .f32 :=
  shapeCast S1024x1024 (k0_pay2 (shapeCast S1x1024x1024 h shapeCasts_S1024x1024_S1x1024x1024) (shapeCast S1x1024x2048 y casts_y) w)
    shapeCasts_S1x1024x1024_S1024x1024

/-- The tile of normed rows it computes from them and the gain. -/
def tileU (h : S1024x1024.Idx → Elt F .f32) (y : S1024x2048.Idx → Elt F .bf16)
    (w : S2048x1024.Idx → Elt F .bf16) (g : S1x1024.Idx → Elt F .f32) : S1024x1024.Idx → Elt F .bf16 :=
  shapeCast S1024x1024 (k0_pay4 (k0_pay3 (shapeCast S1x1024x1024 h shapeCasts_S1024x1024_S1x1024x1024) (shapeCast S1x1024x2048 y casts_y) w) g)
    shapeCasts_S1x1024x1024_S1024x1024

/-! ## The rings read and written through the trip's own windows -/

theorem hRing_read (s : Fin 3) {off : Fin 3 → Nat} (e : off = off3 s) (hh) (f : hBuf.view.ty.Contents (Elt F)) :
    View.readAt (Elt F) hBuf.view (Rect.unit (s := S3x1024x1024) off S1x1024x1024.size hh).toLoadRect f
      = shapeCast S1x1024x1024 ((hSlot s).view.read (Elt F) f) shapeCasts_S1024x1024_S1x1024x1024 := by
  subst e
  unfold hSlot
  rw [Memref.read_squeeze_slice _ _ _ _ shapeCasts_S1x1024x1024_S1024x1024]
  exact (shapeCast_shapeCast _ _ _).symm

theorem yRing_read (s : Fin 3) {off : Fin 3 → Nat} (e : off = off3 s) (hh) (f : yBuf.view.ty.Contents (Elt F)) :
    View.readAt (Elt F) yBuf.view (Rect.unit (s := S3x1024x2048) off S1x1024x2048.size hh).toLoadRect f
      = shapeCast S1x1024x2048 ((ySlot s).view.read (Elt F) f) casts_y := by
  subst e
  unfold ySlot
  rw [Memref.read_squeeze_slice _ _ _ _ shapeCasts_S1x1024x2048_S1024x2048]
  exact (shapeCast_shapeCast _ _ _).symm

theorem oRing_read (s : Fin 2) {off : Fin 3 → Nat} (e : off = off2 s) (hh) (f : oBuf.view.ty.Contents (Elt F))
    (x : S1x1024x1024.Idx → Elt F .f32) :
    (oSlot s).view.read (Elt F) (View.write (Elt F) (oBuf.access (Rect.unit (s := S2x1024x1024) off S1x1024x1024.size hh)) f x Finset.univ)
      = shapeCast S1024x1024 x shapeCasts_S1x1024x1024_S1024x1024 := by
  subst e
  unfold oSlot
  rw [Memref.read_squeeze_slice _ _ _ _ shapeCasts_S1x1024x1024_S1024x1024]
  refine congrArg (fun v => shapeCast S1024x1024 v shapeCasts_S1x1024x1024_S1024x1024) ?_
  exact View.read_write_univ _ _

theorem uRing_read (s : Fin 2) {off : Fin 3 → Nat} (e : off = off2 s) (hh) (f : uBuf.view.ty.Contents (Elt F))
    (x : S1x1024x1024.Idx → Elt F .bf16) :
    (uSlot s).view.read (Elt F) (View.write (Elt F) (uBuf.access (Rect.unit (s := S2x1024x1024) off S1x1024x1024.size hh)) f x Finset.univ)
      = shapeCast S1024x1024 x shapeCasts_S1x1024x1024_S1024x1024 := by
  subst e
  unfold uSlot
  rw [Memref.read_squeeze_slice _ _ _ _ shapeCasts_S1x1024x1024_S1024x1024]
  refine congrArg (fun v => shapeCast S1024x1024 v shapeCasts_S1x1024x1024_S1024x1024) ?_
  exact View.read_write_univ _ _

/-! ## The result, tile by tile -/

theorem oBlk_read_assemble (t : Fin 32 → S1024x1024.Idx → Elt F .f32) (b : Fin 32) :
    (oBlk b).view.read (Elt F) (assemble t) = t b := by
  funext j
  have hj : (j 0).val < 1024 := (j 0).isLt
  have key : ∀ i : S32768x1024.Idx, (i 0).val = 1024 * b.val + (j 0).val → (i 1).val = 0 + (j 1).val → assemble t i = t b j := by
    intro i e0 e1
    unfold assemble
    congr 1
    · congr 1; rw [e0]; omega
    · funext a
      match a with
      | ⟨0, _⟩ => apply Fin.ext; show (i 0).val % 1024 = (j 0).val; rw [e0]; omega
      | ⟨1, _⟩ => apply Fin.ext; show (i 1).val = (j 1).val; rw [e1]; omega
  exact key ((Rect.unit (s := S32768x1024) (rowOff b) S1024x1024.size (rowOff_inb_h b)).emb j)
    (ValueKit.rect_emb_unit_val (s := S32768x1024) (rowOff b) S1024x1024.size (rowOff_inb_h b) j 0)
    (ValueKit.rect_emb_unit_val (s := S32768x1024) (rowOff b) S1024x1024.size (rowOff_inb_h b) j 1)

theorem uBlk_read_assemble (t : Fin 32 → S1024x1024.Idx → Elt F .bf16) (b : Fin 32) :
    (uBlk b).view.read (Elt F) (assemble t) = t b := by
  funext j
  have hj : (j 0).val < 1024 := (j 0).isLt
  have key : ∀ i : S32768x1024.Idx, (i 0).val = 1024 * b.val + (j 0).val → (i 1).val = 0 + (j 1).val → assemble t i = t b j := by
    intro i e0 e1
    unfold assemble
    congr 1
    · congr 1; rw [e0]; omega
    · funext a
      match a with
      | ⟨0, _⟩ => apply Fin.ext; show (i 0).val % 1024 = (j 0).val; rw [e0]; omega
      | ⟨1, _⟩ => apply Fin.ext; show (i 1).val = (j 1).val; rw [e1]; omega
  exact key ((Rect.unit (s := S32768x1024) (rowOff b) S1024x1024.size (rowOff_inb_h b)).emb j)
    (ValueKit.rect_emb_unit_val (s := S32768x1024) (rowOff b) S1024x1024.size (rowOff_inb_h b) j 0)
    (ValueKit.rect_emb_unit_val (s := S32768x1024) (rowOff b) S1024x1024.size (rowOff_inb_h b) j 1)

section Result
variable (c : Dev nD)
  (Y : Buf (Elt F) ((c : Thread nD τ).loc main_arg0)) (H : Buf (Elt F) ((c : Thread nD τ).loc main_arg2))
  (w : S2048x1024.Idx → Elt F .bf16) (g : S1x1024.Idx → Elt F .f32)

/-- Block `b` of the residual, and of the normed rows. -/
def tileOAt (b : Fin 32) : S1024x1024.Idx → Elt F .f32 := tileO (hLoad c H b) (yLoad c Y b) w
def tileUAt (b : Fin 32) : S1024x1024.Idx → Elt F .bf16 := tileU (hLoad c H b) (yLoad c Y b) w g

/-- The results: each block's tile in its place. -/
def resultO : Buf (Elt F) ((c : Thread nD τ).loc main_v1_0) := assemble (tileOAt c Y H w)
def resultU : Buf (Elt F) ((c : Thread nD τ).loc main_v1_1) := assemble (tileUAt c Y H w g)

/-- A block of an array that reads as its tile is that block of the result. -/
theorem oHome_result (b : Fin 32) (O : Buf (Elt F) ((c : Thread nD τ).loc main_v1_0))
    (h : (oBlk b).view.read (Elt F) O = tileOAt c Y H w b) :
    oHome c O b ⊢ (oHome c (resultO c Y H w) b : sProp 𝕄) := by
  have e1 := pointsTo_rep (Ix := Unit) (Name := ℕ) (U := UU) (Lvl := ℕ) (Val := Elt F) (c := (c : Thread nD τ)) (oBlk b) O fullShare
  have e2 := pointsTo_rep (Ix := Unit) (Name := ℕ) (U := UU) (Lvl := ℕ) (Val := Elt F) (c := (c : Thread nD τ)) (oBlk b) (resultO c Y H w) fullShare
  rw [show (oBlk b).view.read (Elt F) (resultO c Y H w) = tileOAt c Y H w b from oBlk_read_assemble _ b] at e2
  rw [h] at e1
  exact entails_of_eq (e1.trans e2.symm)
theorem uHome_result (b : Fin 32) (U : Buf (Elt F) ((c : Thread nD τ).loc main_v1_1))
    (h : (uBlk b).view.read (Elt F) U = tileUAt c Y H w g b) :
    uHome c U b ⊢ (uHome c (resultU c Y H w g) b : sProp 𝕄) := by
  have e1 := pointsTo_rep (Ix := Unit) (Name := ℕ) (U := UU) (Lvl := ℕ) (Val := Elt F) (c := (c : Thread nD τ)) (uBlk b) U fullShare
  have e2 := pointsTo_rep (Ix := Unit) (Name := ℕ) (U := UU) (Lvl := ℕ) (Val := Elt F) (c := (c : Thread nD τ)) (uBlk b) (resultU c Y H w g) fullShare
  rw [show (uBlk b).view.read (Elt F) (resultU c Y H w g) = tileUAt c Y H w g b from uBlk_read_assemble _ b] at e2
  rw [h] at e1
  exact entails_of_eq (e1.trans e2.symm)

end Result

end Cert.Proof.Res

end
-- ==== Proof.ResTrip.lean ====
/- For the call that returns the residual too, one trip of the pipelined loop: it fetches two blocks ahead while there are
   any, waits for its own block of `y` and of `h`, computes its two tiles, starts their way home and waits for the tiles
   before. -/
module

public import proofs.«01_k».proof.Proof.ResTile

@[expose] public section

set_option maxRecDepth 16384

noncomputable section

namespace Cert.Proof.Res

open Cert.Kernel3Ideal Cert.Kernel3Ideal.Gen
open Cert.Proof.Out (ahead here waited point rowOff off3 off2 cell3 cell2 row_of off3_of off2_of cell3_of cell2_of amount assemble entails_of_eq
  sep_insert Reads Writes reads_open reads_close reads_open_tail reads_close_tail reads_start_homes reads_start reads_end writes_open_first
  writes_close_first writes_open writes_close writes_start writes_end writes_all)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Held
variable (c : Dev nD)
  (Y : Buf (Elt F) ((c : Thread nD τ).loc main_arg0)) (H : Buf (Elt F) ((c : Thread nD τ).loc main_arg2))
  (O₀ R : Buf (Elt F) ((c : Thread nD τ).loc main_v1_0)) (U₀ S : Buf (Elt F) ((c : Thread nD τ).loc main_v1_1))

/-- A slot that holds nothing of use, with its semaphore at rest. -/
def yFree (s : Fin 3) : sProp 𝕄 := iprop((∃ f, ySlotP c s f) ∗ yCell c s)
def hFree (s : Fin 3) : sProp 𝕄 := iprop((∃ f, hSlotP c s f) ∗ hCell c s)
def oFree (s : Fin 2) : sProp 𝕄 := iprop((∃ f, oSlotP c s f) ∗ oCell c s)
def uFree (s : Fin 2) : sProp 𝕄 := iprop((∃ f, uSlotP c s f) ∗ uCell c s)
/-- A slot in flight with a block. -/
def yFly (s : Fin 3) (b : Fin 32) : sProp 𝕄 := iprop(∃ f, yFlight c Y s b f)
def hFly (s : Fin 3) (b : Fin 32) : sProp 𝕄 := iprop(∃ f, hFlight c H s b f)
def oFly (s : Fin 2) (b : Fin 32) : sProp 𝕄 := iprop(∃ f, oFlight c R s b f)
def uFly (s : Fin 2) (b : Fin 32) : sProp 𝕄 := iprop(∃ f, uFlight c S s b f)

variable
  (arg3 : Memref sig .tc .vmem S1x1024 .f32) (arg6 : Memref sig .tc .vmem S2048x1024 .bf16)
  (wb : Buf (Elt F) (arg6.view.loc (c : Thread nD τ))) (gb : Buf (Elt F) (arg3.view.loc (c : Thread nD τ)))

/-- The weights a trip loads, and the gain. -/
def wLoad : S2048x1024.Idx → Elt F .bf16 := View.readAt (Elt F) arg6.view (Rect.unit (s := S2048x1024) ![0, 0] S2048x1024.size (by decide)).toLoadRect wb
def gLoad : S1x1024.Idx → Elt F .f32 := View.readAt (Elt F) arg3.view (Rect.unit (s := S1x1024) ![0, 0] S1x1024.size (by decide)).toLoadRect gb

/-- What the loop holds before trip `k`. -/
def resAt (k : ℕ) : sProp 𝕄 :=
  iprop((arg6.view.loc (c : Thread nD τ) ↦[arg6.view.set]{fullShare} wb) ∗ (arg3.view.loc (c : Thread nD τ) ↦[arg3.view.set]{fullShare} gb)
    ∗ (∃ W, owes (c : Thread nD τ) 0 W)
    ∗ Reads (yFree c) (yFly c Y) (fun b => yHome c Y b) k
    ∗ Reads (hFree c) (hFly c H) (fun b => hHome c H b) k
    ∗ Writes (oFree c) (oFly c R) (fun b => oHome c O₀ b) (fun b => oHome c R b) k
    ∗ Writes (uFree c) (uFly c S) (fun b => uHome c U₀ b) (fun b => uHome c S b) k)

end Held

section Trip
variable (c : Dev nD)
  (Y : Buf (Elt F) ((c : Thread nD τ).loc main_arg0)) (H : Buf (Elt F) ((c : Thread nD τ).loc main_arg2))
  (O₀ : Buf (Elt F) ((c : Thread nD τ).loc main_v1_0)) (U₀ : Buf (Elt F) ((c : Thread nD τ).loc main_v1_1))
  (arg1 : Memref sig .tc .vmem S2048x1024 .f32) (harg1 : arg1.IsWhole)
  (arg3 : Memref sig .tc .vmem S1x1024 .f32) (harg3 : arg3.IsWhole)
  (arg6 : Memref sig .tc .vmem S2048x1024 .bf16) (harg6 : arg6.IsWhole)
  (v15 : BitVec 32)
  (wb : Buf (Elt F) (arg6.view.loc (c : Thread nD τ))) (gb : Buf (Elt F) (arg3.view.loc (c : Thread nD τ)))

/-- One trip of the pipelined loop, on what it carries. -/
abbrev tripG (k : Fin k0_t1_loop.trips) (a : BitVec 32 × BitVec 32 × BitVec 32 × BitVec 32 × BitVec 32 × BitVec 32 × BitVec 32 × BitVec 32 × BitVec 32) :=
  k0_t1_body (F := F) yArr (Memref.isWhole_whole _) arg1 harg1 hArr (Memref.isWhole_whole _) arg3 harg3 oArr (Memref.isWhole_whole _) uArr (Memref.isWhole_whole _)
    arg6 harg6 yBuf (Memref.isWhole_whole _) cc0_scoped1 hBuf (Memref.isWhole_whole _) cc0_scoped3
    oBuf (Memref.isWhole_whole _) cc0_scoped5 uBuf (Memref.isWhole_whole _) cc0_scoped7 v15 k a

/-- What a slot of the result's ring holds after a trip's store reads as that trip's tile. -/
theorem tileO_read (k : Fin k0_t1_loop.trips) (hh22 hh23 hh24 : _) (f : Buf (Elt F) ((ySlot (Ring.sl 3 k.val)).view.loc (c : Thread nD τ)))
    (e : Buf (Elt F) ((hSlot (Ring.sl 3 k.val)).view.loc (c : Thread nD τ))) (g : oBuf.view.ty.Contents (Elt F))
    (w : S2048x1024.Idx → Elt F .bf16) :
    (oSlot (Ring.sl 2 k.val)).view.read (Elt F)
      (View.write (Elt F) (oBuf.access (Rect.unit (s := S2x1024x1024) (k0_off24 (here k.val)) S1x1024x1024.size hh24)) g
        (k0_pay2 (View.readAt (Elt F) hBuf.view (Rect.unit (s := S3x1024x1024) (k0_off22 (here k.val)) S1x1024x1024.size hh22).toLoadRect
            (hLanded c H (Ring.sl 3 k.val) (Ring.bk 32 k.val) e))
          (View.readAt (Elt F) yBuf.view (Rect.unit (s := S3x1024x2048) (k0_off23 (here k.val)) S1x1024x2048.size hh23).toLoadRect
            (yLanded c Y (Ring.sl 3 k.val) (Ring.bk 32 k.val) f)) w) Finset.univ)
      = tileOAt c Y H w (Ring.bk 32 k.val) := by
  have e24 : k0_off24 (here k.val) = off2 (Ring.sl 2 k.val) := off2_of (off24_eq (at32 k))
  have e22 : k0_off22 (here k.val) = off3 (Ring.sl 3 k.val) := off3_of (off22_eq (at32 k))
  have e23 : k0_off23 (here k.val) = off3 (Ring.sl 3 k.val) := off3_of (off23_eq (at32 k))
  refine (oRing_read (F := F) (Ring.sl 2 k.val) e24 hh24 g _).trans ?_
  have eh : (hSlot (Ring.sl 3 k.val)).view.read (Elt F) (hLanded c H (Ring.sl 3 k.val) (Ring.bk 32 k.val) e) = hLoad c H (Ring.bk 32 k.val) :=
    View.read_writes_whole _ _ _
  have ey : (ySlot (Ring.sl 3 k.val)).view.read (Elt F) (yLanded c Y (Ring.sl 3 k.val) (Ring.bk 32 k.val) f) = yLoad c Y (Ring.bk 32 k.val) :=
    View.read_writes_whole _ _ _
  have rh := (hRing_read (F := F) (Ring.sl 3 k.val) e22 hh22 (hLanded c H (Ring.sl 3 k.val) (Ring.bk 32 k.val) e)).trans
    (congrArg (fun v => shapeCast S1x1024x1024 v shapeCasts_S1024x1024_S1x1024x1024) eh)
  have ry := (yRing_read (F := F) (Ring.sl 3 k.val) e23 hh23 (yLanded c Y (Ring.sl 3 k.val) (Ring.bk 32 k.val) f)).trans
    (congrArg (fun v => shapeCast S1x1024x2048 v casts_y) ey)
  exact congrArg₂ (fun a b => shapeCast S1024x1024 (k0_pay2 a b w) shapeCasts_S1x1024x1024_S1024x1024) rh ry

/-- What a slot of the normed rows' ring holds after a trip's store reads as that trip's tile. -/
theorem tileU_read (k : Fin k0_t1_loop.trips) (hh22 hh23 hh25 : _) (f : Buf (Elt F) ((ySlot (Ring.sl 3 k.val)).view.loc (c : Thread nD τ)))
    (e : Buf (Elt F) ((hSlot (Ring.sl 3 k.val)).view.loc (c : Thread nD τ))) (g : uBuf.view.ty.Contents (Elt F))
    (w : S2048x1024.Idx → Elt F .bf16) (gv : S1x1024.Idx → Elt F .f32) :
    (uSlot (Ring.sl 2 k.val)).view.read (Elt F)
      (View.write (Elt F) (uBuf.access (Rect.unit (s := S2x1024x1024) (k0_off25 (here k.val)) S1x1024x1024.size hh25)) g
        (k0_pay4 (k0_pay3 (View.readAt (Elt F) hBuf.view (Rect.unit (s := S3x1024x1024) (k0_off22 (here k.val)) S1x1024x1024.size hh22).toLoadRect
            (hLanded c H (Ring.sl 3 k.val) (Ring.bk 32 k.val) e))
          (View.readAt (Elt F) yBuf.view (Rect.unit (s := S3x1024x2048) (k0_off23 (here k.val)) S1x1024x2048.size hh23).toLoadRect
            (yLanded c Y (Ring.sl 3 k.val) (Ring.bk 32 k.val) f)) w) gv) Finset.univ)
      = tileUAt c Y H w gv (Ring.bk 32 k.val) := by
  have e25 : k0_off25 (here k.val) = off2 (Ring.sl 2 k.val) := off2_of (off25_eq (at32 k))
  have e22 : k0_off22 (here k.val) = off3 (Ring.sl 3 k.val) := off3_of (off22_eq (at32 k))
  have e23 : k0_off23 (here k.val) = off3 (Ring.sl 3 k.val) := off3_of (off23_eq (at32 k))
  refine (uRing_read (F := F) (Ring.sl 2 k.val) e25 hh25 g _).trans ?_
  have eh : (hSlot (Ring.sl 3 k.val)).view.read (Elt F) (hLanded c H (Ring.sl 3 k.val) (Ring.bk 32 k.val) e) = hLoad c H (Ring.bk 32 k.val) :=
    View.read_writes_whole _ _ _
  have ey : (ySlot (Ring.sl 3 k.val)).view.read (Elt F) (yLanded c Y (Ring.sl 3 k.val) (Ring.bk 32 k.val) f) = yLoad c Y (Ring.bk 32 k.val) :=
    View.read_writes_whole _ _ _
  have rh := (hRing_read (F := F) (Ring.sl 3 k.val) e22 hh22 (hLanded c H (Ring.sl 3 k.val) (Ring.bk 32 k.val) e)).trans
    (congrArg (fun v => shapeCast S1x1024x1024 v shapeCasts_S1024x1024_S1x1024x1024) eh)
  have ry := (yRing_read (F := F) (Ring.sl 3 k.val) e23 hh23 (yLanded c Y (Ring.sl 3 k.val) (Ring.bk 32 k.val) f)).trans
    (congrArg (fun v => shapeCast S1x1024x2048 v casts_y) ey)
  exact congrArg₂ (fun a b => shapeCast S1024x1024 (k0_pay4 (k0_pay3 a b w) gv) shapeCasts_S1x1024x1024_S1024x1024) rh ry

/-- The words a trip hands on, checked at each trip. -/
theorem words_of (a h w p : Fin k0_t1_loop.trips → BitVec 32)
    (ea : ∀ k : Fin 32, a ⟨k.val, k.isLt.trans_eq trips_eq.symm⟩ = ahead (k.val + 1))
    (eh : ∀ k : Fin 32, h ⟨k.val, k.isLt.trans_eq trips_eq.symm⟩ = here (k.val + 1))
    (ew : ∀ k : Fin 32, w ⟨k.val, k.isLt.trans_eq trips_eq.symm⟩ = waited (k.val + 1))
    (ep : ∀ k : Fin 32, p ⟨k.val, k.isLt.trans_eq trips_eq.symm⟩ = point (k.val + 1)) (k : Fin k0_t1_loop.trips) :
    (a k, h k, a k, h k, h k, w k, h k, w k, p k) = words (k.val + 1) := by
  rw [show a k = ahead (k.val + 1) from ea (at32 k), show h k = here (k.val + 1) from eh (at32 k),
    show w k = waited (k.val + 1) from ew (at32 k), show p k = point (k.val + 1) from ep (at32 k)]

/-- A tile on its way home arrives as that block of the result. -/
theorem oOut (w : S2048x1024.Idx → Elt F .bf16) (k : Fin k0_t1_loop.trips)
    (f : Buf (Elt F) ((oSlot (Ring.sl 2 k.val)).view.loc (c : Thread nD τ))) (x : S1024x1024.Idx → Elt F .f32)
    (hx : x = tileOAt c Y H w (Ring.bk 32 k.val)) :
    Transfers.Flight countersEmb (c : Thread nD τ) (SemLoc.dma (oSem (Ring.sl 2 k.val)).sem) () amount
        iprop(((oBlk (Ring.bk 32 k.val)).view.loc (c : Thread nD τ) ↦[(oBlk (Ring.bk 32 k.val)).view.set]{fullShare}
          (oBlk (Ring.bk 32 k.val)).view.writes (Elt F) O₀ [⟨Rect.whole S1024x1024, x⟩]) ∗ oSlotP c (Ring.sl 2 k.val) f)
      ⊢ (oFlight c (resultO c Y H w) (Ring.sl 2 k.val) (Ring.bk 32 k.val) f : sProp 𝕄) := by
  have hr : (oBlk (Ring.bk 32 k.val)).view.read (Elt F) ((oBlk (Ring.bk 32 k.val)).view.writes (Elt F) O₀ [⟨Rect.whole S1024x1024, x⟩])
      = tileOAt c Y H w (Ring.bk 32 k.val) := (View.read_writes_whole _ _ _).trans hx
  have h1 := oHome_result c Y H w (Ring.bk 32 k.val) _ hr
  have hD : iprop(((oBlk (Ring.bk 32 k.val)).view.loc (c : Thread nD τ) ↦[(oBlk (Ring.bk 32 k.val)).view.set]{fullShare}
        (oBlk (Ring.bk 32 k.val)).view.writes (Elt F) O₀ [⟨Rect.whole S1024x1024, x⟩]) ∗ oSlotP c (Ring.sl 2 k.val) f)
      ⊢ (iprop(oHome c (resultO c Y H w) (Ring.bk 32 k.val) ∗ oSlotP c (Ring.sl 2 k.val) f) : sProp 𝕄) := by
    iintro ⟨H1, H2⟩
    isplitl [H1]
    · iapply h1; iexact H1
    iexact H2
  exact Transfers.Flight_mono countersEmb (c : Thread nD τ) hD

/-- A tile on its way home arrives as that block of the result. -/
theorem uOut (w : S2048x1024.Idx → Elt F .bf16) (gv : S1x1024.Idx → Elt F .f32) (k : Fin k0_t1_loop.trips)
    (f : Buf (Elt F) ((uSlot (Ring.sl 2 k.val)).view.loc (c : Thread nD τ))) (x : S1024x1024.Idx → Elt F .bf16)
    (hx : x = tileUAt c Y H w gv (Ring.bk 32 k.val)) :
    Transfers.Flight countersEmb (c : Thread nD τ) (SemLoc.dma (uSem (Ring.sl 2 k.val)).sem) () half
        iprop(((uBlk (Ring.bk 32 k.val)).view.loc (c : Thread nD τ) ↦[(uBlk (Ring.bk 32 k.val)).view.set]{fullShare}
          (uBlk (Ring.bk 32 k.val)).view.writes (Elt F) U₀ [⟨Rect.whole S1024x1024, x⟩]) ∗ uSlotP c (Ring.sl 2 k.val) f)
      ⊢ (uFlight c (resultU c Y H w gv) (Ring.sl 2 k.val) (Ring.bk 32 k.val) f : sProp 𝕄) := by
  have hr : (uBlk (Ring.bk 32 k.val)).view.read (Elt F) ((uBlk (Ring.bk 32 k.val)).view.writes (Elt F) U₀ [⟨Rect.whole S1024x1024, x⟩])
      = tileUAt c Y H w gv (Ring.bk 32 k.val) := (View.read_writes_whole _ _ _).trans hx
  have h1 := uHome_result c Y H w gv (Ring.bk 32 k.val) _ hr
  have hD : iprop(((uBlk (Ring.bk 32 k.val)).view.loc (c : Thread nD τ) ↦[(uBlk (Ring.bk 32 k.val)).view.set]{fullShare}
        (uBlk (Ring.bk 32 k.val)).view.writes (Elt F) U₀ [⟨Rect.whole S1024x1024, x⟩]) ∗ uSlotP c (Ring.sl 2 k.val) f)
      ⊢ (iprop(uHome c (resultU c Y H w gv) (Ring.bk 32 k.val) ∗ uSlotP c (Ring.sl 2 k.val) f) : sProp 𝕄) := by
    iintro ⟨H1, H2⟩
    isplitl [H1]
    · iapply h1; iexact H1
    iexact H2
  exact Transfers.Flight_mono countersEmb (c : Thread nD τ) hD

set_option backward.proofsInPublic true in
/-- A trip that has a block to fetch and a tile to wait for. -/
theorem trip_mid (k : Fin k0_t1_loop.trips) (h0 : 0 < k.val) (h30 : k.val < 30) :
   resAt c Y H O₀ (resultO c Y H (wLoad c arg6 wb)) U₀ (resultU c Y H (wLoad c arg6 wb) (gLoad c arg3 gb)) arg3 arg6 wb gb k.val
    ⊢ wp frame (wpE (defs₀ (F := F)) 𝒱₀ (c : Thread nD τ) none) Set.univ (tripG arg1 harg1 arg3 harg3 arg6 harg6 v15 k (words k.val))
        (fun r => iprop(⌜r = words (k.val+1)⌝ ∗ resAt c Y H O₀ (resultO c Y H (wLoad c arg6 wb)) U₀ (resultU c Y H (wLoad c arg6 wb) (gLoad c arg3 gb)) arg3 arg6 wb gb (k.val + 1))) := by
  have c3 := cond3_pos k h30
  have c4 := cond4_pos k h30
  have c15 := cond15_pos k h0
  have c16 := cond16_pos k h0
  have c5 := cond5_pos k
  have c6 := cond6_pos k
  have c11 := cond11_pos k
  have c12 := cond12_pos k
  have k1 := chk1_at k
  have k2 := chk2_at (at32 k)
  have k3 := chk3_at (at32 k)
  have k4 := chk4_at (at32 k)
  have k5 := chk5_at (at32 k)
  unfold resAt
  rw [reads_open _ _ _ k.val h30, reads_open _ _ _ k.val h30, ← reads_close _ _ _ k.val h30, ← reads_close _ _ _ k.val h30]
  iintro ⟨HW, HG, ⟨%W, Ho⟩, ⟨HY0, HY1, HY2, HYh, HYr⟩, ⟨HH0, HH1, HH2, HHh, HHr⟩, HO, HU⟩
  ihave HO := (writes_open _ _ _ _ k.val h0 (trip_lt k)) $$ HO
  icases HO with ⟨HOf, HO1, HOh, HOr⟩
  ihave HU := (writes_open _ _ _ _ k.val h0 (trip_lt k)) $$ HU
  icases HU with ⟨HUf, HU1, HUh, HUr⟩
  unfold yFly hFly oFly uFly yFree hFree oFree uFree
  icases HY0 with ⟨%f0, HY0⟩
  icases HH0 with ⟨%e0, HH0⟩
  icases HOf with ⟨⟨%g0, HOs⟩, HOc⟩
  icases HUf with ⟨⟨%q0, HUs⟩, HUc⟩
  icases HY1 with ⟨%f1, HY1⟩
  icases HY2 with ⟨⟨%f2, HYs⟩, HYc⟩
  icases HH1 with ⟨%e1, HH1⟩
  icases HH2 with ⟨⟨%e2, HHs⟩, HHc⟩
  icases HO1 with ⟨%g1, HO1⟩
  icases HU1 with ⟨%q1, HU1⟩
  dsimp only [tripG, words]
  sl_unfold [k0_t1_body]
  sl_exec
  sl_step
  isplitr
  · ipureintro
    exact words_of trip_mid.sl.v128_r0 trip_mid.sl.v223_r0 trip_mid.sl.v250_r0 trip_mid.sl.v107_r0 (by decide +kernel) (by decide +kernel)
      (by decide +kernel) (by decide +kernel) k
  isplitl [HW]; · iexact HW
  isplitl [HG]; · iexact HG
  isplitl [Ho]; · iexists _; iexact Ho
  isplitl [HY1 HYc HY0 HY0_dst HY0_src HYr]
  · isplitl [HY1]; · iexists _; iexact HY1
    isplitl [HYc]; · iexists f2; iexact HYc
    isplitl [HY0 HY0_dst]
    · isplitl [HY0_dst]; · iexists _; iexact HY0_dst
      iexact HY0
    isplitl [HY0_src]; · iexact HY0_src
    iexact HYr
  isplitl [HH1 HHc HH0 HH0_dst HH0_src HHr]
  · isplitl [HH1]; · iexists _; iexact HH1
    isplitl [HHc]; · iexists e2; iexact HHc
    isplitl [HH0 HH0_dst]
    · isplitl [HH0_dst]; · iexists _; iexact HH0_dst
      iexact HH0
    isplitl [HH0_src]; · iexact HH0_src
    iexact HHr
  isplitl [HOc HO1 HO1_src HO1_dst HOr]
  · iapply (writes_close _ _ _ _ k.val h0 (trip_lt k))
    ihave HOc := (oOut c Y H O₀ (wLoad c arg6 wb) k (trip_mid.sl.HOs_w1 c Y H arg6 wb k k2 k3 k4 g0)
      (trip_mid.sl.dma8 c Y H arg6 wb k k2 k3 k4 g0)
      (tileO_read c Y H k _ _ _ _ _ g0 (wLoad c arg6 wb))) $$ HOc
    isplitl [HOc]; · iexists _; iexact HOc
    isplitl [HO1 HO1_src]
    · isplitl [HO1_src]; · iexists _; iexact HO1_src
      iexact HO1
    isplitl [HO1_dst]; · iexact HO1_dst
    iexact HOr
  iapply (writes_close _ _ _ _ k.val h0 (trip_lt k))
  ihave HUc := (uOut c Y H U₀ (wLoad c arg6 wb) (gLoad c arg3 gb) k (trip_mid.sl.HUs_w2 c Y H arg3 arg6 wb gb k k2 k3 k5 q0)
    (trip_mid.sl.dma8_1 c Y H arg3 arg6 wb gb k k2 k3 k5 q0)
    (tileU_read c Y H k _ _ _ _ _ q0 (wLoad c arg6 wb) (gLoad c arg3 gb))) $$ HUc
  isplitl [HUc]; · iexists _; iexact HUc
  isplitl [HU1 HU1_src]
  · isplitl [HU1_src]; · iexists _; iexact HU1_src
    iexact HU1
  isplitl [HU1_dst]; · iexact HU1_dst
  iexact HUr

set_option backward.proofsInPublic true in
/-- The first trip: no tile is on its way yet. -/
theorem trip_first (k : Fin k0_t1_loop.trips) (h0 : k.val = 0) :
   resAt c Y H O₀ (resultO c Y H (wLoad c arg6 wb)) U₀ (resultU c Y H (wLoad c arg6 wb) (gLoad c arg3 gb)) arg3 arg6 wb gb k.val
    ⊢ wp frame (wpE (defs₀ (F := F)) 𝒱₀ (c : Thread nD τ) none) Set.univ (tripG arg1 harg1 arg3 harg3 arg6 harg6 v15 k (words k.val))
        (fun r => iprop(⌜r = words (k.val+1)⌝ ∗ resAt c Y H O₀ (resultO c Y H (wLoad c arg6 wb)) U₀ (resultU c Y H (wLoad c arg6 wb) (gLoad c arg3 gb)) arg3 arg6 wb gb (k.val + 1))) := by
  have h30 : k.val < 30 := by omega
  have c3 := cond3_pos k h30
  have c4 := cond4_pos k h30
  have c15 := cond15_neg k (by omega)
  have c16 := cond16_neg k (by omega)
  have c5 := cond5_pos k
  have c6 := cond6_pos k
  have c11 := cond11_pos k
  have c12 := cond12_pos k
  have k1 := chk1_at k
  have k2 := chk2_at (at32 k)
  have k3 := chk3_at (at32 k)
  have k4 := chk4_at (at32 k)
  have k5 := chk5_at (at32 k)
  unfold resAt
  rw [reads_open _ _ _ k.val h30, reads_open _ _ _ k.val h30, ← reads_close _ _ _ k.val h30, ← reads_close _ _ _ k.val h30]
  iintro ⟨HW, HG, ⟨%W, Ho⟩, ⟨HY0, HY1, HY2, HYh, HYr⟩, ⟨HH0, HH1, HH2, HHh, HHr⟩, HO, HU⟩
  ihave HO := (writes_open_first _ _ _ _ k.val h0) $$ HO
  icases HO with ⟨HOf, HO1, HOh, HOr⟩
  ihave HU := (writes_open_first _ _ _ _ k.val h0) $$ HU
  icases HU with ⟨HUf, HU1, HUh, HUr⟩
  unfold yFly hFly oFly uFly yFree hFree oFree uFree
  icases HY0 with ⟨%f0, HY0⟩
  icases HH0 with ⟨%e0, HH0⟩
  icases HOf with ⟨⟨%g0, HOs⟩, HOc⟩
  icases HUf with ⟨⟨%q0, HUs⟩, HUc⟩
  icases HY1 with ⟨%f1, HY1⟩
  icases HY2 with ⟨⟨%f2, HYs⟩, HYc⟩
  icases HH1 with ⟨%e1, HH1⟩
  icases HH2 with ⟨⟨%e2, HHs⟩, HHc⟩
  dsimp only [tripG, words]
  sl_unfold [k0_t1_body]
  sl_exec
  sl_step
  isplitr
  · ipureintro
    exact words_of trip_first.sl.v128_r0 trip_first.sl.v223_r0 trip_first.sl.v250_r0 trip_first.sl.v107_r0 (by decide +kernel) (by decide +kernel)
      (by decide +kernel) (by decide +kernel) k
  isplitl [HW]; · iexact HW
  isplitl [HG]; · iexact HG
  isplitl [Ho]; · iexists _; iexact Ho
  isplitl [HY1 HYc HY0 HY0_dst HY0_src HYr]
  · isplitl [HY1]; · iexists _; iexact HY1
    isplitl [HYc]; · iexists f2; iexact HYc
    isplitl [HY0 HY0_dst]
    · isplitl [HY0_dst]; · iexists _; iexact HY0_dst
      iexact HY0
    isplitl [HY0_src]; · iexact HY0_src
    iexact HYr
  isplitl [HH1 HHc HH0 HH0_dst HH0_src HHr]
  · isplitl [HH1]; · iexists _; iexact HH1
    isplitl [HHc]; · iexists e2; iexact HHc
    isplitl [HH0 HH0_dst]
    · isplitl [HH0_dst]; · iexists _; iexact HH0_dst
      iexact HH0
    isplitl [HH0_src]; · iexact HH0_src
    iexact HHr
  isplitl [HOc HO1 HOr]
  · iapply (writes_close_first _ _ _ _ k.val h0)
    ihave HOc := (oOut c Y H O₀ (wLoad c arg6 wb) k (trip_first.sl.HOs_w1 c Y H arg6 wb k k2 k3 k4 g0)
      (trip_first.sl.dma8 c Y H arg6 wb k k2 k3 k4 g0)
      (tileO_read c Y H k _ _ _ _ _ g0 (wLoad c arg6 wb))) $$ HOc
    isplitl [HOc]; · iexists _; iexact HOc
    isplitl [HO1]; · iexact HO1
    iexact HOr
  iapply (writes_close_first _ _ _ _ k.val h0)
  ihave HUc := (uOut c Y H U₀ (wLoad c arg6 wb) (gLoad c arg3 gb) k (trip_first.sl.HUs_w2 c Y H arg3 arg6 wb gb k k2 k3 k5 q0)
    (trip_first.sl.dma8_1 c Y H arg3 arg6 wb gb k k2 k3 k5 q0)
    (tileU_read c Y H k _ _ _ _ _ q0 (wLoad c arg6 wb) (gLoad c arg3 gb))) $$ HUc
  isplitl [HUc]; · iexists _; iexact HUc
  isplitl [HU1]; · iexact HU1
  iexact HUr

set_option backward.proofsInPublic true in
/-- The last two trips: every block has been fetched or is on its way. -/
theorem trip_tail (k : Fin k0_t1_loop.trips) (h30 : 30 ≤ k.val) :
   resAt c Y H O₀ (resultO c Y H (wLoad c arg6 wb)) U₀ (resultU c Y H (wLoad c arg6 wb) (gLoad c arg3 gb)) arg3 arg6 wb gb k.val
    ⊢ wp frame (wpE (defs₀ (F := F)) 𝒱₀ (c : Thread nD τ) none) Set.univ (tripG arg1 harg1 arg3 harg3 arg6 harg6 v15 k (words k.val))
        (fun r => iprop(⌜r = words (k.val+1)⌝ ∗ resAt c Y H O₀ (resultO c Y H (wLoad c arg6 wb)) U₀ (resultU c Y H (wLoad c arg6 wb) (gLoad c arg3 gb)) arg3 arg6 wb gb (k.val + 1))) := by
  have h0 : 0 < k.val := by omega
  have c3 := cond3_neg k h30
  have c4 := cond4_neg k h30
  have c15 := cond15_pos k h0
  have c16 := cond16_pos k h0
  have c5 := cond5_pos k
  have c6 := cond6_pos k
  have c11 := cond11_pos k
  have c12 := cond12_pos k
  have k1 := chk1_at k
  have k2 := chk2_at (at32 k)
  have k3 := chk3_at (at32 k)
  have k4 := chk4_at (at32 k)
  have k5 := chk5_at (at32 k)
  unfold resAt
  rw [reads_open_tail _ _ _ k.val (trip_lt k), reads_open_tail _ _ _ k.val (trip_lt k)]
  iintro ⟨HW, HG, ⟨%W, Ho⟩, ⟨HY0, HYr⟩, ⟨HH0, HHr⟩, HO, HU⟩
  ihave HO := (writes_open _ _ _ _ k.val h0 (trip_lt k)) $$ HO
  icases HO with ⟨HOf, HO1, HOh, HOr⟩
  ihave HU := (writes_open _ _ _ _ k.val h0 (trip_lt k)) $$ HU
  icases HU with ⟨HUf, HU1, HUh, HUr⟩
  unfold yFly hFly oFly uFly yFree hFree oFree uFree
  icases HY0 with ⟨%f0, HY0⟩
  icases HH0 with ⟨%e0, HH0⟩
  icases HOf with ⟨⟨%g0, HOs⟩, HOc⟩
  icases HUf with ⟨⟨%q0, HUs⟩, HUc⟩
  icases HO1 with ⟨%g1, HO1⟩
  icases HU1 with ⟨%q1, HU1⟩
  dsimp only [tripG, words]
  sl_unfold [k0_t1_body]
  sl_exec
  sl_step
  isplitr
  · ipureintro
    exact words_of trip_tail.sl.v128_r0 trip_tail.sl.v223_r0 trip_tail.sl.v250_r0 trip_tail.sl.v107_r0 (by decide +kernel) (by decide +kernel)
      (by decide +kernel) (by decide +kernel) k
  isplitl [HW]; · iexact HW
  isplitl [HG]; · iexact HG
  isplitl [Ho]; · iexists _; iexact Ho
  isplitl [HY0 HY0_dst HY0_src HYr]
  · iapply (reads_close_tail _ _ _ k.val h30 (trip_lt k))
    isplitl [HY0 HY0_dst]
    · isplitl [HY0_dst]; · iexists _; iexact HY0_dst
      iexact HY0
    isplitl [HY0_src]; · iexact HY0_src
    iexact HYr
  isplitl [HH0 HH0_dst HH0_src HHr]
  · iapply (reads_close_tail _ _ _ k.val h30 (trip_lt k))
    isplitl [HH0 HH0_dst]
    · isplitl [HH0_dst]; · iexists _; iexact HH0_dst
      iexact HH0
    isplitl [HH0_src]; · iexact HH0_src
    iexact HHr
  isplitl [HOc HO1 HO1_src HO1_dst HOr]
  · iapply (writes_close _ _ _ _ k.val h0 (trip_lt k))
    ihave HOc := (oOut c Y H O₀ (wLoad c arg6 wb) k (trip_tail.sl.HOs_w1 c Y H arg6 wb k k2 k3 k4 g0)
      (trip_tail.sl.dma8 c Y H arg6 wb k k2 k3 k4 g0)
      (tileO_read c Y H k _ _ _ _ _ g0 (wLoad c arg6 wb))) $$ HOc
    isplitl [HOc]; · iexists _; iexact HOc
    isplitl [HO1 HO1_src]
    · isplitl [HO1_src]; · iexists _; iexact HO1_src
      iexact HO1
    isplitl [HO1_dst]; · iexact HO1_dst
    iexact HOr
  iapply (writes_close _ _ _ _ k.val h0 (trip_lt k))
  ihave HUc := (uOut c Y H U₀ (wLoad c arg6 wb) (gLoad c arg3 gb) k (trip_tail.sl.HUs_w2 c Y H arg3 arg6 wb gb k k2 k3 k5 q0)
    (trip_tail.sl.dma8_1 c Y H arg3 arg6 wb gb k k2 k3 k5 q0)
    (tileU_read c Y H k _ _ _ _ _ q0 (wLoad c arg6 wb) (gLoad c arg3 gb))) $$ HUc
  isplitl [HUc]; · iexists _; iexact HUc
  isplitl [HU1 HU1_src]
  · isplitl [HU1_src]; · iexists _; iexact HU1_src
    iexact HU1
  isplitl [HU1_dst]; · iexact HU1_dst
  iexact HUr

/-- A trip, whichever it is. -/
theorem trip (k : Fin k0_t1_loop.trips) :
   resAt c Y H O₀ (resultO c Y H (wLoad c arg6 wb)) U₀ (resultU c Y H (wLoad c arg6 wb) (gLoad c arg3 gb)) arg3 arg6 wb gb k.val
    ⊢ wp frame (wpE (defs₀ (F := F)) 𝒱₀ (c : Thread nD τ) none) Set.univ (tripG arg1 harg1 arg3 harg3 arg6 harg6 v15 k (words k.val))
        (fun r => iprop(⌜r = words (k.val+1)⌝ ∗ resAt c Y H O₀ (resultO c Y H (wLoad c arg6 wb)) U₀ (resultU c Y H (wLoad c arg6 wb) (gLoad c arg3 gb)) arg3 arg6 wb gb (k.val + 1))) := by
  rcases Nat.eq_zero_or_pos k.val with h | h
  · exact trip_first c Y H O₀ U₀ arg1 harg1 arg3 harg3 arg6 harg6 v15 wb gb k h
  rcases Nat.lt_or_ge k.val 30 with h' | h'
  · exact trip_mid c Y H O₀ U₀ arg1 harg1 arg3 harg3 arg6 harg6 v15 wb gb k h h'
  · exact trip_tail c Y H O₀ U₀ arg1 harg1 arg3 harg3 arg6 harg6 v15 wb gb k h'

end Trip
end Cert.Proof.Res

end
-- ==== Proof.ResBody.lean ====
/- The body of the call that returns the residual too: the weights are rounded and kept, the first two blocks of each input are sent for, the pipelined loop
   runs, and the last two tiles are waited for. -/
module

public import proofs.«01_k».proof.Proof.ResTrip
public import Idealize.ShloMosaic.Lib.VecWindow

@[expose] public section

set_option maxRecDepth 16384

noncomputable section

namespace Cert.Proof.Res

open Cert.Kernel3Ideal Cert.Kernel3Ideal.Gen
open Cert.Proof.Out (ahead here waited point rowOff off3 off2 cell3 cell2 row_of off3_of off2_of cell3_of cell2_of amount assemble entails_of_eq
  sep_insert Reads Writes reads_open reads_close reads_open_tail reads_close_tail reads_start_homes reads_start reads_end writes_open_first
  writes_close_first writes_open writes_close writes_start writes_end writes_all)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Body
variable (c : Dev nD)
  (Y : Buf (Elt F) ((c : Thread nD τ).loc main_arg0)) (H : Buf (Elt F) ((c : Thread nD τ).loc main_arg2))
  (O₀ : Buf (Elt F) ((c : Thread nD τ).loc main_v1_0)) (U₀ : Buf (Elt F) ((c : Thread nD τ).loc main_v1_1))
  (arg1 : Memref sig .tc .vmem S2048x1024 .f32) (harg1 : arg1.IsWhole)
  (arg3 : Memref sig .tc .vmem S1x1024 .f32) (harg3 : arg3.IsWhole)
  (arg6 : Memref sig .tc .vmem S2048x1024 .bf16) (harg6 : arg6.IsWhole)

set_option warn.classDefReducibility false in
/-- The loop keeps `resAt`, its carried words being those of the trip. -/
@[sl_loop] def loopInv3 (v15 : BitVec 32)
    (wb : Buf (Elt F) (arg6.view.loc (c : Thread nD τ))) (gb : Buf (Elt F) (arg3.view.loc (c : Thread nD τ))) (a : BitVec 32 × BitVec 32 × BitVec 32 × BitVec 32 × BitVec 32 × BitVec 32 × BitVec 32 × BitVec 32 × BitVec 32) :
    LoopInvTy_k0_t1 (F := F) Unit ℕ UU ℕ 𝒱₀ c none Set.univ yArr (Memref.isWhole_whole _) arg1 harg1 hArr (Memref.isWhole_whole _) arg3 harg3
      oArr (Memref.isWhole_whole _) uArr (Memref.isWhole_whole _) arg6 harg6 yBuf (Memref.isWhole_whole _) cc0_scoped1 hBuf (Memref.isWhole_whole _) cc0_scoped3
      oBuf (Memref.isWhole_whole _) cc0_scoped5 uBuf (Memref.isWhole_whole _) cc0_scoped7 v15 a where
  inv k acc := iprop(⌜acc = words k⌝ ∗ resAt c Y H O₀ (resultO c Y H (wLoad c arg6 wb)) U₀ (resultU c Y H (wLoad c arg6 wb) (gLoad c arg3 gb)) arg3 arg6 wb gb k)
  step k acc := by
    iintro ⟨%e, H⟩
    subst e
    iapply (trip c Y H O₀ U₀ arg1 harg1 arg3 harg3 arg6 harg6 v15 wb gb k)
    iexact H

/-- The body on its arguments. -/
abbrev bodyG : Prog (TpuEff nD τ sig (Elt F) Λ₀ .tc) PUnit :=
  cc0_outproj yArr (Memref.isWhole_whole _) arg1 harg1 hArr (Memref.isWhole_whole _) arg3 harg3
      oArr (Memref.isWhole_whole _) uArr (Memref.isWhole_whole _) arg6 harg6 yBuf (Memref.isWhole_whole _) cc0_scoped1 hBuf (Memref.isWhole_whole _) cc0_scoped3
      oBuf (Memref.isWhole_whole _) cc0_scoped5 uBuf (Memref.isWhole_whole _) cc0_scoped7

/-- The weights the body loads. -/
def fLoad (wf : Buf (Elt F) (arg1.view.loc (c : Thread nD τ))) : S2048x1024.Idx → Elt F .f32 :=
  View.readAt (Elt F) arg1.view (Rect.unit (s := S2048x1024) ![0, 0] S2048x1024.size (by decide)).toLoadRect wf

/-- The rings at rest. -/
def atRest : sProp 𝕄 :=
  iprop((yFree c 0 ∗ yFree c 1 ∗ yFree c 2) ∗ (hFree c 0 ∗ hFree c 1 ∗ hFree c 2) ∗ (oFree c 0 ∗ oFree c 1) ∗ uFree c 0 ∗ uFree c 1)

/-- After the last trip: every block fetched is home again, and the last tile is on its way. -/
theorem resAt_end (R : Buf (Elt F) ((c : Thread nD τ).loc main_v1_0)) (S : Buf (Elt F) ((c : Thread nD τ).loc main_v1_1))
    (wb : Buf (Elt F) (arg6.view.loc (c : Thread nD τ))) (gb : Buf (Elt F) (arg3.view.loc (c : Thread nD τ)))
    (k : ℕ) (hk : k = 32) :
    resAt c Y H O₀ R U₀ S arg3 arg6 wb gb k
      ⊢ (iprop((arg6.view.loc (c : Thread nD τ) ↦[arg6.view.set]{fullShare} wb) ∗ (arg3.view.loc (c : Thread nD τ) ↦[arg3.view.set]{fullShare} gb)
        ∗ (∃ W, owes (c : Thread nD τ) 0 W)
        ∗ ((yFree c 0 ∗ yFree c 1 ∗ yFree c 2) ∗ bigSep Finset.univ (fun b => yHome c Y b))
        ∗ ((hFree c 0 ∗ hFree c 1 ∗ hFree c 2) ∗ bigSep Finset.univ (fun b => hHome c H b))
        ∗ (oFree c 0 ∗ (∃ f, oFlight c R 1 31 f) ∗ bigSep (Ring.behindSet 1 32) (fun b => oHome c R b))
        ∗ uFree c 0 ∗ (∃ f, uFlight c S 1 31 f) ∗ bigSep (Ring.behindSet 1 32) (fun b => uHome c S b)) : sProp 𝕄) := by
  subst hk
  unfold resAt
  iintro ⟨HW, HG, Ho, HY, HH, HO, HU⟩
  ihave HY := (reads_end (yFree c) (yFly c Y) (fun b => yHome c Y b)) $$ HY
  ihave HH := (reads_end (hFree c) (hFly c H) (fun b => hHome c H b)) $$ HH
  ihave HO := (writes_end (oFree c) (oFly c R) (fun b => oHome c O₀ b) (fun b => oHome c R b)) $$ HO
  ihave HU := (writes_end (uFree c) (uFly c S) (fun b => uHome c U₀ b) (fun b => uHome c S b)) $$ HU
  icases HY with ⟨HY0, HY1, HY2, HYh⟩
  icases HH with ⟨HH0, HH1, HH2, HHh⟩
  icases HO with ⟨HO0, HO1, HOh⟩
  icases HU with ⟨HU0, HU1, HUh⟩
  isplitl [HW]; · iexact HW
  isplitl [HG]; · iexact HG
  isplitl [Ho]; · iexact Ho
  isplitl [HY0 HY1 HY2 HYh]
  · isplitl [HY0 HY1 HY2]
    · isplitl [HY0]; · iexact HY0
      isplitl [HY1]; · iexact HY1
      iexact HY2
    iexact HYh
  isplitl [HH0 HH1 HH2 HHh]
  · isplitl [HH0 HH1 HH2]
    · isplitl [HH0]; · iexact HH0
      isplitl [HH1]; · iexact HH1
      iexact HH2
    iexact HHh
  isplitl [HO0 HO1 HOh]
  · isplitl [HO0]; · iexact HO0
    isplitl [HO1]; · unfold oFly; iexact HO1
    iexact HOh
  isplitl [HU0]; · iexact HU0
  isplitl [HU1]; · unfold uFly; iexact HU1
  iexact HUh

set_option backward.proofsInPublic true in
attribute [local irreducible] resAt in
theorem bodyRun (wf : Buf (Elt F) (arg1.view.loc (c : Thread nD τ))) (gb : Buf (Elt F) (arg3.view.loc (c : Thread nD τ))) (W)
    (Q : PUnit → sProp 𝕄) :
    iprop(((arg1.view.loc (c : Thread nD τ) ↦[arg1.view.set]{fullShare} wf) ∗ (arg3.view.loc (c : Thread nD τ) ↦[arg3.view.set]{fullShare} gb)
      ∗ (∃ f, arg6.view.loc (c : Thread nD τ) ↦[arg6.view.set]{fullShare} f) ∗ owes (c : Thread nD τ) 0 W
      ∗ bigSep Finset.univ (fun b => yHome c Y b) ∗ bigSep Finset.univ (fun b => hHome c H b) ∗ bigSep Finset.univ (fun b => oHome c O₀ b) ∗ bigSep Finset.univ (fun b => uHome c U₀ b) ∗ atRest c)
      ∗ (((arg1.view.loc (c : Thread nD τ) ↦[arg1.view.set]{fullShare} wf) ∗ (arg3.view.loc (c : Thread nD τ) ↦[arg3.view.set]{fullShare} gb)
      ∗ (∃ f, arg6.view.loc (c : Thread nD τ) ↦[arg6.view.set]{fullShare} f) ∗ (∃ W, owes (c : Thread nD τ) 0 W)
      ∗ bigSep Finset.univ (fun b => yHome c Y b) ∗ bigSep Finset.univ (fun b => hHome c H b)
      ∗ bigSep Finset.univ (fun b => oHome c (resultO c Y H (k0_pay5 (fLoad c arg1 wf))) b)
      ∗ bigSep Finset.univ (fun b => uHome c (resultU c Y H (k0_pay5 (fLoad c arg1 wf)) (gLoad c arg3 gb)) b) ∗ atRest c) -∗ Q ⟨⟩))
    ⊢ wp frame (wpE (defs₀ (F := F)) 𝒱₀ (c : Thread nD τ) none) Set.univ (bodyG (F := F) arg1 harg1 arg3 harg3 arg6 harg6) Q := by
  have k6 := chk6_end
  have k7 := chk7_end
  have k8 := chk8_end
  unfold atRest yFree hFree oFree uFree
  rw [reads_start_homes (fun b => yHome c Y b), reads_start_homes (fun b => hHome c H b)]
  iintro ⟨⟨HF, HG, ⟨%wj, HW⟩, Ho, ⟨HYh0, HYh1, HYh⟩, ⟨HHh0, HHh1, HHh⟩, HOh, HUh, ⟨⟨⟨%f0, HY0⟩, HYc0⟩, ⟨⟨%f1, HY1⟩, HYc1⟩, HY2⟩, ⟨⟨⟨%e0, HH0⟩, HHc0⟩, ⟨⟨%e1, HH1⟩, HHc1⟩, HH2⟩, ⟨HO0, HO1⟩, HU0, HU1⟩, Hk⟩
  dsimp only [bodyG]
  sl_unfold [cc0_outproj]
  sl_exec
  ihave HR : (resAt c Y H O₀ (resultO c Y H (wLoad c arg6 (arg6.view.writes (Elt F) arg6.view.junk (bodyRun.sl.HW_1 c arg1 wf)))) U₀
      (resultU c Y H (wLoad c arg6 (arg6.view.writes (Elt F) arg6.view.junk (bodyRun.sl.HW_1 c arg1 wf))) (gLoad c arg3 gb)) arg3 arg6
      (arg6.view.writes (Elt F) arg6.view.junk (bodyRun.sl.HW_1 c arg1 wf)) gb 0 : sProp 𝕄) $$ [HW HG Ho HYh HHh HOh HY2 HH2 HO0 HO1 HUh HU0 HU1 HYc0 HHc0 HYc1 HHc1]
  · unfold resAt
    isplitl [HW]; · iexact HW
    isplitl [HG]; · iexact HG
    isplitl [Ho]; · iexists W; iexact Ho
    isplitl [HYh HYc0 HYc1 HY2]
    · iapply (entails_of_eq (reads_start (yFree c) (yFly c Y) (fun b => yHome c Y b)))
      unfold yFly yFree
      isplitl [HYc0]; · iexists f0; iexact HYc0
      isplitl [HYc1]; · iexists f1; iexact HYc1
      isplitl [HY2]; · iexact HY2
      iexact HYh
    isplitl [HHh HHc0 HHc1 HH2]
    · iapply (entails_of_eq (reads_start (hFree c) (hFly c H) (fun b => hHome c H b)))
      unfold hFly hFree
      isplitl [HHc0]; · iexists e0; iexact HHc0
      isplitl [HHc1]; · iexists e1; iexact HHc1
      isplitl [HH2]; · iexact HH2
      iexact HHh
    isplitl [HO0 HO1 HOh]
    · iapply (writes_start (oFree c))
      unfold oFree
      isplitl [HO0]; · iexact HO0
      isplitl [HO1]; · iexact HO1
      iexact HOh
    iapply (writes_start (uFree c))
    unfold uFree
    isplitl [HU0]; · iexact HU0
    isplitl [HU1]; · iexact HU1
    iexact HUh
  sl_exec
  ihave HR := (resAt_end c Y H O₀ U₀ arg3 arg6 _ _ _ gb (Scf.trips k0_t1_loop.lb k0_t1_loop.ub k0_t1_loop.st) trips_eq) $$ HR
  icases HR with ⟨HW, HG, Ho, ⟨⟨HY0, HY1, HY2⟩, HYh⟩, ⟨⟨HH0, HH1, HH2⟩, HHh⟩, ⟨HO0, ⟨%g1, HO1⟩, HOh⟩, HU0, ⟨%q1, HU1⟩, HUh⟩
  icases Ho with ⟨%W', Ho⟩
  sl_exec
  sl_step
  iapply Hk
  isplitl [HF]; · iexact HF
  isplitl [HG]; · iexact HG
  isplitl [HW]; · iexists _; iexact HW
  isplitl [Ho]; · iexists _; iexact Ho
  rw [← reads_start_homes (fun b => yHome c Y b), ← reads_start_homes (fun b => hHome c H b)]
  isplitl [HYh]; · iexact HYh
  isplitl [HHh]; · iexact HHh
  have ew : wLoad c arg6 (arg6.view.writes (Elt F) arg6.view.junk (bodyRun.sl.HW_1 c arg1 wf)) = k0_pay5 (fLoad c arg1 wf) :=
    View.readAt_writes_full _ _ _ _ _ _
  rw [← ew]
  isplitl [HOh HO1_dst]
  · iapply (entails_of_eq (writes_all (fun b => oHome c _ b)))
    isplitl [HO1_dst]; · iexact HO1_dst
    iexact HOh
  isplitl [HUh HU1_dst]
  · iapply (entails_of_eq (writes_all (fun b => uHome c _ b)))
    isplitl [HU1_dst]; · iexact HU1_dst
    iexact HUh
  isplitl [HY0 HY1 HY2]
  · unfold yFree
    isplitl [HY0]; · iexact HY0
    isplitl [HY1]; · iexact HY1
    iexact HY2
  isplitl [HH0 HH1 HH2]
  · unfold hFree
    isplitl [HH0]; · iexact HH0
    isplitl [HH1]; · iexact HH1
    iexact HH2
  isplitl [HO0 HO1 HO1_src]
  · isplitl [HO0]; · unfold oFree; iexact HO0
    isplitl [HO1_src]; · iexists _; iexact HO1_src
    iexact HO1
  isplitl [HU0]; · unfold uFree; iexact HU0
  isplitl [HU1_src]; · iexists _; iexact HU1_src
  iexact HU1

end Body
end Cert.Proof.Res

end
-- ==== Proof.ResLaunch.lean ====
/- The call that returns the residual too, launched: the arrays are handed to the body in blocks, the rings in slots, and both are put together again
   after it; the run then says what every buffer of @main holds at the end. -/
module

public import proofs.«01_k».proof.Proof.ResBody
public import proofs.«01_k».proof.Proof.Launch
public import proofs.«01_k».proof.Proof.Gen.Kernel3Ideal.Frame
public import Idealize.ShloMosaic.Lib.Pipeline.FrameValue

@[expose] public section

set_option maxRecDepth 16384

noncomputable section

namespace Cert.Proof.Res

open Cert.Kernel3Ideal Cert.Kernel3Ideal.Gen
open Cert.Proof.Out (ySet hSet ySlotSet hSlotSet oSlotSet ySet_disjoint ySet_cover hSet_disjoint hSet_cover ySlotSet_disjoint
  ySlotSet_cover hSlotSet_disjoint hSlotSet_cover oSlotSet_disjoint oSlotSet_cover ahead here waited point rowOff off3 off2 cell3 cell2 row_of off3_of off2_of cell3_of cell2_of amount assemble entails_of_eq
  sep_insert Reads Writes reads_open reads_close reads_open_tail reads_close_tail reads_start_homes reads_start reads_end writes_open_first
  writes_close_first writes_open writes_close writes_start writes_end writes_all)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ UU ℕ

section Pieces
variable (c : Dev nD)

/-- `y` whole is its blocks at home; likewise `h` and the result. -/
theorem y_homes (Y : Buf (Elt F) ((c : Thread nD τ).loc main_arg0)) :
    (((c : Thread nD τ).loc main_arg0) ↦{fullShare} Y : sProp 𝕄) = bigSep Finset.univ (fun b => yHome c Y b) := by
  rw [Ring.pointsTo_blocks (ℓ := (c : Thread nD τ).loc main_arg0) ySet ySet_disjoint ySet_cover]
  exact bigSep_congr fun b _ => congrArg (fun S => (((c : Thread nD τ).loc main_arg0) ↦[S]{fullShare} Y : sProp 𝕄)) (View.set_slice_whole _ _).symm
theorem h_homes (H : Buf (Elt F) ((c : Thread nD τ).loc main_arg2)) :
    (((c : Thread nD τ).loc main_arg2) ↦{fullShare} H : sProp 𝕄) = bigSep Finset.univ (fun b => hHome c H b) := by
  rw [Ring.pointsTo_blocks (ℓ := (c : Thread nD τ).loc main_arg2) hSet hSet_disjoint hSet_cover]
  exact bigSep_congr fun b _ => congrArg (fun S => (((c : Thread nD τ).loc main_arg2) ↦[S]{fullShare} H : sProp 𝕄)) (View.set_slice_whole _ _).symm
theorem o_homes (O : Buf (Elt F) ((c : Thread nD τ).loc main_v1_0)) :
    (((c : Thread nD τ).loc main_v1_0) ↦{fullShare} O : sProp 𝕄) = bigSep Finset.univ (fun b => oHome c O b) := by
  rw [Ring.pointsTo_blocks (ℓ := (c : Thread nD τ).loc main_v1_0) hSet hSet_disjoint hSet_cover]
  exact bigSep_congr fun b _ => congrArg (fun S => (((c : Thread nD τ).loc main_v1_0) ↦[S]{fullShare} O : sProp 𝕄)) (View.set_slice_whole _ _).symm
theorem u_homes (U : Buf (Elt F) ((c : Thread nD τ).loc main_v1_1)) :
    (((c : Thread nD τ).loc main_v1_1) ↦{fullShare} U : sProp 𝕄) = bigSep Finset.univ (fun b => uHome c U b) := by
  rw [Ring.pointsTo_blocks (ℓ := (c : Thread nD τ).loc main_v1_1) hSet hSet_disjoint hSet_cover]
  exact bigSep_congr fun b _ => congrArg (fun S => (((c : Thread nD τ).loc main_v1_1) ↦[S]{fullShare} U : sProp 𝕄)) (View.set_slice_whole _ _).symm

/-- The rounded weights' buffer, named by its whole view. -/
theorem w_eq : iprop(∃ f : Buf (Elt F) ((c : Thread nD τ).loc cc0_scratch0), ((c : Thread nD τ).loc cc0_scratch0) ↦{fullShare} f)
    = (iprop(∃ f, wBuf.view.loc (c : Thread nD τ) ↦[wBuf.view.set]{fullShare} f) : sProp 𝕄) := by
  rw [View.set_whole]

theorem ySlotP_eq (s : Fin 3) (f) : ySlotP c s f = (((c : Thread nD τ).loc cc0_scoped0) ↦[ySlotSet s]{fullShare} f : sProp 𝕄) :=
  congrArg (fun S => (_ ↦[S]{fullShare} f : sProp 𝕄)) ((View.set_reshape _ _).trans (View.set_slice_whole _ _))
theorem hSlotP_eq (s : Fin 3) (f) : hSlotP c s f = (((c : Thread nD τ).loc cc0_scoped2) ↦[hSlotSet s]{fullShare} f : sProp 𝕄) :=
  congrArg (fun S => (_ ↦[S]{fullShare} f : sProp 𝕄)) ((View.set_reshape _ _).trans (View.set_slice_whole _ _))
theorem oSlotP_eq (s : Fin 2) (f) : oSlotP c s f = (((c : Thread nD τ).loc cc0_scoped4) ↦[oSlotSet s]{fullShare} f : sProp 𝕄) :=
  congrArg (fun S => (_ ↦[S]{fullShare} f : sProp 𝕄)) ((View.set_reshape _ _).trans (View.set_slice_whole _ _))
theorem uSlotP_eq (s : Fin 2) (f) : uSlotP c s f = (((c : Thread nD τ).loc cc0_scoped6) ↦[oSlotSet s]{fullShare} f : sProp 𝕄) :=
  congrArg (fun S => (_ ↦[S]{fullShare} f : sProp 𝕄)) ((View.set_reshape _ _).trans (View.set_slice_whole _ _))

/-- A ring whole is its slots, each at some contents; and back. -/
theorem y_split : iprop(∃ f : Buf (Elt F) ((c : Thread nD τ).loc cc0_scoped0), ((c : Thread nD τ).loc cc0_scoped0) ↦{fullShare} f)
    ⊢ (iprop((∃ f, ySlotP c 0 f) ∗ (∃ f, ySlotP c 1 f) ∗ ∃ f, ySlotP c 2 f) : sProp 𝕄) :=
  Ring.slots3_split (ℓ := (c : Thread nD τ).loc cc0_scoped0) (q := fullShare) ySlotSet ySlotSet_disjoint ySlotSet_cover _ _ _ (ySlotP_eq c 0) (ySlotP_eq c 1) (ySlotP_eq c 2)
theorem y_join : iprop((∃ f, ySlotP c 0 f) ∗ (∃ f, ySlotP c 1 f) ∗ ∃ f, ySlotP c 2 f)
    ⊢ (iprop(∃ f : Buf (Elt F) ((c : Thread nD τ).loc cc0_scoped0), ((c : Thread nD τ).loc cc0_scoped0) ↦{fullShare} f) : sProp 𝕄) :=
  Ring.slots3_join (ℓ := (c : Thread nD τ).loc cc0_scoped0) (q := fullShare) ySlotSet ySlotSet_disjoint ySlotSet_cover _ _ _ (ySlotP_eq c 0) (ySlotP_eq c 1) (ySlotP_eq c 2)
theorem h_split : iprop(∃ f : Buf (Elt F) ((c : Thread nD τ).loc cc0_scoped2), ((c : Thread nD τ).loc cc0_scoped2) ↦{fullShare} f)
    ⊢ (iprop((∃ f, hSlotP c 0 f) ∗ (∃ f, hSlotP c 1 f) ∗ ∃ f, hSlotP c 2 f) : sProp 𝕄) :=
  Ring.slots3_split (ℓ := (c : Thread nD τ).loc cc0_scoped2) (q := fullShare) hSlotSet hSlotSet_disjoint hSlotSet_cover _ _ _ (hSlotP_eq c 0) (hSlotP_eq c 1) (hSlotP_eq c 2)
theorem h_join : iprop((∃ f, hSlotP c 0 f) ∗ (∃ f, hSlotP c 1 f) ∗ ∃ f, hSlotP c 2 f)
    ⊢ (iprop(∃ f : Buf (Elt F) ((c : Thread nD τ).loc cc0_scoped2), ((c : Thread nD τ).loc cc0_scoped2) ↦{fullShare} f) : sProp 𝕄) :=
  Ring.slots3_join (ℓ := (c : Thread nD τ).loc cc0_scoped2) (q := fullShare) hSlotSet hSlotSet_disjoint hSlotSet_cover _ _ _ (hSlotP_eq c 0) (hSlotP_eq c 1) (hSlotP_eq c 2)
theorem o_split : iprop(∃ f : Buf (Elt F) ((c : Thread nD τ).loc cc0_scoped4), ((c : Thread nD τ).loc cc0_scoped4) ↦{fullShare} f)
    ⊢ (iprop((∃ f, oSlotP c 0 f) ∗ ∃ f, oSlotP c 1 f) : sProp 𝕄) :=
  Ring.slots2_split (ℓ := (c : Thread nD τ).loc cc0_scoped4) (q := fullShare) oSlotSet oSlotSet_disjoint oSlotSet_cover _ _ (oSlotP_eq c 0) (oSlotP_eq c 1)
theorem o_join : iprop((∃ f, oSlotP c 0 f) ∗ ∃ f, oSlotP c 1 f)
    ⊢ (iprop(∃ f : Buf (Elt F) ((c : Thread nD τ).loc cc0_scoped4), ((c : Thread nD τ).loc cc0_scoped4) ↦{fullShare} f) : sProp 𝕄) :=
  Ring.slots2_join (ℓ := (c : Thread nD τ).loc cc0_scoped4) (q := fullShare) oSlotSet oSlotSet_disjoint oSlotSet_cover _ _ (oSlotP_eq c 0) (oSlotP_eq c 1)
theorem u_split : iprop(∃ f : Buf (Elt F) ((c : Thread nD τ).loc cc0_scoped6), ((c : Thread nD τ).loc cc0_scoped6) ↦{fullShare} f)
    ⊢ (iprop((∃ f, uSlotP c 0 f) ∗ ∃ f, uSlotP c 1 f) : sProp 𝕄) :=
  Ring.slots2_split (ℓ := (c : Thread nD τ).loc cc0_scoped6) (q := fullShare) oSlotSet oSlotSet_disjoint oSlotSet_cover _ _ (uSlotP_eq c 0) (uSlotP_eq c 1)
theorem u_join : iprop((∃ f, uSlotP c 0 f) ∗ ∃ f, uSlotP c 1 f)
    ⊢ (iprop(∃ f : Buf (Elt F) ((c : Thread nD τ).loc cc0_scoped6), ((c : Thread nD τ).loc cc0_scoped6) ↦{fullShare} f) : sProp 𝕄) :=
  Ring.slots2_join (ℓ := (c : Thread nD τ).loc cc0_scoped6) (q := fullShare) oSlotSet oSlotSet_disjoint oSlotSet_cover _ _ (uSlotP_eq c 0) (uSlotP_eq c 1)

/-- The rings whole and their ten cells at zero. -/
def rings : sProp 𝕄 :=
  iprop((∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ (∃ f : Buf (Elt F) ((c : Thread nD τ).loc cc0_scoped4), ((c : Thread nD τ).loc cc0_scoped4) ↦{fullShare} f)
    ∗ (∃ f : Buf (Elt F) ((c : Thread nD τ).loc cc0_scoped6), ((c : Thread nD τ).loc cc0_scoped6) ↦{fullShare} f)
    ∗ (yCell c 0 ∗ yCell c 1 ∗ yCell c 2) ∗ (hCell c 0 ∗ hCell c 1 ∗ hCell c 2) ∗ (oCell c 0 ∗ oCell c 1) ∗ uCell c 0 ∗ uCell c 1)

theorem rings_split : rings (F := F) c ⊢ atRest c := by
  unfold rings atRest yFree hFree oFree uFree
  iintro ⟨HY, HH, HO, HU, ⟨c0, c1, c2⟩, ⟨d0, d1, d2⟩, ⟨e0, e1⟩, p0, p1⟩
  ihave HY := (y_split c) $$ HY
  ihave HH := (h_split c) $$ HH
  ihave HO := (o_split c) $$ HO
  ihave HU := (u_split c) $$ HU
  icases HY with ⟨y0, y1, y2⟩
  icases HH with ⟨h0, h1, h2⟩
  icases HO with ⟨o0, o1⟩
  icases HU with ⟨u0, u1⟩
  isplitl [y0 y1 y2 c0 c1 c2]
  · isplitl [y0 c0]; · isplitl [y0]; · iexact y0
                       iexact c0
    isplitl [y1 c1]; · isplitl [y1]; · iexact y1
                       iexact c1
    isplitl [y2]; · iexact y2
    iexact c2
  isplitl [h0 h1 h2 d0 d1 d2]
  · isplitl [h0 d0]; · isplitl [h0]; · iexact h0
                       iexact d0
    isplitl [h1 d1]; · isplitl [h1]; · iexact h1
                       iexact d1
    isplitl [h2]; · iexact h2
    iexact d2
  isplitl [o0 o1 e0 e1]
  · isplitl [o0 e0]; · isplitl [o0]; · iexact o0
                       iexact e0
    isplitl [o1]; · iexact o1
    iexact e1
  isplitl [u0 p0]; · isplitl [u0]; · iexact u0
                     iexact p0
  isplitl [u1]; · iexact u1
  iexact p1

theorem rings_join : atRest (F := F) c ⊢ rings c := by
  unfold rings atRest yFree hFree oFree uFree
  iintro ⟨⟨⟨y0, c0⟩, ⟨y1, c1⟩, ⟨y2, c2⟩⟩, ⟨⟨h0, d0⟩, ⟨h1, d1⟩, ⟨h2, d2⟩⟩, ⟨⟨o0, e0⟩, ⟨o1, e1⟩⟩, ⟨u0, p0⟩, ⟨u1, p1⟩⟩
  isplitl [y0 y1 y2]
  · iapply (y_join c)
    isplitl [y0]; · iexact y0
    isplitl [y1]; · iexact y1
    iexact y2
  isplitl [h0 h1 h2]
  · iapply (h_join c)
    isplitl [h0]; · iexact h0
    isplitl [h1]; · iexact h1
    iexact h2
  isplitl [o0 o1]
  · iapply (o_join c)
    isplitl [o0]; · iexact o0
    iexact o1
  isplitl [u0 u1]
  · iapply (u_join c)
    isplitl [u0]; · iexact u0
    iexact u1
  isplitl [c0 c1 c2]
  · isplitl [c0]; · iexact c0
    isplitl [c1]; · iexact c1
    iexact c2
  isplitl [d0 d1 d2]
  · isplitl [d0]; · iexact d0
    isplitl [d1]; · iexact d1
    iexact d2
  isplitl [e0 e1]
  · isplitl [e0]; · iexact e0
    iexact e1
  isplitl [p0]; · iexact p0
  iexact p1

end Pieces

/-! ## The launch's data -/

variable (m : (ℓ : Loc nD τ sig) → Buf (Elt F) ℓ) (ρ : Dev nD → PrngReg)

/-- The rings' cells. -/
abbrev osem0 : Fin 10 → SemLoc sig := fun j =>
  (![SemLoc.dma (ySem 0).sem, SemLoc.dma (ySem 1).sem, SemLoc.dma (ySem 2).sem, SemLoc.dma (hSem 0).sem, SemLoc.dma (hSem 1).sem,
    SemLoc.dma (hSem 2).sem, SemLoc.dma (oSem 0).sem, SemLoc.dma (oSem 1).sem,
    SemLoc.dma (uSem 0).sem, SemLoc.dma (uSem 1).sem] : Fin 10 → SemLoc sig) j
theorem ownSemFacts0 : Pipeline.OwnSemFacts spec0 osem0 := by decide
theorem ownSems00_eq (c : Dev nD) :
    (Pipeline.ownSems0 (Ix := Unit) (Name := ℕ) (U := UU) (Lvl := ℕ) (Val := Elt F) (τ := τ) osem0 c : sProp 𝕄)
      = iprop(yCell c 0 ∗ yCell c 1 ∗ yCell c 2 ∗ hCell c 0 ∗ hCell c 1 ∗ hCell c 2 ∗ oCell c 0 ∗ oCell c 1 ∗ uCell c 0 ∗ uCell c 1) := by
  rw [Pipeline.ownSems0_eq_of_list c osem0 [0, 1, 2, 3, 4, 5, 6, 7, 8, 9] (by decide) (by decide)]; rfl

/-- The arrays the body reads by its own transfers, and the two it writes. -/
def H0 : Finset (Ref sig .tc) := {main_arg0, main_arg2}
def R0 : Finset (Ref sig .tc) := {main_v1_0, main_v1_1}
theorem H0_sub : H0 ⊆ Pipeline.restRefs sig spec0 := by decide
theorem R0_sub : R0 ⊆ Pipeline.restRefs sig spec0 \ H0 := by decide

theorem read_eq (c : Dev nD) :
    (bigSep H0 (fun b => ((c.tc : Thread nD τ).loc b) ↦{fullShare} V m c b) : sProp 𝕄)
      = iprop((((c : Thread nD τ).loc main_arg0) ↦{fullShare} V m c main_arg0) ∗ (((c : Thread nD τ).loc main_arg2) ↦{fullShare} V m c main_arg2)) := by
  rw [BI.bigSep_eq_bigSepL_of_eq [main_arg0, main_arg2] (by decide) (by decide)]; rfl
theorem written_eq (c : Dev nD) (W : (b : Ref sig .tc) → Buf (Elt F) ((c.tc : Thread nD τ).loc b)) :
    (Pipeline.routed R0 c W : sProp 𝕄) = iprop((((c : Thread nD τ).loc main_v1_0) ↦{fullShare} W main_v1_0) ∗ (((c : Thread nD τ).loc main_v1_1) ↦{fullShare} W main_v1_1)) := by
  unfold Pipeline.routed; rw [BI.bigSep_eq_bigSepL_of_eq [main_v1_0, main_v1_1] (by decide) (by decide)]; rfl

/-- What the two staged windows hold: the weights, and the gain as one row. -/
def wIn (c : Dev nD) : S2048x1024.Idx → Elt F .f32 := iblk m c 0 t0_0
def gIn (c : Dev nD) : S1x1024.Idx → Elt F .f32 := iblk m c 1 t0_0

/-- The results the run leaves: the new residual and the normed rows. -/
def outO (c : Dev nD) : Buf (Elt F) ((c : Thread nD τ).loc main_v1_0) :=
  resultO c (V m c main_arg0) (V m c main_arg2) (k0_pay5 (wIn m c))
def outU (c : Dev nD) : Buf (Elt F) ((c : Thread nD τ).loc main_v1_1) :=
  resultU c (V m c main_arg0) (V m c main_arg2) (k0_pay5 (wIn m c)) (gIn m c)
/-- Every buffer's contents after the region: the two results in theirs, the launch contents elsewhere. -/
def G (c : Dev nD) : (b : Ref sig .tc) → Buf (Elt F) ((c.tc : Thread nD τ).loc b) :=
  Function.update (Function.update (V m c) main_v1_0 (outO m c)) main_v1_1 (outU m c)
theorem G_outU (c : Dev nD) : G m c main_v1_1 = outU m c := Function.update_self ..
theorem G_outO (c : Dev nD) : G m c main_v1_0 = outO m c :=
  (Function.update_of_ne (by decide) ..).trans (Function.update_self ..)

theorem fLoad_rep (c : Dev nD) (M : Memref sig .tc .vmem S2048x1024 .f32) (d : S2048x1024.Idx → Elt F .f32) :
    fLoad c M (M.view.rep d) = d := by
  unfold fLoad
  exact (View.readAt_full _ _ _).trans (View.read_rep _ _)
theorem gLoad_rep (c : Dev nD) (M : Memref sig .tc .vmem S1x1024 .f32) (d : S1x1024.Idx → Elt F .f32) :
    gLoad c M (M.view.rep d) = d := by
  unfold gLoad
  exact (View.readAt_full _ _ _).trans (View.read_rep _ _)

/-- The region's invariant: everything but the staged windows, the results at `O` and `U`. -/
def Inv (c : Dev nD) (O : Buf (Elt F) ((c : Thread nD τ).loc main_v1_0)) (U : Buf (Elt F) ((c : Thread nD τ).loc main_v1_1)) : sProp 𝕄 :=
  iprop((∃ f, wBuf.view.loc (c : Thread nD τ) ↦[wBuf.view.set]{fullShare} f)
    ∗ (∃ r, prngReg c r) ∗ atRest c ∗ bigSep Finset.univ (fun b => yHome c (V m c main_arg0) b)
    ∗ bigSep Finset.univ (fun b => hHome c (V m c main_arg2) b) ∗ bigSep Finset.univ (fun b => oHome c O b)
    ∗ bigSep Finset.univ (fun b => uHome c U b))

theorem inv_in (c : Dev nD) (W : (c : Dev nD) → (b : Ref sig .tc) → Buf (Elt F) ((c.tc : Thread nD τ).loc b)) :
    Pipeline.ΦDRG osem0 spec0 H0 R0 (V m) W c ⊢ Inv m c (W c main_v1_0) (W c main_v1_1) := by
  rw [Pipeline.ΦDRG_eq, scopedRest0_eq, ownSems00_eq, read_eq, written_eq, y_homes, h_homes, o_homes, u_homes, w_eq]
  unfold Inv
  iintro ⟨⟨HW, HY, HH, HO, HU⟩, HP, ⟨c0, c1, c2, d0, d1, d2, e0, e1, p0, p1⟩, ⟨Hy, Hh⟩, Ho, Hu⟩
  isplitl [HW]; · iexact HW
  isplitl [HP]; · iexact HP
  isplitl [HY HH HO HU c0 c1 c2 d0 d1 d2 e0 e1 p0 p1]
  · iapply (rings_split c)
    unfold rings
    isplitl [HY]; · iexact HY
    isplitl [HH]; · iexact HH
    isplitl [HO]; · iexact HO
    isplitl [HU]; · iexact HU
    isplitl [c0 c1 c2]
    · isplitl [c0]; · iexact c0
      isplitl [c1]; · iexact c1
      iexact c2
    isplitl [d0 d1 d2]
    · isplitl [d0]; · iexact d0
      isplitl [d1]; · iexact d1
      iexact d2
    isplitl [e0 e1]
    · isplitl [e0]; · iexact e0
      iexact e1
    isplitl [p0]; · iexact p0
    iexact p1
  isplitl [Hy]; · iexact Hy
  isplitl [Hh]; · iexact Hh
  isplitl [Ho]; · iexact Ho
  iexact Hu

theorem inv_out (c : Dev nD) (W : (c : Dev nD) → (b : Ref sig .tc) → Buf (Elt F) ((c.tc : Thread nD τ).loc b)) :
    Inv m c (W c main_v1_0) (W c main_v1_1) ⊢ Pipeline.ΦDRG osem0 spec0 H0 R0 (V m) W c := by
  rw [Pipeline.ΦDRG_eq, scopedRest0_eq, ownSems00_eq, read_eq, written_eq, y_homes, h_homes, o_homes, u_homes, w_eq]
  unfold Inv
  iintro ⟨HW, HP, HR, Hy, Hh, Ho, Hu⟩
  ihave HR := (rings_join c) $$ HR
  unfold rings
  icases HR with ⟨HY, HH, HO, HU, ⟨c0, c1, c2⟩, ⟨d0, d1, d2⟩, ⟨e0, e1⟩, p0, p1⟩
  isplitl [HW HY HH HO HU]
  · isplitl [HW]; · iexact HW
    isplitl [HY]; · iexact HY
    isplitl [HH]; · iexact HH
    isplitl [HO]; · iexact HO
    iexact HU
  isplitl [HP]; · iexact HP
  isplitl [c0 c1 c2 d0 d1 d2 e0 e1 p0 p1]
  · isplitl [c0]; · iexact c0
    isplitl [c1]; · iexact c1
    isplitl [c2]; · iexact c2
    isplitl [d0]; · iexact d0
    isplitl [d1]; · iexact d1
    isplitl [d2]; · iexact d2
    isplitl [e0]; · iexact e0
    isplitl [e1]; · iexact e1
    isplitl [p0]; · iexact p0
    iexact p1
  isplitl [Hy Hh]
  · isplitl [Hy]; · iexact Hy
    iexact Hh
  isplitl [Ho]; · iexact Ho
  iexact Hu

/-- The pipeline's data on core `c`: the windows keep what was staged; the results hold their launch contents before the
    one point and `outO`, `outU` after it. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
  Φ k := Inv m c (if k.val = 0 then V m c main_v1_0 else outO m c) (if k.val = 0 then V m c main_v1_1 else outU m c)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl

theorem inv_start (c : Dev nD) (t : Fin cfg0.N) : (dats m 0 c).Φ t.castSucc = Inv m c (V m c main_v1_0) (V m c main_v1_1) := by
  rw [fin_N0 t]; rfl
theorem inv_stop (c : Dev nD) (t : Fin cfg0.N) : (dats m 0 c).Φ t.succ = Inv m c (outO m c) (outU m c) := by
  rw [fin_N0 t]; rfl

theorem defs_tc : (defs₀ (F := F)) .tc cfg0.body
    = fun a => bodyG (win0_0.stage (a.2 0)) (hstage0_0 0) (win0_1.stage (a.2 1)) (hstage0_1 0) wBuf (Memref.isWhole_whole _) := rfl
theorem prog_eq (t : Fin cfg0.N) : (defs₀ (F := F)) .tc cfg0.body (cfg0.bodyArgs t (cfg0.slots t))
    = bodyG (win0_0.stage (cfg0.slots t 0)) (hstage0_0 0) (win0_1.stage (cfg0.slots t 1)) (hstage0_1 0) wBuf (Memref.isWhole_whole _) :=
  (congrFun defs_tc _).trans rfl

set_option maxHeartbeats 1000000 in
set_option backward.isDefEq.respectTransparency.types false in
/-- The body keeps its obligation: it leaves the windows as they were and the results at `outO` and `outU`. -/
theorem body_obligation (c : Dev nD) : BodyObligation (dats (F := F) m 0 c) (defs₀ (F := F)) 𝒱₀ () Set.univ := fun t => by
  rw [bigSep_W0, bigSep_W0]
  dsimp only
  simp only [before_0, before_1, after_0, after_1]
  rw [inv_start, inv_stop]
  unfold Dat.owesAt Pipeline.owesWithin
  rw [show (dats m 0 c).owed t.castSucc = 0 from rfl, show (dats m 0 c).owed t.succ = 0 from rfl]
  have ht := fin_N0 t
  subst ht
  unfold owns Inv
  iintro ⟨⟨HS, HP, HR, HY, HH, HO, HU⟩, ⟨%W, -, HW⟩, ⟨%d0, %f0, %hf0, H0⟩, ⟨%d1, %f1, %hf1, H1⟩⟩
  ihave H0' := (pointsTo_rep_entails (c : Thread nD τ) (win0_0.stage (cfg0.slots t0_0 0)) f0 fullShare) $$ H0
  ihave H1' := (pointsTo_rep_entails (c : Thread nD τ) (win0_1.stage (cfg0.slots t0_0 1)) f1 fullShare) $$ H1
  rw [hf0, hf1]
  sl_rw [prog_eq t0_0]
  have hb := bodyRun c (V m c main_arg0) (V m c main_arg2) (V m c main_v1_0) (V m c main_v1_1) (win0_0.stage (cfg0.slots t0_0 0)) (hstage0_0 0)
    (win0_1.stage (cfg0.slots t0_0 1)) (hstage0_1 0) wBuf (Memref.isWhole_whole _)
    ((win0_0.stage (cfg0.slots t0_0 0)).view.rep (wIn m c)) ((win0_1.stage (cfg0.slots t0_0 1)).view.rep (gIn m c)) W
  rw [fLoad_rep, gLoad_rep] at hb
  iapply (hb _)
  isplitl [HS HR HY HH HO HU HW H0' H1']
  · isplitl [H0']; · iexact H0'
    isplitl [H1']; · iexact H1'
    isplitl [HS]; · iexact HS
    isplitl [HW]; · iexact HW
    isplitl [HY]; · iexact HY
    isplitl [HH]; · iexact HH
    isplitl [HO]; · iexact HO
    isplitl [HU]; · iexact HU
    iexact HR
  iintro ⟨H0, H1, HS, ⟨%W', HW⟩, HY, HH, HO, HU, HR⟩
  isplitl [HS HP HR HY HH HO HU]
  · isplitl [HS]; · iexact HS
    isplitl [HP]; · iexact HP
    isplitl [HR]; · iexact HR
    isplitl [HY]; · iexact HY
    isplitl [HH]; · iexact HH
    isplitl [HO]; · iexact HO
    iexact HU
  isplitl [HW]
  · iexists W'; isplitr; · ipureintro; exact fun _ _ => Or.inl trivial
    iexact HW
  isplitl [H0]
  · iexists _; isplitr; · ipureintro; exact View.read_rep _ _
    iexact H0
  iexists _; isplitr; · ipureintro; exact View.read_rep _ _
  iexact H1

/-! ## The run -/

theorem hmain' : Pipeline.HMain (Ix := Unit) (Name := ℕ) (U := UU) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_region : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain' m) (hA := A_eq m) (G := G m)
    (hin := fun c => inv_in m c (V m)) (hout := fun c => by
      have h := inv_out m c (G m)
      rw [G_outO, G_outU] at h
      exact h)

/-- THE RUN, at any float values: the call ends, every argument as it was, the results at `outO` and `outU`, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1_0) = outO m c
      ∧ r.2.mem ((c.tc : Thread nD τ).loc main_v1_1) = outU m c)
      ∧ r.2.sem = fun _ => 0) :=
  (θ_run defs _ _).mono (fun _ h => ⟨fun c =>
    ⟨((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      (h.1.2 c main_v1_0 (by decide)).trans (G_outO m c), (h.1.2 c main_v1_1 (by decide)).trans (G_outU m c)⟩, h.2⟩) (run_region m ρ)

end Cert.Proof.Res

end
-- ==== Proof.ResRef.lean ====
/- The reference of the call that returns the residual too: its two results, and its frame. -/
module

public import proofs.«01_k».proof.Proof.Ref
public import proofs.«01_k».proof.Proof.Gen.Reference3Ideal.Run

@[expose] public section

set_option maxRecDepth 16384

noncomputable section

namespace Cert.Proof.ResRef

open Cert.Reference3Ideal Cert.Reference3Ideal.Gen
open Idealize.ShloMosaic Idealize.ShloMosaic.TcCoe Idealize.SL.Sem

/-- The normed rows, rounded: the operations of the other call's reference, then one rounding. -/
def rounded (Y : FVec Ideal S32768x2048 .bf16) (W : FVec Ideal S2048x1024 .f32) (H : FVec Ideal S32768x1024 .f32)
    (g : FVec Ideal S1024 .f32) : FVec Ideal S32768x1024 .bf16 :=
  truncf .bf16 (Ref.refOut Y W H g) bitsLt_bf16_f32

theorem summed_apply (Y : FVec Ideal S32768x2048 .bf16) (W : FVec Ideal S2048x1024 .f32) (H : FVec Ideal S32768x1024 .f32)
    (r : Fin 32768) (l : Fin 1024) :
    Ref.summed Y W H (ix2 r l) = H (ix2 r l) + ∑ n : Fin 2048, Y (ix2 r n) * W (ix2 n l) := by
  pointwise [Ref.summed]

/-- The reference's run: its results are `Ref.summed` and `rounded` of its arguments, which it leaves as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
        = Ref.summed (m ((c.tc : Thread nD τ).loc main_arg0)) (m ((c.tc : Thread nD τ).loc main_arg1)) (m ((c.tc : Thread nD τ).loc main_arg2))
      ∧ r.2.mem ((c.tc : Thread nD τ).loc main_v16)
        = rounded (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold rounded Ref.refOut Ref.summed
  exact Cert.Reference3Ideal.Value.run m ρ

/-- The reference's frame: it declares no semaphore, so every counter is zero. -/
theorem frame_ref : Cert.quiescent_Reference3Ideal := fun m ρ _ =>
  (θ_run (defs (F := Ideal)) _ _).mono (fun r h => ⟨fun c => (h c).2.2, sem_eq_zero_of_no_sems (by decide) r.2⟩) (run_ref m ρ)

end Cert.Proof.ResRef

end
-- ==== Proof.ResValue.lean ====
/- The call that returns the residual too, at exact arithmetic: its two tiles row by row, and the two whole results as the
   reference's. -/
module

public import proofs.«01_k».proof.Proof.ResLaunch
public import proofs.«01_k».proof.Proof.Value
public import proofs.«01_k».proof.Proof.ResRef

@[expose] public section

set_option maxRecDepth 16384

noncomputable section

namespace Cert.Proof.Res

open Cert.Kernel3Ideal Cert.Kernel3Ideal.Gen
open Cert.Proof.Out (rowAt rowOff assemble)
open Idealize.ShloMosaic Idealize.ShloMosaic.TcCoe

/-- An element of the residual's tile is its residual plus its projection. -/
theorem tileO_apply (h : S1024x1024.Idx → Elt Ideal .f32) (y : S1024x2048.Idx → Elt Ideal .bf16)
    (w : S2048x1024.Idx → Elt Ideal .f32) (r l : Fin 1024) :
    tileO h y (k0_pay5 w) (ix2 r l) = h (ix2 r l) + ∑ n : Fin 2048, y (ix2 r n) * w (ix2 n l) := by
  pointwise [tileO, k0_pay1, k0_pay2, k0_pay5]

/-- An element of the normed tile is its row's sum, normalised. -/
theorem tileU_apply (h : S1024x1024.Idx → Elt Ideal .f32) (y : S1024x2048.Idx → Elt Ideal .bf16)
    (w : S2048x1024.Idx → Elt Ideal .f32) (g : S1x1024.Idx → Elt Ideal .f32) (r l : Fin 1024) :
    tileU h y (k0_pay5 w) g (ix2 r l)
      = normed (fun k => h (ix2 r k) + ∑ n : Fin 2048, y (ix2 r n) * w (ix2 n k)) (g (ix2 0 l)) l := by
  unfold normed
  pointwise [tileU, k0_pay1, k0_pay3, k0_pay4, k0_pay5]

/-- An assembled array's element is its block's. -/
theorem assemble_apply {e : EltTy} (t : Fin 32 → S1024x1024.Idx → Elt Ideal e) (r : Fin 32768) (l : Fin 1024) :
    assemble t (ix2 r l) = t ⟨r.val / 1024, by omega⟩ (ix2 ⟨r.val % 1024, Nat.mod_lt _ (by decide)⟩ l) := by
  unfold assemble
  congr 1
  funext a
  match a with
  | ⟨0, _⟩ => rfl
  | ⟨1, _⟩ => rfl

/-- A row is that of its block. -/
theorem rowAt_div (r : Fin 32768) : rowAt ⟨r.val / 1024, by omega⟩ ⟨r.val % 1024, Nat.mod_lt _ (by decide)⟩ = r :=
  Fin.ext (by show 1024 * (r.val / 1024) + r.val % 1024 = r.val; omega)

section Blocks
variable (c : Dev nD)
  (Y : Buf (Elt Ideal) ((c : Thread nD τ).loc main_arg0)) (H : Buf (Elt Ideal) ((c : Thread nD τ).loc main_arg2))

theorem yLoad_apply (b : Fin 32) (r : Fin 1024) (n : Fin 2048) : yLoad c Y b (ix2 r n) = Y (ix2 (rowAt b r) n) := by
  refine congrArg Y ?_
  funext a
  apply Fin.ext
  refine (ValueKit.rect_emb_unit_val (s := S32768x2048) (rowOff b) S1024x2048.size (rowOff_inb_y b) (ix2 r n) a).trans ?_
  match a with
  | ⟨0, _⟩ => rfl
  | ⟨1, _⟩ => exact Nat.zero_add _

theorem hLoad_apply (b : Fin 32) (r : Fin 1024) (l : Fin 1024) : hLoad c H b (ix2 r l) = H (ix2 (rowAt b r) l) := by
  refine congrArg H ?_
  funext a
  apply Fin.ext
  refine (ValueKit.rect_emb_unit_val (s := S32768x1024) (rowOff b) S1024x1024.size (rowOff_inb_h b) (ix2 r l) a).trans ?_
  match a with
  | ⟨0, _⟩ => rfl
  | ⟨1, _⟩ => exact Nat.zero_add _

/-- The residual the blocks assemble to is the reference's. -/
theorem resultO_eq (W : S2048x1024.Idx → Elt Ideal .f32) : resultO c Y H (k0_pay5 W) = Ref.summed Y W H := by
  funext i
  obtain ⟨r, l, rfl⟩ : ∃ (r : Fin 32768) (l : Fin 1024), i = ix2 r l := ⟨i 0, i 1, eq_ix2 i⟩
  unfold resultO
  rw [assemble_apply]
  unfold tileOAt
  rw [tileO_apply, ResRef.summed_apply, hLoad_apply, rowAt_div]
  refine congrArg _ (Finset.sum_congr rfl fun n _ => congrArg (· * W (ix2 n l)) ?_)
  rw [yLoad_apply, rowAt_div]

/-- The normed rows likewise. -/
theorem resultU_eq (W : S2048x1024.Idx → Elt Ideal .f32) (g1 : S1x1024.Idx → Elt Ideal .f32) (g : S1024.Idx → Elt Ideal .f32)
    (hg : ∀ l : Fin 1024, g1 (ix2 0 l) = g (ix1 l)) :
    resultU c Y H (k0_pay5 W) g1 = ResRef.rounded Y W H g := by
  funext i
  obtain ⟨r, l, rfl⟩ : ∃ (r : Fin 32768) (l : Fin 1024), i = ix2 r l := ⟨i 0, i 1, eq_ix2 i⟩
  unfold resultU
  rw [assemble_apply]
  unfold tileUAt
  rw [tileU_apply, hg]
  refine Eq.trans ?_ (Ref.refOut_apply Y W H g r l).symm
  refine congrArg (fun s => normed s (g (ix1 l)) l) (funext fun k => congrArg₂ (· + ·) ?_ (Finset.sum_congr rfl fun n _ => congrArg (· * W (ix2 n k)) ?_))
  · rw [hLoad_apply, rowAt_div]
  · rw [yLoad_apply, rowAt_div]

end Blocks

/-! ## The staged windows at launch -/

variable (m : (ℓ : Loc nD τ sig) → Buf (Elt Ideal) ℓ)

theorem wIn_eq (c : Dev nD) : wIn m c = m ((c : Thread nD τ).loc main_arg1) := by
  funext j
  refine Eq.trans ?_ (congrFun (V_main_arg1 m c) j)
  refine congrArg (V m c main_arg1) ?_
  funext a
  exact Fin.ext (win0_0.rect_emb_val_of_index_zero t0_0 a rfl j)

theorem gIn_eq (c : Dev nD) (l : Fin 1024) : gIn m c (ix2 0 l) = m ((c : Thread nD τ).loc main_arg3) (ix1 l) := by
  have e : gIn m c (ix2 0 l) = V m c main_v0 (ix2 0 l) := by
    refine congrArg (V m c main_v0) ?_
    funext a
    exact Fin.ext (win0_1.rect_emb_val_of_index_zero t0_0 a rfl (ix2 0 l))
  rw [e]
  unfold V
  after_reads_at

/-- The run's results are the reference's, of the arguments. -/
theorem outO_eq (c : Dev nD) :
    outO m c = Ref.summed (m ((c : Thread nD τ).loc main_arg0)) (m ((c : Thread nD τ).loc main_arg1)) (m ((c : Thread nD τ).loc main_arg2)) := by
  unfold outO
  rw [wIn_eq, V_main_arg0, V_main_arg2]
  exact resultO_eq c _ _ _
theorem outU_eq (c : Dev nD) :
    outU m c = ResRef.rounded (m ((c : Thread nD τ).loc main_arg0)) (m ((c : Thread nD τ).loc main_arg1)) (m ((c : Thread nD τ).loc main_arg2)) (m ((c : Thread nD τ).loc main_arg3)) := by
  unfold outU
  rw [wIn_eq, V_main_arg0, V_main_arg2]
  exact resultU_eq c _ _ _ _ _ (gIn_eq m c)

end Cert.Proof.Res

end
-- ==== Proof.Norm.lean ====
/- The row normalisation: each grid point normalises its block of 1024 rows, so the whole result is the reference's, row by
   row. -/
module

public import proofs.«01_k».proof.Proof.Ref
public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.ReadAt

@[expose] public section

set_option maxRecDepth 16384

noncomputable section

namespace Cert.Proof

open Idealize.ShloMosaic Idealize.ShloMosaic.TcCoe Idealize.SL.Sem

namespace NormRef

open Cert.Reference4Ideal Cert.Reference4Ideal.Gen

/-- The reference's operations, composed. -/
def refOut (x : FVec Ideal S32768x1024 .f32) (g : FVec Ideal S1024 .f32) : FVec Ideal S32768x1024 .bf16 :=
  truncf .bf16 (mulf (mulf x
    (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))) bitsLt_bf16_f32

theorem refOut_apply (x : FVec Ideal S32768x1024 .f32) (g : FVec Ideal S1024 .f32) (r : Fin 32768) (l : Fin 1024) :
    refOut x g (ix2 r l) = normed (fun k => x (ix2 r k)) (g (ix1 l)) l := by
  unfold normed
  pointwise [refOut]

/-- The reference's run: its result is `refOut` of its arguments, which it leaves as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold refOut
  exact Cert.Reference4Ideal.Value.run m ρ

/-- The reference's frame: it declares no semaphore, so every counter is zero. -/
theorem frame_ref : Cert.quiescent_Reference4Ideal := fun m ρ _ =>
  (θ_run (defs (F := Ideal)) _ _).mono (fun r h => ⟨fun c => (h c).2, sem_eq_zero_of_no_sems (by decide) r.2⟩) (run_ref m ρ)

end NormRef

namespace Norm

open Cert.Kernel4Ideal Cert.Kernel4Ideal.Gen Cert.Kernel4Ideal.Value

/-- A block's element is its row, normalised. -/
theorem block_apply (x : Vec Ideal S1024x1024 .f32) (g : Vec Ideal S1x1024 .f32) (r l : Fin 1024) :
    k0_pay1 x g (ix2 r l) = normed (fun k => x (ix2 r k)) (g (ix2 0 l)) l := by
  unfold normed
  pointwise [k0_pay1]

variable (m : (ℓ : Loc nD τ sig) → Buf (Elt Ideal) ℓ) (c : Dev nD)

theorem index0 : ∀ t : Fin cfg0.N, win0_0.index t 0 = t.val ∧ win0_0.index t 1 = 0 := by decide +kernel
theorem index2 : ∀ t : Fin cfg0.N, win0_2.index t 0 = t.val ∧ win0_2.index t 1 = 0 := by decide +kernel
theorem lt_N (t : Fin 32) : t.val < cfg0.N := lt_of_lt_of_eq t.isLt (by decide)

/-- The block of `x` at a point. -/
theorem xBlock_apply (t : Fin cfg0.N) (r k : Fin 1024) (r' : Fin 32768) (h : r'.val = t.val * 1024 + r.val) :
    iblk m c 0 t (ix2 r k) = m ((c : Thread nD τ).loc main_arg0) (ix2 r' k) := by
  refine Eq.trans ?_ (congrFun (V_main_arg0 m c) (ix2 r' k))
  refine congrArg (V m c main_arg0) ?_
  funext a
  apply Fin.ext
  refine (win0_0.rect_emb_val t (ix2 r k) a).trans ?_
  match a with
  | ⟨0, _⟩ => exact (congrArg (fun n => n * 1024 + r.val) (index0 t).1).trans h.symm
  | ⟨1, _⟩ => exact (congrArg (fun n => n * 1024 + k.val) (index0 t).2).trans (by show 0 * 1024 + k.val = k.val; omega)

/-- The gain's one row. -/
theorem gain_apply (t : Fin cfg0.N) (l : Fin 1024) : iblk m c 1 t (ix2 0 l) = m ((c : Thread nD τ).loc main_arg1) (ix1 l) := by
  have e : iblk m c 1 t (ix2 0 l) = V m c main_v0 (ix2 0 l) := by
    refine congrArg (V m c main_v0) ?_
    funext a
    exact Fin.ext (win0_1.rect_emb_val_of_index_zero t a (by match a with
      | ⟨0, _⟩ => rfl
      | ⟨1, _⟩ => rfl) (ix2 0 l))
  rw [e]
  unfold V
  after_reads_at

/-- The result the run leaves. -/
def outG : Buf (Elt Ideal) ((c : Thread nD τ).loc main_v1) := (dats m 0 c).arrAt 2 cfg0.N

theorem stored (x : Vec Ideal S1024x1024 .f32) (g : Vec Ideal S1x1024 .f32) : out0_2 x g = k0_pay1 x g := by
  unfold out0_2
  have e0 : View.ld x r0_0 = x := View.ld_unit_lit _ x (by decide)
  have e1 : View.ld g r0_1 = g := View.ld_unit_lit _ g (by decide)
  rw [e0, e1]
  exact View.canon_cons_unit_lit _ _ _ (by decide)

/-- The run's result is the reference's, of the arguments. -/
theorem outG_eq :
    outG m c = NormRef.refOut (m ((c : Thread nD τ).loc main_arg0)) (m ((c : Thread nD τ).loc main_arg1)) := by
  funext i
  obtain ⟨r, l, rfl⟩ : ∃ (r : Fin 32768) (l : Fin 1024), i = ix2 r l := ⟨i 0, i 1, eq_ix2 i⟩
  have ht : r.val / 1024 < cfg0.N := lt_N ⟨r.val / 1024, by omega⟩
  have hr : r.val = (⟨r.val / 1024, ht⟩ : Fin cfg0.N).val * 1024 + (⟨r.val % 1024, Nat.mod_lt _ (by decide)⟩ : Fin 1024).val := by
    show r.val = r.val / 1024 * 1024 + r.val % 1024
    omega
  generalize (⟨r.val / 1024, ht⟩ : Fin cfg0.N) = t at hr
  generalize (⟨r.val % 1024, Nat.mod_lt _ (by decide)⟩ : Fin 1024) = q at hr
  have e : outG m c (ix2 r l) = (dats m 0 c).flushed 2 t (ix2 q l) := by
    refine Eq.trans ?_ (congrFun (blocks2 m c t (flush0_2 t)) (ix2 q l))
    refine congrArg (outG m c) ?_
    funext a
    apply Fin.ext
    refine Eq.trans ?_ (win0_2.rect_emb_val t (ix2 q l) a).symm
    match a with
    | ⟨0, _⟩ => exact hr.trans (congrArg (fun n => n * 1024 + q.val) (index2 t).1).symm
    | ⟨1, _⟩ => exact Eq.trans (by show l.val = 0 * 1024 + l.val; omega) (congrArg (fun n => n * 1024 + l.val) (index2 t).2).symm
  rw [e, flushed2, stored]
  refine (block_apply (iblk m c 0 t) (iblk m c 1 t) q l).trans ?_
  rw [NormRef.refOut_apply, gain_apply]
  exact congrArg (fun s => normed s _ l) (funext fun k => xBlock_apply m c t q k r hr)

end Norm

end Cert.Proof

end
-- ==== Proof.HgReal.lean ====
/- The gated recurrence of one head over the reals, and its form by chunks: within a chunk the state is the state before it,
   decayed, plus the chunk's own contributions. -/
module

public import Mathlib.Analysis.SpecialFunctions.Log.Basic
public import Mathlib.Algebra.BigOperators.Fin

@[expose] public section

noncomputable section

namespace Cert.Proof.HgReal

open Finset

/-- One entry of the state before token `t`: decayed by the forget gate, increased by key times value. -/
def state (f k v : ℕ → ℝ) : ℕ → ℝ
  | 0 => 0
  | t + 1 => f t * state f k v t + k t * v t

/-- The sum of the logarithms of the gates from token `T` up to token `T + j`. -/
def cum (f : ℕ → ℝ) (T j : ℕ) : ℝ := ∑ i ∈ range (j + 1), Real.log (f (T + i))

theorem cum_succ (f : ℕ → ℝ) (T j : ℕ) : cum f T (j + 1) = cum f T j + Real.log (f (T + (j + 1))) := sum_range_succ _ _

/-- The state inside a chunk that starts at `T`. -/
theorem state_chunk (f k v : ℕ → ℝ) (hf : ∀ t, 0 < f t) (T : ℕ) : ∀ j, state f k v (T + j + 1)
    = Real.exp (cum f T j) * state f k v T + ∑ i ∈ range (j + 1), Real.exp (cum f T j - cum f T i) * (k (T + i) * v (T + i))
  | 0 => by
    have h : cum f T 0 = Real.log (f T) := by simp [cum]
    simp [state, h, Real.exp_log (hf T)]
  | j + 1 => by
    rw [show T + (j + 1) + 1 = (T + j + 1) + 1 from by ring, state, state_chunk f k v hf T j, sum_range_succ _ (j + 1)]
    have e : Real.exp (cum f T (j + 1)) = f (T + j + 1) * Real.exp (cum f T j) := by
      rw [cum_succ, Real.exp_add, ← Nat.add_assoc, Real.exp_log (hf _), mul_comm]
    have es : ∀ i, Real.exp (cum f T (j + 1) - cum f T i) = f (T + j + 1) * Real.exp (cum f T j - cum f T i) := fun i => by
      rw [Real.exp_sub, e, Real.exp_sub]; ring
    have eS : ∑ i ∈ range (j + 1), Real.exp (cum f T (j + 1) - cum f T i) * (k (T + i) * v (T + i))
        = f (T + j + 1) * ∑ i ∈ range (j + 1), Real.exp (cum f T j - cum f T i) * (k (T + i) * v (T + i)) := by
      rw [mul_sum]
      exact sum_congr rfl fun i _ => by rw [es i]; ring
    rw [eS, e, sub_self, Real.exp_zero, ← Nat.add_assoc]
    ring

/-- The state after a whole chunk of 64, from the terms that a chunk computes: every exponent is taken relative to `m`. -/
theorem state_next (f k v : ℕ → ℝ) (hf : ∀ t, 0 < f t) (T : ℕ) (m : ℝ) :
    state f k v T * Real.exp (cum f T 63) + (∑ i : Fin 64, v (T + i) * (k (T + i) * Real.exp (m - cum f T i))) * Real.exp (cum f T 63 - m)
      = state f k v (T + 64) := by
  rw [show T + 64 = T + 63 + 1 from rfl, state_chunk f k v hf T 63, mul_comm, sum_mul, Fin.sum_univ_eq_sum_range (fun i => v (T + i) * (k (T + i) * Real.exp (m - cum f T i)) * Real.exp (cum f T 63 - m)) 64]
  refine congrArg _ (sum_congr rfl fun i _ => ?_)
  rw [show cum f T 63 - cum f T i = (m - cum f T i) + (cum f T 63 - m) from by ring, Real.exp_add]
  ring

/-- The output of a token inside a chunk, from the terms that a chunk computes. -/
theorem out_chunk {n : ℕ} (f k : ℕ → Fin n → ℝ) (v : ℕ → ℝ) (q : Fin n → ℝ) (hf : ∀ t d, 0 < f t d) (T : ℕ) (m : Fin n → ℝ) (j : Fin 64) :
    (∑ s : Fin 64, (if s ≤ j then ∑ d, (q d * Real.exp (cum (fun t => f t d) T j - m d)) * (k (T + s) d * Real.exp (m d - cum (fun t => f t d) T s)) else 0) * v (T + s))
        + ∑ d, (q d * Real.exp (cum (fun t => f t d) T j - m d)) * Real.exp (m d) * state (fun t => f t d) (fun t => k t d) v T
      = ∑ d, q d * state (fun t => f t d) (fun t => k t d) v (T + j + 1) := by
  have hd : ∀ d, q d * state (fun t => f t d) (fun t => k t d) v (T + j + 1)
      = (∑ s : Fin 64, if s ≤ j then (q d * Real.exp (cum (fun t => f t d) T j - m d)) * (k (T + s) d * Real.exp (m d - cum (fun t => f t d) T s)) * v (T + s) else 0)
        + (q d * Real.exp (cum (fun t => f t d) T j - m d)) * Real.exp (m d) * state (fun t => f t d) (fun t => k t d) v T := fun d => by
    rw [state_chunk _ _ _ (fun t => hf t d) T j, mul_add, add_comm]
    congr 1
    · simp only [Fin.le_def]
      rw [mul_sum, Fin.sum_univ_eq_sum_range (fun s => if s ≤ j.val then (q d * Real.exp (cum (fun t => f t d) T j - m d)) * (k (T + s) d * Real.exp (m d - cum (fun t => f t d) T s)) * v (T + s) else 0) 64,
        ← sum_filter]
      have e : (range 64).filter (fun s => s ≤ j.val) = range (j.val + 1) := by
        ext s; have := j.isLt; simp only [mem_filter, mem_range]; omega
      rw [e]
      refine sum_congr rfl fun s _ => ?_
      rw [show cum (fun t => f t d) T j - cum (fun t => f t d) T s = (cum (fun t => f t d) T j - m d) + (m d - cum (fun t => f t d) T s) from by ring, Real.exp_add]
      ring
    · rw [mul_assoc (q d), ← Real.exp_add, sub_add_cancel, mul_assoc]
  simp only [hd]
  rw [sum_add_distrib, sum_comm]
  refine congrArg (· + _) (sum_congr rfl fun s _ => ?_)
  by_cases h : s ≤ j
  · simp only [if_pos h, sum_mul]
  · simp only [if_neg h, zero_mul, sum_const_zero]

end Cert.Proof.HgReal

end
-- ==== Proof.HgSpec.lean ====
/- The recurrence at its arguments: what a token's channel is, as a formula over the reals up to the norm. -/
module

public import proofs.«01_k».proof.Defs
public import proofs.«01_k».proof.Proof.HgReal
public import Idealize.ShloMosaic.Lib.Pipeline.Value
public import Idealize.ShloMosaic.Lib.Pointwise

@[expose] public section

noncomputable section

namespace Cert.Proof.HgSpec

open Idealize.ShloMosaic Idealize.ShloMosaic.TcCoe
open Cert.Reference5Ideal
open HgReal

/-- A forget gate: its lower bound, raised by the logistic function. -/
def gate (L z : ℝ) : ℝ := L + (1 - L) * (1 + Real.exp (-z))⁻¹

theorem gate_pos {L : ℝ} (h : 0 ≤ L) (z : ℝ) : 0 < gate L z := by
  have e : 0 < Real.exp (-z) := Real.exp_pos _
  have e2 : 0 < 1 + Real.exp (-z) := by linarith
  have : gate L z = (L * Real.exp (-z) + 1) / (1 + Real.exp (-z)) := by unfold gate; field_simp; ring
  rw [this]
  positivity

/-- The row of token `s` of batch row `b`. -/
def tok (b : Fin 2) (s : ℕ) : Fin 32768 := ⟨(16384 * b.val + s) % 32768, Nat.mod_lt _ (by decide)⟩

/-- The channel of coordinate `d` of head `h`. -/
def chan (h : Fin 16) (d : Fin 128) : Fin 2048 := ⟨128 * h.val + d.val, by omega⟩

/-- The column of the weight that gives channel `c` of projection `k`. -/
def col (k : Fin 4) (c : Fin 2048) : Fin 8192 := ⟨2048 * k.val + c.val, by omega⟩

section
variable (u : FVec Ideal S32768x1024 .bf16) (w : FVec Ideal S1024x8192 .f32) (lb ng : FVec Ideal S2048 .f32)

/-- A projection of a token, as the programs compute it. -/
def proj (k : Fin 4) (t : Fin 32768) (c : Fin 2048) : EReal := ∑ n : Fin 1024, u (ix2 t n) * w (ix2 n (col k c))

/-- The same, a real. -/
def z (k : Fin 4) (b : Fin 2) (c : Fin 2048) (s : ℕ) : ℝ := (proj u w k (tok b s) c).toReal

/-- The gate of a channel. -/
def f (b : Fin 2) (c : Fin 2048) (s : ℕ) : ℝ := gate (lb (ix1 c)).toReal (z u w 1 b c s)

/-- The state's entry after `s` tokens. -/
def st (b : Fin 2) (h : Fin 16) (d i : Fin 128) (s : ℕ) : ℝ :=
  state (f u w lb b (chan h d)) (fun t => 1 - f u w lb b (chan h d) t) (z u w 2 b (chan h i)) s

/-- A token's output before the norm. -/
def out (b : Fin 2) (h : Fin 16) (s : ℕ) (i : Fin 128) : ℝ := ∑ d : Fin 128, z u w 0 b (chan h d) s * st u w lb b h d i (s + 1)

/-- The norm, its gain and the output gate. -/
def fin (o : Fin 128 → EReal) (i : Fin 128) (n g : EReal) : EReal :=
  (o i * Ideal.rsqrt (Ideal.div (∑ j, o j * o j) (Ideal.ofBits .f32 0x43000000#32) + Ideal.ofBits .f32 0x358637BD#32) * n)
    * (g * Ideal.div 1 (1 + Ideal.exp (-g)))

/-- The result at batch row `b`, token `s`, head `h`, coordinate `i`. -/
def res (b : Fin 2) (s : ℕ) (h : Fin 16) (i : Fin 128) : EReal :=
  fin (fun j => ((out u w lb b h s j : ℝ) : EReal)) i (ng (ix1 (chan h i))) (proj u w 3 (tok b s) (chan h i))

/-- What the arguments have to be: the tokens, the weights of three projections and the bounds finite, the bounds not negative. -/
structure Fine : Prop where
  u : ∀ t n, ∃ r : ℝ, u (ix2 t n) = (r : EReal)
  w : ∀ n (c : Fin 8192), c.val < 6144 → ∃ r : ℝ, w (ix2 n c) = (r : EReal)
  lb : ∀ c, ∃ r : ℝ, lb (ix1 c) = (r : EReal) ∧ 0 ≤ r

variable {u w lb}

theorem sum_real {n : ℕ} (a b : Fin n → EReal) (ha : ∀ i, ∃ r : ℝ, a i = (r : EReal)) (hb : ∀ i, ∃ r : ℝ, b i = (r : EReal)) :
    ∃ r : ℝ, ∑ i, a i * b i = (r : EReal) := by
  choose x hx using ha
  choose y hy using hb
  refine ⟨∑ i, x i * y i, ?_⟩
  have : ∀ s : Finset (Fin n), ∑ i ∈ s, a i * b i = ((∑ i ∈ s, x i * y i : ℝ) : EReal) := fun s => by
    classical
    induction s using Finset.induction_on with
    | empty => simp
    | insert i s h ih => rw [Finset.sum_insert h, Finset.sum_insert h, EReal.coe_add, ih, hx, hy, EReal.coe_mul]
  exact this _

/-- Three of the projections are real. -/
theorem proj_coe (H : Fine u w lb) (k : Fin 4) (hk : k.val < 3) (b : Fin 2) (s : ℕ) (c : Fin 2048) :
    proj u w k (tok b s) c = ((z u w k b c s : ℝ) : EReal) := by
  obtain ⟨r, hr⟩ := sum_real (fun n => u (ix2 (tok b s) n)) (fun n => w (ix2 n (col k c))) (fun n => H.u _ n)
    (fun n => H.w n _ (by show 2048 * k.val + c.val < 6144; omega))
  have : proj u w k (tok b s) c = (r : EReal) := hr
  rw [z, this, EReal.toReal_coe]

theorem lb_coe (H : Fine u w lb) (c : Fin 2048) : lb (ix1 c) = (((lb (ix1 c)).toReal : ℝ) : EReal) := by
  obtain ⟨r, hr, _⟩ := H.lb c
  rw [hr, EReal.toReal_coe]

theorem lb_nonneg (H : Fine u w lb) (c : Fin 2048) : 0 ≤ (lb (ix1 c)).toReal := by
  obtain ⟨r, hr, h⟩ := H.lb c
  rw [hr, EReal.toReal_coe]; exact h

end

end Cert.Proof.HgSpec

end
-- ==== Proof.HgPre.lean ====
/- What the precondition says of the recurrence's arguments: each of its conjunctions, element by element. -/
module

public import proofs.«01_k».proof.Defs
public import proofs.«01_k».proof.Proof.Gen.Pre_tokens_fine
public import proofs.«01_k».proof.Proof.HgSpec
public import Idealize.ShloMosaic.Lib.ReduceAll
public import Idealize.ShloMosaic.Lib.Pointwise

@[expose] public section

noncomputable section

namespace Cert.Proof.HgPre

open Idealize.ShloMosaic Idealize.ShloMosaic.TcCoe
open Cert.Pre_tokens_fine

theorem top_word : (Scalar.ofBits .f32 0x7F800000#32 : Ideal .f32) = ⊤ := by simp [Ideal.ofBits, Ideal.ieee]

theorem zero_word : (Scalar.ofBits .f32 0x00000000#32 : Ideal .f32) = 0 := by simp [Ideal.ofBits, Ideal.ieee]

/-- What a comparison that reads one says. -/
theorem lt_of_one {x y : EReal} (h : Ideal.cmp .olt x y = 1#1) : x < y := by
  by_contra hn
  simp [Ideal.cmp, hn] at h

@[inherit_doc lt_of_one]
theorem le_of_one {x y : EReal} (h : Ideal.cmp .oge x y = 1#1) : y ≤ x := by
  by_contra hn
  simp [Ideal.cmp, hn] at h

/-- A magnitude below infinity is a real's. -/
theorem real_of_abs {x : EReal} (h : max x (-x) < ⊤) : ∃ r : ℝ, x = (r : EReal) := by
  induction x using EReal.rec with
  | bot => simp at h
  | coe r => exact ⟨r, rfl⟩
  | top => simp at h

/-- A conjunction that reads one. -/
theorem both_one {x y : BitVec 1} (h : IntOp.andi x y = 1#1) : x = 1#1 ∧ y = 1#1 := by
  revert h
  revert x y
  decide

variable [Facts]

/-- The condition at the arguments, decoded. -/
theorem fine (u : FVec Ideal S32768x1024 .bf16) (w : FVec Ideal S1024x8192 .f32) (lb ng : FVec Ideal S2048 .f32)
    (h : fn (F := Ideal) u w lb ng = fun _ => 1#1) : Cert.Proof.HgSpec.Fine u w lb := by
  have h0 := congrFun h (fun a => a.elim0)
  unfold fn fn_part1 at h0
  have h1 := both_one h0
  have h2 := both_one h1.1
  have h3 := both_one h2.1
  refine ⟨fun t n => ?_, fun n c hc => ?_, fun c => ?_⟩
  · have e := Host.reduce_andi_all _ _ _ _ _ h3.1 (ix2 t n)
    exact real_of_abs ((lt_of_one e).trans_eq top_word)
  · have e := Host.reduce_andi_all _ _ _ _ _ h3.2 (ix2 n ⟨c.val, hc⟩)
    obtain ⟨r, hr⟩ := real_of_abs ((lt_of_one e).trans_eq top_word)
    refine ⟨r, Eq.trans (congrArg w ?_) hr⟩
    funext a
    match a with
    | ⟨0, _⟩ => exact Fin.ext (Nat.zero_add _).symm
    | ⟨1, _⟩ => exact Fin.ext (Nat.zero_add _).symm
  · have e : 0 ≤ lb (ix1 c) := (le_of_eq zero_word.symm).trans (le_of_one (Host.reduce_andi_all _ _ _ _ _ h2.2 (ix1 c)))
    have e' : lb (ix1 c) < ⊤ := (lt_of_one (Host.reduce_andi_all _ _ _ _ _ h1.2 (ix1 c))).trans_eq top_word
    generalize lb (ix1 c) = x at e e' ⊢
    induction x using EReal.rec with
    | bot => simp at e
    | coe r => exact ⟨r, rfl, by exact_mod_cast e⟩
    | top => simp at e'

end Cert.Proof.HgPre

end
-- ==== Proof.HgOps.lean ====
/- The gated recurrence's body as operations on vectors: the decays of a group of 256 tokens, a chunk's operands, its
   output and the state it leaves, and the list of the blocks that the body stores. -/
module

public import proofs.«01_k».proof.Proof.Gen.Kernel5Ideal.Frame.Runs
public import Idealize.ShloMosaic.Lib.Pipeline.Value
public import Idealize.ShloMosaic.Lib.WholeRead
public import Idealize.ShloMosaic.Lib.Pointwise

@[expose] public section

noncomputable section

namespace Cert.Proof.Hg

open Cert.Kernel5Ideal Cert.Kernel5Ideal.Gen
open Idealize.ShloMosaic Idealize.ShloMosaic.TcCoe

variable {F : FTy → Type} [FloatOps F] [Named F]

/-- The logistic function, entry by entry. -/
def logistic (s : Shape) (x : FVec F s .f32) : FVec F s .f32 :=
  divf (broadcast s (Scalar.ofBits .f32 0x3F800000#32)) (addf (broadcast s (Scalar.ofBits .f32 0x3F800000#32))
    (exp (subf (broadcast s (Scalar.ofBits .f32 0x00000000#32)) x)))

/-- A load of one group's projection as a matrix. -/
abbrev flat (p : Vec F S1x1x256x256 .f32) : FVec F S256x256 .f32 := shapeCast S256x256 p shapeCasts_S1x1x256x256_S256x256

/-- The forget gates of a group. -/
def gates (lb : FVec F S1x256 .f32) (p : Vec F S1x1x256x256 .f32) : FVec F S256x256 .f32 :=
  addf (broadcastTo S256x256 lb broadcasts_S1x256_S256x256)
    (mulf (broadcastTo S256x256 (subf (broadcast S1x256 (Scalar.ofBits .f32 0x3F800000#32)) lb) broadcasts_S1x256_S256x256)
      (logistic S256x256 (flat p)))

/-- The keys: what the gates leave. -/
def keys (lb : FVec F S1x256 .f32) (p : Vec F S1x1x256x256 .f32) : FVec F S256x256 .f32 :=
  subf (broadcast S256x256 (Scalar.ofBits .f32 0x3F800000#32)) (gates lb p)

/-- A token's place in its chunk. -/
def place : IVec S256x256 32 := k0_pay21

/-- Which pairs of tokens lie in one chunk, the first not before the second. -/
def causal : IVec S256x256 1 :=
  k0_pay20 (iota .tc S256x256 32 [1] iota_S256x256_d1_w32) k0_pay15 k0_pay16 64#32 k0_pay17 k0_pay18 k0_pay19

/-- The head that a lane belongs to. -/
def headOf : IVec S256x256 32 := k0_pay24 (iota .tc S256x256 32 [1] iota_S256x256_d1_w32) 128#32 k0_pay22 k0_pay23

/-- One doubling step of the sums of logarithms within each chunk. -/
def doubled (s : BitVec 32) (b : FVec F S256x256 .f32) : FVec F S256x256 .f32 :=
  addf b (select (cmpi .sge place (broadcast S256x256 s)) (dynamicRotate 0 s none b rotates_S256x256_d0)
    (broadcast S256x256 (Scalar.ofBits .f32 0x00000000#32)))

/-- The sums of the gates' base-2 logarithms from a chunk's start. -/
def sums (lb : FVec F S1x256 .f32) (p : Vec F S1x1x256x256 .f32) : FVec F S256x256 .f32 :=
  doubled 32#32 (doubled 16#32 (doubled 8#32 (doubled 4#32 (doubled 2#32 (doubled 1#32
    (mulf (log (gates lb p)) (broadcast S256x256 (Named.named κ "log2_e" 0x3FB8AA3B#32))))))))

theorem slices_rows (n : Fin 4) : S256x256.Slices ![64 * n.val, 0] S64x256 := by revert n; decide
theorem slices_block (n : Fin 4) (h : Fin 2) : S256x256.Slices ![64 * n.val, 128 * h.val] S64x128 := by revert n h; decide
theorem slices_half (h : Fin 2) : S64x256.Slices ![0, 128 * h.val] S64x128 := by revert h; decide
theorem slices_lane (h : Fin 2) : S1x256.Slices ![0, 128 * h.val] S1x128 := by revert h; decide
theorem slices_wide (h : Fin 2) : S256x256.Slices ![0, 128 * h.val] S256x128 := by revert h; decide

variable {φ : FTy}

/-- Chunk `n` of a group. -/
abbrev rows (x : FVec F S256x256 φ) (n : Fin 4) : FVec F S64x256 φ := extractStridedSlice S64x256 ![64 * n.val, 0] x (slices_rows n)
/-- Chunk `n`, head `h` of a group. -/
abbrev block (x : FVec F S256x256 φ) (n : Fin 4) (h : Fin 2) : FVec F S64x128 φ :=
  extractStridedSlice S64x128 ![64 * n.val, 128 * h.val] x (slices_block n h)
/-- Head `h` of a chunk. -/
abbrev half (x : FVec F S64x256 φ) (h : Fin 2) : FVec F S64x128 φ := extractStridedSlice S64x128 ![0, 128 * h.val] x (slices_half h)
/-- Head `h` of a row. -/
abbrev lane (x : FVec F S1x256 φ) (h : Fin 2) : FVec F S1x128 φ := extractStridedSlice S1x128 ![0, 128 * h.val] x (slices_lane h)
/-- Head `h` of a group. -/
abbrev wide (x : FVec F S256x256 φ) (h : Fin 2) : FVec F S256x128 φ := extractStridedSlice S256x128 ![0, 128 * h.val] x (slices_wide h)

/-- The sums at the middle of chunk `n`. -/
def mid (b : FVec F S256x256 .f32) (n : Fin 4) : FVec F S1x256 .f32 := extractStridedSlice S1x256 ![31, 0] (rows b n) slices_S64x256_o31_0_S1x256
/-- The sums at the end of chunk `n`. -/
def last (b : FVec F S256x256 .f32) (n : Fin 4) : FVec F S1x256 .f32 := extractStridedSlice S1x256 ![63, 0] (rows b n) slices_S64x256_o63_0_S1x256

/-- The queries, decayed from the chunk's middle. -/
def qmid (b q : FVec F S256x256 .f32) (n : Fin 4) : FVec F S64x256 .f32 :=
  mulf (rows q n) (exp2 (subf (rows b n) (broadcastTo S64x256 (mid b n) broadcasts_S1x256_S64x256)))
/-- The keys, decayed to the chunk's middle. -/
def kmid (b k : FVec F S256x256 .f32) (n : Fin 4) : FVec F S64x256 .bf16 :=
  truncf .bf16 (mulf (rows k n) (exp2 (subf (broadcastTo S64x256 (mid b n) broadcasts_S1x256_S64x256) (rows b n)))) bitsLt_bf16_f32
/-- The queries, decayed from the chunk's start. -/
def qstart (b q : FVec F S256x256 .f32) (n : Fin 4) : FVec F S64x256 .bf16 :=
  truncf .bf16 (mulf (qmid b q n) (broadcastTo S64x256 (exp2 (mid b n)) broadcasts_S1x256_S64x256)) bitsLt_bf16_f32

/-- The scores of head `h` within the chunks. -/
def scores (b q k : FVec F S256x256 .f32) (h : Fin 2) : FVec F S256x256 .bf16 :=
  truncf .bf16 (select causal
    (matmul dot_S256x128_S256x128_S256x256_1_1_0_0_n_n none
      (wide (concatenate S256x256 0 [⟨S64x256, truncf .bf16 (qmid b q 0) bitsLt_bf16_f32⟩, ⟨S64x256, truncf .bf16 (qmid b q 1) bitsLt_bf16_f32⟩,
        ⟨S64x256, truncf .bf16 (qmid b q 2) bitsLt_bf16_f32⟩, ⟨S64x256, truncf .bf16 (qmid b q 3) bitsLt_bf16_f32⟩] concatenates_S64x256_S64x256_S64x256_S64x256_S256x256_d0) h)
      (wide (concatenate S256x256 0 [⟨S64x256, kmid b k 0⟩, ⟨S64x256, kmid b k 1⟩, ⟨S64x256, kmid b k 2⟩, ⟨S64x256, kmid b k 3⟩]
        concatenates_S64x256_S64x256_S64x256_S64x256_S256x256_d0) h)
      (constant S256x256 .f32 0#32))
    (broadcast S256x256 (Scalar.ofBits .f32 0x00000000#32))) bitsLt_bf16_f32

/-- The values of one head, the other head's being zero. -/
def masked (v : FVec F S256x256 .bf16) (w : BitVec 32) : FVec F S256x256 .bf16 :=
  select (cmpi .eq headOf (broadcast S256x256 w)) v (broadcast S256x256 (Scalar.ofBits .bf16 0x0000#16))

/-- What the chunks' own tokens contribute to the outputs. -/
def intra (b q k : FVec F S256x256 .f32) (v : FVec F S256x256 .bf16) : FVec F S256x256 .f32 :=
  matmul dot_S256x512_S512x256_S256x256_1_0_0_1_n_n none
    (concatenate S256x512 1 [⟨S256x256, scores b q k 0⟩, ⟨S256x256, scores b q k 1⟩] concatenates_S256x256_S256x256_S256x512_d1)
    (concatenate S512x256 0 [⟨S256x256, masked v 0#32⟩, ⟨S256x256, masked v 1#32⟩] concatenates_S256x256_S256x256_S512x256_d0)
    (constant S256x256 .f32 0#32)

/-- What chunk `n` adds to the state of head `h`. -/
def upd (b k : FVec F S256x256 .f32) (v : FVec F S256x256 .bf16) (n : Fin 4) (h : Fin 2) : FVec F S128x128 .f32 :=
  mulf (matmul dot_S64x128_S64x128_S128x128_0_0_1_1_n_n none (block v n h) (half (kmid b k n) h) (constant S128x128 .f32 0#32))
    (broadcastTo S128x128 (lane (exp2 (subf (last b n) (mid b n))) h) broadcasts_S1x128_S128x128)

/-- The state of head `h` after chunk `n`. -/
def next (b k : FVec F S256x256 .f32) (v : FVec F S256x256 .bf16) (n : Fin 4) (h : Fin 2) (s : FVec F S128x128 .f32) : FVec F S128x128 .f32 :=
  addf (mulf s (broadcastTo S128x128 (lane (exp2 (last b n)) h) broadcasts_S1x128_S128x128)) (upd b k v n h)

/-- Both heads' states on the diagonal of one matrix. -/
def both (s0 s1 : FVec F S128x128 .f32) : FVec F S256x256 .bf16 :=
  concatenate S256x256 0 [
    ⟨S128x256, concatenate S128x256 1 [⟨S128x128, truncf .bf16 s0 bitsLt_bf16_f32⟩, ⟨S128x128, broadcast S128x128 (Scalar.ofBits .bf16 0x0000#16)⟩]
      concatenates_S128x128_S128x128_S128x256_d1⟩,
    ⟨S128x256, concatenate S128x256 1 [⟨S128x128, broadcast S128x128 (Scalar.ofBits .bf16 0x0000#16)⟩, ⟨S128x128, truncf .bf16 s1 bitsLt_bf16_f32⟩]
      concatenates_S128x128_S128x128_S128x256_d1⟩] concatenates_S128x256_S128x256_S256x256_d0

/-- The outputs of chunk `n`, before the norm. -/
def outs (b q k : FVec F S256x256 .f32) (v : FVec F S256x256 .bf16) (n : Fin 4) (s0 s1 : FVec F S128x128 .f32) : FVec F S64x256 .f32 :=
  addf (rows (intra b q k v) n)
    (matmul dot_S64x256_S256x256_S64x256_1_1_0_0_n_n none (qstart b q n) (both s0 s1) (constant S64x256 .f32 0#32))

/-- The block of head `h` that chunk `n` stores: normed, weighted and gated. -/
def stored (ng : FVec F S1x256 .f32) (g : FVec F S256x256 .f32) (n : Fin 4) (h : Fin 2) (o : FVec F S64x256 .f32) : FVec F S64x128 .bf16 :=
  truncf .bf16 (mulf (mulf (mulf (half o h)
      (broadcastTo S64x128 (rsqrt (addf (divf (shapeCast S64x1 (multiReduction .add [1] S64 (mulf (half o h) (half o h)) 0x00000000#32
        reduces_S64x128_S64 (.inl rfl) rfl) shapeCasts_S64_S64x1) (broadcast S64x1 (Scalar.ofBits .f32 0x43000000#32)))
          (broadcast S64x1 (Scalar.ofBits .f32 0x358637BD#32)))) broadcasts_S64x1_S64x128))
      (broadcastTo S64x128 (lane ng h) broadcasts_S1x128_S64x128))
    (mulf (block g n h) (logistic S64x128 (block g n h)))) bitsLt_bf16_f32

/-- The projections of a tile, as the body loads them: block, kind (query, gate, value, output gate) and group. -/
abbrev Loads (F : FTy → Type) : Type := Fin 4 → Fin 4 → Fin 2 → Vec F S1x1x256x256 .f32

/-- The values of a group. -/
abbrev vals (p : Vec F S1x1x256x256 .f32) : FVec F S256x256 .bf16 := truncf .bf16 (flat p) bitsLt_bf16_f32

/-- The states of both heads after `n` chunks of a tile. -/
def states (lb : FVec F S1x256 .f32) (P : Loads F) (s0 s1 : FVec F S128x128 .f32) : ℕ → Fin 2 → FVec F S128x128 .f32
  | 0 => fun h => if h = 0 then s0 else s1
  | n + 1 => fun h =>
    next (sums lb (P ⟨n / 8 % 4, Nat.mod_lt _ (by decide)⟩ 1 ⟨n / 4 % 2, Nat.mod_lt _ (by decide)⟩))
      (keys lb (P ⟨n / 8 % 4, Nat.mod_lt _ (by decide)⟩ 1 ⟨n / 4 % 2, Nat.mod_lt _ (by decide)⟩))
      (vals (P ⟨n / 8 % 4, Nat.mod_lt _ (by decide)⟩ 2 ⟨n / 4 % 2, Nat.mod_lt _ (by decide)⟩))
      ⟨n % 4, Nat.mod_lt _ (by decide)⟩ h (states lb P s0 s1 n h)

/-- The block of head `h` that the `n`-th chunk of a tile stores. -/
def cell (lb ng : FVec F S1x256 .f32) (P : Loads F) (s0 s1 : FVec F S128x128 .f32) (n : ℕ) (h : Fin 2) : FVec F S64x128 .bf16 :=
  stored ng (flat (P ⟨n / 8 % 4, Nat.mod_lt _ (by decide)⟩ 3 ⟨n / 4 % 2, Nat.mod_lt _ (by decide)⟩)) ⟨n % 4, Nat.mod_lt _ (by decide)⟩ h
    (outs (sums lb (P ⟨n / 8 % 4, Nat.mod_lt _ (by decide)⟩ 1 ⟨n / 4 % 2, Nat.mod_lt _ (by decide)⟩))
      (flat (P ⟨n / 8 % 4, Nat.mod_lt _ (by decide)⟩ 0 ⟨n / 4 % 2, Nat.mod_lt _ (by decide)⟩))
      (keys lb (P ⟨n / 8 % 4, Nat.mod_lt _ (by decide)⟩ 1 ⟨n / 4 % 2, Nat.mod_lt _ (by decide)⟩))
      (vals (P ⟨n / 8 % 4, Nat.mod_lt _ (by decide)⟩ 2 ⟨n / 4 % 2, Nat.mod_lt _ (by decide)⟩))
      ⟨n % 4, Nat.mod_lt _ (by decide)⟩ (states lb P s0 s1 n 0) (states lb P s0 s1 n 1))

/-- The blocks that the first `n` chunks of a tile store, the last first. -/
def pieces (lb ng : FVec F S1x256 .f32) (P : Loads F) (s0 s1 : FVec F S128x128 .f32) : ℕ → List (View.Piece (Elt F) S2048x256 .bf16)
  | 0 => []
  | n + 1 =>
    ⟨Rect.unit (s := S2048x256) ![64 * (n % 32), 128] S64x128.size (fun a => by have := Nat.mod_lt n (show 0 < 32 by decide); fin_cases a <;> simp <;> omega), cell lb ng P s0 s1 n 1⟩
    :: ⟨Rect.unit (s := S2048x256) ![64 * (n % 32), 0] S64x128.size (fun a => by have := Nat.mod_lt n (show 0 < 32 by decide); fin_cases a <;> simp <;> omega), cell lb ng P s0 s1 n 0⟩
    :: pieces lb ng P s0 s1 n

/-- The rectangle of the scratch buffer that holds one group's projection. -/
def slot (s : Fin 2) (k : Fin 4) (g : Fin 2) : Rect S2x4x512x256 :=
  Rect.unit (s := S2x4x512x256) ![s.val, k.val, 256 * g.val, 0] S1x1x256x256.size (by revert s k g; decide)

end Cert.Proof.Hg

end
-- ==== Proof.HgRun.lean ====
/- What the body stores, as the list of blocks of the chunks. -/
module

public import proofs.«01_k».proof.Proof.HgOps
public import proofs.«01_k».proof.Proof.Gen.Kernel5Ideal.Frame.RunA
import all proofs.«01_k».proof.Proof.Gen.Kernel5Ideal.Frame.RunA
public import proofs.«01_k».proof.Proof.Gen.Kernel5Ideal.Frame.RunB
import all proofs.«01_k».proof.Proof.Gen.Kernel5Ideal.Frame.RunB

@[expose] public section

set_option maxRecDepth 65536

noncomputable section

namespace Cert.Proof.Hg

open Cert.Kernel5Ideal Cert.Kernel5Ideal.Gen
open Idealize.ShloMosaic Idealize.ShloMosaic.TcCoe

variable {F : FTy → Type} [FloatOps F] [Named F]

/-- The weights of the four projections, as the body multiplies by them. -/
abbrev Weights (F : FTy → Type) : Type := Fin 4 → Vec F S1x1024x256 .bf16

/-- One projection of 512 tokens. -/
def product (u : FVec F S512x1024 .bf16) (w : Vec F S1x1024x256 .bf16) : FVec F S512x256 .f32 :=
  matmul dot_S512x1024_S1024x256_S512x256_1_0_0_1_n_n none u (shapeCast S1024x256 w shapeCasts_S1x1024x256_S1024x256) (constant S512x256 .f32 0x00000000#32)

/-- The place of one projection of 512 tokens in the scratch. -/
def place4 (s : Fin 2) (k : Fin 4) : Rect S2x4x512x256 :=
  Rect.unit (s := S2x4x512x256) ![s.val, k.val, 0, 0] S1x1x512x256.size (by revert s k; decide)

/-- The stores that fill a slot of the scratch with the projections of 512 tokens, the last first. -/
def filled (u : FVec F S512x1024 .bf16) (w : Weights F) (s : Fin 2) : List (View.Piece (Elt F) S2x4x512x256 .f32) :=
  [⟨place4 s 3, shapeCast S1x1x512x256 (product u (w 3)) shapeCasts_S512x256_S1x1x512x256⟩,
   ⟨place4 s 2, shapeCast S1x1x512x256 (product u (w 2)) shapeCasts_S512x256_S1x1x512x256⟩,
   ⟨place4 s 1, shapeCast S1x1x512x256 (product u (w 1)) shapeCasts_S512x256_S1x1x512x256⟩,
   ⟨place4 s 0, shapeCast S1x1x512x256 (product u (w 0)) shapeCasts_S512x256_S1x1x512x256⟩]

/-- Block `b` of a tile's tokens. -/
def tokens (a : Memref sig .tc .vmem S2048x1024 .bf16) (ha : a.IsWhole) (x : Vec F S2048x1024 .bf16) (b : Fin 4) : FVec F S512x1024 .bf16 :=
  View.readAt (Elt F) a.view (Rect.unit (s := S2048x1024) ![512 * b.val, 0] S512x1024.size (by revert b; decide)).toLoadRect (ha.unread x)

/-- What the body loads, given the contents of the scratch when each block is mixed. -/
def loads (a : Memref sig .tc .vmem S2x4x512x256 .f32) (first : Fin 4 → Fin 2 → Vec F S1x1x256x256 .f32)
    (L1 L2 L3 : List (View.Piece (Elt F) S2x4x512x256 .f32)) : Loads F
  | 0, k, g => first k g
  | 1, k, g => a.view.readCov L1 (slot 1 k g).toLoadRect
  | 2, k, g => a.view.readCov L2 (slot 0 k g).toLoadRect
  | 3, k, g => a.view.readCov L3 (slot 1 k g).toLoadRect

/-- The weights that the tile before left. -/
def keptW (a : Memref sig .tc .vmem S4x1024x256 .bf16) (ha : a.IsWhole) (x : Vec F S4x1024x256 .bf16) : Weights F := fun k =>
  View.readAt (Elt F) a.view (Rect.unit (s := S4x1024x256) ![k.val, 0, 0] S1x1024x256.size (by revert k; decide)).toLoadRect (ha.unread x)

/-- The stores that round the four weights. -/
def rounded (x2 x3 x4 x5 : Vec F S1024x256 .f32) : List (View.Piece (Elt F) S4x1024x256 .bf16) :=
  [⟨Rect.unit (s := S4x1024x256) ![3, 0, 0] S1x1024x256.size (by decide), shapeCast S1x1024x256 (truncf .bf16 x5 bitsLt_bf16_f32) shapeCasts_S1024x256_S1x1024x256⟩,
   ⟨Rect.unit (s := S4x1024x256) ![2, 0, 0] S1x1024x256.size (by decide), shapeCast S1x1024x256 (truncf .bf16 x4 bitsLt_bf16_f32) shapeCasts_S1024x256_S1x1024x256⟩,
   ⟨Rect.unit (s := S4x1024x256) ![1, 0, 0] S1x1024x256.size (by decide), shapeCast S1x1024x256 (truncf .bf16 x3 bitsLt_bf16_f32) shapeCasts_S1024x256_S1x1024x256⟩,
   ⟨Rect.unit (s := S4x1024x256) ![0, 0, 0] S1x1024x256.size (by decide), shapeCast S1x1024x256 (truncf .bf16 x2 bitsLt_bf16_f32) shapeCasts_S1024x256_S1x1024x256⟩]

/-- A whole load of one of the weights. -/
abbrev wholeW (a : Memref sig .tc .vmem S1024x256 .f32) (ha : a.IsWhole) (x : Vec F S1024x256 .f32) : Vec F S1024x256 .f32 :=
  View.readAt (Elt F) a.view (Rect.unit (s := S1024x256) ![0, 0] S1024x256.size (by decide)).toLoadRect (ha.unread x)

/-- The weights, read back after they are rounded. -/
def freshW (a : Memref sig .tc .vmem S4x1024x256 .bf16) (L : List (View.Piece (Elt F) S4x1024x256 .bf16)) : Weights F := fun k =>
  a.view.readCov L (Rect.unit (s := S4x1024x256) ![k.val, 0, 0] S1x1024x256.size (by revert k; decide)).toLoadRect

/-- A row of the bounds or of the gains. -/
def rowOf (a : Memref sig .tc .vmem S1x256 .f32) (ha : a.IsWhole) (x : Vec F S1x256 .f32) : FVec F S1x256 .f32 :=
  shapeCast S1x256 (View.readAt (Elt F) a.view (Rect.unit (s := S1x256) ![0, 0] S1x256.size (by decide)).toLoadRect (ha.unread x)) (by decide)

/-- The place of one head's state. -/
def placeS (h : Fin 2) : Rect S2x128x128 := Rect.unit (s := S2x128x128) ![h.val, 0, 0] S1x128x128.size (by revert h; decide)

/-- One head's state that the tile before left. -/
def keptS (a : Memref sig .tc .vmem S2x128x128 .f32) (ha : a.IsWhole) (x : Vec F S2x128x128 .f32) (h : Fin 2) : FVec F S128x128 .f32 :=
  shapeCast S128x128 (View.readAt (Elt F) a.view (placeS h).toLoadRect (ha.unread x)) shapeCasts_S1x128x128_S128x128

/-- The zero fill of the states. -/
def zeroed : List (View.Piece (Elt F) S2x128x128 .f32) :=
  [⟨Rect.unit (s := S2x128x128) ![0, 0, 0] S2x128x128.size (by decide), broadcast S2x128x128 (Scalar.ofBits .f32 0x00000000#32)⟩]

/-- One head's state, read back after the zero fill. -/
def freshS (a : Memref sig .tc .vmem S2x128x128 .f32) (h : Fin 2) : FVec F S128x128 .f32 :=
  shapeCast S128x128 (a.view.readCov (zeroed (F := F)) (placeS h).toLoadRect) shapeCasts_S1x128x128_S128x128

/-- The stores of the states that a tile leaves. -/
def left (S : Fin 2 → FVec F S128x128 .f32) : List (View.Piece (Elt F) S2x128x128 .f32) :=
  [⟨placeS 1, shapeCast S1x128x128 (S 1) shapeCasts_S128x128_S1x128x128⟩, ⟨placeS 0, shapeCast S1x128x128 (S 0) shapeCasts_S128x128_S1x128x128⟩]

section Later

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S2048x256 .bf16) (harg11 : arg11.IsWhole) (arg12 : Memref sig .tc .vmem S2x128x128 .f32) (harg12 : arg12.IsWhole) (arg13 : Memref sig .tc .vmem S2x4x512x256 .f32) (harg13 : arg13.IsWhole) (arg14 : Memref sig .tc .vmem S4x1024x256 .bf16) (harg14 : arg14.IsWhole) (hc0 : ¬cond0_0 i)
    (x0 : Vec F S2048x1024 .bf16) (x1 : Vec F S2048x1024 .bf16) (x2 : Vec F S1024x256 .f32) (x3 : Vec F S1024x256 .f32) (x4 : Vec F S1024x256 .f32) (x5 : Vec F S1024x256 .f32) (x6 : Vec F S1x256 .f32) (x7 : Vec F S1x256 .f32) (xs0 : Vec F S2x128x128 .f32) (xs1 : Vec F S2x4x512x256 .f32) (xs2 : Vec F S4x1024x256 .bf16)

/-- The scratch's stores when blocks 1, 2 and 3 are mixed. -/
def laterL1 : List (View.Piece (Elt F) S2x4x512x256 .f32) :=
  filled (tokens arg3 harg3 x0 2) (keptW arg14 harg14 xs2) 0 ++ filled (tokens arg3 harg3 x0 1) (keptW arg14 harg14 xs2) 1
@[inherit_doc laterL1] def laterL2 : List (View.Piece (Elt F) S2x4x512x256 .f32) :=
  filled (tokens arg3 harg3 x0 3) (keptW arg14 harg14 xs2) 1 ++ laterL1 arg3 harg3 arg14 harg14 x0 xs2
@[inherit_doc laterL1] def laterL3 : List (View.Piece (Elt F) S2x4x512x256 .f32) :=
  filled (tokens arg4 harg4 x1 0) (keptW arg14 harg14 xs2) 0 ++ laterL2 arg3 harg3 arg14 harg14 x0 xs2

/-- What the body loads at a tile that isn't the first. -/
def laterP : Loads F :=
  loads arg13 (fun k g => View.readAt (Elt F) arg13.view (slot 0 k g).toLoadRect (harg13.unread xs1))
    (laterL1 arg3 harg3 arg14 harg14 x0 xs2) (laterL2 arg3 harg3 arg14 harg14 x0 xs2) (laterL3 arg3 harg3 arg4 harg4 arg14 harg14 x0 x1 xs2)

theorem later_out : (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).1
      = pieces (rowOf arg9 harg9 x6) (rowOf arg10 harg10 x7) (laterP arg3 harg3 arg4 harg4 arg13 harg13 arg14 harg14 x0 x1 xs1 xs2)
        (keptS arg12 harg12 xs0 0) (keptS arg12 harg12 xs0 1) 32 := by
  sl_kernel_rfl

theorem later_states : (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).2.1
      = left (states (rowOf arg9 harg9 x6) (laterP arg3 harg3 arg4 harg4 arg13 harg13 arg14 harg14 x0 x1 xs1 xs2)
        (keptS arg12 harg12 xs0 0) (keptS arg12 harg12 xs0 1) 32) := by
  sl_kernel_rfl

theorem later_scratch : (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2).2.2.1 = laterL3 arg3 harg3 arg4 harg4 arg14 harg14 x0 x1 xs2 := by
  sl_kernel_rfl

end Later

section First

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S2048x256 .bf16) (harg11 : arg11.IsWhole) (arg12 : Memref sig .tc .vmem S2x128x128 .f32) (harg12 : arg12.IsWhole) (arg13 : Memref sig .tc .vmem S2x4x512x256 .f32) (harg13 : arg13.IsWhole) (arg14 : Memref sig .tc .vmem S4x1024x256 .bf16) (harg14 : arg14.IsWhole) (hc0 : cond0_0 i)
    (x0 : Vec F S2048x1024 .bf16) (x1 : Vec F S2048x1024 .bf16) (x2 : Vec F S1024x256 .f32) (x3 : Vec F S1024x256 .f32) (x4 : Vec F S1024x256 .f32) (x5 : Vec F S1024x256 .f32) (x6 : Vec F S1x256 .f32) (x7 : Vec F S1x256 .f32)

/-- The rounded weights of the first tile. -/
abbrev firstL : List (View.Piece (Elt F) S4x1024x256 .bf16) := rounded (wholeW arg5 harg5 x2) (wholeW arg6 harg6 x3) (wholeW arg7 harg7 x4) (wholeW arg8 harg8 x5)

/-- The scratch's stores of the first tile. -/
def firstPs (W : Weights F) : Fin 4 → List (View.Piece (Elt F) S2x4x512x256 .f32)
  | 0 => filled (tokens arg3 harg3 x0 1) W 1 ++ filled (tokens arg3 harg3 x0 0) W 0
  | 1 => filled (tokens arg3 harg3 x0 2) W 0 ++ firstPs W 0
  | 2 => filled (tokens arg3 harg3 x0 3) W 1 ++ firstPs W 1
  | 3 => filled (tokens arg4 harg4 x1 0) W 0 ++ firstPs W 2

/-- What the body loads at the first tile of a pair of heads. -/
def firstP (W : Weights F) : Loads F :=
  loads arg13 (fun k g => arg13.view.readCov (firstPs arg3 harg3 arg4 harg4 x0 x1 W 0) (slot 0 k g).toLoadRect)
    (firstPs arg3 harg3 arg4 harg4 x0 x1 W 1) (firstPs arg3 harg3 arg4 harg4 x0 x1 W 2) (firstPs arg3 harg3 arg4 harg4 x0 x1 W 3)

theorem first_out : (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = pieces (rowOf arg9 harg9 x6) (rowOf arg10 harg10 x7)
        (firstP arg3 harg3 arg4 harg4 arg13 x0 x1 (freshW arg14 (firstL arg5 harg5 arg6 harg6 arg7 harg7 arg8 harg8 x2 x3 x4 x5)))
        (freshS arg12 0) (freshS arg12 1) 32 := by
  sl_kernel_rfl

theorem first_states : (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1
      = left (states (rowOf arg9 harg9 x6)
        (firstP arg3 harg3 arg4 harg4 arg13 x0 x1 (freshW arg14 (firstL arg5 harg5 arg6 harg6 arg7 harg7 arg8 harg8 x2 x3 x4 x5)))
        (freshS arg12 0) (freshS arg12 1) 32) ++ zeroed := by
  sl_kernel_rfl

theorem first_scratch : (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1
      = firstPs arg3 harg3 arg4 harg4 x0 x1 (freshW arg14 (firstL arg5 harg5 arg6 harg6 arg7 harg7 arg8 harg8 x2 x3 x4 x5)) 3 := by
  sl_kernel_rfl

theorem first_weights : (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = firstL arg5 harg5 arg6 harg6 arg7 harg7 arg8 harg8 x2 x3 x4 x5 := by
  sl_kernel_rfl

end First

end Cert.Proof.Hg

end
-- ==== Proof.HgLoad.lean ====
/- What the body's loads hold at exact arithmetic: projections of the tile's tokens, weights and states. -/
module

public import proofs.«01_k».proof.Proof.HgRun
public import Idealize.ShloMosaic.Lib.Pipeline.CanonAppend
public import Idealize.ShloMosaic.Lib.Pipeline.ValueKit.Geometry

@[expose] public section

set_option maxRecDepth 65536

noncomputable section

namespace Cert.Proof.Hg

open Cert.Kernel5Ideal Cert.Kernel5Ideal.Gen
open Idealize.ShloMosaic Idealize.ShloMosaic.TcCoe

/-- An entry that the last pieces don't hold is read from the others. -/
theorem canon_append_skip {S : Shape} {e : EltTy} (L L' : List (View.Piece (Elt Ideal) S e)) (y : S.Idx) (h : ∀ p ∈ L, y ∉ p.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

theorem product_apply (u : FVec Ideal S512x1024 .bf16) (w : Vec Ideal S1x1024x256 .bf16) (r : Fin 512) (l : Fin 256) :
    product u w (ix2 r l) = ∑ n : Fin 1024, u (ix2 r n) * w (ix3 0 n l) := by
  pointwise [product]

/-- The buffer filled with one block's projections, as one function of its indices. -/
def fillG (u : FVec Ideal S512x1024 .bf16) (w : Weights Ideal) (y : S2x4x512x256.Idx) : EReal := product u (w (y 1)) (ix2 (y 2) (y 3))

theorem filled_G (u : FVec Ideal S512x1024 .bf16) (w : Weights Ideal) (s : Fin 2) :
    ∀ p ∈ filled u w s, ∀ x : p.1.shape.Idx, p.2 x = fillG u w (p.1.emb x) := by
  have hc : ∀ (k : Fin 4) (x : (place4 s k).shape.Idx),
      shapeCast S1x1x512x256 (product u (w k)) shapeCasts_S512x256_S1x1x512x256 x = fillG u w ((place4 s k).emb x) := fun k x => by
    obtain ⟨a, b, r, l, rfl⟩ : ∃ (a b : Fin 1) (r : Fin 512) (l : Fin 256), x = ix4 a b r l := ⟨x 0, x 1, x 2, x 3, eq_ix4 x⟩
    obtain rfl := Subsingleton.elim a 0
    obtain rfl := Subsingleton.elim b 0
    have e : (place4 s k).emb (ix4 0 0 r l) = ix4 s k r l := by
      funext a
      apply Fin.ext
      refine (ValueKit.rect_emb_unit_val _ _ _ _ _).trans ?_
      match a with
      | ⟨0, _⟩ => rfl
      | ⟨1, _⟩ => rfl
      | ⟨2, _⟩ => exact Nat.zero_add _
      | ⟨3, _⟩ => exact Nat.zero_add _
    rw [e]
    have : shapeCast S1x1x512x256 (product u (w k)) shapeCasts_S512x256_S1x1x512x256 (ix4 0 0 r l) = product u (w k) (ix2 r l) := by
      generalize product u (w k) = q
      pointwise []
    exact this
  intro p hp x
  simp only [filled, List.mem_cons, List.not_mem_nil, or_false] at hp
  rcases hp with rfl | rfl | rfl | rfl
  · exact hc 3 x
  · exact hc 2 x
  · exact hc 1 x
  · exact hc 0 x

/-- The place of an entry of a load. -/
theorem slot_idx (s : Fin 2) (k : Fin 4) (g : Fin 2) (r l : Fin 256) :
    (slot s k g).toLoadRect.idx (ix4 0 0 r l) = ix4 s k ⟨256 * g.val + r.val, by omega⟩ l := by
  funext a
  apply Fin.ext
  refine (ValueKit.rect_emb_unit_val _ _ _ _ _).trans ?_
  match a with
  | ⟨0, _⟩ => rfl
  | ⟨1, _⟩ => rfl
  | ⟨2, _⟩ => rfl
  | ⟨3, _⟩ => exact Nat.zero_add _

theorem mem_place4 (s : Fin 2) (k : Fin 4) (r : Fin 512) (l : Fin 256) : ix4 s k r l ∈ (place4 s k).set := by
  have e : (place4 s k).emb (ix4 0 0 r l) = ix4 s k r l := by
    funext a
    apply Fin.ext
    refine (ValueKit.rect_emb_unit_val _ _ _ _ _).trans ?_
    match a with
    | ⟨0, _⟩ => rfl
    | ⟨1, _⟩ => rfl
    | ⟨2, _⟩ => exact Nat.zero_add _
    | ⟨3, _⟩ => exact Nat.zero_add _
  rw [← e]
  exact LoadRect.idx_mem _ _

/-- An entry of the slot filled last. -/
theorem filled_read (u : FVec Ideal S512x1024 .bf16) (w : Weights Ideal) (s : Fin 2) (L' : List (View.Piece (Elt Ideal) S2x4x512x256 .f32))
    (k : Fin 4) (r : Fin 512) (l : Fin 256) : View.canon (filled u w s ++ L') (ix4 s k r l) = product u (w k) (ix2 r l) := by
  refine View.canon_append_of_pieces (fillG u w) L' (filled u w s) (filled_G u w s) _ ?_
  have := mem_place4 s k r l
  match k with
  | 0 => exact ⟨_, List.mem_cons_of_mem _ (List.mem_cons_of_mem _ (List.mem_cons_of_mem _ (List.mem_cons_self))), this⟩
  | 1 => exact ⟨_, List.mem_cons_of_mem _ (List.mem_cons_of_mem _ (List.mem_cons_self)), this⟩
  | 2 => exact ⟨_, List.mem_cons_of_mem _ (List.mem_cons_self), this⟩
  | 3 => exact ⟨_, List.mem_cons_self, this⟩

theorem not_mem_place4 (s s' : Fin 2) (hs : s ≠ s') (k k' : Fin 4) (r : Fin 512) (l : Fin 256) : ix4 s' k r l ∉ (place4 s k').set := fun h => by
  have := (Rect.mem_set_unit.mp h) 0
  have h1 : s.val ≤ s'.val ∧ s'.val < s.val + 1 := this
  exact hs (Fin.ext (by omega))

/-- An entry of the other slot. -/
theorem filled_skip (u : FVec Ideal S512x1024 .bf16) (w : Weights Ideal) (s s' : Fin 2) (hs : s ≠ s') (L' : List (View.Piece (Elt Ideal) S2x4x512x256 .f32))
    (k : Fin 4) (r : Fin 512) (l : Fin 256) : View.canon (filled u w s ++ L') (ix4 s' k r l) = View.canon L' (ix4 s' k r l) := by
  refine canon_append_skip _ L' _ fun p hp => ?_
  simp only [filled, List.mem_cons, List.not_mem_nil, or_false] at hp
  rcases hp with rfl | rfl | rfl | rfl <;> exact not_mem_place4 s s' hs k _ r l

/-- A load of the scratch. -/
theorem slot_read (a : Memref sig .tc .vmem S2x4x512x256 .f32) (L : List (View.Piece (Elt Ideal) S2x4x512x256 .f32)) (s : Fin 2) (k : Fin 4) (g : Fin 2)
    (r l : Fin 256) : a.view.readCov L (slot s k g).toLoadRect (ix4 0 0 r l) = View.canon L (ix4 s k ⟨256 * g.val + r.val, by omega⟩ l) := by
  rw [View.readCov_eq_canon']
  exact congrArg (View.canon L) (slot_idx s k g r l)

theorem kept_read (a : Memref sig .tc .vmem S2x4x512x256 .f32) (ha : a.IsWhole) (x : Vec Ideal S2x4x512x256 .f32) (s : Fin 2) (k : Fin 4) (g : Fin 2)
    (r l : Fin 256) : View.readAt (Elt Ideal) a.view (slot s k g).toLoadRect (ha.unread x) (ix4 0 0 r l) = x (ix4 s k ⟨256 * g.val + r.val, by omega⟩ l) :=
  (ha.readAt_unread _ _ _).trans (congrArg x (slot_idx s k g r l))

theorem tokens_apply (a : Memref sig .tc .vmem S2048x1024 .bf16) (ha : a.IsWhole) (x : Vec Ideal S2048x1024 .bf16) (b : Fin 4) (r : Fin 512) (n : Fin 1024) :
    tokens a ha x b (ix2 r n) = x (ix2 ⟨512 * b.val + r.val, by omega⟩ n) := by
  unfold tokens
  rw [ha.readAt_unread]
  refine congrArg x ?_
  funext a
  apply Fin.ext
  refine (ValueKit.rect_emb_unit_val _ _ _ _ _).trans ?_
  match a with
  | ⟨0, _⟩ => rfl
  | ⟨1, _⟩ => exact Nat.zero_add _

theorem keptW_apply (a : Memref sig .tc .vmem S4x1024x256 .bf16) (ha : a.IsWhole) (x : Vec Ideal S4x1024x256 .bf16) (k : Fin 4) (n : Fin 1024) (l : Fin 256) :
    keptW a ha x k (ix3 0 n l) = x (ix3 k n l) := by
  unfold keptW
  rw [ha.readAt_unread]
  refine congrArg x ?_
  funext a
  apply Fin.ext
  refine (ValueKit.rect_emb_unit_val _ _ _ _ _).trans ?_
  match a with
  | ⟨0, _⟩ => rfl
  | ⟨1, _⟩ => exact Nat.zero_add _
  | ⟨2, _⟩ => exact Nat.zero_add _

theorem wholeW_eq (a : Memref sig .tc .vmem S1024x256 .f32) (ha : a.IsWhole) (x : Vec Ideal S1024x256 .f32) : wholeW a ha x = x := by
  funext j
  refine (ha.readAt_unread _ _ _).trans (congrArg x ?_)
  funext a
  apply Fin.ext
  refine (ValueKit.rect_emb_unit_val _ _ _ _ _).trans ?_
  match a with
  | ⟨0, _⟩ => exact Nat.zero_add _
  | ⟨1, _⟩ => exact Nat.zero_add _

theorem rowOf_apply (a : Memref sig .tc .vmem S1x256 .f32) (ha : a.IsWhole) (x : Vec Ideal S1x256 .f32) (l : Fin 256) : rowOf a ha x (ix2 0 l) = x (ix2 0 l) := by
  have e : View.readAt (Elt Ideal) a.view (Rect.unit (s := S1x256) ![0, 0] S1x256.size (by decide)).toLoadRect (ha.unread x) = x := by
    funext j
    refine (ha.readAt_unread _ _ _).trans (congrArg x ?_)
    funext a
    apply Fin.ext
    refine (ValueKit.rect_emb_unit_val _ _ _ _ _).trans ?_
    match a with
    | ⟨0, _⟩ => exact Nat.zero_add _
    | ⟨1, _⟩ => exact Nat.zero_add _
  unfold rowOf
  rw [e]
  pointwise []

/-- The weights that the first tile leaves, as one function of their indices. -/
def roundG (x : Fin 4 → Vec Ideal S1024x256 .f32) (y : S4x1024x256.Idx) : EReal := x (y 0) (ix2 (y 1) (y 2))

theorem round_idx (k : Fin 4) (inb) (n : Fin 1024) (l : Fin 256) :
    (Rect.unit (s := S4x1024x256) ![k.val, 0, 0] S1x1024x256.size inb).emb (ix3 0 n l) = ix3 k n l := by
  funext a
  apply Fin.ext
  refine (ValueKit.rect_emb_unit_val _ _ _ _ _).trans ?_
  match a with
  | ⟨0, _⟩ => rfl
  | ⟨1, _⟩ => exact Nat.zero_add _
  | ⟨2, _⟩ => exact Nat.zero_add _

theorem rounded_apply (x : Fin 4 → Vec Ideal S1024x256 .f32) (k : Fin 4) (n : Fin 1024) (l : Fin 256) :
    View.canon (rounded (x 0) (x 1) (x 2) (x 3)) (ix3 k n l) = x k (ix2 n l) := by
  have hc : ∀ (k : Fin 4) (inb) (y : (Rect.unit (s := S4x1024x256) ![k.val, 0, 0] S1x1024x256.size inb).shape.Idx),
      (shapeCast S1x1024x256 (truncf .bf16 (x k : FVec Ideal S1024x256 .f32) bitsLt_bf16_f32) shapeCasts_S1024x256_S1x1024x256 : FVec Ideal S1x1024x256 .bf16) y
        = roundG x ((Rect.unit (s := S4x1024x256) ![k.val, 0, 0] S1x1024x256.size inb).emb y) := fun k inb y => by
    obtain ⟨a, n, l, rfl⟩ : ∃ (a : Fin 1) (n : Fin 1024) (l : Fin 256), y = ix3 a n l := ⟨y 0, y 1, y 2, eq_ix3 y⟩
    obtain rfl := Subsingleton.elim a 0
    rw [round_idx]
    have : (shapeCast S1x1024x256 (truncf .bf16 (x k : FVec Ideal S1024x256 .f32) bitsLt_bf16_f32) shapeCasts_S1024x256_S1x1024x256 : FVec Ideal S1x1024x256 .bf16) (ix3 0 n l) = x k (ix2 n l) := by
      pointwise []
    exact this
  have hm : ∀ (k : Fin 4) (inb), ix3 k n l ∈ (Rect.unit (s := S4x1024x256) ![k.val, 0, 0] S1x1024x256.size inb).set := fun k inb => by
    rw [← round_idx k inb n l]
    exact LoadRect.idx_mem _ _
  refine (View.canon_apply_of_pieces (roundG x) _ (fun p hp y => ?_) _ ?_).trans rfl
  · simp only [rounded, List.mem_cons, List.not_mem_nil, or_false] at hp
    rcases hp with rfl | rfl | rfl | rfl
    · exact hc 3 (by decide) y
    · exact hc 2 (by decide) y
    · exact hc 1 (by decide) y
    · exact hc 0 (by decide) y
  · match k with
    | 0 => exact ⟨_, List.mem_cons_of_mem _ (List.mem_cons_of_mem _ (List.mem_cons_of_mem _ (List.mem_cons_self))), hm 0 (by decide)⟩
    | 1 => exact ⟨_, List.mem_cons_of_mem _ (List.mem_cons_of_mem _ (List.mem_cons_self)), hm 1 (by decide)⟩
    | 2 => exact ⟨_, List.mem_cons_of_mem _ (List.mem_cons_self), hm 2 (by decide)⟩
    | 3 => exact ⟨_, List.mem_cons_self, hm 3 (by decide)⟩

theorem freshW_apply (a : Memref sig .tc .vmem S4x1024x256 .bf16) (x : Fin 4 → Vec Ideal S1024x256 .f32) (k : Fin 4) (n : Fin 1024) (l : Fin 256) :
    freshW a (rounded (x 0) (x 1) (x 2) (x 3)) k (ix3 0 n l) = x k (ix2 n l) := by
  unfold freshW
  rw [View.readCov_eq_canon']
  exact (congrArg (View.canon _) (round_idx k _ n l)).trans (rounded_apply x k n l)

theorem state_idx (h : Fin 2) (i d : Fin 128) : (placeS h).emb (ix3 0 i d) = ix3 h i d := by
  funext a
  apply Fin.ext
  refine (ValueKit.rect_emb_unit_val _ _ _ _ _).trans ?_
  match a with
  | ⟨0, _⟩ => rfl
  | ⟨1, _⟩ => exact Nat.zero_add _
  | ⟨2, _⟩ => exact Nat.zero_add _

theorem keptS_apply (a : Memref sig .tc .vmem S2x128x128 .f32) (ha : a.IsWhole) (x : Vec Ideal S2x128x128 .f32) (h : Fin 2) (i d : Fin 128) :
    keptS a ha x h (ix2 i d) = x (ix3 h i d) := by
  have e : View.readAt (Elt Ideal) a.view (placeS h).toLoadRect (ha.unread x) (ix3 0 i d) = x (ix3 h i d) :=
    (ha.readAt_unread _ _ _).trans (congrArg x (state_idx h i d))
  unfold keptS
  generalize View.readAt (Elt Ideal) a.view (placeS h).toLoadRect (ha.unread x) = q at e
  refine Eq.trans ?_ e
  have : ∀ q : Vec Ideal S1x128x128 .f32, shapeCast S128x128 q shapeCasts_S1x128x128_S128x128 (ix2 i d) = q (ix3 0 i d) := fun q => by pointwise []
  exact this q

theorem freshS_apply (a : Memref sig .tc .vmem S2x128x128 .f32) (h : Fin 2) (i d : Fin 128) : freshS (F := Ideal) a h (ix2 i d) = 0 := by
  have e : a.view.readCov (zeroed (F := Ideal)) (placeS h).toLoadRect (ix3 0 i d) = 0 := by
    rw [View.readCov_eq_canon']
    refine (congrArg (View.canon _) (state_idx h i d)).trans ?_
    refine (View.canon_apply_of_pieces (fun _ => (0 : EReal)) _ (fun p hp y => ?_) _ ?_).trans rfl
    · simp only [zeroed, List.mem_cons, List.not_mem_nil, or_false] at hp
      subst hp
      exact Ideal.ofBits_zero_f32
    · refine ⟨⟨Rect.unit (s := S2x128x128) ![0, 0, 0] S2x128x128.size (by decide), broadcast S2x128x128 (Scalar.ofBits (F := Ideal) .f32 0x00000000#32)⟩,
        by unfold zeroed; exact List.mem_cons_self, (Rect.mem_set_unit (inb := by decide)).mpr fun a => ?_⟩
      match a with
      | ⟨0, _⟩ => exact ⟨Nat.zero_le _, h.isLt⟩
      | ⟨1, _⟩ => exact ⟨Nat.zero_le _, i.isLt⟩
      | ⟨2, _⟩ => exact ⟨Nat.zero_le _, d.isLt⟩
  unfold freshS
  refine Eq.trans ?_ e
  generalize a.view.readCov (zeroed (F := Ideal)) (placeS h).toLoadRect = q
  have : ∀ q : Vec Ideal S1x128x128 .f32, shapeCast S128x128 q shapeCasts_S1x128x128_S128x128 (ix2 i d) = q (ix3 0 i d) := fun q => by pointwise []
  exact this q

/-- The states left, read back. -/
theorem left_apply (S : Fin 2 → FVec Ideal S128x128 .f32) (L' : List (View.Piece (Elt Ideal) S2x128x128 .f32)) (h : Fin 2) (i d : Fin 128) :
    View.canon (left S ++ L') (ix3 h i d) = S h (ix2 i d) := by
  have hc : ∀ (h : Fin 2) (y : (placeS h).shape.Idx), shapeCast S1x128x128 (S h) shapeCasts_S128x128_S1x128x128 y
      = (fun y : S2x128x128.Idx => S (y 0) (ix2 (y 1) (y 2))) ((placeS h).emb y) := fun h y => by
    obtain ⟨a, i, d, rfl⟩ : ∃ (a : Fin 1) (i d : Fin 128), y = ix3 a i d := ⟨y 0, y 1, y 2, eq_ix3 y⟩
    obtain rfl := Subsingleton.elim a 0
    rw [state_idx]
    have : shapeCast S1x128x128 (S h) shapeCasts_S128x128_S1x128x128 (ix3 0 i d) = S h (ix2 i d) := by pointwise []
    exact this
  have hm : ∀ h : Fin 2, ix3 h i d ∈ (placeS h).set := fun h => by
    rw [← state_idx h i d]
    exact LoadRect.idx_mem _ _
  refine (View.canon_append_of_pieces (fun y : S2x128x128.Idx => S (y 0) (ix2 (y 1) (y 2))) L' (left S) (fun p hp y => ?_) _ ?_).trans rfl
  · simp only [left, List.mem_cons, List.not_mem_nil, or_false] at hp
    rcases hp with rfl | rfl
    · exact hc 1 y
    · exact hc 0 y
  · match h with
    | 0 => exact ⟨_, List.mem_cons_of_mem _ (List.mem_cons_self), hm 0⟩
    | 1 => exact ⟨_, List.mem_cons_self, hm 1⟩

/-! ## The projections that a tile's blocks load -/

/-- A projection of a token, from its row and the weight's column. -/
def mix (U : ℕ → Fin 1024 → EReal) (W : Fin 4 → Fin 1024 → Fin 256 → EReal) (k : Fin 4) (t : ℕ) (l : Fin 256) : EReal := ∑ n, U t n * W k n l

section Mixed
variable (U : ℕ → Fin 1024 → EReal) (W : Fin 4 → Fin 1024 → Fin 256 → EReal) (T : ℕ)

theorem product_mix (a : Memref sig .tc .vmem S2048x1024 .bf16) (ha : a.IsWhole) (x : Vec Ideal S2048x1024 .bf16) (w : Weights Ideal) (b : Fin 4)
    (hx : ∀ (r : Fin 512) (n : Fin 1024), x (ix2 ⟨512 * b.val + r.val, by omega⟩ n) = U (T + 512 * b.val + r.val) n)
    (hw : ∀ k n l, w k (ix3 0 n l) = W k n l) (k : Fin 4) (r : Fin 512) (l : Fin 256) :
    product (tokens a ha x b) (w k) (ix2 r l) = mix U W k (T + 512 * b.val + r.val) l := by
  rw [product_apply]
  exact Finset.sum_congr rfl fun n _ => by rw [tokens_apply, hx, hw]

variable (arg3 : Memref sig .tc .vmem S2048x1024 .bf16) (harg3 : arg3.IsWhole) (arg4 : Memref sig .tc .vmem S2048x1024 .bf16) (harg4 : arg4.IsWhole)
  (arg13 : Memref sig .tc .vmem S2x4x512x256 .f32) (harg13 : arg13.IsWhole) (arg14 : Memref sig .tc .vmem S4x1024x256 .bf16) (harg14 : arg14.IsWhole)
  (x0 x1 : Vec Ideal S2048x1024 .bf16) (xs1 : Vec Ideal S2x4x512x256 .f32) (xs2 : Vec Ideal S4x1024x256 .bf16) (w : Weights Ideal)
  (hx0 : ∀ (r : Fin 2048) (n : Fin 1024), x0 (ix2 r n) = U (T + r.val) n)

include hx0 in
theorem product_here (hw : ∀ k n l, w k (ix3 0 n l) = W k n l) (b k : Fin 4) (g : Fin 2) (r l : Fin 256) :
    product (tokens arg3 harg3 x0 b) (w k) (ix2 ⟨256 * g.val + r.val, by omega⟩ l) = mix U W k (T + 512 * b.val + 256 * g.val + r.val) l :=
  (product_mix U W T arg3 harg3 x0 w b (fun r n => (hx0 _ n).trans (congrArg (fun t => U t n) (Nat.add_assoc _ _ _).symm)) hw k _ l).trans
    (congrArg (fun t => mix U W k t l) (Nat.add_assoc _ _ _).symm)

include hx0 in
theorem laterP_apply (hp : ∀ (k : Fin 4) (r : Fin 512) (l : Fin 256), xs1 (ix4 0 k r l) = mix U W k (T + r.val) l)
    (hw : ∀ k n l, xs2 (ix3 k n l) = W k n l) (b k : Fin 4) (g : Fin 2) (r l : Fin 256) :
    laterP arg3 harg3 arg4 harg4 arg13 harg13 arg14 harg14 x0 x1 xs1 xs2 b k g (ix4 0 0 r l) = mix U W k (T + 512 * b.val + 256 * g.val + r.val) l := by
  have hw' : ∀ k n l, keptW arg14 harg14 xs2 k (ix3 0 n l) = W k n l := fun k n l => (keptW_apply arg14 harg14 xs2 k n l).trans (hw k n l)
  have e := product_here U W T arg3 harg3 x0 (keptW arg14 harg14 xs2) hx0 hw'
  match b with
  | 0 => exact (kept_read arg13 harg13 xs1 0 k g r l).trans ((hp k _ l).trans (congrArg (fun t => mix U W k t l) (by show T + (256 * g.val + r.val) = T + 512 * 0 + 256 * g.val + r.val; omega)))
  | 1 =>
    refine (slot_read arg13 _ 1 k g r l).trans ((filled_skip _ _ 0 1 (by decide) _ k _ l).trans (Eq.trans ?_ (e 1 k g r l)))
    exact (congrArg (fun L => View.canon L _) (List.append_nil _).symm).trans (filled_read _ _ 1 [] k _ l)
  | 2 => exact (slot_read arg13 _ 0 k g r l).trans ((filled_skip _ _ 1 0 (by decide) _ k _ l).trans ((filled_read _ _ 0 _ k _ l).trans (e 2 k g r l)))
  | 3 => exact (slot_read arg13 _ 1 k g r l).trans ((filled_skip _ _ 0 1 (by decide) _ k _ l).trans ((filled_read _ _ 1 _ k _ l).trans (e 3 k g r l)))

include hx0 in
theorem firstP_apply (hw : ∀ k n l, w k (ix3 0 n l) = W k n l) (b k : Fin 4) (g : Fin 2) (r l : Fin 256) :
    firstP arg3 harg3 arg4 harg4 arg13 x0 x1 w b k g (ix4 0 0 r l) = mix U W k (T + 512 * b.val + 256 * g.val + r.val) l := by
  have e := product_here U W T arg3 harg3 x0 w hx0 hw
  match b with
  | 0 =>
    refine (slot_read arg13 _ 0 k g r l).trans ?_
    rw [firstPs]
    refine (filled_skip _ _ 1 0 (by decide) _ k _ l).trans (Eq.trans ?_ (e 0 k g r l))
    exact (congrArg (fun L => View.canon L _) (List.append_nil _).symm).trans (filled_read _ _ 0 [] k _ l)
  | 1 =>
    refine (slot_read arg13 _ 1 k g r l).trans ?_
    rw [firstPs, firstPs]
    exact (filled_skip _ _ 0 1 (by decide) _ k _ l).trans ((filled_read _ _ 1 _ k _ l).trans (e 1 k g r l))
  | 2 =>
    refine (slot_read arg13 _ 0 k g r l).trans ?_
    rw [firstPs, firstPs]
    exact (filled_skip _ _ 1 0 (by decide) _ k _ l).trans ((filled_read _ _ 0 _ k _ l).trans (e 2 k g r l))
  | 3 =>
    refine (slot_read arg13 _ 1 k g r l).trans ?_
    rw [firstPs, firstPs]
    exact (filled_skip _ _ 0 1 (by decide) _ k _ l).trans ((filled_read _ _ 1 _ k _ l).trans (e 3 k g r l))

/-- What a tile leaves for the next one's first block. -/
theorem ahead_apply (hx1 : ∀ (r : Fin 512) (n : Fin 1024), x1 (ix2 ⟨r.val, by omega⟩ n) = U (T + r.val) n) (hw : ∀ k n l, w k (ix3 0 n l) = W k n l)
    (L' : List (View.Piece (Elt Ideal) S2x4x512x256 .f32)) (k : Fin 4) (r : Fin 512) (l : Fin 256) :
    View.canon (filled (tokens arg4 harg4 x1 0) w 0 ++ L') (ix4 0 k r l) = mix U W k (T + r.val) l := by
  refine (filled_read _ _ 0 L' k r l).trans ((product_mix U W T arg4 harg4 x1 w 0 (fun r n => ?_) hw k r l).trans rfl)
  refine Eq.trans (congrArg x1 (congrArg (fun a => ix2 a n) (Fin.ext ?_))) (hx1 r n)
  exact Nat.zero_add _

end Mixed

end Cert.Proof.Hg

end
-- ==== Proof.HgVal.lean ====
/- The body's operations at exact arithmetic, entry by entry: over real projections they are the terms of the recurrence by
   chunks. -/
module

public import proofs.«01_k».proof.Proof.HgOps
public import proofs.«01_k».proof.Proof.HgSpec

@[expose] public section

set_option maxRecDepth 65536

noncomputable section

namespace Cert.Proof.Hg

open Cert.Kernel5Ideal Cert.Kernel5Ideal.Gen
open Idealize.ShloMosaic Idealize.ShloMosaic.TcCoe
open Finset HgReal
open HgSpec (gate gate_pos)

/-! ## Reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

theorem logistic_coe (z : ℝ) : Ideal.div 1 (1 + Ideal.exp (0 - (z : EReal))) = (((1 + Real.exp (-z))⁻¹ : ℝ) : EReal) := by
  rw [zero_sub, ← Ideal.logistic_coe]; rfl

theorem exp2_coe (c : ℝ) : FloatOps.exp2 (F := Ideal) (φ := .f32) ((c * (Real.log 2)⁻¹ : ℝ) : EReal) = ((Real.exp c : ℝ) : EReal) := by
  show ((Real.rpow 2 (c * (Real.log 2)⁻¹) : ℝ) : EReal) = _
  congr 1
  have h : Real.log 2 ≠ 0 := by positivity
  refine (Real.rpow_def_of_pos (by norm_num : (0 : ℝ) < 2) _).trans ?_
  rw [mul_comm c, ← mul_assoc, mul_inv_cancel₀ h, one_mul]

theorem exp2_sub (a b : ℝ) :
    FloatOps.exp2 (F := Ideal) (φ := .f32) (((a * (Real.log 2)⁻¹ : ℝ) : EReal) - ((b * (Real.log 2)⁻¹ : ℝ) : EReal)) = ((Real.exp (a - b) : ℝ) : EReal) := by
  rw [← EReal.coe_sub, ← sub_mul, exp2_coe]

/-- The lane of a head's coordinate. -/
abbrev ln (h : Fin 2) (d : Fin 128) : Fin 256 := ⟨128 * h.val + d.val, by omega⟩

/-! ## The masks -/

theorem place_apply (r l : Fin 256) : place (ix2 r l) = BitVec.ofNat 32 (r.val % 64) := by
  pointwise [place, k0_pay21]
  revert r
  decide +kernel

theorem headOf_apply (r l : Fin 256) : headOf (ix2 r l) = BitVec.ofNat 32 (l.val / 128) := by
  pointwise [headOf, k0_pay22, k0_pay23, k0_pay24]
  revert l
  decide +kernel

theorem ge_word : ∀ a b : Fin 64, IntOp.cmpi .sge (BitVec.ofNat 32 a.val) (BitVec.ofNat 32 b.val) = if b.val ≤ a.val then 1#1 else 0#1 := by
  decide +kernel

theorem eq_word : ∀ a b : Fin 4, IntOp.cmpi .eq (BitVec.ofNat 32 a.val) (BitVec.ofNat 32 b.val) = if a.val = b.val then 1#1 else 0#1 := by
  decide +kernel

theorem ge_word8 : ∀ a b : Fin 256, IntOp.cmpi .sge (BitVec.ofNat 32 a.val) (BitVec.ofNat 32 b.val) = if b.val ≤ a.val then 1#1 else 0#1 := by
  decide +kernel

theorem causal_apply (r c : Fin 256) : causal (ix2 r c) = if c.val ≤ r.val ∧ r.val / 64 = c.val / 64 then 1#1 else 0#1 := by
  have e : causal (ix2 r c) = IntOp.andi (IntOp.cmpi .sge (BitVec.ofNat 32 r.val) (BitVec.ofNat 32 c.val))
      (IntOp.cmpi .eq (BitVec.ofNat 32 (r.val / 64)) (BitVec.ofNat 32 (c.val / 64))) := by
    pointwise [causal, k0_pay15, k0_pay16, k0_pay17, k0_pay18, k0_pay19, k0_pay20]
    have hq : ∀ r : Fin 256, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 r.val) 64#32) 0#32))
          (IntOp.subi (IntOp.divsi ArithUnit.vector (BitVec.ofNat 32 r.val) 64#32) 1#32)
          (IntOp.divsi ArithUnit.vector (BitVec.ofNat 32 r.val) 64#32)) = BitVec.ofNat 32 (r.val / 64) := by decide +kernel
    exact congrArg₂ (fun a b => IntOp.andi (IntOp.cmpi .sge (BitVec.ofNat 32 r.val) (BitVec.ofNat 32 c.val)) (IntOp.cmpi .eq a b)) (hq r) (hq c)
  rw [e, ge_word8, eq_word ⟨r.val / 64, by omega⟩ ⟨c.val / 64, by omega⟩]
  dsimp only
  by_cases h1 : c.val ≤ r.val <;> by_cases h2 : r.val / 64 = c.val / 64 <;> simp [h1, h2] <;> decide

/-! ## The sums of the logarithms -/

/-- The sum over the last `n` tokens of the chunk, up to token `r`. -/
def win (x : ℕ → ℝ) (n r : ℕ) : ℝ := ∑ i ∈ range (min (r % 64 + 1) n), x (r - i)

theorem win_double (x : ℕ → ℝ) (n r : ℕ) (hn : 0 < n) : win x (2 * n) r = win x n r + if n ≤ r % 64 then win x n (r - n) else 0 := by
  by_cases h : n ≤ r % 64
  · have h1 : min (r % 64 + 1) (2 * n) = n + min (r % 64 - n + 1) n := by omega
    have h2 : min (r % 64 + 1) n = n := by omega
    have h3 : (r - n) % 64 = r % 64 - n := by omega
    rw [if_pos h, win, win, win, h1, h2, h3, sum_range_add]
    exact congrArg _ (sum_congr rfl fun i _ => by rw [Nat.sub_sub])
  · have h1 : min (r % 64 + 1) (2 * n) = min (r % 64 + 1) n := by omega
    rw [if_neg h, add_zero, win, win, h1]

theorem win_full (x : ℕ → ℝ) (r : ℕ) : win x 64 r = ∑ i ∈ range (r % 64 + 1), x (64 * (r / 64) + i) := by
  rw [win, show min (r % 64 + 1) 64 = r % 64 + 1 from by omega, ← sum_range_reflect (fun i => x (64 * (r / 64) + i))]
  exact sum_congr rfl fun i hi => congrArg x (by have := mem_range.mp hi; omega)

theorem doubled_coe (s : Fin 64) (hs : 0 < s.val) (b : FVec Ideal S256x256 .f32) (x : Fin 256 → ℕ → ℝ)
    (hb : ∀ r l : Fin 256, b (ix2 r l) = ((win (x l) s.val r.val : ℝ) : EReal)) (r l : Fin 256) :
    doubled (BitVec.ofNat 32 s.val) b (ix2 r l) = ((win (x l) (2 * s.val) r.val : ℝ) : EReal) := by
  pointwise [doubled]
  rw [place_apply, ge_word ⟨r.val % 64, Nat.mod_lt _ (by decide)⟩ s, hb, hb, win_double _ _ _ hs]
  dsimp only
  by_cases h : s.val ≤ r.val % 64
  · rw [if_pos h, if_pos h, EReal.coe_add]
    refine congrArg _ ?_
    refine congrArg (fun n => ((win (x l) s.val n : ℝ) : EReal)) ?_
    have h1 := s.isLt
    have h2 := r.isLt
    have h3 : s.val ≤ r.val := le_trans h (Nat.mod_le _ _)
    simp only [BitVec.toNat_ofNat]
    omega
  · rw [if_neg h, if_neg h, add_zero]
    exact add_zero _

section Group
variable (lb : FVec Ideal S1x256 .f32) (L : Fin 256 → ℝ) (hL : ∀ l : Fin 256, lb (ix2 0 l) = ((L l : ℝ) : EReal))
  (p : Vec Ideal S1x1x256x256 .f32) (z : ℕ → Fin 256 → ℝ) (T : ℕ) (hz : ∀ r l : Fin 256, p (ix4 0 0 r l) = ((z (T + r.val) l : ℝ) : EReal))

include hL hz in
theorem gates_coe (r l : Fin 256) : gates lb p (ix2 r l) = ((gate (L l) (z (T + r.val) l) : ℝ) : EReal) := by
  pointwise [gates, flat, logistic]
  rw [hL, hz, logistic_coe, gate, EReal.coe_add, EReal.coe_mul, EReal.coe_sub, EReal.coe_one]

include hL hz in
theorem keys_coe (r l : Fin 256) : keys lb p (ix2 r l) = ((1 - gate (L l) (z (T + r.val) l) : ℝ) : EReal) := by
  pointwise [keys]
  rw [gates_coe lb L hL p z T hz, EReal.coe_sub, EReal.coe_one]

include hL hz in
theorem sums_coe (h0 : ∀ l, 0 ≤ L l) (r l : Fin 256) : sums lb p (ix2 r l)
    = ((cum (fun t => gate (L l) (z t l)) (T + 64 * (r.val / 64)) (r.val % 64) * (Real.log 2)⁻¹ : ℝ) : EReal) := by
  set x : Fin 256 → ℕ → ℝ := fun l t => Real.log (gate (L l) (z (T + t) l)) * (Real.log 2)⁻¹
  have e : ∀ r l : Fin 256, (mulf (log (gates lb p)) (broadcast S256x256 (Named.named κ "log2_e" 0x3FB8AA3B#32)) : FVec Ideal S256x256 .f32) (ix2 r l)
      = ((win (x l) 1 r.val : ℝ) : EReal) := fun r l => by
    pointwise []
    rw [gates_coe lb L hL p z T hz, Ideal.log_coe, if_neg (not_le.mpr (gate_pos (h0 l) _))]
    have : win (x l) 1 r.val = x l r.val := by
      rw [win, show min (r.val % 64 + 1) 1 = 1 from by omega]; simp
    rw [this, EReal.coe_mul]
    rfl
  have h := doubled_coe 32 (by decide) _ x (doubled_coe 16 (by decide) _ x (doubled_coe 8 (by decide) _ x (doubled_coe 4 (by decide) _ x
    (doubled_coe 2 (by decide) _ x (doubled_coe 1 (by decide) _ x e))))) r l
  refine Eq.trans h ?_
  congr 1
  refine (win_full (x l) r.val).trans ?_
  rw [cum, sum_mul]
  exact sum_congr rfl fun i _ => by simp only [x, Nat.add_assoc]

end Group

/-! ## A chunk -/

section Chunk
variable (b q k : FVec Ideal S256x256 .f32) (v : FVec Ideal S256x256 .bf16) (Q G K V : ℕ → Fin 256 → ℝ) (T : ℕ)
  (hq : ∀ r l : Fin 256, q (ix2 r l) = ((Q (T + r.val) l : ℝ) : EReal))
  (hk : ∀ r l : Fin 256, k (ix2 r l) = ((K (T + r.val) l : ℝ) : EReal))
  (hv : ∀ r l : Fin 256, v (ix2 r l) = ((V (T + r.val) l : ℝ) : EReal))
  (hb : ∀ r l : Fin 256, b (ix2 r l) = ((cum (fun t => G t l) (T + 64 * (r.val / 64)) (r.val % 64) * (Real.log 2)⁻¹ : ℝ) : EReal))

/-- The sums within chunk `n`. -/
abbrev C (n j : ℕ) (l : Fin 256) : ℝ := cum (fun t => G t l) (T + 64 * n) j

include hb in
theorem sum_at (n : Fin 4) (j : ℕ) (hj : j < 64) (l : Fin 256) (h : 64 * n.val + j < 256) :
    b (ix2 ⟨64 * n.val + j, h⟩ l) = ((C G T n.val j l * (Real.log 2)⁻¹ : ℝ) : EReal) := by
  rw [hb]
  show ((cum _ (T + 64 * ((64 * n.val + j) / 64)) ((64 * n.val + j) % 64) * _ : ℝ) : EReal) = _
  rw [show (64 * n.val + j) / 64 = n.val from by omega, show (64 * n.val + j) % 64 = j from by omega]

include hb hq in
theorem qmid_coe (n : Fin 4) (j : Fin 64) (l : Fin 256) : qmid b q n (ix2 j l)
    = ((Q (T + 64 * n.val + j.val) l * Real.exp (C G T n.val j.val l - C G T n.val 31 l) : ℝ) : EReal) := by
  pointwise [qmid, mid]
  rw [sum_at b G T hb n j.val j.isLt l, sum_at b G T hb n 31 (by decide) l, exp2_sub, hq, EReal.coe_mul, Nat.add_assoc]

include hb hk in
theorem kmid_coe (n : Fin 4) (j : Fin 64) (l : Fin 256) : kmid b k n (ix2 j l)
    = ((K (T + 64 * n.val + j.val) l * Real.exp (C G T n.val 31 l - C G T n.val j.val l) : ℝ) : EReal) := by
  pointwise [kmid, mid]
  rw [sum_at b G T hb n j.val j.isLt l, sum_at b G T hb n 31 (by decide) l, exp2_sub, hk, EReal.coe_mul, Nat.add_assoc]

include hb hq in
theorem qstart_coe (n : Fin 4) (j : Fin 64) (l : Fin 256) : qstart b q n (ix2 j l)
    = ((Q (T + 64 * n.val + j.val) l * Real.exp (C G T n.val j.val l - C G T n.val 31 l) * Real.exp (C G T n.val 31 l) : ℝ) : EReal) := by
  have h := qmid_coe b q Q G T hq hb n j l
  pointwise [qstart, mid]
  rw [h, sum_at b G T hb n 31 (by decide) l, exp2_coe, ← EReal.coe_mul]

include hb hk hv in
/-- The state after a chunk is the recurrence's. -/
theorem next_coe (hG : ∀ t l, 0 < G t l) (n : Fin 4) (h : Fin 2) (s : FVec Ideal S128x128 .f32)
    (hs : ∀ i d : Fin 128, s (ix2 i d) = ((state (fun t => G t (ln h d)) (fun t => K t (ln h d)) (fun t => V t (ln h i)) (T + 64 * n.val) : ℝ) : EReal))
    (i d : Fin 128) : next b k v n h s (ix2 i d)
      = ((state (fun t => G t (ln h d)) (fun t => K t (ln h d)) (fun t => V t (ln h i)) (T + 64 * n.val + 64) : ℝ) : EReal) := by
  have hkm := kmid_coe b k G K T hk hb n
  pointwise [next, upd, last, mid]
  rw [hs, sum_at b G T hb n 63 (by decide), sum_at b G T hb n 31 (by decide), exp2_sub, exp2_coe]
  simp only [hkm, hv]
  rw [← state_next _ _ _ (fun t => hG t _) (T + 64 * n.val) (C G T n.val 31 (ln h d)), EReal.coe_add, EReal.coe_mul, EReal.coe_mul, coe_sum]
  simp only [EReal.coe_mul, Nat.add_assoc]

/-- Four chunks stacked, read at a row. -/
theorem stacked {φ : FTy} (X : Fin 4 → FVec Ideal S64x256 φ) (W : ℕ → Fin 256 → EReal) (hX : ∀ n j l, X n (ix2 j l) = W (64 * n.val + j.val) l) (r l : Fin 256) :
    concatenate S256x256 0 [⟨S64x256, X 0⟩, ⟨S64x256, X 1⟩, ⟨S64x256, X 2⟩, ⟨S64x256, X 3⟩] concatenates_S64x256_S64x256_S64x256_S64x256_S256x256_d0 (ix2 r l)
      = W r.val l := by
  pointwise []
  split_ifs
  all_goals
    refine (hX _ _ _).trans (congrArg (fun n => W n l) ?_)
    dsimp
    omega

theorem scores_apply (A B : ℕ → Fin 256 → EReal) (hA : ∀ n j l, qmid b q n (ix2 j l) = A (64 * n.val + j.val) l)
    (hB : ∀ n j l, kmid b k n (ix2 j l) = B (64 * n.val + j.val) l) (h : Fin 2) (r c : Fin 256) :
    scores b q k h (ix2 r c) = if c.val ≤ r.val ∧ r.val / 64 = c.val / 64 then ∑ d : Fin 128, A r.val (ln h d) * B c.val (ln h d) else 0 := by
  have e1 := stacked (fun n => truncf .bf16 (qmid b q n) bitsLt_bf16_f32) A (fun n j l => hA n j l)
  have e2 := stacked (fun n => kmid b k n) B hB
  unfold scores
  generalize hx : (concatenate S256x256 0 [⟨S64x256, truncf .bf16 (qmid b q 0) bitsLt_bf16_f32⟩, ⟨S64x256, truncf .bf16 (qmid b q 1) bitsLt_bf16_f32⟩,
        ⟨S64x256, truncf .bf16 (qmid b q 2) bitsLt_bf16_f32⟩, ⟨S64x256, truncf .bf16 (qmid b q 3) bitsLt_bf16_f32⟩] concatenates_S64x256_S64x256_S64x256_S64x256_S256x256_d0 : FVec Ideal S256x256 .bf16) = x
  generalize hy : (concatenate S256x256 0 [⟨S64x256, kmid b k 0⟩, ⟨S64x256, kmid b k 1⟩, ⟨S64x256, kmid b k 2⟩, ⟨S64x256, kmid b k 3⟩]
        concatenates_S64x256_S64x256_S64x256_S64x256_S256x256_d0 : FVec Ideal S256x256 .bf16) = y
  have f1 : ∀ r l : Fin 256, x (ix2 r l) = A r.val l := fun r l => by rw [← hx]; exact e1 r l
  have f2 : ∀ r l : Fin 256, y (ix2 r l) = B r.val l := fun r l => by rw [← hy]; exact e2 r l
  pointwise []
  rw [causal_apply]
  simp only [f1, f2]
  split_ifs <;> rfl

/-- The other head's values are masked, so one head's scores are left. -/
theorem intra_apply (h : Fin 2) (r : Fin 256) (i : Fin 128) :
    intra b q k v (ix2 r (ln h i)) = ∑ c : Fin 256, scores b q k h (ix2 r c) * v (ix2 c (ln h i)) := by
  pointwise [intra, masked]
  simp only [headOf_apply]
  match h with
  | 0 =>
    have e : (ln 0 i).val / 128 = 0 := by show (128 * 0 + i.val) / 128 = 0; omega
    have e0 : IntOp.cmpi .eq (BitVec.ofNat 32 0) 0#32 = 1#1 := by decide
    have e1 : IntOp.cmpi .eq (BitVec.ofNat 32 0) 1#32 = 0#1 := by decide
    simp only [e, e0, e1]
    refine (congrArg₂ (· + ·) rfl (sum_eq_zero fun x _ => rfl)).trans (add_zero _)
  | 1 =>
    have e : (ln 1 i).val / 128 = 1 := by show (128 * 1 + i.val) / 128 = 1; omega
    have e0 : IntOp.cmpi .eq (BitVec.ofNat 32 1) 0#32 = 0#1 := by decide
    have e1 : IntOp.cmpi .eq (BitVec.ofNat 32 1) 1#32 = 1#1 := by decide
    simp only [e, e0, e1]
    refine (congrArg₂ (· + ·) (sum_eq_zero fun x _ => rfl) rfl).trans (zero_add _)

/-- One head's part of the state that both heads share. -/
theorem both_sum (y : Fin 256 → EReal) (S : Fin 2 → FVec Ideal S128x128 .f32) (h : Fin 2) (i : Fin 128) :
    ∑ x : Fin 256, y x * both (S 0) (S 1) (ix2 (ln h i) x) = ∑ d : Fin 128, y (ln h d) * S h (ix2 i d) := by
  symm
  refine sum_of_injOn (fun d => ln h d) (fun a _ b _ e => Fin.ext (by have := congrArg Fin.val e; simp only at this; omega)) (fun _ _ => mem_coe.mpr (mem_univ _)) (fun x _ hx => ?_) (fun d _ => ?_)
  · have hne : ¬(x.val / 128 = h.val) := fun e => hx ⟨⟨x.val % 128, Nat.mod_lt _ (by decide)⟩, mem_coe.mpr (mem_univ _), Fin.ext (by show 128 * h.val + x.val % 128 = x.val; omega)⟩
    have hz : both (S 0) (S 1) (ix2 (ln h i) x) = 0 := by
      pointwise [both]
      have := x.isLt
      match h with
      | 0 => rw [dif_pos (by show 128 * 0 + i.val < 128; omega), dif_neg (by change ¬(x.val / 128 = 0) at hne; omega)]
      | 1 => rw [dif_neg (by show ¬(128 * 1 + i.val < 128); omega), dif_pos (by change ¬(x.val / 128 = 1) at hne; omega)]
    rw [hz, mul_zero]
  · refine congrArg (y (ln h d) * ·) ?_
    symm
    pointwise [both]
    match h with
    | 0 =>
      rw [dif_pos (by show 128 * 0 + i.val < 128; omega), dif_pos (by show 128 * 0 + d.val < 128; omega)]
      congr 2 <;> exact Fin.ext (by simp)
    | 1 =>
      rw [dif_neg (by show ¬(128 * 1 + i.val < 128); omega), dif_neg (by show ¬(128 * 1 + d.val < 128); omega)]
      congr 2 <;> exact Fin.ext (by simp)

/-- A sum over a group, zero off one chunk. -/
theorem sum_chunk (n : Fin 4) (F : Fin 256 → EReal) (hF : ∀ c, c.val / 64 ≠ n.val → F c = 0) :
    ∑ c : Fin 256, F c = ∑ s : Fin 64, F ⟨64 * n.val + s.val, by omega⟩ := by
  symm
  refine sum_of_injOn (fun s : Fin 64 => (⟨64 * n.val + s.val, by omega⟩ : Fin 256)) (fun a _ b _ e => Fin.ext (by have := congrArg Fin.val e; simp only at this; omega))
    (fun _ _ => mem_coe.mpr (mem_univ _)) (fun x _ hx => hF x fun e => hx ⟨⟨x.val % 64, Nat.mod_lt _ (by decide)⟩, mem_coe.mpr (mem_univ _), Fin.ext (by show 64 * n.val + x.val % 64 = x.val; omega)⟩) (fun _ _ => rfl)

/-- A query of row `r`, seen from the middle of its chunk. -/
def atMid (r : ℕ) (l : Fin 256) : EReal := ((Q (T + r) l * Real.exp (C G T (r / 64) (r % 64) l - C G T (r / 64) 31 l) : ℝ) : EReal)

/-- A key of row `r`, carried to the middle of its chunk. -/
def toMid (r : ℕ) (l : Fin 256) : EReal := ((K (T + r) l * Real.exp (C G T (r / 64) 31 l - C G T (r / 64) (r % 64) l) : ℝ) : EReal)

include hb hq hk hv in
/-- The output of a token before its norm is the recurrence's. -/
theorem outs_coe (hG : ∀ t l, 0 < G t l) (n : Fin 4) (S : Fin 2 → FVec Ideal S128x128 .f32) (h : Fin 2)
    (hs : ∀ i d : Fin 128, S h (ix2 i d) = ((state (fun t => G t (ln h d)) (fun t => K t (ln h d)) (fun t => V t (ln h i)) (T + 64 * n.val) : ℝ) : EReal))
    (j : Fin 64) (i : Fin 128) : outs b q k v n (S 0) (S 1) (ix2 j (ln h i))
      = ((∑ d : Fin 128, Q (T + 64 * n.val + j.val) (ln h d)
          * state (fun t => G t (ln h d)) (fun t => K t (ln h d)) (fun t => V t (ln h i)) (T + 64 * n.val + j.val + 1) : ℝ) : EReal) := by
  have e : outs b q k v n (S 0) (S 1) (ix2 j (ln h i)) = intra b q k v (ix2 ⟨64 * n.val + j.val, by omega⟩ (ln h i))
      + ∑ x : Fin 256, qstart b q n (ix2 j x) * both (S 0) (S 1) (ix2 (ln h i) x) := by
    pointwise [outs]
  rw [e, both_sum, intra_apply]
  have hA : ∀ (n : Fin 4) (j : Fin 64) (l : Fin 256), qmid b q n (ix2 j l) = atMid Q G T (64 * n.val + j.val) l := fun n j l => by
    rw [qmid_coe b q Q G T hq hb, atMid, show (64 * n.val + j.val) / 64 = n.val from by omega,
      show (64 * n.val + j.val) % 64 = j.val from by omega, Nat.add_assoc]
  have hB : ∀ (n : Fin 4) (j : Fin 64) (l : Fin 256), kmid b k n (ix2 j l) = toMid G K T (64 * n.val + j.val) l := fun n j l => by
    rw [kmid_coe b k G K T hk hb, toMid, show (64 * n.val + j.val) / 64 = n.val from by omega,
      show (64 * n.val + j.val) % 64 = j.val from by omega, Nat.add_assoc]
  simp only [scores_apply b q k (atMid Q G T) (toMid G K T) hA hB, hv]
  rw [sum_chunk n _ (fun c hc => by rw [if_neg (fun hh => hc (by have := hh.2; omega)), zero_mul])]
  simp only [qstart_coe b q Q G T hq hb, hs]
  rw [← out_chunk (fun t d => G t (ln h d)) (fun t d => K t (ln h d)) (fun t => V t (ln h i)) (fun d => Q (T + 64 * n.val + j.val) (ln h d))
    (fun t d => hG t _) (T + 64 * n.val) (fun d => C G T n.val 31 (ln h d)) j]
  rw [EReal.coe_add, coe_sum, coe_sum]
  refine congrArg₂ (· + ·) (sum_congr rfl fun s _ => ?_) (sum_congr rfl fun d _ => by rw [← EReal.coe_mul])
  have hc : ((64 * n.val + s.val ≤ 64 * n.val + j.val) ∧ (64 * n.val + j.val) / 64 = (64 * n.val + s.val) / 64) ↔ s ≤ j := by
    rw [Fin.le_def]; constructor
    · intro h; omega
    · intro h; constructor <;> omega
  by_cases hsj : s ≤ j
  · rw [if_pos (hc.mpr hsj), if_pos hsj, EReal.coe_mul, coe_sum]
    refine congrArg₂ (· * ·) (sum_congr rfl fun d _ => ?_) (by rw [Nat.add_assoc])
    rw [atMid, toMid, ← EReal.coe_mul, show (64 * n.val + j.val) / 64 = n.val from by omega, show (64 * n.val + j.val) % 64 = j.val from by omega,
      show (64 * n.val + s.val) / 64 = n.val from by omega, show (64 * n.val + s.val) % 64 = s.val from by omega]
    simp only [Nat.add_assoc]
  · rw [if_neg (fun h => hsj (hc.mp h)), if_neg hsj, zero_mul, zero_mul, EReal.coe_zero]

end Chunk

end Cert.Proof.Hg

end
-- ==== Proof.HgTile.lean ====
/- A tile of the gated recurrence: over projections that are real, its chunks leave the recurrence's states and store the
   normed and gated outputs. -/
module

public import proofs.«01_k».proof.Proof.HgVal
public import proofs.«01_k».proof.Proof.HgSpec
public import Idealize.ShloMosaic.Lib.Ring
public import Idealize.ShloMosaic.Lib.Pipeline.CanonAppend
public import Idealize.ShloMosaic.Lib.Pipeline.ValueKit.Geometry

@[expose] public section

set_option maxRecDepth 65536

noncomputable section

namespace Cert.Proof.Hg

open Cert.Kernel5Ideal Cert.Kernel5Ideal.Gen
open Idealize.ShloMosaic Idealize.ShloMosaic.TcCoe
open Finset HgReal
open HgSpec (gate gate_pos fin)

theorem flat_apply (p : Vec Ideal S1x1x256x256 .f32) (r l : Fin 256) : flat p (ix2 r l) = p (ix4 0 0 r l) := by
  pointwise [flat]

theorem vals_apply (p : Vec Ideal S1x1x256x256 .f32) (r l : Fin 256) : vals p (ix2 r l) = p (ix4 0 0 r l) := by
  pointwise [vals, flat]

/-- A stored block, entry by entry. -/
theorem stored_apply (ng : FVec Ideal S1x256 .f32) (g : FVec Ideal S256x256 .f32) (n : Fin 4) (h : Fin 2) (o : FVec Ideal S64x256 .f32)
    (j : Fin 64) (i : Fin 128) : stored ng g n h o (ix2 j i)
      = fin (fun i' => o (ix2 j (ln h i'))) i (ng (ix2 0 (ln h i))) (g (ix2 ⟨64 * n.val + j.val, by omega⟩ (ln h i))) := by
  pointwise [stored, logistic]
  unfold fin
  rw [zero_sub]

section Tile
variable (lb ng : FVec Ideal S1x256 .f32) (P : Loads Ideal) (S : Fin 2 → FVec Ideal S128x128 .f32)
  (L : Fin 256 → ℝ) (X : Fin 4 → ℕ → Fin 256 → EReal) (Z : Fin 4 → ℕ → Fin 256 → ℝ) (T : ℕ)

/-- The gate of a lane. -/
abbrev G (t : ℕ) (l : Fin 256) : ℝ := gate (L l) (Z 1 t l)

/-- The state's entry of a head of the pair. -/
def cur (h : Fin 2) (i d : Fin 128) (t : ℕ) : ℝ :=
  state (fun t => G L Z t (ln h d)) (fun t => 1 - G L Z t (ln h d)) (fun t => Z 2 t (ln h i)) t

/-- What a token's lane is, normed and gated. -/
def tile (h : Fin 2) (i : Fin 128) (t : ℕ) : EReal :=
  fin (fun i' => ((∑ d : Fin 128, Z 0 t (ln h d) * cur L Z h i' d (t + 1) : ℝ) : EReal)) i (ng (ix2 0 (ln h i))) (X 3 t (ln h i))

variable (hL : ∀ l : Fin 256, lb (ix2 0 l) = ((L l : ℝ) : EReal)) (h0 : ∀ l, 0 ≤ L l)
  (hX : ∀ k : Fin 4, k.val < 3 → ∀ t l, X k t l = ((Z k t l : ℝ) : EReal))
  (hP : ∀ (b k : Fin 4) (g : Fin 2) (r l : Fin 256), P b k g (ix4 0 0 r l) = X k (T + 512 * b.val + 256 * g.val + r.val) l)
  (hS : ∀ (h : Fin 2) (i d : Fin 128), S h (ix2 i d) = ((cur L Z h i d T : ℝ) : EReal))

include hL h0 hX hP hS in
theorem states_coe : ∀ n ≤ 32, ∀ (h : Fin 2) (i d : Fin 128),
    states lb P (S 0) (S 1) n h (ix2 i d) = ((cur L Z h i d (T + 64 * n) : ℝ) : EReal)
  | 0, _, h, i, d => by
    match h with
    | 0 => exact hS 0 i d
    | 1 => exact hS 1 i d
  | n + 1, hn, h, i, d => by
    have hT : T + 512 * (n / 8 % 4) + 256 * (n / 4 % 2) + 64 * (n % 4) = T + 64 * n := by omega
    have hz : ∀ k : Fin 4, k.val < 3 → ∀ r l : Fin 256, P ⟨n / 8 % 4, Nat.mod_lt _ (by decide)⟩ k ⟨n / 4 % 2, Nat.mod_lt _ (by decide)⟩ (ix4 0 0 r l)
        = ((Z k (T + 512 * (n / 8 % 4) + 256 * (n / 4 % 2) + r.val) l : ℝ) : EReal) := fun k hk r l => by rw [hP, hX k hk]
    have e := next_coe _ _ _ (G L Z) (fun t l => 1 - G L Z t l) (Z 2) (T + 512 * (n / 8 % 4) + 256 * (n / 4 % 2))
      (keys_coe lb L hL _ (Z 1) _ (hz 1 (by decide)))
      (fun r l => (vals_apply _ r l).trans (hz 2 (by decide) r l))
      (sums_coe lb L hL _ (Z 1) _ (hz 1 (by decide)) h0)
      (fun t l => gate_pos (h0 l) _) ⟨n % 4, Nat.mod_lt _ (by decide)⟩ h (states lb P (S 0) (S 1) n h)
      (fun i d => by rw [states_coe n (by omega) h i d, hT]; rfl) i d
    refine e.trans ?_
    rw [hT]
    rfl

include hL h0 hX hP hS in
theorem cell_coe (n : ℕ) (hn : n < 32) (h : Fin 2) (j : Fin 64) (i : Fin 128) :
    cell lb ng P (S 0) (S 1) n h (ix2 j i) = tile ng L X Z h i (T + 64 * n + j.val) := by
  have hT : T + 512 * (n / 8 % 4) + 256 * (n / 4 % 2) + 64 * (n % 4) = T + 64 * n := by omega
  have hz : ∀ k : Fin 4, k.val < 3 → ∀ r l : Fin 256, P ⟨n / 8 % 4, Nat.mod_lt _ (by decide)⟩ k ⟨n / 4 % 2, Nat.mod_lt _ (by decide)⟩ (ix4 0 0 r l)
      = ((Z k (T + 512 * (n / 8 % 4) + 256 * (n / 4 % 2) + r.val) l : ℝ) : EReal) := fun k hk r l => by rw [hP, hX k hk]
  have e := outs_coe _ (flat (P ⟨n / 8 % 4, Nat.mod_lt _ (by decide)⟩ 0 ⟨n / 4 % 2, Nat.mod_lt _ (by decide)⟩)) _ _ (Z 0) (G L Z) (fun t l => 1 - G L Z t l) (Z 2)
    (T + 512 * (n / 8 % 4) + 256 * (n / 4 % 2))
    (fun r l => (flat_apply _ r l).trans (hz 0 (by decide) r l))
    (keys_coe lb L hL _ (Z 1) _ (hz 1 (by decide)))
    (fun r l => (vals_apply _ r l).trans (hz 2 (by decide) r l))
    (sums_coe lb L hL _ (Z 1) _ (hz 1 (by decide)) h0)
    (fun t l => gate_pos (h0 l) _) ⟨n % 4, Nat.mod_lt _ (by decide)⟩ (fun h => states lb P (S 0) (S 1) n h) h
    (fun i d => by rw [states_coe lb P S L X Z T hL h0 hX hP hS n (by omega) h i d, hT]; rfl) j
  unfold cell
  rw [stored_apply, flat_apply, hP]
  unfold tile
  refine congr (congrFun (congrArg₂ fin (funext fun i' => (e i').trans ?_) rfl) _) ?_
  · rw [hT]
    rfl
  · refine congrArg (fun t => X 3 t (ln h i)) ?_
    dsimp only
    omega

/-- The stored tile as one function of its indices. -/
def whole (y : S2048x256.Idx) : EReal := tile ng L X Z ⟨(y 1).val / 128, by have := (y 1).isLt; change _ < 256 at this; omega⟩ ⟨(y 1).val % 128, Nat.mod_lt _ (by decide)⟩ (T + (y 0).val)

theorem whole_ix (r : Fin 2048) (h : Fin 2) (i : Fin 128) : whole ng L X Z T (ix2 r (ln h i)) = tile ng L X Z h i (T + r.val) := by
  unfold whole
  have e1 : (128 * h.val + i.val) / 128 = h.val := by omega
  have e2 : (128 * h.val + i.val) % 128 = i.val := by omega
  exact congrArg₂ (fun a b => tile ng L X Z a b (T + r.val)) (Fin.ext e1) (Fin.ext e2)

theorem piece_inb (n : ℕ) (h : Fin 2) : ∀ a : Fin S2048x256.rank, ![64 * (n % 32), 128 * h.val] a + S64x128.size a ≤ S2048x256.size a := fun a => by
  have hn := Nat.mod_lt n (show 0 < 32 by decide)
  match a with
  | ⟨0, _⟩ => show 64 * (n % 32) + 64 ≤ 2048; omega
  | ⟨1, _⟩ => show 128 * h.val + 128 ≤ 256; omega

include hL h0 hX hP hS in
theorem pieces_whole : ∀ n ≤ 32, ∀ p ∈ pieces lb ng P (S 0) (S 1) n, ∀ x : p.1.shape.Idx, p.2 x = whole ng L X Z T (p.1.emb x)
  | 0, _, p, hp, x => absurd hp List.not_mem_nil
  | n + 1, hn, p, hp, x => by
    have hc : ∀ (h : Fin 2) (inb) (x : (Rect.unit (s := S2048x256) ![64 * (n % 32), 128 * h.val] S64x128.size inb).shape.Idx),
        cell lb ng P (S 0) (S 1) n h x = whole ng L X Z T ((Rect.unit (s := S2048x256) ![64 * (n % 32), 128 * h.val] S64x128.size inb).emb x) := fun h inb x => by
      obtain ⟨j, i, rfl⟩ : ∃ (j : Fin 64) (i : Fin 128), x = ix2 j i := ⟨x 0, x 1, eq_ix2 x⟩
      refine (cell_coe lb ng P S L X Z T hL h0 hX hP hS n (by omega) h j i).trans ?_
      have hlt : 64 * n + j.val < 2048 := by have := j.isLt; omega
      have e : (Rect.unit (s := S2048x256) ![64 * (n % 32), 128 * h.val] S64x128.size inb).emb (ix2 j i) = ix2 ⟨64 * n + j.val, hlt⟩ (ln h i) := by
        funext a
        apply Fin.ext
        rw [ValueKit.rect_emb_unit_val]
        match a with
        | ⟨0, _⟩ => show 64 * (n % 32) + j.val = 64 * n + j.val; omega
        | ⟨1, _⟩ => rfl
      rw [e, whole_ix, Nat.add_assoc]
    rcases List.mem_cons.mp hp with rfl | hp
    · exact hc 1 (piece_inb n 1) x
    rcases List.mem_cons.mp hp with rfl | hp
    · exact hc 0 (piece_inb n 0) x
    · exact pieces_whole n (by omega) p hp x

theorem pieces_cover : ∀ y : S2048x256.Idx, ∃ p ∈ pieces lb ng P (S 0) (S 1) 32, y ∈ p.1.set :=
  View.cover_of_tiledL _ ![64, 128] (by sl_kernel_rfl)

include hL h0 hX hP hS in
/-- The tile that the body stores. -/
theorem tile_apply (r : Fin 2048) (h : Fin 2) (i : Fin 128) :
    View.canon (pieces lb ng P (S 0) (S 1) 32) (ix2 r (ln h i)) = tile ng L X Z h i (T + r.val) :=
  (View.canon_apply_of_pieces (whole ng L X Z T) _ (pieces_whole lb ng P S L X Z T hL h0 hX hP hS 32 le_rfl) _
    (pieces_cover lb ng P S _)).trans (whole_ix ng L X Z T r h i)

end Tile

end Cert.Proof.Hg

end
-- ==== Proof.HgPoint.lean ====
/- A tile of the launch: from the tokens, the weights and what the tile before left, what the body stores and leaves. -/
module

public import proofs.«01_k».proof.Proof.HgLoad
public import proofs.«01_k».proof.Proof.HgTile
public import proofs.«01_k».proof.Proof.Gen.Kernel5Ideal.Frame

@[expose] public section

set_option maxRecDepth 65536

noncomputable section

namespace Cert.Proof.Hg

open Cert.Kernel5Ideal Cert.Kernel5Ideal.Gen
open Idealize.ShloMosaic Idealize.ShloMosaic.TcCoe

section Later

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S2048x256 .bf16) (harg11 : arg11.IsWhole) (arg12 : Memref sig .tc .vmem S2x128x128 .f32) (harg12 : arg12.IsWhole) (arg13 : Memref sig .tc .vmem S2x4x512x256 .f32) (harg13 : arg13.IsWhole) (arg14 : Memref sig .tc .vmem S4x1024x256 .bf16) (harg14 : arg14.IsWhole) (hc0 : ¬cond0_0 i)
    (x0 : Vec Ideal S2048x1024 .bf16) (x1 : Vec Ideal S2048x1024 .bf16) (x2 : Vec Ideal S1024x256 .f32) (x3 : Vec Ideal S1024x256 .f32) (x4 : Vec Ideal S1024x256 .f32) (x5 : Vec Ideal S1024x256 .f32) (x6 : Vec Ideal S1x256 .f32) (x7 : Vec Ideal S1x256 .f32) (xs0 : Vec Ideal S2x128x128 .f32) (xs1 : Vec Ideal S2x4x512x256 .f32) (xs2 : Vec Ideal S4x1024x256 .bf16)
  (U : ℕ → Fin 1024 → EReal) (W : Fin 4 → Fin 1024 → Fin 256 → EReal) (L : Fin 256 → ℝ) (Z : Fin 4 → ℕ → Fin 256 → ℝ) (T : ℕ)
  (hL : ∀ l : Fin 256, x6 (ix2 0 l) = ((L l : ℝ) : EReal)) (h0 : ∀ l, 0 ≤ L l)
  (hX : ∀ k : Fin 4, k.val < 3 → ∀ t l, mix U W k t l = ((Z k t l : ℝ) : EReal))
  (hx0 : ∀ (r : Fin 2048) (n : Fin 1024), x0 (ix2 r n) = U (T + r.val) n)
  (hs : ∀ (h : Fin 2) (j d : Fin 128), xs0 (ix3 h j d) = ((cur L Z h j d T : ℝ) : EReal))
  (hp : ∀ (k : Fin 4) (r : Fin 512) (l : Fin 256), xs1 (ix4 0 k r l) = mix U W k (T + r.val) l)
  (hw : ∀ k n l, xs2 (ix3 k n l) = W k n l)

include hw in
theorem later_w (k : Fin 4) (n : Fin 1024) (l : Fin 256) : keptW arg14 harg14 xs2 k (ix3 0 n l) = W k n l := (keptW_apply arg14 harg14 xs2 k n l).trans (hw k n l)

include hL h0 hX hx0 hs hp hw in
theorem later_tile (r : Fin 2048) (h : Fin 2) (j : Fin 128) : out0_B_8 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix2 r (ln h j))
      = tile (rowOf arg10 harg10 x7) L (mix U W) Z h j (T + r.val) := by
  unfold out0_B_8
  rw [View.read_writes_junk_eq_canon, later_out]
  exact tile_apply (rowOf arg9 harg9 x6) (rowOf arg10 harg10 x7) (laterP arg3 harg3 arg4 harg4 arg13 harg13 arg14 harg14 x0 x1 xs1 xs2) (keptS arg12 harg12 xs0) L (mix U W) Z T
    (fun l => (rowOf_apply arg9 harg9 x6 l).trans (hL l)) h0 hX (laterP_apply U W T arg3 harg3 arg4 harg4 arg13 harg13 arg14 harg14 x0 x1 xs1 xs2 hx0 hp hw)
    (fun h j d => (keptS_apply arg12 harg12 xs0 h j d).trans (hs h j d)) r h j

include hL h0 hX hx0 hs hp hw in
theorem later_state (h : Fin 2) (j d : Fin 128) : sout0_B_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix3 h j d) = ((cur L Z h j d (T + 2048) : ℝ) : EReal) := by
  unfold sout0_B_0
  rw [View.read_writes_junk_eq_canon, later_states]
  refine (congrArg (fun M => View.canon M _) (List.append_nil _).symm).trans ((left_apply _ [] h j d).trans ?_)
  exact states_coe (rowOf arg9 harg9 x6) (laterP arg3 harg3 arg4 harg4 arg13 harg13 arg14 harg14 x0 x1 xs1 xs2) (keptS arg12 harg12 xs0) L (mix U W) Z T
    (fun l => (rowOf_apply arg9 harg9 x6 l).trans (hL l)) h0 hX (laterP_apply U W T arg3 harg3 arg4 harg4 arg13 harg13 arg14 harg14 x0 x1 xs1 xs2 hx0 hp hw)
    (fun h j d => (keptS_apply arg12 harg12 xs0 h j d).trans (hs h j d)) 32 le_rfl h j d

include hw in
theorem later_ahead (hx1 : ∀ (r : Fin 512) (n : Fin 1024), x1 (ix2 ⟨r.val, by omega⟩ n) = U (T + 2048 + r.val) n) (k : Fin 4) (r : Fin 512) (l : Fin 256) :
    sout0_B_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 xs1 xs2 (ix4 0 k r l) = mix U W k (T + 2048 + r.val) l := by
  unfold sout0_B_1
  rw [View.read_writes_junk_eq_canon, later_scratch]
  exact ahead_apply U W (T + 2048) arg4 harg4 x1 (keptW arg14 harg14 xs2) hx1 (later_w arg14 harg14 xs2 W hw) _ k r l

end Later

section First

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S2048x256 .bf16) (harg11 : arg11.IsWhole) (arg12 : Memref sig .tc .vmem S2x128x128 .f32) (harg12 : arg12.IsWhole) (arg13 : Memref sig .tc .vmem S2x4x512x256 .f32) (harg13 : arg13.IsWhole) (arg14 : Memref sig .tc .vmem S4x1024x256 .bf16) (harg14 : arg14.IsWhole) (hc0 : cond0_0 i)
    (x0 : Vec Ideal S2048x1024 .bf16) (x1 : Vec Ideal S2048x1024 .bf16) (x2 : Vec Ideal S1024x256 .f32) (x3 : Vec Ideal S1024x256 .f32) (x4 : Vec Ideal S1024x256 .f32) (x5 : Vec Ideal S1024x256 .f32) (x6 : Vec Ideal S1x256 .f32) (x7 : Vec Ideal S1x256 .f32)
  (U : ℕ → Fin 1024 → EReal) (W : Fin 4 → Fin 1024 → Fin 256 → EReal) (L : Fin 256 → ℝ) (Z : Fin 4 → ℕ → Fin 256 → ℝ) (T : ℕ)
  (hL : ∀ l : Fin 256, x6 (ix2 0 l) = ((L l : ℝ) : EReal)) (h0 : ∀ l, 0 ≤ L l)
  (hX : ∀ k : Fin 4, k.val < 3 → ∀ t l, mix U W k t l = ((Z k t l : ℝ) : EReal))
  (hx0 : ∀ (r : Fin 2048) (n : Fin 1024), x0 (ix2 r n) = U (T + r.val) n)
  (hw2 : ∀ n l, x2 (ix2 n l) = W 0 n l) (hw3 : ∀ n l, x3 (ix2 n l) = W 1 n l) (hw4 : ∀ n l, x4 (ix2 n l) = W 2 n l) (hw5 : ∀ n l, x5 (ix2 n l) = W 3 n l)

include hw2 hw3 hw4 hw5 in
theorem first_w (k : Fin 4) (n : Fin 1024) (l : Fin 256) :
    freshW arg14 (firstL arg5 harg5 arg6 harg6 arg7 harg7 arg8 harg8 x2 x3 x4 x5) k (ix3 0 n l) = W k n l := by
  unfold firstL
  rw [wholeW_eq, wholeW_eq, wholeW_eq, wholeW_eq]
  refine (freshW_apply arg14 ![x2, x3, x4, x5] k n l).trans ?_
  match k with
  | 0 => exact hw2 n l
  | 1 => exact hw3 n l
  | 2 => exact hw4 n l
  | 3 => exact hw5 n l

theorem fresh_state (h : Fin 2) (j d : Fin 128) : freshS (F := Ideal) arg12 h (ix2 j d) = ((cur L Z h j d 0 : ℝ) : EReal) :=
  (freshS_apply arg12 h j d).trans EReal.coe_zero.symm

include hL h0 hX hx0 hw2 hw3 hw4 hw5 in
theorem first_tile (hT : T = 0) (r : Fin 2048) (h : Fin 2) (j : Fin 128) : out0_A_8 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r (ln h j))
      = tile (rowOf arg10 harg10 x7) L (mix U W) Z h j (T + r.val) := by
  unfold out0_A_8
  rw [View.read_writes_junk_eq_canon, first_out]
  subst hT
  exact tile_apply (rowOf arg9 harg9 x6) (rowOf arg10 harg10 x7) _ (freshS arg12) L (mix U W) Z 0
    (fun l => (rowOf_apply arg9 harg9 x6 l).trans (hL l)) h0 hX
    (firstP_apply U W 0 arg3 harg3 arg4 harg4 arg13 x0 x1 _ hx0 (first_w arg5 harg5 arg6 harg6 arg7 harg7 arg8 harg8 arg14 x2 x3 x4 x5 W hw2 hw3 hw4 hw5))
    (fresh_state arg12 L Z) r h j

include hL h0 hX hx0 hw2 hw3 hw4 hw5 in
theorem first_state (hT : T = 0) (h : Fin 2) (j d : Fin 128) : sout0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h j d) = ((cur L Z h j d (T + 2048) : ℝ) : EReal) := by
  unfold sout0_A_0
  rw [View.read_writes_junk_eq_canon, first_states]
  subst hT
  refine (left_apply _ _ h j d).trans ?_
  exact states_coe (rowOf arg9 harg9 x6) _ (freshS arg12) L (mix U W) Z 0
    (fun l => (rowOf_apply arg9 harg9 x6 l).trans (hL l)) h0 hX
    (firstP_apply U W 0 arg3 harg3 arg4 harg4 arg13 x0 x1 _ hx0 (first_w arg5 harg5 arg6 harg6 arg7 harg7 arg8 harg8 arg14 x2 x3 x4 x5 W hw2 hw3 hw4 hw5))
    (fresh_state arg12 L Z) 32 le_rfl h j d

include hw2 hw3 hw4 hw5 in
theorem first_ahead (hx1 : ∀ (r : Fin 512) (n : Fin 1024), x1 (ix2 ⟨r.val, by omega⟩ n) = U (T + 2048 + r.val) n) (k : Fin 4) (r : Fin 512) (l : Fin 256) :
    sout0_A_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix4 0 k r l) = mix U W k (T + 2048 + r.val) l := by
  unfold sout0_A_1
  rw [View.read_writes_junk_eq_canon, first_scratch, firstPs]
  exact ahead_apply U W (T + 2048) arg4 harg4 x1 _ hx1 (first_w arg5 harg5 arg6 harg6 arg7 harg7 arg8 harg8 arg14 x2 x3 x4 x5 W hw2 hw3 hw4 hw5) _ k r l

include hw2 hw3 hw4 hw5 in
theorem first_kept (k : Fin 4) (n : Fin 1024) (l : Fin 256) : sout0_A_2 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 k n l) = W k n l := by
  unfold sout0_A_2
  rw [View.read_writes_junk_eq_canon, first_weights]
  unfold firstL
  rw [wholeW_eq, wholeW_eq, wholeW_eq, wholeW_eq]
  refine (rounded_apply ![x2, x3, x4, x5] k n l).trans ?_
  match k with
  | 0 => exact hw2 n l
  | 1 => exact hw3 n l
  | 2 => exact hw4 n l
  | 3 => exact hw5 n l

end First

end Cert.Proof.Hg

end
-- ==== Proof.HgBlocks.lean ====
/- The blocks that the launch of the gated recurrence reads, and what it holds after a tile. -/
module

public import proofs.«01_k».proof.Proof.HgPoint
public import proofs.«01_k».proof.Proof.Gen.Kernel5Ideal.Value
public import Idealize.ShloMosaic.Lib.Pipeline.ValueKit
public import Idealize.ShloMosaic.Lib.StableHlo.ReadAt

@[expose] public section

set_option maxRecDepth 65536

noncomputable section

namespace Cert.Proof.Hg

open Cert.Kernel5Ideal Cert.Kernel5Ideal.Gen Cert.Kernel5Ideal.Value
open Idealize.ShloMosaic Idealize.ShloMosaic.TcCoe Idealize.SL.Sem
open HgReal
open HgSpec (gate fin tok chan col proj z f st out res Fine proj_coe lb_coe lb_nonneg)

variable (m : (ℓ : Loc nD τ sig) → Buf (Elt Ideal) ℓ) (c : Dev nD)

/-- The tokens. -/
abbrev argU : FVec Ideal S32768x1024 .bf16 := m ((c : Thread nD τ).loc main_arg0)
/-- The weights of the four projections. -/
abbrev argW : FVec Ideal S1024x8192 .f32 := m ((c : Thread nD τ).loc main_arg1)
/-- The gates' lower bounds. -/
abbrev argL : FVec Ideal S2048 .f32 := m ((c : Thread nD τ).loc main_arg2)
/-- The norm's gains. -/
abbrev argN : FVec Ideal S2048 .f32 := m ((c : Thread nD τ).loc main_arg3)

/-! ## The blocks of the windows -/

theorem at0 : ∀ t : Fin cfg0.N, win0_0.index t 0 = t.val / 64 * 8 + t.val % 8 ∧ win0_0.index t 1 = 0 := by decide +kernel
theorem at1 : ∀ t : Fin cfg0.N, win0_1.index t 0 = t.val / 64 * 8 + min (t.val % 8 + 1) 7 ∧ win0_1.index t 1 = 0 := by decide +kernel
theorem at2 : ∀ t : Fin cfg0.N, win0_2.index t 0 = 0 ∧ win0_2.index t 1 = 8 * 0 + t.val / 8 % 8 := by decide +kernel
theorem at3 : ∀ t : Fin cfg0.N, win0_3.index t 0 = 0 ∧ win0_3.index t 1 = 8 * 1 + t.val / 8 % 8 := by decide +kernel
theorem at4 : ∀ t : Fin cfg0.N, win0_4.index t 0 = 0 ∧ win0_4.index t 1 = 8 * 2 + t.val / 8 % 8 := by decide +kernel
theorem at5 : ∀ t : Fin cfg0.N, win0_5.index t 0 = 0 ∧ win0_5.index t 1 = 8 * 3 + t.val / 8 % 8 := by decide +kernel
theorem at6 : ∀ t : Fin cfg0.N, win0_6.index t 0 = 0 ∧ win0_6.index t 1 = t.val / 8 % 8 := by decide +kernel
theorem at7 : ∀ t : Fin cfg0.N, win0_7.index t 0 = 0 ∧ win0_7.index t 1 = t.val / 8 % 8 := by decide +kernel
theorem at8 : ∀ t : Fin cfg0.N, win0_8.index t 0 = t.val / 64 * 8 + t.val % 8 ∧ win0_8.index t 1 = t.val / 8 % 8 := by decide +kernel

/-- The channel of a lane of pair `p`. -/
def cl (p : Fin 8) (l : Fin 256) : Fin 2048 := ⟨256 * p.val + l.val, by omega⟩

/-- The tokens of a batch row. -/
def uRow (b : Fin 2) (s : ℕ) (n : Fin 1024) : EReal := argU m c (ix2 (tok b s) n)

/-- The columns of a pair of heads. -/
def wCol (p : Fin 8) (k : Fin 4) (n : Fin 1024) (l : Fin 256) : EReal := argW m c (ix2 n (col k (cl p l)))

/-- The grid point of a tile. -/
theorem point_lt (b : Fin 2) (p : Fin 8) (q : ℕ) (hq : q < 8) : 64 * b.val + 8 * p.val + q < cfg0.N :=
  lt_of_lt_of_eq (by omega : 64 * b.val + 8 * p.val + q < 128) N_0.symm

section Blocks
variable (b : Fin 2) (p : Fin 8) (q : ℕ) (hq : q < 8)

theorem here (r : Fin 2048) (n : Fin 1024) : iblk m c 0 ⟨_, point_lt b p q hq⟩ (ix2 r n) = uRow m c b (2048 * q + r.val) n := by
  refine Eq.trans ?_ (congrFun (V_main_arg0 m c) (ix2 (tok b (2048 * q + r.val)) n))
  refine congrArg (V m c main_arg0) ?_
  funext a
  apply Fin.ext
  refine (win0_0.rect_emb_val _ (ix2 r n) a).trans ?_
  have hi := at0 ⟨_, point_lt b p q hq⟩
  match a with
  | ⟨0, _⟩ =>
    refine (congrArg (fun n => n * 2048 + r.val) hi.1).trans ?_
    show ((64 * b.val + 8 * p.val + q) / 64 * 8 + (64 * b.val + 8 * p.val + q) % 8) * 2048 + r.val = (16384 * b.val + (2048 * q + r.val)) % 32768
    omega
  | ⟨1, _⟩ => exact (congrArg (fun k => k * 1024 + n.val) hi.2).trans (by show 0 * 1024 + n.val = n.val; omega)

theorem ahead (hq' : q < 7) (r : Fin 512) (n : Fin 1024) :
    iblk m c 1 ⟨_, point_lt b p q hq⟩ (ix2 (n0 := 2048) ⟨r.val, by omega⟩ n) = uRow m c b (2048 * q + 2048 + r.val) n := by
  refine Eq.trans ?_ (congrFun (V_main_arg0 m c) (ix2 (tok b (2048 * q + 2048 + r.val)) n))
  refine congrArg (V m c main_arg0) ?_
  funext a
  apply Fin.ext
  refine (win0_1.rect_emb_val _ (ix2 (n0 := 2048) ⟨r.val, by omega⟩ n) a).trans ?_
  have hi := at1 ⟨_, point_lt b p q hq⟩
  match a with
  | ⟨0, _⟩ =>
    refine (congrArg (fun n => n * 2048 + r.val) hi.1).trans ?_
    show ((64 * b.val + 8 * p.val + q) / 64 * 8 + min ((64 * b.val + 8 * p.val + q) % 8 + 1) 7) * 2048 + r.val = (16384 * b.val + (2048 * q + 2048 + r.val)) % 32768
    omega
  | ⟨1, _⟩ => exact (congrArg (fun k => k * 1024 + n.val) hi.2).trans (by show 0 * 1024 + n.val = n.val; omega)

include hq in
theorem weight_place (k : Fin 4) (i : ℕ) (n : Fin 1024) (l : Fin 256) (h : i = 8 * k.val + (64 * b.val + 8 * p.val + q) / 8 % 8) :
    i * 256 + l.val = (col k (cl p l)).val := by
  show i * 256 + l.val = 2048 * k.val + (256 * p.val + l.val)
  omega

theorem weight0 (n : Fin 1024) (l : Fin 256) : iblk m c 2 ⟨_, point_lt b p q hq⟩ (ix2 n l) = wCol m c p 0 n l := by
  refine Eq.trans ?_ (congrFun (V_main_arg1 m c) (ix2 n (col 0 (cl p l))))
  refine congrArg (V m c main_arg1) ?_
  funext a
  apply Fin.ext
  refine (win0_2.rect_emb_val _ (ix2 n l) a).trans ?_
  have hi := at2 ⟨_, point_lt b p q hq⟩
  match a with
  | ⟨0, _⟩ => exact (congrArg (fun k => k * 1024 + n.val) hi.1).trans (by show 0 * 1024 + n.val = n.val; omega)
  | ⟨1, _⟩ => exact weight_place b p q hq 0 _ n l hi.2

theorem weight1 (n : Fin 1024) (l : Fin 256) : iblk m c 3 ⟨_, point_lt b p q hq⟩ (ix2 n l) = wCol m c p 1 n l := by
  refine Eq.trans ?_ (congrFun (V_main_arg1 m c) (ix2 n (col 1 (cl p l))))
  refine congrArg (V m c main_arg1) ?_
  funext a
  apply Fin.ext
  refine (win0_3.rect_emb_val _ (ix2 n l) a).trans ?_
  have hi := at3 ⟨_, point_lt b p q hq⟩
  match a with
  | ⟨0, _⟩ => exact (congrArg (fun k => k * 1024 + n.val) hi.1).trans (by show 0 * 1024 + n.val = n.val; omega)
  | ⟨1, _⟩ => exact weight_place b p q hq 1 _ n l hi.2

theorem weight2 (n : Fin 1024) (l : Fin 256) : iblk m c 4 ⟨_, point_lt b p q hq⟩ (ix2 n l) = wCol m c p 2 n l := by
  refine Eq.trans ?_ (congrFun (V_main_arg1 m c) (ix2 n (col 2 (cl p l))))
  refine congrArg (V m c main_arg1) ?_
  funext a
  apply Fin.ext
  refine (win0_4.rect_emb_val _ (ix2 n l) a).trans ?_
  have hi := at4 ⟨_, point_lt b p q hq⟩
  match a with
  | ⟨0, _⟩ => exact (congrArg (fun k => k * 1024 + n.val) hi.1).trans (by show 0 * 1024 + n.val = n.val; omega)
  | ⟨1, _⟩ => exact weight_place b p q hq 2 _ n l hi.2

theorem weight3 (n : Fin 1024) (l : Fin 256) : iblk m c 5 ⟨_, point_lt b p q hq⟩ (ix2 n l) = wCol m c p 3 n l := by
  refine Eq.trans ?_ (congrFun (V_main_arg1 m c) (ix2 n (col 3 (cl p l))))
  refine congrArg (V m c main_arg1) ?_
  funext a
  apply Fin.ext
  refine (win0_5.rect_emb_val _ (ix2 n l) a).trans ?_
  have hi := at5 ⟨_, point_lt b p q hq⟩
  match a with
  | ⟨0, _⟩ => exact (congrArg (fun k => k * 1024 + n.val) hi.1).trans (by show 0 * 1024 + n.val = n.val; omega)
  | ⟨1, _⟩ => exact weight_place b p q hq 3 _ n l hi.2

theorem bounds_row (x : Fin 2048) : V m c main_v0 (ix2 0 x) = argL m c (ix1 x) := by
  unfold V
  after_reads_at

theorem gains_row (x : Fin 2048) : V m c main_v1 (ix2 0 x) = argN m c (ix1 x) := by
  unfold V
  after_reads_at

theorem bounds (l : Fin 256) : iblk m c 6 ⟨_, point_lt b p q hq⟩ (ix2 0 l) = argL m c (ix1 (cl p l)) := by
  refine Eq.trans ?_ (bounds_row m c (cl p l))
  refine congrArg (V m c main_v0) ?_
  funext a
  apply Fin.ext
  refine (win0_6.rect_emb_val _ (ix2 0 l) a).trans ?_
  have hi := at6 ⟨_, point_lt b p q hq⟩
  match a with
  | ⟨0, _⟩ => exact congrArg (fun k => k * 1 + 0) hi.1
  | ⟨1, _⟩ =>
    refine (congrArg (fun k => k * 256 + l.val) hi.2).trans ?_
    show (64 * b.val + 8 * p.val + q) / 8 % 8 * 256 + l.val = 256 * p.val + l.val
    omega

theorem gains (l : Fin 256) : iblk m c 7 ⟨_, point_lt b p q hq⟩ (ix2 0 l) = argN m c (ix1 (cl p l)) := by
  refine Eq.trans ?_ (gains_row m c (cl p l))
  refine congrArg (V m c main_v1) ?_
  funext a
  apply Fin.ext
  refine (win0_7.rect_emb_val _ (ix2 0 l) a).trans ?_
  have hi := at7 ⟨_, point_lt b p q hq⟩
  match a with
  | ⟨0, _⟩ => exact congrArg (fun k => k * 1 + 0) hi.1
  | ⟨1, _⟩ =>
    refine (congrArg (fun k => k * 256 + l.val) hi.2).trans ?_
    show (64 * b.val + 8 * p.val + q) / 8 % 8 * 256 + l.val = 256 * p.val + l.val
    omega

end Blocks

/-! ## Along the tiles -/

/-- The projections of a pair of heads, as reals. -/
def zz (b : Fin 2) (p : Fin 8) (k : Fin 4) (s : ℕ) (l : Fin 256) : ℝ := z (argU m c) (argW m c) k b (cl p l) s

/-- The bounds of a pair of heads. -/
def ll (p : Fin 8) (l : Fin 256) : ℝ := (argL m c (ix1 (cl p l))).toReal

/-- The gains of a pair of heads. -/
def nn (p : Fin 8) : FVec Ideal S1x256 .f32 := fun y => argN m c (ix1 (cl p (y 1)))

theorem tile_congr (n n' : FVec Ideal S1x256 .f32) (L : Fin 256 → ℝ) (X : Fin 4 → ℕ → Fin 256 → EReal) (Z : Fin 4 → ℕ → Fin 256 → ℝ) (h : Fin 2) (j : Fin 128) (t : ℕ)
    (e : n (ix2 0 (ln h j)) = n' (ix2 0 (ln h j))) : tile n L X Z h j t = tile n' L X Z h j t := by
  unfold tile
  rw [e]

/-- What the run holds after the tile whose first token is `T`. -/
structure After (U : ℕ → Fin 1024 → EReal) (W : Fin 4 → Fin 1024 → Fin 256 → EReal) (L : Fin 256 → ℝ) (Z : Fin 4 → ℕ → Fin 256 → ℝ) (n : FVec Ideal S1x256 .f32)
    (T : ℕ) (more : Prop)
    (o : Vec Ideal S2048x256 .bf16 × Vec Ideal S2x128x128 .f32 × Vec Ideal S2x4x512x256 .f32 × Vec Ideal S4x1024x256 .bf16) : Prop where
  out : ∀ (r : Fin 2048) (h : Fin 2) (j : Fin 128), o.1 (ix2 r (ln h j)) = tile n L (mix U W) Z h j (T + r.val)
  state : ∀ (h : Fin 2) (j d : Fin 128), o.2.1 (ix3 h j d) = ((cur L Z h j d (T + 2048) : ℝ) : EReal)
  next : more → ∀ (k : Fin 4) (r : Fin 512) (l : Fin 256), o.2.2.1 (ix4 0 k r l) = mix U W k (T + 2048 + r.val) l
  weights : ∀ (k : Fin 4) (n : Fin 1024) (l : Fin 256), o.2.2.2 (ix3 k n l) = W k n l

end Cert.Proof.Hg

end
-- ==== Proof.HgGrid.lean ====
/- The launch of the gated recurrence: tile by tile along a batch row and a pair of heads, the result is the recurrence's. -/
module

public import proofs.«01_k».proof.Proof.HgBlocks
public import proofs.«01_k».proof.Proof.Gen.Kernel5Ideal.Value
public import Idealize.ShloMosaic.Lib.Pipeline.ValueKit
public import Idealize.ShloMosaic.Lib.StableHlo.ReadAt

@[expose] public section

set_option maxRecDepth 65536

noncomputable section

namespace Cert.Proof.Hg

open Cert.Kernel5Ideal Cert.Kernel5Ideal.Gen Cert.Kernel5Ideal.Value
open Idealize.ShloMosaic Idealize.ShloMosaic.TcCoe Idealize.SL.Sem
open HgReal
open HgSpec (gate fin tok chan col proj z f st out res Fine proj_coe lb_coe lb_nonneg)

variable (m : (ℓ : Loc nD τ sig) → Buf (Elt Ideal) ℓ) (c : Dev nD)

section Point
variable (U : ℕ → Fin 1024 → EReal) (W : Fin 4 → Fin 1024 → Fin 256 → EReal) (L : Fin 256 → ℝ) (Z : Fin 4 → ℕ → Fin 256 → ℝ) (n : FVec Ideal S1x256 .f32) (more : Prop)
  (t : Fin cfg0.N)
  (h0 : ∀ l, 0 ≤ L l) (hX : ∀ k : Fin 4, k.val < 3 → ∀ t l, mix U W k t l = ((Z k t l : ℝ) : EReal))
  (hL : ∀ l : Fin 256, iblk m c 6 t (ix2 0 l) = ((L l : ℝ) : EReal)) (hN : ∀ l : Fin 256, iblk m c 7 t (ix2 0 l) = n (ix2 0 l))

include h0 hX hL hN

/-- The first tile of a pair of heads. -/
theorem point_first (hc : t.val % 8 = 0)
    (hx0 : ∀ (r : Fin 2048) (n : Fin 1024), iblk m c 0 t (ix2 r n) = U (0 + r.val) n)
    (hx1 : more → ∀ (r : Fin 512) (n : Fin 1024), iblk m c 1 t (ix2 (n0 := 2048) ⟨r.val, by omega⟩ n) = U (0 + 2048 + r.val) n)
    (hw2 : ∀ n l, iblk m c 2 t (ix2 n l) = W 0 n l) (hw3 : ∀ n l, iblk m c 3 t (ix2 n l) = W 1 n l)
    (hw4 : ∀ n l, iblk m c 4 t (ix2 n l) = W 2 n l) (hw5 : ∀ n l, iblk m c 5 t (ix2 n l) = W 3 n l) :
    After U W L Z n 0 more (outsAt0 m c t.val t.isLt) := by
  rw [outsAt0_A m c t hc]
  refine ⟨fun r h j => ?_, fun h j d => ?_, fun hm k r l => ?_, fun k n l => ?_⟩
  · dsimp only
    refine (first_tile (U := U) (W := W) (L := L) (Z := Z) (T := 0) (r := r) (h := h) (j := j) (hL := hL) (h0 := h0) (hX := hX) (hx0 := hx0) (hw2 := hw2) (hw3 := hw3) (hw4 := hw4) (hw5 := hw5) (hT := rfl) ..).trans
      (tile_congr _ _ _ _ _ _ _ _ ?_)
    exact (rowOf_apply _ _ _ _).trans (hN _)
  · dsimp only
    exact first_state (U := U) (W := W) (L := L) (Z := Z) (T := 0) (h := h) (j := j) (d := d) (hL := hL) (h0 := h0) (hX := hX) (hx0 := hx0) (hw2 := hw2) (hw3 := hw3) (hw4 := hw4) (hw5 := hw5) (hT := rfl) ..
  · dsimp only
    exact first_ahead (U := U) (W := W) (T := 0) (k := k) (r := r) (l := l) (hx1 := hx1 hm) (hw2 := hw2) (hw3 := hw3) (hw4 := hw4) (hw5 := hw5) ..
  · dsimp only
    exact first_kept (W := W) (k := k) (n := n) (l := l) (hw2 := hw2) (hw3 := hw3) (hw4 := hw4) (hw5 := hw5) ..

/-- A later tile. -/
theorem point_later (T : ℕ) (hc : ¬t.val % 8 = 0)
    (hx0 : ∀ (r : Fin 2048) (n : Fin 1024), iblk m c 0 t (ix2 r n) = U (T + 2048 + r.val) n)
    (hx1 : more → ∀ (r : Fin 512) (n : Fin 1024), iblk m c 1 t (ix2 (n0 := 2048) ⟨r.val, by omega⟩ n) = U (T + 2048 + 2048 + r.val) n)
    (I : After U W L Z n T True (outsAt0 m c (t.val - 1) (Nat.lt_of_le_of_lt (Nat.sub_le _ _) t.isLt))) :
    After U W L Z n (T + 2048) more (outsAt0 m c t.val t.isLt) := by
  have hs := I.state
  have hp := I.next trivial
  have hw := I.weights
  rw [outsAt0_B m c t hc]
  generalize outsAt0 m c (t.val - 1) (Nat.lt_of_le_of_lt (Nat.sub_le _ _) t.isLt) = o at hs hp hw ⊢
  refine ⟨fun r h j => ?_, fun h j d => ?_, fun hm k r l => ?_, fun k n l => ?_⟩
  · dsimp only
    refine (later_tile (U := U) (W := W) (L := L) (Z := Z) (T := T + 2048) (r := r) (h := h) (j := j) (hL := hL) (h0 := h0) (hX := hX) (hx0 := hx0) (hs := hs) (hp := hp) (hw := hw) ..).trans
      (tile_congr _ _ _ _ _ _ _ _ ?_)
    exact (rowOf_apply _ _ _ _).trans (hN _)
  · dsimp only
    exact later_state (U := U) (W := W) (L := L) (Z := Z) (T := T + 2048) (h := h) (j := j) (d := d) (hL := hL) (h0 := h0) (hX := hX) (hx0 := hx0) (hs := hs) (hp := hp) (hw := hw) ..
  · dsimp only
    exact later_ahead (U := U) (W := W) (T := T + 2048) (k := k) (r := r) (l := l) (hx1 := hx1 hm) (hw := hw) ..
  · exact hw k n l

end Point

variable (H : Fine (argU m c) (argW m c) (argL m c))

include H in
/-- Tile by tile along a batch row and a pair of heads. -/
theorem after (b : Fin 2) (p : Fin 8) : ∀ (q : ℕ) (hq : q < 8), After (uRow m c b) (wCol m c p) (ll m c p) (zz m c b p) (nn m c p) (2048 * q) (q < 7)
    (outsAt0 m c (64 * b.val + 8 * p.val + q) (point_lt b p q hq))
  | 0, hq => point_first m c (uRow m c b) (wCol m c p) (ll m c p) (zz m c b p) (nn m c p) (0 < 7) ⟨_, point_lt b p 0 hq⟩
    (fun l => lb_nonneg H _) (fun k hk t l => proj_coe H k hk b t _) (fun l => (bounds m c b p 0 hq l).trans (lb_coe H _)) (gains m c b p 0 hq)
    (by show (64 * b.val + 8 * p.val + 0) % 8 = 0; omega) (here m c b p 0 hq) (ahead m c b p 0 hq)
    (weight0 m c b p 0 hq) (weight1 m c b p 0 hq) (weight2 m c b p 0 hq) (weight3 m c b p 0 hq)
  | q + 1, hq => by
    have I := after b p q (by omega)
    have hT : 2048 * (q + 1) = 2048 * q + 2048 := by omega
    have e0 := here m c b p (q + 1) hq
    have e1 := ahead m c b p (q + 1) hq
    rw [hT] at e0 e1 ⊢
    exact point_later m c (uRow m c b) (wCol m c p) (ll m c p) (zz m c b p) (nn m c p) (q + 1 < 7) ⟨_, point_lt b p (q + 1) hq⟩
      (fun l => lb_nonneg H _) (fun k hk t l => proj_coe H k hk b t _) (fun l => (bounds m c b p (q + 1) hq l).trans (lb_coe H _)) (gains m c b p (q + 1) hq)
      (2048 * q) (by show ¬(64 * b.val + 8 * p.val + (q + 1)) % 8 = 0; omega) e0 e1 ⟨I.out, I.state, fun _ => I.next (by omega), I.weights⟩

/-- A head of a pair. -/
def hd (p : Fin 8) (h : Fin 2) : Fin 16 := ⟨2 * p.val + h.val, by omega⟩

theorem cl_ln (p : Fin 8) (h : Fin 2) (d : Fin 128) : cl p (ln h d) = chan (hd p h) d :=
  Fin.ext (by show 256 * p.val + (128 * h.val + d.val) = 128 * (2 * p.val + h.val) + d.val; omega)

/-- A tile's entries are the recurrence's. -/
theorem tile_res (b : Fin 2) (p : Fin 8) (h : Fin 2) (j : Fin 128) (t : ℕ) :
    tile (nn m c p) (ll m c p) (mix (uRow m c b) (wCol m c p)) (zz m c b p) h j t = res (argU m c) (argW m c) (argL m c) (argN m c) b t (hd p h) j := by
  have ez : ∀ (k : Fin 4) (s : ℕ) (d : Fin 128), zz m c b p k s (ln h d) = z (argU m c) (argW m c) k b (chan (hd p h) d) s := fun k s d => by
    unfold zz
    rw [cl_ln]
  have el : ∀ d : Fin 128, ll m c p (ln h d) = (argL m c (ix1 (chan (hd p h) d))).toReal := fun d => by
    unfold ll
    rw [cl_ln]
  have ec : ∀ (i d : Fin 128) (s : ℕ), cur (ll m c p) (zz m c b p) h i d s = st (argU m c) (argW m c) (argL m c) b (hd p h) d i s := fun i d s => by
    unfold cur st f G
    simp only [ez, el]
  have en : nn m c p (ix2 0 (ln h j)) = argN m c (ix1 (chan (hd p h) j)) := congrArg (fun x => argN m c (ix1 x)) (cl_ln p h j)
  have ep : mix (uRow m c b) (wCol m c p) 3 t (ln h j) = proj (argU m c) (argW m c) 3 (tok b t) (chan (hd p h) j) :=
    congrArg (proj (argU m c) (argW m c) 3 (tok b t)) (cl_ln p h j)
  unfold tile res out
  rw [en, ep]
  simp only [ez, ec]

/-- The result the run leaves. -/
def outG : Buf (Elt Ideal) ((c : Thread nD τ).loc main_v2) := (dats m 0 c).arrAt 8 cfg0.N

include H in
theorem outG_apply (b : Fin 2) (q : Fin 8) (r : Fin 2048) (p : Fin 8) (h : Fin 2) (j : Fin 128) :
    outG m c (ix2 (tok b (2048 * q.val + r.val)) (chan (hd p h) j)) = res (argU m c) (argW m c) (argL m c) (argN m c) b (2048 * q.val + r.val) (hd p h) j := by
  have e : outG m c (ix2 (tok b (2048 * q.val + r.val)) (chan (hd p h) j)) = (dats m 0 c).flushed 8 ⟨_, point_lt b p q.val q.isLt⟩ (ix2 r (ln h j)) := by
    refine Eq.trans ?_ (congrFun (blocks8 m c _ (flush0_8 _)) (ix2 r (ln h j)))
    refine congrArg (outG m c) ?_
    funext a
    apply Fin.ext
    refine Eq.trans ?_ (win0_8.rect_emb_val ⟨_, point_lt b p q.val q.isLt⟩ (ix2 r (ln h j)) a).symm
    have hi := at8 ⟨_, point_lt b p q.val q.isLt⟩
    match a with
    | ⟨0, _⟩ =>
      refine Eq.trans ?_ (congrArg (fun n => n * 2048 + r.val) hi.1).symm
      show (16384 * b.val + (2048 * q.val + r.val)) % 32768 = ((64 * b.val + 8 * p.val + q.val) / 64 * 8 + (64 * b.val + 8 * p.val + q.val) % 8) * 2048 + r.val
      omega
    | ⟨1, _⟩ =>
      refine Eq.trans ?_ (congrArg (fun n => n * 256 + (ln h j).val) hi.2).symm
      show 128 * (2 * p.val + h.val) + j.val = (64 * b.val + 8 * p.val + q.val) / 8 % 8 * 256 + (128 * h.val + j.val)
      omega
  rw [e, flushed8]
  exact ((after m c H b p q.val q.isLt).out r h j).trans (tile_res m c b p h j _)

end Cert.Proof.Hg

end
-- ==== Proof.HgRef.lean ====
/- The recurrent reference's result, at exact arithmetic and element by element, and its frame. -/
module

public import proofs.«01_k».proof.Proof.HgSpec
public import proofs.«01_k».proof.Proof.Gen.Reference5Ideal.Run
public import Idealize.ShloMosaic.Lib.DynamicIndex
public import Idealize.ShloMosaic.Lib.Quiescent
public import Idealize.ShloMosaic.Lib.Ring

@[expose] public section

set_option maxRecDepth 65536

noncomputable section

namespace Cert.Proof.HgRef

open Cert.Reference5Ideal Cert.Reference5Ideal.Gen Cert.Reference5Ideal.Value
open Idealize.ShloMosaic Idealize.ShloMosaic.TcCoe Idealize.SL.Sem Idealize.ShloMosaic.StableHlo
open HgSpec HgReal

/-- The loop's counter as the start of a block of one token. -/
abbrev start (ct : IVec S_ 32) : Fin 4 → Int := fun k => (((![ct, constantI S_ 32 0#32, constantI S_ 32 0#32, constantI S_ 32 0#32] : Fin 4 → IVec S_ 32)) k (Shape.Idx.first h_S_)).toInt

/-- One token of a sequence. -/
def row (x : FVec Ideal S16384x2x16x128 .f32) (ct : IVec S_ 32) : FVec Ideal S2x16x128 .f32 :=
  shapeCast S2x16x128 (Host.dynamicSlice S1x2x16x128 x (start ct) sliceFits_S16384x2x16x128_S1x2x16x128) shapeCasts_S1x2x16x128_S2x16x128

/-- The state after one more token. -/
def stepped (f k v : FVec Ideal S2x16x128 .f32) (s : FVec Ideal S2x16x128x128 .f32) : FVec Ideal S2x16x128x128 .f32 :=
  addf (mulf (broadcastInDim S2x16x128x128 ![0, 1, 2, 3] bcast_S2x16x128x1_S2x16x128x128_0_1_2_3 (broadcastInDim S2x16x128x1 ![0, 1, 2] bcast_S2x16x128_S2x16x128x1_0_1_2 f)) s)
    (mulf (broadcastInDim S2x16x128x128 ![0, 1, 2, 3] bcast_S2x16x128x1_S2x16x128x128_0_1_2_3 (broadcastInDim S2x16x128x1 ![0, 1, 2] bcast_S2x16x128_S2x16x128x1_0_1_2 k))
      (broadcastInDim S2x16x128x128 ![0, 1, 2, 3] bcast_S2x16x1x128_S2x16x128x128_0_1_2_3 (broadcastInDim S2x16x1x128 ![0, 1, 3] bcast_S2x16x128_S2x16x1x128_0_1_3 v)))

/-- A token's output. -/
def read (q : FVec Ideal S2x16x128 .f32) (s : FVec Ideal S2x16x128x128 .f32) : FVec Ideal S1x2x16x128 .f32 :=
  broadcastInDim S1x2x16x128 ![1, 2, 3] bcast_S2x16x128_S1x2x16x128_1_2_3 (Host.reduceAdd (mulf (broadcastInDim S2x16x128x128 ![0, 1, 2, 3] bcast_S2x16x128x1_S2x16x128x128_0_1_2_3
    (broadcastInDim S2x16x128x1 ![0, 1, 2] bcast_S2x16x128_S2x16x128x1_0_1_2 q)) s) (constant S_ .f32 0x00000000#32) reducesTo_S2x16x128x128_S2x16x128_d2 h_S_)

theorem stepped_apply (f k v : FVec Ideal S2x16x128 .f32) (s : FVec Ideal S2x16x128x128 .f32) (b : Fin 2) (h : Fin 16) (d i : Fin 128) :
    stepped f k v s (ix4 b h d i) = f (ix3 b h d) * s (ix4 b h d i) + k (ix3 b h d) * v (ix3 b h i) := by
  pointwise [stepped]

theorem read_apply (q : FVec Ideal S2x16x128 .f32) (s : FVec Ideal S2x16x128x128 .f32) (b : Fin 2) (h : Fin 16) (i : Fin 128) :
    read q s (ix4 0 b h i) = ∑ d : Fin 128, q (ix3 b h d) * s (ix4 b h d i) := by
  pointwise [read]

theorem start_eq (k : ℕ) (hk : k < 16384) (a : Fin 4) : start (fun _ => BitVec.ofNat 32 k) a = ((![k, 0, 0, 0] : Fin 4 → ℕ) a : Int) := by
  fin_cases a
  · exact toInt_ofNat_of_lt (by omega)
  all_goals rfl

theorem slices_tok (k : ℕ) (hk : k < 16384) : S16384x2x16x128.Slices ![k, 0, 0, 0] S1x2x16x128 :=
  ⟨rfl, fun a => by fin_cases a <;> simp [S16384x2x16x128, S1x2x16x128] <;> omega⟩

theorem row_apply (x : FVec Ideal S16384x2x16x128 .f32) (k : Fin 16384) (b : Fin 2) (h : Fin 16) (d : Fin 128) :
    row x (fun _ => BitVec.ofNat 32 k.val) (ix3 b h d) = x (ix4 k b h d) := by
  unfold row
  rw [Host.dynamicSlice_eq_extractStridedSlice _ _ _ ![k.val, 0, 0, 0] _ (slices_tok k.val k.isLt) (start_eq k.val k.isLt)]
  pointwise []

theorem put_apply (x : FVec Ideal S16384x2x16x128 .f32) (y : FVec Ideal S1x2x16x128 .f32) (k t : Fin 16384) (b : Fin 2) (h : Fin 16) (d : Fin 128) :
    Host.dynamicUpdateSlice x y (start (fun _ => BitVec.ofNat 32 k.val)) updateFits_S16384x2x16x128_S1x2x16x128 (ix4 t b h d)
      = if t = k then y (ix4 0 b h d) else x (ix4 t b h d) := by
  have e : ∀ (adj : Fin 4 → ℕ) (h' : S16384x2x16x128.Slices adj S1x2x16x128), adj = ![k.val, 0, 0, 0] →
      updateSlice x y adj h' (ix4 t b h d) = if t = k then y (ix4 0 b h d) else x (ix4 t b h d) := by
    rintro adj h' rfl
    pointwise []
    by_cases ht : t = k
    · subst ht
      rw [dif_pos ⟨le_refl _, Nat.lt_succ_self _⟩, if_pos rfl]
      congr 1
      exact congrArg (fun n => ix4 n b h d) (Fin.ext (Nat.sub_self _))
    · rw [dif_neg (fun hh => ht (Fin.ext (by omega))), if_neg ht]
  unfold Host.dynamicUpdateSlice
  refine e _ _ (funext fun a => ?_)
  rw [start_eq k.val k.isLt]
  fin_cases a <;> simp [S16384x2x16x128, S1x2x16x128] <;> omega

/-- One token's step of the state, by the buffers. -/
theorem step_state (V : Valuation τ sig (Elt Ideal)) : step_main_v35_5 V = stepped (row (V (Proc.devRef .tc main_v35_2)) (V (Proc.devRef .tc main_v35_4)))
    (row (V (Proc.devRef .tc main_v35_1)) (V (Proc.devRef .tc main_v35_4))) (row (V (Proc.devRef .tc main_v35_3)) (V (Proc.devRef .tc main_v35_4))) (V (Proc.devRef .tc main_v35_5)) := rfl

/-- One token's output, by the buffers. -/
theorem step_out (V : Valuation τ sig (Elt Ideal)) : step_main_v35_6 V = Host.dynamicUpdateSlice (V (Proc.devRef .tc main_v35_6) : FVec Ideal S16384x2x16x128 .f32)
    (read (row (V (Proc.devRef .tc main_v35_0)) (V (Proc.devRef .tc main_v35_4))) (step_main_v35_5 V)) (start (V (Proc.devRef .tc main_v35_4))) updateFits_S16384x2x16x128_S1x2x16x128 := by
  sl_kernel_rfl

section Loop
variable {u : FVec Ideal S32768x1024 .bf16} {w : FVec Ideal S1024x8192 .f32} {lb : FVec Ideal S2048 .f32}

/-- What the carried buffers hold after `n` tokens. -/
structure Inv (u : FVec Ideal S32768x1024 .bf16) (w : FVec Ideal S1024x8192 .f32) (lb : FVec Ideal S2048 .f32) (n : ℕ) (V : Valuation τ sig (Elt Ideal)) : Prop where
  q : ∀ (t : Fin 16384) b h d, (V (Proc.devRef .tc main_v35_0) : FVec Ideal S16384x2x16x128 .f32) (ix4 t b h d) = ((z u w 0 b (chan h d) t.val : ℝ) : EReal)
  k : ∀ (t : Fin 16384) b h d, (V (Proc.devRef .tc main_v35_1) : FVec Ideal S16384x2x16x128 .f32) (ix4 t b h d) = ((1 - f u w lb b (chan h d) t.val : ℝ) : EReal)
  f : ∀ (t : Fin 16384) b h d, (V (Proc.devRef .tc main_v35_2) : FVec Ideal S16384x2x16x128 .f32) (ix4 t b h d) = ((f u w lb b (chan h d) t.val : ℝ) : EReal)
  v : ∀ (t : Fin 16384) b h d, (V (Proc.devRef .tc main_v35_3) : FVec Ideal S16384x2x16x128 .f32) (ix4 t b h d) = ((z u w 2 b (chan h d) t.val : ℝ) : EReal)
  c : V (Proc.devRef .tc main_v35_4) = (fun _ => BitVec.ofNat 32 n : IVec S_ 32)
  s : ∀ b h d i, (V (Proc.devRef .tc main_v35_5) : FVec Ideal S2x16x128x128 .f32) (ix4 b h d i) = ((st u w lb b h d i n : ℝ) : EReal)
  o : ∀ (t : Fin 16384) b h i, t.val < n → (V (Proc.devRef .tc main_v35_6) : FVec Ideal S16384x2x16x128 .f32) (ix4 t b h i) = ((out u w lb b h t.val i : ℝ) : EReal)

theorem coe_sum {n : ℕ} (x : Fin n → ℝ) : ((∑ i, x i : ℝ) : EReal) = ∑ i, (x i : EReal) :=
  map_sum (⟨⟨fun r : ℝ => (r : EReal), EReal.coe_zero⟩, EReal.coe_add⟩ : ℝ →+ EReal) x Finset.univ

/-- One trip keeps it. -/
theorem Inv.step {n : ℕ} {V : Valuation τ sig (Elt Ideal)} (H : Inv u w lb n V) (hn : n < 16384) : Inv u w lb (n + 1) (STEP V) := by
  have hs : ∀ b h d i, (step_main_v35_5 V : FVec Ideal S2x16x128x128 .f32) (ix4 b h d i) = ((st u w lb b h d i (n + 1) : ℝ) : EReal) := fun b h d i => by
    rw [step_state, H.c]
    refine (stepped_apply _ _ _ _ b h d i).trans ?_
    rw [row_apply _ ⟨n, hn⟩, row_apply _ ⟨n, hn⟩, row_apply _ ⟨n, hn⟩, H.f, H.k, H.v, H.s, ← EReal.coe_mul, ← EReal.coe_mul, ← EReal.coe_add]
    rfl
  refine ⟨?_, ?_, ?_, ?_, ?_, ?_, ?_⟩
  · rw [STEP_main_v35_0]; exact H.q
  · rw [STEP_main_v35_1]; exact H.k
  · rw [STEP_main_v35_2]; exact H.f
  · rw [STEP_main_v35_3]; exact H.v
  · rw [STEP_main_v35_4]
    show (addi (V (Proc.devRef .tc main_v35_4) : IVec S_ 32) (constantI S_ 32 1#32)) = _
    rw [H.c]
    funext i
    exact (BitVec.ofNat_add n 1).symm
  · rw [STEP_main_v35_5]; exact hs
  · rw [STEP_main_v35_6]
    intro t b h i ht
    rw [step_out, H.c]
    refine (put_apply _ _ ⟨n, hn⟩ t b h i).trans ?_
    by_cases e : t = ⟨n, hn⟩
    · rw [if_pos e, read_apply]
      subst e
      simp only [hs, row_apply _ ⟨n, hn⟩, H.q]
      rw [out, coe_sum]
      simp only [EReal.coe_mul]
    · rw [if_neg e]
      exact H.o t b h i (by have : t.val ≠ n := fun hh => e (Fin.ext hh); omega)

theorem Inv.iter {V : Valuation τ sig (Elt Ideal)} (H : Inv u w lb 0 V) : ∀ n ≤ 16384, Inv u w lb n (STEP^[n] V)
  | 0, _ => H
  | n + 1, hn => by
    rw [Function.iterate_succ_apply']
    exact (Inv.iter H n (by omega)).step (by omega)

end Loop

/-! ## Before the loop -/

section Ops
variable (u : FVec Ideal S32768x1024 .bf16) (w : FVec Ideal S1024x8192 .f32) (lb ng : FVec Ideal S2048 .f32)

/-- The tokens times 2048 of the columns. -/
def dotted (off : ℕ) (h : S1024x8192.Slices ![0, off] S1024x2048) : FVec Ideal S32768x2048 .f32 :=
  Host.dotGeneral dot_S32768x1024_S1024x2048_S32768x2048_1_0_0_1_n_n none (extf .f32 u bitsLt_bf16_f32 : FVec Ideal S32768x1024 .f32)
    (extractStridedSlice S1024x2048 ![0, off] w h)

/-- The logistic function. -/
def sigm (x : FVec Ideal S32768x2048 .f32) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf x)))

/-- A row of channels, repeated for every token. -/
def spread (x : FVec Ideal S2048 .f32) : FVec Ideal S32768x2048 .f32 :=
  broadcastInDim S32768x2048 ![0, 1] bcast_S1x2048_S32768x2048_0_1 (broadcastInDim S1x2048 ![1] bcast_S2048_S1x2048_1 x)

/-- The gates. -/
def gated (x : FVec Ideal S32768x2048 .f32) : FVec Ideal S32768x2048 .f32 :=
  addf (spread lb) (mulf (spread (subf (broadcastInDim S2048 ![] bcast_S_S2048 (constant S_ .f32 0x3F800000#32)) lb)) (sigm x))

/-- The keys. -/
def kept (x : FVec Ideal S32768x2048 .f32) : FVec Ideal S32768x2048 .f32 :=
  subf (broadcastInDim S32768x2048 ![] bcast_S_S32768x2048 (constant S_ .f32 0x3F800000#32)) x

/-- Tokens first. -/
def byTok (x : FVec Ideal S32768x2048 .f32) : FVec Ideal S16384x2x16x128 .f32 :=
  transpose S16384x2x16x128 [1, 0, 2, 3] (shapeCast S2x16384x16x128 x shapeCasts_S32768x2048_S2x16384x16x128) transposes_S2x16384x16x128_S16384x2x16x128_1_0_2_3

theorem dotted_apply (k : Fin 4) (h : S1024x8192.Slices ![0, 2048 * k.val] S1024x2048) (t : Fin 32768) (c : Fin 2048) :
    dotted u w (2048 * k.val) h (ix2 t c) = proj u w k t c := by
  unfold proj col
  pointwise [dotted]

theorem sigm_apply (x : FVec Ideal S32768x2048 .f32) (t : Fin 32768) (c : Fin 2048) :
    sigm x (ix2 t c) = Ideal.div 1 (1 + Ideal.exp (-(x (ix2 t c)))) := by
  pointwise [sigm]

theorem gated_apply (x : FVec Ideal S32768x2048 .f32) (t : Fin 32768) (c : Fin 2048) :
    gated lb x (ix2 t c) = lb (ix1 c) + (1 - lb (ix1 c)) * Ideal.div 1 (1 + Ideal.exp (-(x (ix2 t c)))) := by
  have e := sigm_apply x t c
  pointwise [gated, spread]
  rw [e]

theorem kept_apply (x : FVec Ideal S32768x2048 .f32) (t : Fin 32768) (c : Fin 2048) : kept x (ix2 t c) = 1 - x (ix2 t c) := by
  pointwise [kept]

theorem byTok_apply (x : FVec Ideal S32768x2048 .f32) (t : Fin 16384) (b : Fin 2) (h : Fin 16) (d : Fin 128) :
    byTok x (ix4 t b h d) = x (ix2 (tok b t.val) (chan h d)) := by
  unfold tok chan
  pointwise [byTok]
  refine congrArg₂ (fun a c => x (ix2 a c)) (Fin.ext ?_) (Fin.ext ?_)
  · have := b.isLt
    have := t.isLt
    show b.val * 16384 + t.val = (16384 * b.val + t.val) % 32768
    omega
  · show h.val * 128 + d.val = 128 * h.val + d.val
    omega

/-- The norm, the gain and the output gate. -/
def ended (o : FVec Ideal S16384x2x16x128 .f32) (g : FVec Ideal S32768x2048 .f32) : FVec Ideal S32768x2048 .bf16 :=
  truncf .bf16 (mulf (mulf (shapeCast S32768x2048 (mulf (transpose S2x16384x16x128 [1, 0, 2, 3] o transposes_S16384x2x16x128_S2x16384x16x128_1_0_2_3)
    (broadcastInDim S2x16384x16x128 ![0, 1, 2, 3] bcast_S2x16384x16x1_S2x16384x16x128_0_1_2_3 (Host.rsqrt (addf (Host.divf
      (broadcastInDim S2x16384x16x1 ![0, 1, 2] bcast_S2x16384x16_S2x16384x16x1_0_1_2 (Host.reduceAdd
        (mulf (transpose S2x16384x16x128 [1, 0, 2, 3] o transposes_S16384x2x16x128_S2x16384x16x128_1_0_2_3)
          (transpose S2x16384x16x128 [1, 0, 2, 3] o transposes_S16384x2x16x128_S2x16384x16x128_1_0_2_3))
        (constant S_ .f32 0x00000000#32) reducesTo_S2x16384x16x128_S2x16384x16_d3 h_S_))
      (broadcastInDim S2x16384x16x1 ![] bcast_S_S2x16384x16x1 (constant S_ .f32 0x43000000#32)))
      (broadcastInDim S2x16384x16x1 ![] bcast_S_S2x16384x16x1 (constant S_ .f32 0x358637BD#32)))))) shapeCasts_S2x16384x16x128_S32768x2048)
    (spread ng)) (mulf g (sigm g))) bitsLt_bf16_f32

theorem ended_apply (o : FVec Ideal S16384x2x16x128 .f32) (g : FVec Ideal S32768x2048 .f32) (b : Fin 2) (t : Fin 16384) (h : Fin 16) (i : Fin 128) :
    ended ng o g (ix2 (tok b t.val) (chan h i)) = fin (fun j => o (ix4 t b h j)) i (ng (ix1 (chan h i))) (g (ix2 (tok b t.val) (chan h i))) := by
  have e := sigm_apply g (tok b t.val) (chan h i)
  unfold fin
  revert e
  unfold tok chan
  pointwise [ended, spread]
  intro e
  rw [e]

end Ops

section Entry
variable (m : (ℓ : Loc nD τ sig) → Buf (Elt Ideal) ℓ) (c : Dev nD)

theorem entry_gate : entryContents preI m c (Proc.devRef .tc main_v8)
    = dotted (m ((c : Thread nD τ).loc main_arg0)) (m ((c : Thread nD τ).loc main_arg1)) 6144 slices_S1024x8192_S1024x2048_0_6144 := by
  simp only [entryContents, afterL_cons, afterL_nil]
  after_reads_simp
  rfl

theorem entry_q : entryContents preI m c (Proc.devRef .tc main_v35_0)
    = byTok (dotted (m ((c : Thread nD τ).loc main_arg0)) (m ((c : Thread nD τ).loc main_arg1)) 0 slices_S1024x8192_S1024x2048_0_0) := by
  simp only [entryContents, afterL_cons, afterL_nil]
  after_reads_simp
  rfl

theorem entry_k : entryContents preI m c (Proc.devRef .tc main_v35_1)
    = byTok (kept (gated (m ((c : Thread nD τ).loc main_arg2)) (dotted (m ((c : Thread nD τ).loc main_arg0)) (m ((c : Thread nD τ).loc main_arg1)) 2048 slices_S1024x8192_S1024x2048_0_2048))) := by
  simp only [entryContents, afterL_cons, afterL_nil]
  after_reads_simp
  rfl

theorem entry_f : entryContents preI m c (Proc.devRef .tc main_v35_2)
    = byTok (gated (m ((c : Thread nD τ).loc main_arg2)) (dotted (m ((c : Thread nD τ).loc main_arg0)) (m ((c : Thread nD τ).loc main_arg1)) 2048 slices_S1024x8192_S1024x2048_0_2048)) := by
  simp only [entryContents, afterL_cons, afterL_nil]
  after_reads_simp
  rfl

theorem entry_v : entryContents preI m c (Proc.devRef .tc main_v35_3)
    = byTok (dotted (m ((c : Thread nD τ).loc main_arg0)) (m ((c : Thread nD τ).loc main_arg1)) 4096 slices_S1024x8192_S1024x2048_0_4096) := by
  simp only [entryContents, afterL_cons, afterL_nil]
  after_reads_simp
  rfl

theorem entry_s : entryContents preI m c (Proc.devRef .tc main_v35_5)
    = (broadcastInDim S2x16x128x128 ![] bcast_S_S2x16x128x128 (constant S_ .f32 0x00000000#32) : FVec Ideal S2x16x128x128 .f32) := by
  simp only [entryContents, afterL_cons, afterL_nil]
  after_reads_simp
  rfl

/-- A buffer that the loop doesn't write holds what it held before. -/
theorem atTrip_keep (r : Ref sig .tc) (h : r ∉ condOps_W ++ while0Ops0_W ++ while0Ops0_1_W ++ while0Ops0_2_W ++ while0Ops0_3_W ++ while0Ops0_4_W ++ while0Ops0_5_W ++ while0Ops0_6_W) :
    ∀ n, atK m n c (Proc.devRef .tc r) = entryContents preI m c (Proc.devRef .tc r)
  | 0 => rfl
  | n + 1 => by
    simp only [List.mem_append, not_or] at h
    obtain ⟨⟨⟨⟨⟨⟨⟨h0, h1⟩, h2⟩, h3⟩, h4⟩, h5⟩, h6⟩, h7⟩ := h
    rw [show atK m (n + 1) c = afterL bodyI (after condOps (atK m n c)) from rfl]
    simp only [afterL_cons, afterL_nil]
    rw [after_of_writes_sub while0Ops0_6 _ while0Ops0_6_writes h7, after_of_writes_sub while0Ops0_5 _ while0Ops0_5_writes h6, after_of_writes_sub while0Ops0_4 _ while0Ops0_4_writes h5,
      after_of_writes_sub while0Ops0_3 _ while0Ops0_3_writes h4, after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    exact atTrip_keep r (by simp only [List.mem_append, not_or]; exact ⟨⟨⟨⟨⟨⟨⟨h0, h1⟩, h2⟩, h3⟩, h4⟩, h5⟩, h6⟩, h7⟩) n

theorem final_out (X : Valuation τ sig (Elt Ideal)) : afterL postI (after condOps X) (Proc.devRef .tc main_v53)
    = ended (X (Proc.devRef .tc main_arg3)) (X (Proc.devRef .tc main_v35_6)) (X (Proc.devRef .tc main_v8)) := by
  simp only [afterL_cons, afterL_nil]
  after_reads_simp
  rfl

end Entry

section Args
variable (m : (ℓ : Loc nD τ sig) → Buf (Elt Ideal) ℓ) (c : Dev nD)

theorem entry_arg0 : entryContents preI m c (Proc.devRef .tc main_arg0) = m ((c : Thread nD τ).loc main_arg0) := by
  simp only [entryContents, afterL_cons, afterL_nil]
  after_reads_simp

theorem final_arg0 : finalContents condOps preI bodyI postI 16384 m c (Proc.devRef .tc main_arg0) = m ((c : Thread nD τ).loc main_arg0) := by
  have e : ∀ X : Valuation τ sig (Elt Ideal), afterL postI (after condOps X) (Proc.devRef .tc main_arg0) = X (Proc.devRef .tc main_arg0) := fun X => by
    simp only [afterL_cons, afterL_nil]
    after_reads_simp
  exact (e _).trans ((atTrip_keep m c main_arg0 (by decide) 16384).trans (entry_arg0 m c))

theorem entry_arg1 : entryContents preI m c (Proc.devRef .tc main_arg1) = m ((c : Thread nD τ).loc main_arg1) := by
  simp only [entryContents, afterL_cons, afterL_nil]
  after_reads_simp

theorem final_arg1 : finalContents condOps preI bodyI postI 16384 m c (Proc.devRef .tc main_arg1) = m ((c : Thread nD τ).loc main_arg1) := by
  have e : ∀ X : Valuation τ sig (Elt Ideal), afterL postI (after condOps X) (Proc.devRef .tc main_arg1) = X (Proc.devRef .tc main_arg1) := fun X => by
    simp only [afterL_cons, afterL_nil]
    after_reads_simp
  exact (e _).trans ((atTrip_keep m c main_arg1 (by decide) 16384).trans (entry_arg1 m c))

theorem entry_arg2 : entryContents preI m c (Proc.devRef .tc main_arg2) = m ((c : Thread nD τ).loc main_arg2) := by
  simp only [entryContents, afterL_cons, afterL_nil]
  after_reads_simp

theorem final_arg2 : finalContents condOps preI bodyI postI 16384 m c (Proc.devRef .tc main_arg2) = m ((c : Thread nD τ).loc main_arg2) := by
  have e : ∀ X : Valuation τ sig (Elt Ideal), afterL postI (after condOps X) (Proc.devRef .tc main_arg2) = X (Proc.devRef .tc main_arg2) := fun X => by
    simp only [afterL_cons, afterL_nil]
    after_reads_simp
  exact (e _).trans ((atTrip_keep m c main_arg2 (by decide) 16384).trans (entry_arg2 m c))

theorem entry_arg3 : entryContents preI m c (Proc.devRef .tc main_arg3) = m ((c : Thread nD τ).loc main_arg3) := by
  simp only [entryContents, afterL_cons, afterL_nil]
  after_reads_simp

theorem final_arg3 : finalContents condOps preI bodyI postI 16384 m c (Proc.devRef .tc main_arg3) = m ((c : Thread nD τ).loc main_arg3) := by
  have e : ∀ X : Valuation τ sig (Elt Ideal), afterL postI (after condOps X) (Proc.devRef .tc main_arg3) = X (Proc.devRef .tc main_arg3) := fun X => by
    simp only [afterL_cons, afterL_nil]
    after_reads_simp
  exact (e _).trans ((atTrip_keep m c main_arg3 (by decide) 16384).trans (entry_arg3 m c))

end Args

/-! ## The whole program -/

section Run
variable (m : (ℓ : Loc nD τ sig) → Buf (Elt Ideal) ℓ) (c : Dev nD)

/-- The four arguments. -/
abbrev argU : FVec Ideal S32768x1024 .bf16 := m ((c : Thread nD τ).loc main_arg0)
@[inherit_doc argU] abbrev argW : FVec Ideal S1024x8192 .f32 := m ((c : Thread nD τ).loc main_arg1)
@[inherit_doc argU] abbrev argL : FVec Ideal S2048 .f32 := m ((c : Thread nD τ).loc main_arg2)
@[inherit_doc argU] abbrev argN : FVec Ideal S2048 .f32 := m ((c : Thread nD τ).loc main_arg3)

theorem sigm_coe (r : ℝ) : Ideal.div 1 (1 + Ideal.exp (-(r : EReal))) = (((1 + Real.exp (-r))⁻¹ : ℝ) : EReal) := by
  rw [← Ideal.logistic_coe]; rfl

variable (H : Fine (argU m c) (argW m c) (argL m c))

include H in
theorem gate_at (t : ℕ) (b : Fin 2) (h : Fin 16) (d : Fin 128) :
    gated (argL m c) (dotted (argU m c) (argW m c) 2048 slices_S1024x8192_S1024x2048_0_2048) (ix2 (tok b t) (chan h d))
      = ((f (argU m c) (argW m c) (argL m c) b (chan h d) t : ℝ) : EReal) := by
  rw [gated_apply, show dotted (argU m c) (argW m c) 2048 slices_S1024x8192_S1024x2048_0_2048 (ix2 (tok b t) (chan h d)) = _ from dotted_apply _ _ 1 _ _ _,
    proj_coe H 1 (by decide), sigm_coe, lb_coe H, f, gate, EReal.coe_add, EReal.coe_mul, EReal.coe_sub, EReal.coe_one]

include H in
/-- The loop starts with nothing read. -/
theorem entry_inv : Inv (argU m c) (argW m c) (argL m c) 0 (entryContents preI m c) where
  q t b h d := by
    rw [entry_q]
    refine (byTok_apply _ t b h d).trans ?_
    rw [show dotted (argU m c) (argW m c) 0 slices_S1024x8192_S1024x2048_0_0 (ix2 (tok b t.val) (chan h d)) = _ from dotted_apply _ _ 0 _ _ _, proj_coe H 0 (by decide)]
  k t b h d := by
    rw [entry_k]
    refine (byTok_apply _ t b h d).trans ?_
    rw [kept_apply, gate_at m c H, EReal.coe_sub, EReal.coe_one]
  f t b h d := by
    rw [entry_f]
    refine (byTok_apply _ t b h d).trans ?_
    rw [gate_at m c H]
  v t b h d := by
    rw [entry_v]
    refine (byTok_apply _ t b h d).trans ?_
    rw [show dotted (argU m c) (argW m c) 4096 slices_S1024x8192_S1024x2048_0_4096 (ix2 (tok b t.val) (chan h d)) = _ from dotted_apply _ _ 2 _ _ _, proj_coe H 2 (by decide)]
  c := ctr_entry m c
  s b h d i := by
    rw [entry_s]
    pointwise []
    rw [st, state, EReal.coe_zero]
  o t b h i ht := absurd ht (Nat.not_lt_zero _)

include H in
/-- The result's entries. -/
theorem final_apply (b : Fin 2) (t : Fin 16384) (h : Fin 16) (i : Fin 128) :
    (finalContents condOps preI bodyI postI 16384 m c (Proc.devRef .tc main_v53) : FVec Ideal S32768x2048 .bf16) (ix2 (tok b t.val) (chan h i))
      = res (argU m c) (argW m c) (argL m c) (argN m c) b t.val h i := by
  have hI := (entry_inv m c H).iter 16384 le_rfl
  have ho : ∀ (t : Fin 16384) b h i, (atK m 16384 c (Proc.devRef .tc main_v35_6) : FVec Ideal S16384x2x16x128 .f32) (ix4 t b h i)
      = ((out (argU m c) (argW m c) (argL m c) b h t.val i : ℝ) : EReal) := fun t b h i => by
    rw [atK_agree m c 16384 main_v35_6 (by decide)]
    exact hI.o t b h i t.isLt
  have hg : atTrip condOps bodyI (entryContents preI m) 16384 c (Proc.devRef .tc main_v8) = _ := atTrip_keep m c main_v8 (by decide) 16384
  have hn : atTrip condOps bodyI (entryContents preI m) 16384 c (Proc.devRef .tc main_arg3) = _ := (atTrip_keep m c main_arg3 (by decide) 16384).trans (entry_arg3 m c)
  unfold finalContents
  rw [final_out]
  refine (ended_apply _ _ _ b t h i).trans ?_
  simp only [ho]
  rw [hg, hn, entry_gate]
  unfold res
  rw [show dotted (argU m c) (argW m c) 6144 slices_S1024x8192_S1024x2048_0_6144 (ix2 (tok b t.val) (chan h i)) = _ from dotted_apply _ _ 3 _ _ _]

/-- A run leaves the arguments as they were. -/
theorem run_ref (ρ : Dev nD → PrngReg) : θ_run (defs (F := Ideal)) (onTc (τ := τ) (main (F := Ideal))) ⟨m, fun _ => 0, ρ⟩ fun r => ∀ c : Dev nD,
      r.2.mem ((c.tc : Thread nD τ).loc main_v53) = finalContents condOps preI bodyI postI 16384 m c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨h c main_v53 rfl, (h c main_arg0 rfl).trans (final_arg0 m c), (h c main_arg1 rfl).trans (final_arg1 m c),
    (h c main_arg2 rfl).trans (final_arg2 m c), (h c main_arg3 rfl).trans (final_arg3 m c)⟩) (run_fold m ρ)

/-- The reference's frame: it declares no semaphore, so every counter is zero. -/
theorem frame_ref : Cert.quiescent_Reference5Ideal := fun m ρ _ =>
  (θ_run (defs (F := Ideal)) _ _).mono (fun r h => ⟨fun c => (h c).2, sem_eq_zero_of_no_sems (by decide) r.2⟩) (run_ref m ρ)

end Run

end Cert.Proof.HgRef

end
-- ==== Proof.HgValue.lean ====
/- The recurrent mixer and its reference leave the same result: every entry of either array is the recurrence's. -/
module

public import proofs.«01_k».proof.Proof.HgGrid
public import proofs.«01_k».proof.Proof.HgRef

@[expose] public section

noncomputable section

namespace Cert.Proof.HgValue

open Cert.Reference5Ideal.Gen Cert.Reference5Ideal.Value
open Idealize.ShloMosaic Idealize.ShloMosaic.TcCoe Idealize.ShloMosaic.StableHlo
open HgSpec

/-- Every row is a token of a batch row. -/
theorem row_tok (r : Fin 32768) : ∃ (b : Fin 2) (q : Fin 8) (x : Fin 2048), r = tok b (2048 * q.val + x.val) :=
  ⟨⟨r.val / 16384, by omega⟩, ⟨r.val % 16384 / 2048, by omega⟩, ⟨r.val % 2048, by omega⟩,
    Fin.ext (by show r.val = (16384 * (r.val / 16384) + (2048 * (r.val % 16384 / 2048) + r.val % 2048)) % 32768; omega)⟩

/-- Every channel is a coordinate of a head, the head one of a pair. -/
theorem channel_chan (n : Fin 2048) : ∃ (p : Fin 8) (h : Fin 2) (j : Fin 128), n = chan (Hg.hd p h) j :=
  ⟨⟨n.val / 256, by omega⟩, ⟨n.val % 256 / 128, by omega⟩, ⟨n.val % 128, by omega⟩,
    Fin.ext (by show n.val = 128 * (2 * (n.val / 256) + n.val % 256 / 128) + n.val % 128; omega)⟩

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)
  (c : Dev Cert.Kernel5Ideal.nD)

/-- From the same fine arguments the two arrays agree. -/
theorem same (H : Fine (Hg.argU m c) (Hg.argW m c) (Hg.argL m c))
    (e0 : HgRef.argU m' c = Hg.argU m c) (e1 : HgRef.argW m' c = Hg.argW m c) (e2 : HgRef.argL m' c = Hg.argL m c) (e3 : HgRef.argN m' c = Hg.argN m c) :
    finalContents condOps preI bodyI postI 16384 m' c (Proc.devRef .tc Cert.Reference5Ideal.main_v53) = Hg.outG m c := by
  have H' : Fine (HgRef.argU m' c) (HgRef.argW m' c) (HgRef.argL m' c) := by
    rw [e0, e1, e2]
    exact H
  funext i
  obtain ⟨b, q, x, er⟩ := row_tok (i 0)
  obtain ⟨p, h, j, en⟩ := channel_chan (i 1)
  have ei : i = ix2 (tok b (2048 * q.val + x.val)) (chan (Hg.hd p h) j) := by
    funext a
    match a with
    | ⟨0, _⟩ => exact er
    | ⟨1, _⟩ => exact en
  rw [ei]
  refine (HgRef.final_apply m' c H' b ⟨2048 * q.val + x.val, by omega⟩ (Hg.hd p h) j).trans ?_
  rw [e0, e1, e2, e3]
  exact (Hg.outG_apply m c H b q x p h j).symm

end Cert.Proof.HgValue

end
-- ==== Proof.lean ====
/- The claims of this directory, each from its module: the kernel's run (Launch.lean) gives both kernel frames and the left
   half of the value claim; the reference's run and its elements (Ref.lean) give the right half; Value.lean joins the two.
   The same for the second kernel from ProjLaunch.lean, ProjRef.lean and ProjValue.lean, for the third from ResLaunch.lean,
   ResRef.lean and ResValue.lean, and for the fourth from Norm.lean. For the fifth
   the frames come from the generated runs, the kernel's result from HgGrid.lean, the reference's from HgRef.lean, and
   HgValue.lean joins the two; HgPre.lean reads its precondition. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_tokens_fine
public import proofs.«01_k».proof.Proof.Value
public import proofs.«01_k».proof.Proof.ProjValue
public import proofs.«01_k».proof.Proof.ResValue
public import proofs.«01_k».proof.Proof.Norm
public import proofs.«01_k».proof.Proof.HgPre
public import proofs.«01_k».proof.Proof.HgValue
public import Idealize.ShloMosaic.Adequacy
public import Idealize.ShloMosaic.Init

@[expose] public section

noncomputable section

namespace Cert.Proof

open Idealize.ShloMosaic Idealize.ShloMosaic.TcCoe Idealize.SL.Sem

/-- The idealised kernel ends, keeps its arguments and leaves every counter at zero. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (Out.run_main (F := Ideal) m ρ)

/-- The kernel's body at its own words is the idealised kernel's. -/
theorem same_body : Cert.Kernel.defs₀ (F := Bits) = Cert.KernelIdeal.defs₀ (F := Bits) := by
  unfold Kernel.defs₀ KernelIdeal.defs₀
  refine congrArg Defs.onTc ?_
  funext l x
  match l, x with
  | 0, (t, s) => rfl

/-- So are all its definitions. -/
theorem same_defs : Cert.Kernel.defs (F := Bits) = Cert.KernelIdeal.defs (F := Bits) := congrArg (Pipeline.defs _) same_body

/-- The kernel at its own words ends, keeps its arguments and leaves every counter at zero. -/
theorem frame_kernel : Cert.quiescent_Kernel := by
  intro m ρ _
  rw [same_defs]
  exact (θ_run (Cert.KernelIdeal.defs (F := Bits)) _ _).mono
    (fun _ h => ⟨fun c => ⟨(h.1 c).1, (h.1 c).2.1, (h.1 c).2.2.1, (h.1 c).2.2.2.1⟩, h.2⟩) (Out.run_main (F := Bits) m ρ)

/-- Kernel and reference, from the same arguments, leave the same result. -/
theorem value : Cert.algebraic_KernelIdeal_ReferenceIdeal := fun m g m' g' _ hargs =>
  ⟨fun c => Out.outG (F := Ideal) m c,
    (θ_run Cert.KernelIdeal.defs _ _).mono
      (fun _ h c => ⟨(h.1 c).2.2.2.2, (h.1 c).1, (h.1 c).2.1, (h.1 c).2.2.1, (h.1 c).2.2.2.1⟩) (Out.run_main (F := Ideal) m g),
    (θ_run Cert.ReferenceIdeal.defs _ _).mono
      (fun _ h c => ⟨by
        obtain ⟨e0, e1, e2, e3⟩ := hargs c
        refine (h c).1.trans ?_
        rw [e0, e1, e2, e3]
        exact (Out.outG_eq m c).symm, (h c).2⟩) (Ref.run_ref m' g')⟩

/-! ## The second kernel -/

/-- At the words, a named constant is the word it stands for. -/
instance literals : Named Bits where
  named _ _ _ bits := Scalar.ofBits _ bits

/-- The idealised group projection ends, keeps its arguments and leaves every counter at zero. -/
theorem frame_ideal2 : Cert.quiescent_Kernel2Ideal := fun m ρ _ =>
  (θ_run Cert.Kernel2Ideal.defs _ _).mono
    (fun _ h => ⟨fun c => ⟨(h.1 c).1, (h.1 c).2.1⟩, h.2⟩) (Proj.run_main (F := Ideal) m ρ)

/-- The group projection's body at its own words is the idealised one's. -/
theorem same_body2 : Cert.Kernel2.defs₀ (F := Bits) = Cert.Kernel2Ideal.defs₀ (F := Bits) := by
  unfold Kernel2.defs₀ Kernel2Ideal.defs₀
  refine congrArg Defs.onTc ?_
  funext l x
  match l, x with
  | 0, (t, s) => rfl

/-- So are all its definitions. -/
theorem same_defs2 : Cert.Kernel2.defs (F := Bits) = Cert.Kernel2Ideal.defs (F := Bits) := congrArg (Pipeline.defs _) same_body2

/-- The group projection at its own words ends, keeps its arguments and leaves every counter at zero. -/
theorem frame_kernel2 : Cert.quiescent_Kernel2 := by
  intro m ρ _
  rw [same_defs2]
  exact (θ_run (Cert.Kernel2Ideal.defs (F := Bits)) _ _).mono
    (fun _ h => ⟨fun c => ⟨(h.1 c).1, (h.1 c).2.1⟩, h.2⟩) (Proj.run_main (F := Bits) m ρ)

/-- The constant named is what it is named. -/
theorem preserves2 : Cert.preserves_Kernel2_Kernel2Ideal :=
  IdealRules.named_const.statement Cert.Kernel2Ideal.κ "qk_scale" .f32 0x3E0293EE#32 (((Real.sqrt 128)⁻¹ * (Real.log 2)⁻¹ : ℝ) : EReal) rfl

/-- The group projection and its reference, from the same arguments, leave the same result. -/
theorem value2 : Cert.algebraic_Kernel2Ideal_Reference2Ideal := fun m g m' g' _ hargs =>
  ⟨fun c => Proj.outG (F := Ideal) m c,
    (θ_run Cert.Kernel2Ideal.defs _ _).mono
      (fun _ h c => ⟨(h.1 c).2.2, (h.1 c).1, (h.1 c).2.1⟩) (Proj.run_main (F := Ideal) m g),
    (θ_run Cert.Reference2Ideal.defs _ _).mono
      (fun _ h c => ⟨by
        obtain ⟨e0, e1⟩ := hargs c
        refine (h c).1.trans ?_
        rw [e0, e1]
        exact (Proj.outG_eq m c).symm, (h c).2⟩) (ProjRef.run_ref m' g')⟩

/-! ## The third kernel: the output projection that returns the residual too -/

/-- The idealised third kernel ends, keeps its arguments and leaves every counter at zero. -/
theorem frame_ideal3 : Cert.quiescent_Kernel3Ideal := fun m ρ _ =>
  (θ_run Cert.Kernel3Ideal.defs _ _).mono
    (fun _ h => ⟨fun c => ⟨(h.1 c).1, (h.1 c).2.1, (h.1 c).2.2.1, (h.1 c).2.2.2.1⟩, h.2⟩) (Res.run_main (F := Ideal) m ρ)

/-- The third kernel's body at its own words is the idealised one's. -/
theorem same_body3 : Cert.Kernel3.defs₀ (F := Bits) = Cert.Kernel3Ideal.defs₀ (F := Bits) := by
  unfold Kernel3.defs₀ Kernel3Ideal.defs₀
  refine congrArg Defs.onTc ?_
  funext l x
  match l, x with
  | 0, (t, s) => rfl

/-- So are all its definitions. -/
theorem same_defs3 : Cert.Kernel3.defs (F := Bits) = Cert.Kernel3Ideal.defs (F := Bits) := congrArg (Pipeline.defs _) same_body3

/-- The third kernel at its own words ends, keeps its arguments and leaves every counter at zero. -/
theorem frame_kernel3 : Cert.quiescent_Kernel3 := by
  intro m ρ _
  rw [same_defs3]
  exact (θ_run (Cert.Kernel3Ideal.defs (F := Bits)) _ _).mono
    (fun _ h => ⟨fun c => ⟨(h.1 c).1, (h.1 c).2.1, (h.1 c).2.2.1, (h.1 c).2.2.2.1⟩, h.2⟩) (Res.run_main (F := Bits) m ρ)

/-- The third kernel and its reference, from the same arguments, leave the same two results. -/
theorem value3 : Cert.algebraic_Kernel3Ideal_Reference3Ideal := fun m g m' g' _ hargs =>
  ⟨fun c => Res.outO (F := Ideal) m c, fun c => Res.outU (F := Ideal) m c,
    (θ_run Cert.Kernel3Ideal.defs _ _).mono
      (fun _ h c => ⟨(h.1 c).2.2.2.2.1, (h.1 c).2.2.2.2.2, (h.1 c).1, (h.1 c).2.1, (h.1 c).2.2.1, (h.1 c).2.2.2.1⟩) (Res.run_main (F := Ideal) m g),
    (θ_run Cert.Reference3Ideal.defs _ _).mono
      (fun _ h c => by
        obtain ⟨e0, e1, e2, e3⟩ := hargs c
        refine ⟨(h c).1.trans ?_, (h c).2.1.trans ?_, (h c).2.2⟩
        · rw [e0, e1, e2]
          exact (Res.outO_eq m c).symm
        · rw [e0, e1, e2, e3]
          exact (Res.outU_eq m c).symm) (ResRef.run_ref m' g')⟩

/-! ## The fourth kernel: the row normalisation -/

/-- The idealised row normalisation ends, keeps its arguments and leaves every counter at zero. -/
theorem frame_ideal4 : Cert.quiescent_Kernel4Ideal := fun m ρ _ => Cert.Kernel4Ideal.Gen.frame (F := Ideal) m ρ

/-- The row normalisation's body at its own words is the idealised one's. -/
theorem same_body4 : Cert.Kernel4.defs₀ (F := Bits) = Cert.Kernel4Ideal.defs₀ (F := Bits) := by
  unfold Kernel4.defs₀ Kernel4Ideal.defs₀
  refine congrArg Defs.onTc ?_
  funext l x
  match l, x with
  | 0, (t, s) => rfl

/-- So are all its definitions. -/
theorem same_defs4 : Cert.Kernel4.defs (F := Bits) = Cert.Kernel4Ideal.defs (F := Bits) := congrArg (Pipeline.defs _) same_body4

/-- The row normalisation at its own words ends, keeps its arguments and leaves every counter at zero. -/
theorem frame_kernel4 : Cert.quiescent_Kernel4 := by
  intro m ρ _
  rw [same_defs4]
  exact Cert.Kernel4Ideal.Gen.frame (F := Bits) m ρ

/-- The row normalisation and its reference, from the same arguments, leave the same result. -/
theorem value4 : Cert.algebraic_Kernel4Ideal_Reference4Ideal := fun m g m' g' _ hargs =>
  ⟨fun c => Norm.outG m c, Cert.Kernel4Ideal.Value.run_blocks (F := Ideal) m g,
    (θ_run Cert.Reference4Ideal.defs _ _).mono
      (fun _ h c => ⟨by
        obtain ⟨e0, e1⟩ := hargs c
        refine (h c).1.trans ?_
        rw [e0, e1]
        exact (Norm.outG_eq m c).symm, (h c).2⟩) (NormRef.run_ref m' g')⟩

/-! ## The fifth kernel: the HGRN2 mixer -/

/-- The idealised HGRN2 mixer ends, keeps its arguments and leaves every counter at zero. -/
theorem frame_ideal5 : Cert.quiescent_Kernel5Ideal := fun m ρ _ => Cert.Kernel5Ideal.Gen.frame (F := Ideal) m ρ

/-- The HGRN2 mixer's body at its own words is the idealised one's. -/
theorem same_body5 : Cert.Kernel5.defs₀ (F := Bits) = Cert.Kernel5Ideal.defs₀ (F := Bits) := by
  unfold Kernel5.defs₀ Kernel5Ideal.defs₀
  refine congrArg Defs.onTc ?_
  funext l x
  match l, x with
  | 0, (t, s) => rfl

/-- So are all its definitions. -/
theorem same_defs5 : Cert.Kernel5.defs (F := Bits) = Cert.Kernel5Ideal.defs (F := Bits) := congrArg (Pipeline.defs _) same_body5

/-- The HGRN2 mixer at its own words ends, keeps its arguments and leaves every counter at zero. -/
theorem frame_kernel5 : Cert.quiescent_Kernel5 := by
  intro m ρ _
  rw [same_defs5]
  exact Cert.Kernel5Ideal.Gen.frame (F := Bits) m ρ

/-- The base-2 logarithm of e is what it is named. -/
theorem preserves5 : Cert.preserves_Kernel5_Kernel5Ideal :=
  IdealRules.named_const.statement Cert.Kernel5Ideal.κ "log2_e" .f32 0x3FB8AA3B#32 (((Real.log 2)⁻¹ : ℝ) : EReal) rfl

/-- So it does from fine arguments. -/
theorem frame_ideal5_fine : Cert.quiescent_Kernel5Ideal_pre_tokens_fine := fun m ρ _ => frame_ideal5 m ρ trivial

@[inherit_doc frame_ideal5_fine]
theorem frame_ref5_fine : Cert.quiescent_Reference5Ideal_pre_tokens_fine := fun m ρ _ => HgRef.frame_ref m ρ trivial

/-- The HGRN2 mixer and its reference, from the same fine arguments, leave the same result. -/
theorem value5 : Cert.algebraic_Kernel5Ideal_Reference5Ideal_pre_tokens_fine := fun m g m' g' hpre hargs =>
  ⟨fun c => Hg.outG m c, Cert.Kernel5Ideal.Value.run_blocks (F := Ideal) m g,
    (θ_run Cert.Reference5Ideal.defs _ _).mono
      (fun _ h c => ⟨by
        obtain ⟨e0, e1, e2, e3⟩ := hargs c
        exact (h c).1.trans (HgValue.same m m' c (HgPre.fine _ _ _ _ (hpre c)) e0 e1 e2 e3), (h c).2⟩) (HgRef.run_ref m' g')⟩

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_tokens_fine.Gen.facts,
    frame_kernel, frame_ideal, Ref.frame_ref, frame_kernel2, frame_ideal2, ProjRef.frame_ref,
    frame_kernel3, frame_ideal3, ResRef.frame_ref, frame_kernel4, frame_ideal4, NormRef.frame_ref,
    frame_kernel5, frame_ideal5, frame_ideal5_fine, HgRef.frame_ref, frame_ref5_fine,
    trivial, value, preserves2, value2, trivial, value3, trivial, value4, preserves5, value5⟩

end Cert.Proof

end
